-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_params [hPre_finite_params : Cert.Pre_finite_params.Facts] (m : (ℓ : Loc Cert.KernelIdeal.nD Cert.KernelIdeal.τ Cert.KernelIdeal.sig) → Buf (Elt Ideal) ℓ) : Prop :=
  ∀ c : Dev Cert.KernelIdeal.nD,
    (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_params.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_params [hPre_finite_params : Cert.Pre_finite_params.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_params.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 [hPre_plan_ok : Cert.Pre_plan_ok.Facts] (m : (ℓ : Loc Cert.Kernel2.nD Cert.Kernel2.τ Cert.Kernel2.sig) → Buf (Elt Bits) ℓ) : Prop :=
  ∀ c : Dev Cert.Kernel2.nD,
    (Cert.Pre_plan_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_plan_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.1 = (fun _ => 1#1)
    ∧ (Cert.Pre_plan_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.1 = (fun _ => 1#1)
    ∧ (Cert.Pre_plan_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.1 = (fun _ => 1#1)
    ∧ (Cert.Pre_plan_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2.2.2 = (fun _ => 1#1)

def Pre_Kernel2Ideal [hPre_plan_ok : Cert.Pre_plan_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_plan_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_plan_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_plan_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_plan_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_plan_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_plan_ok [hPre_plan_ok : Cert.Pre_plan_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_plan_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_plan_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_plan_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_plan_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_plan_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2 = (fun _ => 1#1)

def Pre_Kernel3 [hPre_gate_plan_ok : Cert.Pre_gate_plan_ok.Facts] (m : (ℓ : Loc Cert.Kernel3.nD Cert.Kernel3.τ Cert.Kernel3.sig) → Buf (Elt Bits) ℓ) : Prop :=
  ∀ c : Dev Cert.Kernel3.nD,
    (Cert.Pre_gate_plan_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))).1 = (fun _ => 1#1)
    ∧ (Cert.Pre_gate_plan_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))).2.1 = (fun _ => 1#1)
    ∧ (Cert.Pre_gate_plan_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))).2.2.1 = (fun _ => 1#1)
    ∧ (Cert.Pre_gate_plan_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))).2.2.2.1 = (fun _ => 1#1)
    ∧ (Cert.Pre_gate_plan_ok.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8))).2.2.2.2 = (fun _ => 1#1)

def Pre_Kernel3Ideal [hPre_gate_plan_ok : Cert.Pre_gate_plan_ok.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_gate_plan_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_gate_plan_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_gate_plan_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_gate_plan_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_gate_plan_ok.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_gate_plan_ok [hPre_gate_plan_ok : Cert.Pre_gate_plan_ok.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_gate_plan_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_gate_plan_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_gate_plan_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_gate_plan_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_gate_plan_ok.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_router [hPre_finite_router : Cert.Pre_finite_router.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_router.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 = (fun _ => 1#1)
    ∧ (Cert.Pre_finite_router.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.1 = (fun _ => 1#1)
    ∧ (Cert.Pre_finite_router.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_router [hPre_finite_router : Cert.Pre_finite_router.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_router.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).1 = (fun _ => 1#1)
    ∧ (Cert.Pre_finite_router.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.1 = (fun _ => 1#1)
    ∧ (Cert.Pre_finite_router.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_params [hKernelIdeal : Cert.KernelIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_params m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_params [hReferenceIdeal : Cert.ReferenceIdeal.Facts] [hPre_finite_params : Cert.Pre_finite_params.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_params m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_plan_ok : Cert.Pre_plan_ok.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_plan_ok : Cert.Pre_plan_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_plan_ok [hReference2Ideal : Cert.Reference2Ideal.Facts] [hPre_plan_ok : Cert.Pre_plan_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_plan_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_gate_plan_ok : Cert.Pre_gate_plan_ok.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] [hPre_gate_plan_ok : Cert.Pre_gate_plan_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_gate_plan_ok [hReference3Ideal : Cert.Reference3Ideal.Facts] [hPre_gate_plan_ok : Cert.Pre_gate_plan_ok.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_gate_plan_ok m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_finite_router [hKernel5Ideal : Cert.Kernel5Ideal.Facts] [hPre_finite_router : Cert.Pre_finite_router.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_router m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_finite_router [hReference5Ideal : Cert.Reference5Ideal.Facts] [hPre_finite_router : Cert.Pre_finite_router.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_router m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def preserves_Kernel_KernelIdeal : Prop :=
  IdealRules.named_const.Statement Cert.KernelIdeal.κ "scale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def preserves_Kernel2_Kernel2Ideal : Prop :=
  True

def preserves_Kernel3_Kernel3Ideal : Prop :=
  True

def preserves_Kernel4_Kernel4Ideal : Prop :=
  True

def algebraic_KernelIdeal_ReferenceIdeal_pre_finite_params [hKernelIdeal : Cert.KernelIdeal.Facts] [hReferenceIdeal : Cert.ReferenceIdeal.Facts] [hPre_finite_params : Cert.Pre_finite_params.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_params m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def algebraic_Kernel2Ideal_Reference2Ideal [hKernel2Ideal : Cert.Kernel2Ideal.Facts] [hReference2Ideal : Cert.Reference2Ideal.Facts] [hPre_plan_ok : Cert.Pre_plan_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def algebraic_Kernel3Ideal_Reference3Ideal [hKernel3Ideal : Cert.Kernel3Ideal.Facts] [hReference3Ideal : Cert.Reference3Ideal.Facts] [hPre_gate_plan_ok : Cert.Pre_gate_plan_ok.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v29) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite_router [hKernel5Ideal : Cert.Kernel5Ideal.Facts] [hReference5Ideal : Cert.Reference5Ideal.Facts] [hPre_finite_router : Cert.Pre_finite_router.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_router m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_params : Cert.Pre_finite_params.Facts) (hPre_plan_ok : Cert.Pre_plan_ok.Facts) (hPre_gate_plan_ok : Cert.Pre_gate_plan_ok.Facts) (hPre_finite_router : Cert.Pre_finite_router.Facts),
    quiescent_Kernel (hKernel := hKernel)
    ∧ quiescent_KernelIdeal (hKernelIdeal := hKernelIdeal)
    ∧ quiescent_KernelIdeal_pre_finite_params (hKernelIdeal := hKernelIdeal) (hPre_finite_params := hPre_finite_params)
    ∧ quiescent_ReferenceIdeal (hReferenceIdeal := hReferenceIdeal)
    ∧ quiescent_ReferenceIdeal_pre_finite_params (hReferenceIdeal := hReferenceIdeal) (hPre_finite_params := hPre_finite_params)
    ∧ quiescent_Kernel2 (hKernel2 := hKernel2) (hPre_plan_ok := hPre_plan_ok)
    ∧ quiescent_Kernel2Ideal (hKernel2Ideal := hKernel2Ideal) (hPre_plan_ok := hPre_plan_ok)
    ∧ quiescent_Reference2Ideal (hReference2Ideal := hReference2Ideal)
    ∧ quiescent_Reference2Ideal_pre_plan_ok (hReference2Ideal := hReference2Ideal) (hPre_plan_ok := hPre_plan_ok)
    ∧ quiescent_Kernel3 (hKernel3 := hKernel3) (hPre_gate_plan_ok := hPre_gate_plan_ok)
    ∧ quiescent_Kernel3Ideal (hKernel3Ideal := hKernel3Ideal) (hPre_gate_plan_ok := hPre_gate_plan_ok)
    ∧ quiescent_Reference3Ideal (hReference3Ideal := hReference3Ideal)
    ∧ quiescent_Reference3Ideal_pre_gate_plan_ok (hReference3Ideal := hReference3Ideal) (hPre_gate_plan_ok := hPre_gate_plan_ok)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_router (hKernel5Ideal := hKernel5Ideal) (hPre_finite_router := hPre_finite_router)
    ∧ quiescent_Reference5Ideal (hReference5Ideal := hReference5Ideal)
    ∧ quiescent_Reference5Ideal_pre_finite_router (hReference5Ideal := hReference5Ideal) (hPre_finite_router := hPre_finite_router)
    ∧ preserves_Kernel_KernelIdeal
    ∧ preserves_Kernel2_Kernel2Ideal
    ∧ preserves_Kernel3_Kernel3Ideal
    ∧ preserves_Kernel4_Kernel4Ideal
    ∧ algebraic_KernelIdeal_ReferenceIdeal_pre_finite_params (hKernelIdeal := hKernelIdeal) (hReferenceIdeal := hReferenceIdeal) (hPre_finite_params := hPre_finite_params)
    ∧ algebraic_Kernel2Ideal_Reference2Ideal (hKernel2Ideal := hKernel2Ideal) (hReference2Ideal := hReference2Ideal) (hPre_plan_ok := hPre_plan_ok)
    ∧ algebraic_Kernel3Ideal_Reference3Ideal (hKernel3Ideal := hKernel3Ideal) (hReference3Ideal := hReference3Ideal) (hPre_gate_plan_ok := hPre_gate_plan_ok)
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_router (hKernel5Ideal := hKernel5Ideal) (hReference5Ideal := hReference5Ideal) (hPre_finite_router := hPre_finite_router)
-- ==== Pre_finite_params.lean ====
abbrev S16384x10240 : Shape := ⟨2, ![16384, 10240]⟩
abbrev S1x128 : Shape := ⟨2, ![1, 128]⟩
abbrev S1x8x15x31 : Shape := ⟨4, ![1, 8, 15, 31]⟩
abbrev S_ : Shape := ⟨0, ![]⟩

class Facts : Prop where
  bcast_S_S1x128 : S_.BroadcastsInDim S1x128 (![] : Fin 0 → Fin S1x128.rank)
  bcast_S_S1x8x15x31 : S_.BroadcastsInDim S1x8x15x31 (![] : Fin 0 → Fin S1x8x15x31.rank)

variable [Facts]

def fn {F : FTy → Type} [FloatOps F] (main_arg0 : FVec F S16384x10240 .bf16) (main_arg1 : FVec F S1x128 .f32) (main_arg2 : FVec F S1x128 .f32) (main_arg3 : FVec F S1x8x15x31 .f32) : IVec S1x128 1 × IVec S1x128 1 × IVec S1x8x15x31 1 :=
  let main_v0 : FVec F S1x128 .f32 := Host.absf main_arg1
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_v3 : FVec F S1x128 .f32 := Host.absf main_arg2
  let main_cst_0 : FVec F S_ .f32 := constant S_ .f32 0x7F800000#32
  let main_v4 : FVec F S1x128 .f32 := broadcastInDim S1x128 ![] bcast_S_S1x128 main_cst_0
  let main_v5 : IVec S1x128 1 := cmpf .olt main_v3 main_v4
  let main_v6 : FVec F S1x8x15x31 .f32 := Host.absf main_arg3
  let main_cst_1 : FVec F S_ .f32 := constant S_ .f32 0x7F800000#32
  let main_v7 : FVec F S1x8x15x31 .f32 := broadcastInDim S1x8x15x31 ![] bcast_S_S1x8x15x31 main_cst_1
  let main_v8 : IVec S1x8x15x31 1 := cmpf .olt main_v6 main_v7
  (main_v2, main_v5, main_v8)
-- ==== Pre_finite_router.lean ====
abbrev S16384x1024 : Shape := ⟨2, ![16384, 1024]⟩
abbrev S16384x10240 : Shape := ⟨2, ![16384, 10240]⟩
abbrev S16384x2048 : Shape := ⟨2, ![16384, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x2048x32 : Shape := ⟨3, ![1, 2048, 32]⟩
abbrev S_ : Shape := ⟨0, ![]⟩

class Facts : Prop where
  bcast_S_S1x2048 : S_.BroadcastsInDim S1x2048 (![] : Fin 0 → Fin S1x2048.rank)
  bcast_S_S1x2048x4 : S_.BroadcastsInDim S1x2048x4 (![] : Fin 0 → Fin S1x2048x4.rank)
  bcast_S_S1x2048x32 : S_.BroadcastsInDim S1x2048x32 (![] : Fin 0 → Fin S1x2048x32.rank)

variable [Facts]

def fn {F : FTy → Type} [FloatOps F] (main_arg0 : FVec F S16384x1024 .bf16) (main_arg1 : FVec F S16384x1024 .bf16) (main_arg2 : FVec F S16384x10240 .bf16) (main_arg3 : FVec F S16384x2048 .f32) (main_arg4 : FVec F S1x1024x2048 .f32) (main_arg5 : FVec F S1x1024x2048 .f32) (main_arg6 : FVec F S1x2048x2048 .f32) (main_arg7 : FVec F S1x2048 .f32) (main_arg8 : FVec F S1x2048x4 .f32) (main_arg9 : FVec F S1x2048x32 .f32) : IVec S1x2048 1 × IVec S1x2048x4 1 × IVec S1x2048x32 1 :=
  let main_v0 : FVec F S1x2048 .f32 := Host.absf main_arg7
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_v3 : FVec F S1x2048x4 .f32 := Host.absf main_arg8
  let main_cst_0 : FVec F S_ .f32 := constant S_ .f32 0x7F800000#32
  let main_v4 : FVec F S1x2048x4 .f32 := broadcastInDim S1x2048x4 ![] bcast_S_S1x2048x4 main_cst_0
  let main_v5 : IVec S1x2048x4 1 := cmpf .olt main_v3 main_v4
  let main_v6 : FVec F S1x2048x32 .f32 := Host.absf main_arg9
  let main_cst_1 : FVec F S_ .f32 := constant S_ .f32 0x7F800000#32
  let main_v7 : FVec F S1x2048x32 .f32 := broadcastInDim S1x2048x32 ![] bcast_S_S1x2048x32 main_cst_1
  let main_v8 : IVec S1x2048x32 1 := cmpf .olt main_v6 main_v7
  (main_v2, main_v5, main_v8)
-- ==== Pre_gate_plan_ok.lean ====
abbrev S160 : Shape := ⟨1, ![160]⟩
abbrev S1 : Shape := ⟨1, ![1]⟩
abbrev S40960x2048 : Shape := ⟨2, ![40960, 2048]⟩
abbrev S1x2048 : Shape := ⟨2, ![1, 2048]⟩
abbrev S4x8x2048x1024 : Shape := ⟨4, ![4, 8, 2048, 1024]⟩
abbrev S_ : Shape := ⟨0, ![]⟩
abbrev S159 : Shape := ⟨1, ![159]⟩

class Facts : Prop where
  bcast_S1_S160_0 : S1.BroadcastsInDim S160 (![0] : Fin 1 → Fin S160.rank)
  bcast_S_S1 : S_.BroadcastsInDim S1 (![] : Fin 0 → Fin S1.rank)
  bcast_S_S160 : S_.BroadcastsInDim S160 (![] : Fin 0 → Fin S160.rank)
  slices_S160_S1_0 : S160.Slices ![0] S1
  slices_S160_S159_1 : S160.Slices ![1] S159
  bcast_S_S159 : S_.BroadcastsInDim S159 (![] : Fin 0 → Fin S159.rank)
  slices_S160_S159_0 : S160.Slices ![0] S159

variable [Facts]

def fn_part3 {F : FTy → Type} [FloatOps F] (main_arg2 : IVec S1 32) (main_arg4 : IVec S160 32) (main_v0 : IVec S160 32) (main_v2 : IVec S160 1) (main_v7 : IVec S1 1) (main_v23 : IVec S160 1) (main_v30 : IVec S1 1) (main_v45 : IVec S159 1) (main_v56 : IVec S159 1) (main_v57 : IVec S159 32) (main_v58 : IVec S159 32) (main_c_11 : IVec S_ 32) : IVec S1 1 × IVec S160 1 × IVec S1 1 × IVec S159 1 × IVec S160 1 :=
  let main_v59 : IVec S159 32 := broadcastInDim S159 ![] bcast_S_S159 main_c_11
  let main_v60 : IVec S159 32 := subi main_v59 main_v58
  let main_v61 : IVec S159 1 := cmpi .eq main_v57 main_v60
  let main_v62 : IVec S159 1 := andi main_v56 main_v61
  let main_v63 : IVec S159 1 := (extractStridedSlice S159 ![1] · slices_S160_S159_1) main_v2
  let main_v64 : IVec S159 1 := noti main_v63
  let main_v65 : IVec S159 1 := ori main_v64 main_v45
  let main_v66 : IVec S159 1 := ori main_v65 main_v62
  let main_c_12 : IVec S_ 32 := constantI S_ 32 1#32
  let main_v67 : IVec S1 32 := broadcastInDim S1 ![] bcast_S_S1 main_c_12
  let main_v68 : IVec S1 32 := subi main_arg2 main_v67
  let main_v69 : IVec S160 32 := broadcastInDim S160 ![0] bcast_S1_S160_0 main_v68
  let main_v70 : IVec S160 1 := cmpi .ne main_v0 main_v69
  let main_c_13 : IVec S_ 32 := constantI S_ 32 0#32
  let main_v71 : IVec S160 32 := broadcastInDim S160 ![] bcast_S_S160 main_c_13
  let main_v72 : IVec S160 1 := cmpi .slt main_arg4 main_v71
  let main_v73 : IVec S160 1 := ori main_v70 main_v72
  (main_v7, main_v23, main_v30, main_v66, main_v73)

def fn_part2 {F : FTy → Type} [FloatOps F] (main_arg0 : IVec S160 32) (main_arg1 : IVec S160 32) (main_arg2 : IVec S1 32) (main_arg3 : IVec S160 32) (main_arg4 : IVec S160 32) (main_v0 : IVec S160 32) (main_v2 : IVec S160 1) (main_v7 : IVec S1 1) (main_v23 : IVec S160 1) (main_v30 : IVec S1 1) (main_v37 : IVec S159 1) : IVec S1 1 × IVec S160 1 × IVec S1 1 × IVec S159 1 × IVec S160 1 :=
  let main_v38 : IVec S159 32 := (extractStridedSlice S159 ![1] · slices_S160_S159_1) main_arg3
  let main_v39 : IVec S159 32 := (extractStridedSlice S159 ![0] · slices_S160_S159_0) main_arg3
  let main_v40 : IVec S159 1 := cmpi .eq main_v38 main_v39
  let main_v41 : IVec S159 1 := andi main_v37 main_v40
  let main_v42 : IVec S159 32 := (extractStridedSlice S159 ![1] · slices_S160_S159_1) main_arg4
  let main_v43 : IVec S159 32 := (extractStridedSlice S159 ![0] · slices_S160_S159_0) main_arg4
  let main_v44 : IVec S159 1 := cmpi .eq main_v42 main_v43
  let main_v45 : IVec S159 1 := andi main_v41 main_v44
  let main_v46 : IVec S159 32 := (extractStridedSlice S159 ![1] · slices_S160_S159_1) main_arg1
  let main_c_9 : IVec S_ 32 := constantI S_ 32 1#32
  let main_v47 : IVec S159 32 := broadcastInDim S159 ![] bcast_S_S159 main_c_9
  let main_v48 : IVec S159 1 := cmpi .eq main_v46 main_v47
  let main_v49 : IVec S159 32 := (extractStridedSlice S159 ![0] · slices_S160_S159_0) main_arg4
  let main_c_10 : IVec S_ 32 := constantI S_ 32 0#32
  let main_v50 : IVec S159 32 := broadcastInDim S159 ![] bcast_S_S159 main_c_10
  let main_v51 : IVec S159 1 := cmpi .sge main_v49 main_v50
  let main_v52 : IVec S159 1 := andi main_v48 main_v51
  let main_v53 : IVec S159 32 := (extractStridedSlice S159 ![1] · slices_S160_S159_1) main_arg0
  let main_v54 : IVec S159 32 := (extractStridedSlice S159 ![0] · slices_S160_S159_0) main_arg4
  let main_v55 : IVec S159 1 := cmpi .eq main_v53 main_v54
  let main_v56 : IVec S159 1 := andi main_v52 main_v55
  let main_v57 : IVec S159 32 := (extractStridedSlice S159 ![1] · slices_S160_S159_1) main_arg3
  let main_v58 : IVec S159 32 := (extractStridedSlice S159 ![0] · slices_S160_S159_0) main_arg3
  let main_c_11 : IVec S_ 32 := constantI S_ 32 1#32
  fn_part3 (F := F) main_arg2 main_arg4 main_v0 main_v2 main_v7 main_v23 main_v30 main_v45 main_v56 main_v57 main_v58 main_c_11

def fn_part1 {F : FTy → Type} [FloatOps F] (main_arg0 : IVec S160 32) (main_arg1 : IVec S160 32) (main_arg2 : IVec S1 32) (main_arg3 : IVec S160 32) (main_arg4 : IVec S160 32) (main_v0 : IVec S160 32) (main_v2 : IVec S160 1) (main_v7 : IVec S1 1) (main_v8 : IVec S160 1) (main_v16 : IVec S160 1) (main_v17 : IVec S160 32) : IVec S1 1 × IVec S160 1 × IVec S1 1 × IVec S159 1 × IVec S160 1 :=
  let main_v18 : IVec S160 1 := cmpi .slt main_arg3 main_v17
  let main_v19 : IVec S160 1 := andi main_v16 main_v18
  let main_c_5 : IVec S_ 32 := constantI S_ 32 32#32
  let main_v20 : IVec S160 32 := broadcastInDim S160 ![] bcast_S_S160 main_c_5
  let main_v21 : IVec S160 1 := cmpi .slt main_arg4 main_v20
  let main_v22 : IVec S160 1 := andi main_v19 main_v21
  let main_v23 : IVec S160 1 := ori main_v8 main_v22
  let main_v24 : IVec S1 32 := (extractStridedSlice S1 ![0] · slices_S160_S1_0) main_arg1
  let main_c_6 : IVec S_ 32 := constantI S_ 32 1#32
  let main_v25 : IVec S1 32 := broadcastInDim S1 ![] bcast_S_S1 main_c_6
  let main_v26 : IVec S1 1 := cmpi .eq main_v24 main_v25
  let main_v27 : IVec S1 32 := (extractStridedSlice S1 ![0] · slices_S160_S1_0) main_arg3
  let main_c_7 : IVec S_ 32 := constantI S_ 32 0#32
  let main_v28 : IVec S1 32 := broadcastInDim S1 ![] bcast_S_S1 main_c_7
  let main_v29 : IVec S1 1 := cmpi .eq main_v27 main_v28
  let main_v30 : IVec S1 1 := andi main_v26 main_v29
  let main_v31 : IVec S159 32 := (extractStridedSlice S159 ![1] · slices_S160_S159_1) main_arg1
  let main_c_8 : IVec S_ 32 := constantI S_ 32 0#32
  let main_v32 : IVec S159 32 := broadcastInDim S159 ![] bcast_S_S159 main_c_8
  let main_v33 : IVec S159 1 := cmpi .eq main_v31 main_v32
  let main_v34 : IVec S159 32 := (extractStridedSlice S159 ![1] · slices_S160_S159_1) main_arg0
  let main_v35 : IVec S159 32 := (extractStridedSlice S159 ![0] · slices_S160_S159_0) main_arg0
  let main_v36 : IVec S159 1 := cmpi .eq main_v34 main_v35
  let main_v37 : IVec S159 1 := andi main_v33 main_v36
  fn_part2 (F := F) main_arg0 main_arg1 main_arg2 main_arg3 main_arg4 main_v0 main_v2 main_v7 main_v23 main_v30 main_v37

def fn {F : FTy → Type} [FloatOps F] (main_arg0 : IVec S160 32) (main_arg1 : IVec S160 32) (main_arg2 : IVec S1 32) (main_arg3 : IVec S160 32) (main_arg4 : IVec S160 32) (main_arg5 : FVec F S40960x2048 .f32) (main_arg6 : FVec F S1x2048 .f32) (main_arg7 : FVec F S4x8x2048x1024 .f32) (main_arg8 : FVec F S4x8x2048x1024 .f32) : IVec S1 1 × IVec S160 1 × IVec S1 1 × IVec S159 1 × IVec S160 1 :=
  let main_v0 : IVec S160 32 := iotaInDim S160 32 0
  let main_v1 : IVec S160 32 := broadcastInDim S160 ![0] bcast_S1_S160_0 main_arg2
  let main_v2 : IVec S160 1 := cmpi .slt main_v0 main_v1
  let main_c : IVec S_ 32 := constantI S_ 32 1#32
  let main_v3 : IVec S1 32 := broadcastInDim S1 ![] bcast_S_S1 main_c
  let main_v4 : IVec S1 1 := cmpi .sge main_arg2 main_v3
  let main_c_0 : IVec S_ 32 := constantI S_ 32 160#32
  let main_v5 : IVec S1 32 := broadcastInDim S1 ![] bcast_S_S1 main_c_0
  let main_v6 : IVec S1 1 := cmpi .sle main_arg2 main_v5
  let main_v7 : IVec S1 1 := andi main_v4 main_v6
  let main_v8 : IVec S160 1 := noti main_v2
  let main_c_1 : IVec S_ 32 := constantI S_ 32 0#32
  let main_v9 : IVec S160 32 := broadcastInDim S160 ![] bcast_S_S160 main_c_1
  let main_v10 : IVec S160 1 := cmpi .sge main_arg0 main_v9
  let main_c_2 : IVec S_ 32 := constantI S_ 32 32#32
  let main_v11 : IVec S160 32 := broadcastInDim S160 ![] bcast_S_S160 main_c_2
  let main_v12 : IVec S160 1 := cmpi .slt main_arg0 main_v11
  let main_v13 : IVec S160 1 := andi main_v10 main_v12
  let main_c_3 : IVec S_ 32 := constantI S_ 32 0#32
  let main_v14 : IVec S160 32 := broadcastInDim S160 ![] bcast_S_S160 main_c_3
  let main_v15 : IVec S160 1 := cmpi .sge main_arg3 main_v14
  let main_v16 : IVec S160 1 := andi main_v13 main_v15
  let main_c_4 : IVec S_ 32 := constantI S_ 32 2#32
  let main_v17 : IVec S160 32 := broadcastInDim S160 ![] bcast_S_S160 main_c_4
  fn_part1 (F := F) main_arg0 main_arg1 main_arg2 main_arg3 main_arg4 main_v0 main_v2 main_v7 main_v8 main_v16 main_v17
-- ==== Pre_plan_ok.lean ====
abbrev S160 : Shape := ⟨1, ![160]⟩
abbrev S1 : Shape := ⟨1, ![1]⟩
abbrev S40960x1024 : Shape := ⟨2, ![40960, 1024]⟩
abbrev S4x8x1024x2048 : Shape := ⟨4, ![4, 8, 1024, 2048]⟩
abbrev S_ : Shape := ⟨0, ![]⟩
abbrev S159 : Shape := ⟨1, ![159]⟩

class Facts : Prop where
  bcast_S1_S160_0 : S1.BroadcastsInDim S160 (![0] : Fin 1 → Fin S160.rank)
  bcast_S_S1 : S_.BroadcastsInDim S1 (![] : Fin 0 → Fin S1.rank)
  bcast_S_S160 : S_.BroadcastsInDim S160 (![] : Fin 0 → Fin S160.rank)
  slices_S160_S1_0 : S160.Slices ![0] S1
  slices_S160_S159_1 : S160.Slices ![1] S159
  bcast_S_S159 : S_.BroadcastsInDim S159 (![] : Fin 0 → Fin S159.rank)
  slices_S160_S159_0 : S160.Slices ![0] S159

variable [Facts]

def fn_part3 {F : FTy → Type} [FloatOps F] (main_arg2 : IVec S1 32) (main_arg4 : IVec S160 32) (main_v0 : IVec S160 32) (main_v2 : IVec S160 1) (main_v7 : IVec S1 1) (main_v23 : IVec S160 1) (main_v30 : IVec S1 1) (main_v45 : IVec S159 1) (main_v56 : IVec S159 1) (main_v57 : IVec S159 32) (main_v58 : IVec S159 32) (main_c_11 : IVec S_ 32) : IVec S1 1 × IVec S160 1 × IVec S1 1 × IVec S159 1 × IVec S160 1 :=
  let main_v59 : IVec S159 32 := broadcastInDim S159 ![] bcast_S_S159 main_c_11
  let main_v60 : IVec S159 32 := subi main_v59 main_v58
  let main_v61 : IVec S159 1 := cmpi .eq main_v57 main_v60
  let main_v62 : IVec S159 1 := andi main_v56 main_v61
  let main_v63 : IVec S159 1 := (extractStridedSlice S159 ![1] · slices_S160_S159_1) main_v2
  let main_v64 : IVec S159 1 := noti main_v63
  let main_v65 : IVec S159 1 := ori main_v64 main_v45
  let main_v66 : IVec S159 1 := ori main_v65 main_v62
  let main_c_12 : IVec S_ 32 := constantI S_ 32 1#32
  let main_v67 : IVec S1 32 := broadcastInDim S1 ![] bcast_S_S1 main_c_12
  let main_v68 : IVec S1 32 := subi main_arg2 main_v67
  let main_v69 : IVec S160 32 := broadcastInDim S160 ![0] bcast_S1_S160_0 main_v68
  let main_v70 : IVec S160 1 := cmpi .ne main_v0 main_v69
  let main_c_13 : IVec S_ 32 := constantI S_ 32 0#32
  let main_v71 : IVec S160 32 := broadcastInDim S160 ![] bcast_S_S160 main_c_13
  let main_v72 : IVec S160 1 := cmpi .slt main_arg4 main_v71
  let main_v73 : IVec S160 1 := ori main_v70 main_v72
  (main_v7, main_v23, main_v30, main_v66, main_v73)

def fn_part2 {F : FTy → Type} [FloatOps F] (main_arg0 : IVec S160 32) (main_arg1 : IVec S160 32) (main_arg2 : IVec S1 32) (main_arg3 : IVec S160 32) (main_arg4 : IVec S160 32) (main_v0 : IVec S160 32) (main_v2 : IVec S160 1) (main_v7 : IVec S1 1) (main_v23 : IVec S160 1) (main_v30 : IVec S1 1) (main_v37 : IVec S159 1) : IVec S1 1 × IVec S160 1 × IVec S1 1 × IVec S159 1 × IVec S160 1 :=
  let main_v38 : IVec S159 32 := (extractStridedSlice S159 ![1] · slices_S160_S159_1) main_arg3
  let main_v39 : IVec S159 32 := (extractStridedSlice S159 ![0] · slices_S160_S159_0) main_arg3
  let main_v40 : IVec S159 1 := cmpi .eq main_v38 main_v39
  let main_v41 : IVec S159 1 := andi main_v37 main_v40
  let main_v42 : IVec S159 32 := (extractStridedSlice S159 ![1] · slices_S160_S159_1) main_arg4
  let main_v43 : IVec S159 32 := (extractStridedSlice S159 ![0] · slices_S160_S159_0) main_arg4
  let main_v44 : IVec S159 1 := cmpi .eq main_v42 main_v43
  let main_v45 : IVec S159 1 := andi main_v41 main_v44
  let main_v46 : IVec S159 32 := (extractStridedSlice S159 ![1] · slices_S160_S159_1) main_arg1
  let main_c_9 : IVec S_ 32 := constantI S_ 32 1#32
  let main_v47 : IVec S159 32 := broadcastInDim S159 ![] bcast_S_S159 main_c_9
  let main_v48 : IVec S159 1 := cmpi .eq main_v46 main_v47
  let main_v49 : IVec S159 32 := (extractStridedSlice S159 ![0] · slices_S160_S159_0) main_arg4
  let main_c_10 : IVec S_ 32 := constantI S_ 32 0#32
  let main_v50 : IVec S159 32 := broadcastInDim S159 ![] bcast_S_S159 main_c_10
  let main_v51 : IVec S159 1 := cmpi .sge main_v49 main_v50
  let main_v52 : IVec S159 1 := andi main_v48 main_v51
  let main_v53 : IVec S159 32 := (extractStridedSlice S159 ![1] · slices_S160_S159_1) main_arg0
  let main_v54 : IVec S159 32 := (extractStridedSlice S159 ![0] · slices_S160_S159_0) main_arg4
  let main_v55 : IVec S159 1 := cmpi .eq main_v53 main_v54
  let main_v56 : IVec S159 1 := andi main_v52 main_v55
  let main_v57 : IVec S159 32 := (extractStridedSlice S159 ![1] · slices_S160_S159_1) main_arg3
  let main_v58 : IVec S159 32 := (extractStridedSlice S159 ![0] · slices_S160_S159_0) main_arg3
  let main_c_11 : IVec S_ 32 := constantI S_ 32 1#32
  fn_part3 (F := F) main_arg2 main_arg4 main_v0 main_v2 main_v7 main_v23 main_v30 main_v45 main_v56 main_v57 main_v58 main_c_11

def fn_part1 {F : FTy → Type} [FloatOps F] (main_arg0 : IVec S160 32) (main_arg1 : IVec S160 32) (main_arg2 : IVec S1 32) (main_arg3 : IVec S160 32) (main_arg4 : IVec S160 32) (main_v0 : IVec S160 32) (main_v2 : IVec S160 1) (main_v7 : IVec S1 1) (main_v8 : IVec S160 1) (main_v16 : IVec S160 1) (main_v17 : IVec S160 32) : IVec S1 1 × IVec S160 1 × IVec S1 1 × IVec S159 1 × IVec S160 1 :=
  let main_v18 : IVec S160 1 := cmpi .slt main_arg3 main_v17
  let main_v19 : IVec S160 1 := andi main_v16 main_v18
  let main_c_5 : IVec S_ 32 := constantI S_ 32 32#32
  let main_v20 : IVec S160 32 := broadcastInDim S160 ![] bcast_S_S160 main_c_5
  let main_v21 : IVec S160 1 := cmpi .slt main_arg4 main_v20
  let main_v22 : IVec S160 1 := andi main_v19 main_v21
  let main_v23 : IVec S160 1 := ori main_v8 main_v22
  let main_v24 : IVec S1 32 := (extractStridedSlice S1 ![0] · slices_S160_S1_0) main_arg1
  let main_c_6 : IVec S_ 32 := constantI S_ 32 1#32
  let main_v25 : IVec S1 32 := broadcastInDim S1 ![] bcast_S_S1 main_c_6
  let main_v26 : IVec S1 1 := cmpi .eq main_v24 main_v25
  let main_v27 : IVec S1 32 := (extractStridedSlice S1 ![0] · slices_S160_S1_0) main_arg3
  let main_c_7 : IVec S_ 32 := constantI S_ 32 0#32
  let main_v28 : IVec S1 32 := broadcastInDim S1 ![] bcast_S_S1 main_c_7
  let main_v29 : IVec S1 1 := cmpi .eq main_v27 main_v28
  let main_v30 : IVec S1 1 := andi main_v26 main_v29
  let main_v31 : IVec S159 32 := (extractStridedSlice S159 ![1] · slices_S160_S159_1) main_arg1
  let main_c_8 : IVec S_ 32 := constantI S_ 32 0#32
  let main_v32 : IVec S159 32 := broadcastInDim S159 ![] bcast_S_S159 main_c_8
  let main_v33 : IVec S159 1 := cmpi .eq main_v31 main_v32
  let main_v34 : IVec S159 32 := (extractStridedSlice S159 ![1] · slices_S160_S159_1) main_arg0
  let main_v35 : IVec S159 32 := (extractStridedSlice S159 ![0] · slices_S160_S159_0) main_arg0
  let main_v36 : IVec S159 1 := cmpi .eq main_v34 main_v35
  let main_v37 : IVec S159 1 := andi main_v33 main_v36
  fn_part2 (F := F) main_arg0 main_arg1 main_arg2 main_arg3 main_arg4 main_v0 main_v2 main_v7 main_v23 main_v30 main_v37

def fn {F : FTy → Type} [FloatOps F] (main_arg0 : IVec S160 32) (main_arg1 : IVec S160 32) (main_arg2 : IVec S1 32) (main_arg3 : IVec S160 32) (main_arg4 : IVec S160 32) (main_arg5 : FVec F S40960x1024 .bf16) (main_arg6 : FVec F S4x8x1024x2048 .f32) : IVec S1 1 × IVec S160 1 × IVec S1 1 × IVec S159 1 × IVec S160 1 :=
  let main_v0 : IVec S160 32 := iotaInDim S160 32 0
  let main_v1 : IVec S160 32 := broadcastInDim S160 ![0] bcast_S1_S160_0 main_arg2
  let main_v2 : IVec S160 1 := cmpi .slt main_v0 main_v1
  let main_c : IVec S_ 32 := constantI S_ 32 1#32
  let main_v3 : IVec S1 32 := broadcastInDim S1 ![] bcast_S_S1 main_c
  let main_v4 : IVec S1 1 := cmpi .sge main_arg2 main_v3
  let main_c_0 : IVec S_ 32 := constantI S_ 32 160#32
  let main_v5 : IVec S1 32 := broadcastInDim S1 ![] bcast_S_S1 main_c_0
  let main_v6 : IVec S1 1 := cmpi .sle main_arg2 main_v5
  let main_v7 : IVec S1 1 := andi main_v4 main_v6
  let main_v8 : IVec S160 1 := noti main_v2
  let main_c_1 : IVec S_ 32 := constantI S_ 32 0#32
  let main_v9 : IVec S160 32 := broadcastInDim S160 ![] bcast_S_S160 main_c_1
  let main_v10 : IVec S160 1 := cmpi .sge main_arg0 main_v9
  let main_c_2 : IVec S_ 32 := constantI S_ 32 32#32
  let main_v11 : IVec S160 32 := broadcastInDim S160 ![] bcast_S_S160 main_c_2
  let main_v12 : IVec S160 1 := cmpi .slt main_arg0 main_v11
  let main_v13 : IVec S160 1 := andi main_v10 main_v12
  let main_c_3 : IVec S_ 32 := constantI S_ 32 0#32
  let main_v14 : IVec S160 32 := broadcastInDim S160 ![] bcast_S_S160 main_c_3
  let main_v15 : IVec S160 1 := cmpi .sge main_arg3 main_v14
  let main_v16 : IVec S160 1 := andi main_v13 main_v15
  let main_c_4 : IVec S_ 32 := constantI S_ 32 2#32
  let main_v17 : IVec S160 32 := broadcastInDim S160 ![] bcast_S_S160 main_c_4
  fn_part1 (F := F) main_arg0 main_arg1 main_arg2 main_arg3 main_arg4 main_v0 main_v2 main_v7 main_v8 main_v16 main_v17
-- ==== Kernel.lean ====
abbrev S16384x10240 : Shape := ⟨2, ![16384, 10240]⟩
abbrev S1x128 : Shape := ⟨2, ![1, 128]⟩
abbrev S1x8x15x31 : Shape := ⟨4, ![1, 8, 15, 31]⟩
abbrev S128 : Shape := ⟨1, ![128]⟩
abbrev S8x15x31 : Shape := ⟨3, ![8, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S8x15x64x64 : Shape := ⟨4, ![8, 15, 64, 64]⟩
abbrev S8x8x64x64 : Shape := ⟨4, ![8, 8, 64, 64]⟩
abbrev S8x64x8x64 : Shape := ⟨4, ![8, 64, 8, 64]⟩
abbrev S1x64x1x64 : Shape := ⟨4, ![1, 64, 1, 64]⟩
abbrev S8x64x0x64 : Shape := ⟨4, ![8, 64, 0, 64]⟩
abbrev S8x64x4x64 : Shape := ⟨4, ![8, 64, 4, 64]⟩
abbrev S8x64x12x64 : Shape := ⟨4, ![8, 64, 12, 64]⟩
abbrev S8x64x768 : Shape := ⟨3, ![8, 64, 768]⟩
abbrev S8x256x768 : Shape := ⟨3, ![8, 256, 768]⟩
abbrev S8x64x1x64 : Shape := ⟨4, ![8, 64, 1, 64]⟩
abbrev S8x64x3x64 : Shape := ⟨4, ![8, 64, 3, 64]⟩
abbrev S8x64x2x64 : Shape := ⟨4, ![8, 64, 2, 64]⟩
abbrev S8x1x256x768 : Shape := ⟨4, ![8, 1, 256, 768]⟩
abbrev S8x3x256x768 : Shape := ⟨4, ![8, 3, 256, 768]⟩
abbrev S16384x1024 : Shape := ⟨2, ![16384, 1024]⟩
abbrev S2048x128 : Shape := ⟨2, ![2048, 128]⟩
abbrev S1x3x256x768 : Shape := ⟨4, ![1, 3, 256, 768]⟩
abbrev S2048x256 : Shape := ⟨2, ![2048, 256]⟩
abbrev S2048 : Shape := ⟨1, ![2048]⟩
abbrev S2048x1 : Shape := ⟨2, ![2048, 1]⟩
abbrev S256x128 : Shape := ⟨2, ![256, 128]⟩
abbrev S768x128 : Shape := ⟨2, ![768, 128]⟩
abbrev S256x768 : Shape := ⟨2, ![256, 768]⟩
abbrev S1x1x256x768 : Shape := ⟨4, ![1, 1, 256, 768]⟩
abbrev S256 : Shape := ⟨1, ![256]⟩
abbrev S256x1 : Shape := ⟨2, ![256, 1]⟩
abbrev S768x256 : Shape := ⟨2, ![768, 256]⟩
abbrev S256x256 : Shape := ⟨2, ![256, 256]⟩

abbrev nBuf : Space → Nat
  | .hbm => 236
  | .vmem => 15
  | .smem => 0
  | _ => 0

abbrev hbmTy0_0 (i : Nat) : BufTy := match i % 128 with
  | 0 => ⟨S16384x10240, .bf16⟩
  | 1 => ⟨S1x128, .f32⟩
  | 2 => ⟨S1x128, .f32⟩
  | 3 => ⟨S1x8x15x31, .f32⟩
  | 4 => ⟨S128, .f32⟩
  | 5 => ⟨S1x128, .f32⟩
  | 6 => ⟨S128, .f32⟩
  | 7 => ⟨S1x128, .f32⟩
  | 8 => ⟨S8x15x31, .f32⟩
  | 9 => ⟨S64, .i32⟩
  | 10 => ⟨S_, .i32⟩
  | 11 => ⟨S64, .i32⟩
  | 12 => ⟨S64, .i32⟩
  | 13 => ⟨S_, .i32⟩
  | 14 => ⟨S_, .i32⟩
  | 15 => ⟨S_, .i32⟩
  | 16 => ⟨S64, .i32⟩
  | 17 => ⟨S64, .i32⟩
  | 18 => ⟨S_, .i32⟩
  | 19 => ⟨S64, .i32⟩
  | 20 => ⟨S64, .i32⟩
  | 21 => ⟨S1x64, .i32⟩
  | 22 => ⟨S64x1, .i32⟩
  | 23 => ⟨S64x64, .i32⟩
  | 24 => ⟨S64x64, .i32⟩
  | 25 => ⟨S64x64, .i1⟩
  | 26 => ⟨S1x64, .i32⟩
  | 27 => ⟨S64x1, .i32⟩
  | 28 => ⟨S_, .i32⟩
  | 29 => ⟨S64x1, .i32⟩
  | 30 => ⟨S64x1, .i32⟩
  | 31 => ⟨S64x64, .i32⟩
  | 32 => ⟨S64x64, .i32⟩
  | 33 => ⟨S64x64, .i1⟩
  | 34 => ⟨S64x64, .i1⟩
  | 35 => ⟨S1x64, .i32⟩
  | 36 => ⟨S64x1, .i32⟩
  | 37 => ⟨S64x64, .i32⟩
  | 38 => ⟨S64x64, .i32⟩
  | 39 => ⟨S64x64, .i32⟩
  | 40 => ⟨S_, .i32⟩
  | 41 => ⟨S_, .i32⟩
  | 42 => ⟨S_, .i32⟩
  | 43 => ⟨S64x64, .i32⟩
  | 44 => ⟨S64x64, .i32⟩
  | 45 => ⟨S_, .i32⟩
  | 46 => ⟨S64x64, .i32⟩
  | 47 => ⟨S64x64, .i32⟩
  | 48 => ⟨S_, .i32⟩
  | 49 => ⟨S64x64, .i32⟩
  | 50 => ⟨S64x64, .i32⟩
  | 51 => ⟨S_, .i32⟩
  | 52 => ⟨S64x64, .i32⟩
  | 53 => ⟨S64x64, .i1⟩
  | 54 => ⟨S_, .i32⟩
  | 55 => ⟨S64x64, .i32⟩
  | 56 => ⟨S64x64, .i32⟩
  | 57 => ⟨S64x64, .i32⟩
  | 58 => ⟨S64x64x1, .i32⟩
  | 59 => ⟨S8x15x64x64, .f32⟩
  | 60 => ⟨S8x8x64x64, .f32⟩
  | 61 => ⟨S8x64x8x64, .f32⟩
  | 62 => ⟨S1x64x1x64, .i1⟩
  | 63 => ⟨S_, .f32⟩
  | 64 => ⟨S_, .f32⟩
  | 65 => ⟨S8x64x8x64, .i1⟩
  | 66 => ⟨S8x64x8x64, .f32⟩
  | 67 => ⟨S8x64x8x64, .f32⟩
  | 68 => ⟨S_, .f32⟩
  | 69 => ⟨S8x64x0x64, .f32⟩
  | 70 => ⟨S_, .f32⟩
  | 71 => ⟨S8x64x4x64, .f32⟩
  | 72 => ⟨S8x64x12x64, .f32⟩
  | 73 => ⟨S8x64x768, .f32⟩
  | 74 => ⟨S8x8x64x64, .f32⟩
  | 75 => ⟨S8x64x8x64, .f32⟩
  | 76 => ⟨S1x64x1x64, .i1⟩
  | 77 => ⟨S_, .f32⟩
  | 78 => ⟨S_, .f32⟩
  | 79 => ⟨S8x64x8x64, .i1⟩
  | 80 => ⟨S8x64x8x64, .f32⟩
  | 81 => ⟨S8x64x8x64, .f32⟩
  | 82 => ⟨S_, .f32⟩
  | 83 => ⟨S8x64x0x64, .f32⟩
  | 84 => ⟨S_, .f32⟩
  | 85 => ⟨S8x64x4x64, .f32⟩
  | 86 => ⟨S8x64x12x64, .f32⟩
  | 87 => ⟨S8x64x768, .f32⟩
  | 88 => ⟨S8x8x64x64, .f32⟩
  | 89 => ⟨S8x64x8x64, .f32⟩
  | 90 => ⟨S1x64x1x64, .i1⟩
  | 91 => ⟨S_, .f32⟩
  | 92 => ⟨S_, .f32⟩
  | 93 => ⟨S8x64x8x64, .i1⟩
  | 94 => ⟨S8x64x8x64, .f32⟩
  | 95 => ⟨S8x64x8x64, .f32⟩
  | 96 => ⟨S_, .f32⟩
  | 97 => ⟨S8x64x0x64, .f32⟩
  | 98 => ⟨S_, .f32⟩
  | 99 => ⟨S8x64x4x64, .f32⟩
  | 100 => ⟨S8x64x12x64, .f32⟩
  | 101 => ⟨S8x64x768, .f32⟩
  | 102 => ⟨S8x8x64x64, .f32⟩
  | 103 => ⟨S8x64x8x64, .f32⟩
  | 104 => ⟨S1x64x1x64, .i1⟩
  | 105 => ⟨S_, .f32⟩
  | 106 => ⟨S_, .f32⟩
  | 107 => ⟨S8x64x8x64, .i1⟩
  | 108 => ⟨S8x64x8x64, .f32⟩
  | 109 => ⟨S8x64x8x64, .f32⟩
  | 110 => ⟨S_, .f32⟩
  | 111 => ⟨S8x64x0x64, .f32⟩
  | 112 => ⟨S_, .f32⟩
  | 113 => ⟨S8x64x4x64, .f32⟩
  | 114 => ⟨S8x64x12x64, .f32⟩
  | 115 => ⟨S8x64x768, .f32⟩
  | 116 => ⟨S8x256x768, .f32⟩
  | 117 => ⟨S8x8x64x64, .f32⟩
  | 118 => ⟨S8x64x8x64, .f32⟩
  | 119 => ⟨S1x64x1x64, .i1⟩
  | 120 => ⟨S_, .f32⟩
  | 121 => ⟨S_, .f32⟩
  | 122 => ⟨S8x64x8x64, .i1⟩
  | 123 => ⟨S8x64x8x64, .f32⟩
  | 124 => ⟨S8x64x8x64, .f32⟩
  | 125 => ⟨S_, .f32⟩
  | 126 => ⟨S8x64x0x64, .f32⟩
  | 127 => ⟨S_, .f32⟩
  | _ => ⟨S16384x10240, .bf16⟩

abbrev hbmTy0_1 (i : Nat) : BufTy := match i % 128 with
  | 0 => ⟨S8x64x4x64, .f32⟩
  | 1 => ⟨S8x64x12x64, .f32⟩
  | 2 => ⟨S8x64x768, .f32⟩
  | 3 => ⟨S8x8x64x64, .f32⟩
  | 4 => ⟨S8x64x8x64, .f32⟩
  | 5 => ⟨S1x64x1x64, .i1⟩
  | 6 => ⟨S_, .f32⟩
  | 7 => ⟨S_, .f32⟩
  | 8 => ⟨S8x64x8x64, .i1⟩
  | 9 => ⟨S8x64x8x64, .f32⟩
  | 10 => ⟨S8x64x8x64, .f32⟩
  | 11 => ⟨S_, .f32⟩
  | 12 => ⟨S8x64x1x64, .f32⟩
  | 13 => ⟨S_, .f32⟩
  | 14 => ⟨S8x64x3x64, .f32⟩
  | 15 => ⟨S8x64x12x64, .f32⟩
  | 16 => ⟨S8x64x768, .f32⟩
  | 17 => ⟨S8x8x64x64, .f32⟩
  | 18 => ⟨S8x64x8x64, .f32⟩
  | 19 => ⟨S1x64x1x64, .i1⟩
  | 20 => ⟨S_, .f32⟩
  | 21 => ⟨S_, .f32⟩
  | 22 => ⟨S8x64x8x64, .i1⟩
  | 23 => ⟨S8x64x8x64, .f32⟩
  | 24 => ⟨S8x64x8x64, .f32⟩
  | 25 => ⟨S_, .f32⟩
  | 26 => ⟨S8x64x2x64, .f32⟩
  | 27 => ⟨S_, .f32⟩
  | 28 => ⟨S8x64x2x64, .f32⟩
  | 29 => ⟨S8x64x12x64, .f32⟩
  | 30 => ⟨S8x64x768, .f32⟩
  | 31 => ⟨S8x8x64x64, .f32⟩
  | 32 => ⟨S8x64x8x64, .f32⟩
  | 33 => ⟨S1x64x1x64, .i1⟩
  | 34 => ⟨S_, .f32⟩
  | 35 => ⟨S_, .f32⟩
  | 36 => ⟨S8x64x8x64, .i1⟩
  | 37 => ⟨S8x64x8x64, .f32⟩
  | 38 => ⟨S8x64x8x64, .f32⟩
  | 39 => ⟨S_, .f32⟩
  | 40 => ⟨S8x64x3x64, .f32⟩
  | 41 => ⟨S_, .f32⟩
  | 42 => ⟨S8x64x1x64, .f32⟩
  | 43 => ⟨S8x64x12x64, .f32⟩
  | 44 => ⟨S8x64x768, .f32⟩
  | 45 => ⟨S8x256x768, .f32⟩
  | 46 => ⟨S8x8x64x64, .f32⟩
  | 47 => ⟨S8x64x8x64, .f32⟩
  | 48 => ⟨S1x64x1x64, .i1⟩
  | 49 => ⟨S_, .f32⟩
  | 50 => ⟨S_, .f32⟩
  | 51 => ⟨S8x64x8x64, .i1⟩
  | 52 => ⟨S8x64x8x64, .f32⟩
  | 53 => ⟨S8x64x8x64, .f32⟩
  | 54 => ⟨S_, .f32⟩
  | 55 => ⟨S8x64x4x64, .f32⟩
  | 56 => ⟨S_, .f32⟩
  | 57 => ⟨S8x64x0x64, .f32⟩
  | 58 => ⟨S8x64x12x64, .f32⟩
  | 59 => ⟨S8x64x768, .f32⟩
  | 60 => ⟨S8x8x64x64, .f32⟩
  | 61 => ⟨S8x64x8x64, .f32⟩
  | 62 => ⟨S1x64x1x64, .i1⟩
  | 63 => ⟨S_, .f32⟩
  | 64 => ⟨S_, .f32⟩
  | 65 => ⟨S8x64x8x64, .i1⟩
  | 66 => ⟨S8x64x8x64, .f32⟩
  | 67 => ⟨S8x64x8x64, .f32⟩
  | 68 => ⟨S_, .f32⟩
  | 69 => ⟨S8x64x4x64, .f32⟩
  | 70 => ⟨S_, .f32⟩
  | 71 => ⟨S8x64x0x64, .f32⟩
  | 72 => ⟨S8x64x12x64, .f32⟩
  | 73 => ⟨S8x64x768, .f32⟩
  | 74 => ⟨S8x8x64x64, .f32⟩
  | 75 => ⟨S8x64x8x64, .f32⟩
  | 76 => ⟨S1x64x1x64, .i1⟩
  | 77 => ⟨S_, .f32⟩
  | 78 => ⟨S_, .f32⟩
  | 79 => ⟨S8x64x8x64, .i1⟩
  | 80 => ⟨S8x64x8x64, .f32⟩
  | 81 => ⟨S8x64x8x64, .f32⟩
  | 82 => ⟨S_, .f32⟩
  | 83 => ⟨S8x64x4x64, .f32⟩
  | 84 => ⟨S_, .f32⟩
  | 85 => ⟨S8x64x0x64, .f32⟩
  | 86 => ⟨S8x64x12x64, .f32⟩
  | 87 => ⟨S8x64x768, .f32⟩
  | 88 => ⟨S8x8x64x64, .f32⟩
  | 89 => ⟨S8x64x8x64, .f32⟩
  | 90 => ⟨S1x64x1x64, .i1⟩
  | 91 => ⟨S_, .f32⟩
  | 92 => ⟨S_, .f32⟩
  | 93 => ⟨S8x64x8x64, .i1⟩
  | 94 => ⟨S8x64x8x64, .f32⟩
  | 95 => ⟨S8x64x8x64, .f32⟩
  | 96 => ⟨S_, .f32⟩
  | 97 => ⟨S8x64x4x64, .f32⟩
  | 98 => ⟨S_, .f32⟩
  | 99 => ⟨S8x64x0x64, .f32⟩
  | 100 => ⟨S8x64x12x64, .f32⟩
  | 101 => ⟨S8x64x768, .f32⟩
  | 102 => ⟨S8x256x768, .f32⟩
  | 103 => ⟨S8x1x256x768, .f32⟩
  | 104 => ⟨S8x1x256x768, .f32⟩
  | 105 => ⟨S8x1x256x768, .f32⟩
  | 106 => ⟨S8x3x256x768, .f32⟩
  | 107 => ⟨S16384x1024, .bf16⟩
  | _ => ⟨S16384x10240, .bf16⟩

abbrev hbmTy (i : Nat) : BufTy := match i / 128 with
  | 0 => hbmTy0_0 i
  | 1 => hbmTy0_1 i
  | _ => ⟨S16384x10240, .bf16⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x128, .f32⟩
  | .local _ .vmem, ⟨7, _⟩ => ⟨S1x128, .f32⟩
  | .local _ .vmem, ⟨8, _⟩ => ⟨S1x3x256x768, .f32⟩
  | .local _ .vmem, ⟨9, _⟩ => ⟨S1x3x256x768, .f32⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x256, .bf16⟩
  | _, _ => ⟨S16384x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_c_4 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_c_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v48 : Ref sig .tc := ⟨.hbm, 81, rfl⟩
abbrev main_cst_11 : Ref sig .tc := ⟨.hbm, 82, rfl⟩
abbrev main_v49 : Ref sig .tc := ⟨.hbm, 83, rfl⟩
abbrev main_cst_12 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_13 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v56 : Ref sig .tc := ⟨.hbm, 95, rfl⟩
abbrev main_cst_14 : Ref sig .tc := ⟨.hbm, 96, rfl⟩
abbrev main_v57 : Ref sig .tc := ⟨.hbm, 97, rfl⟩
abbrev main_cst_15 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_16 : Ref sig .tc := ⟨.hbm, 105, rfl⟩
abbrev main_call5_v0 : Ref sig .tc := ⟨.hbm, 106, rfl⟩
abbrev main_call5_v1 : Ref sig .tc := ⟨.hbm, 107, rfl⟩
abbrev main_call5_v2 : Ref sig .tc := ⟨.hbm, 108, rfl⟩
abbrev main_v64 : Ref sig .tc := ⟨.hbm, 109, rfl⟩
abbrev main_cst_17 : Ref sig .tc := ⟨.hbm, 110, rfl⟩
abbrev main_v65 : Ref sig .tc := ⟨.hbm, 111, rfl⟩
abbrev main_cst_18 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_cst_19 : Ref sig .tc := ⟨.hbm, 120, rfl⟩
abbrev main_call6_v0 : Ref sig .tc := ⟨.hbm, 121, rfl⟩
abbrev main_call6_v1 : Ref sig .tc := ⟨.hbm, 122, rfl⟩
abbrev main_call6_v2 : Ref sig .tc := ⟨.hbm, 123, rfl⟩
abbrev main_v73 : Ref sig .tc := ⟨.hbm, 124, rfl⟩
abbrev main_cst_20 : Ref sig .tc := ⟨.hbm, 125, rfl⟩
abbrev main_v74 : Ref sig .tc := ⟨.hbm, 126, rfl⟩
abbrev main_cst_21 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_cst_22 : Ref sig .tc := ⟨.hbm, 134, rfl⟩
abbrev main_call7_v0 : Ref sig .tc := ⟨.hbm, 135, rfl⟩
abbrev main_call7_v1 : Ref sig .tc := ⟨.hbm, 136, rfl⟩
abbrev main_call7_v2 : Ref sig .tc := ⟨.hbm, 137, rfl⟩
abbrev main_v81 : Ref sig .tc := ⟨.hbm, 138, rfl⟩
abbrev main_cst_23 : Ref sig .tc := ⟨.hbm, 139, rfl⟩
abbrev main_v82 : Ref sig .tc := ⟨.hbm, 140, rfl⟩
abbrev main_cst_24 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_cst_25 : Ref sig .tc := ⟨.hbm, 148, rfl⟩
abbrev main_call8_v0 : Ref sig .tc := ⟨.hbm, 149, rfl⟩
abbrev main_call8_v1 : Ref sig .tc := ⟨.hbm, 150, rfl⟩
abbrev main_call8_v2 : Ref sig .tc := ⟨.hbm, 151, rfl⟩
abbrev main_v89 : Ref sig .tc := ⟨.hbm, 152, rfl⟩
abbrev main_cst_26 : Ref sig .tc := ⟨.hbm, 153, rfl⟩
abbrev main_v90 : Ref sig .tc := ⟨.hbm, 154, rfl⟩
abbrev main_cst_27 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_cst_28 : Ref sig .tc := ⟨.hbm, 162, rfl⟩
abbrev main_call9_v0 : Ref sig .tc := ⟨.hbm, 163, rfl⟩
abbrev main_call9_v1 : Ref sig .tc := ⟨.hbm, 164, rfl⟩
abbrev main_call9_v2 : Ref sig .tc := ⟨.hbm, 165, rfl⟩
abbrev main_v97 : Ref sig .tc := ⟨.hbm, 166, rfl⟩
abbrev main_cst_29 : Ref sig .tc := ⟨.hbm, 167, rfl⟩
abbrev main_v98 : Ref sig .tc := ⟨.hbm, 168, rfl⟩
abbrev main_cst_30 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_cst_31 : Ref sig .tc := ⟨.hbm, 177, rfl⟩
abbrev main_call10_v0 : Ref sig .tc := ⟨.hbm, 178, rfl⟩
abbrev main_call10_v1 : Ref sig .tc := ⟨.hbm, 179, rfl⟩
abbrev main_call10_v2 : Ref sig .tc := ⟨.hbm, 180, rfl⟩
abbrev main_v106 : Ref sig .tc := ⟨.hbm, 181, rfl⟩
abbrev main_cst_32 : Ref sig .tc := ⟨.hbm, 182, rfl⟩
abbrev main_v107 : Ref sig .tc := ⟨.hbm, 183, rfl⟩
abbrev main_cst_33 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_cst_34 : Ref sig .tc := ⟨.hbm, 191, rfl⟩
abbrev main_call11_v0 : Ref sig .tc := ⟨.hbm, 192, rfl⟩
abbrev main_call11_v1 : Ref sig .tc := ⟨.hbm, 193, rfl⟩
abbrev main_call11_v2 : Ref sig .tc := ⟨.hbm, 194, rfl⟩
abbrev main_v114 : Ref sig .tc := ⟨.hbm, 195, rfl⟩
abbrev main_cst_35 : Ref sig .tc := ⟨.hbm, 196, rfl⟩
abbrev main_v115 : Ref sig .tc := ⟨.hbm, 197, rfl⟩
abbrev main_cst_36 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_cst_37 : Ref sig .tc := ⟨.hbm, 205, rfl⟩
abbrev main_call12_v0 : Ref sig .tc := ⟨.hbm, 206, rfl⟩
abbrev main_call12_v1 : Ref sig .tc := ⟨.hbm, 207, rfl⟩
abbrev main_call12_v2 : Ref sig .tc := ⟨.hbm, 208, rfl⟩
abbrev main_v122 : Ref sig .tc := ⟨.hbm, 209, rfl⟩
abbrev main_cst_38 : Ref sig .tc := ⟨.hbm, 210, rfl⟩
abbrev main_v123 : Ref sig .tc := ⟨.hbm, 211, rfl⟩
abbrev main_cst_39 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_cst_40 : Ref sig .tc := ⟨.hbm, 219, rfl⟩
abbrev main_call13_v0 : Ref sig .tc := ⟨.hbm, 220, rfl⟩
abbrev main_call13_v1 : Ref sig .tc := ⟨.hbm, 221, rfl⟩
abbrev main_call13_v2 : Ref sig .tc := ⟨.hbm, 222, rfl⟩
abbrev main_v130 : Ref sig .tc := ⟨.hbm, 223, rfl⟩
abbrev main_cst_41 : Ref sig .tc := ⟨.hbm, 224, rfl⟩
abbrev main_v131 : Ref sig .tc := ⟨.hbm, 225, rfl⟩
abbrev main_cst_42 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_v137 : Ref sig .tc := ⟨.hbm, 232, rfl⟩
abbrev main_v138 : Ref sig .tc := ⟨.hbm, 233, rfl⟩
abbrev main_v139 : Ref sig .tc := ⟨.hbm, 234, rfl⟩
abbrev main_v140 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "scale" => some (((Real.sqrt 128)⁻¹ * (Real.log 2)⁻¹ : ℝ) : EReal)
  | _ => none
-- ==== ReferenceIdeal.lean ====
abbrev S16384x10240 : Shape := ⟨2, ![16384, 10240]⟩
abbrev S1x128 : Shape := ⟨2, ![1, 128]⟩
abbrev S1x8x15x31 : Shape := ⟨4, ![1, 8, 15, 31]⟩
abbrev S16384x1024 : Shape := ⟨2, ![16384, 1024]⟩
abbrev S8x2048x8x128 : Shape := ⟨4, ![8, 2048, 8, 128]⟩
abbrev S128 : Shape := ⟨1, ![128]⟩
abbrev S_ : Shape := ⟨0, ![]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x32x64x8x128 : Shape := ⟨5, ![8, 32, 64, 8, 128]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S8x32x8x64x8x128 : Shape := ⟨6, ![8, 32, 8, 64, 8, 128]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S8x15x31 : Shape := ⟨3, ![8, 15, 31]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S8x32x64x8x64 : Shape := ⟨5, ![8, 32, 64, 8, 64]⟩
abbrev S8x8x32x64x8x64 : Shape := ⟨6, ![8, 8, 32, 64, 8, 64]⟩
abbrev S1x8x32x64x8x64 : Shape := ⟨6, ![1, 8, 32, 64, 8, 64]⟩
abbrev S1x1x1x64x1x64 : Shape := ⟨6, ![1, 1, 1, 64, 1, 64]⟩
abbrev S8x8x32x64x512 : Shape := ⟨5, ![8, 8, 32, 64, 512]⟩
abbrev S8x8x32x64 : Shape := ⟨4, ![8, 8, 32, 64]⟩
abbrev S8x8x32x64x1 : Shape := ⟨5, ![8, 8, 32, 64, 1]⟩
abbrev S8x32x8x128x64 : Shape := ⟨5, ![8, 32, 8, 128, 64]⟩

abbrev nBuf : Space → Nat
  | .hbm => 189
  | .vmem => 0
  | .smem => 0
  | _ => 0

abbrev hbmTy0_0 (i : Nat) : BufTy := match i % 128 with
  | 0 => ⟨S16384x10240, .bf16⟩
  | 1 => ⟨S1x128, .f32⟩
  | 2 => ⟨S1x128, .f32⟩
  | 3 => ⟨S1x8x15x31, .f32⟩
  | 4 => ⟨S16384x10240, .f32⟩
  | 5 => ⟨S16384x1024, .f32⟩
  | 6 => ⟨S8x2048x8x128, .f32⟩
  | 7 => ⟨S16384x1024, .f32⟩
  | 8 => ⟨S8x2048x8x128, .f32⟩
  | 9 => ⟨S16384x1024, .f32⟩
  | 10 => ⟨S8x2048x8x128, .f32⟩
  | 11 => ⟨S128, .f32⟩
  | 12 => ⟨S8x2048x8x128, .f32⟩
  | 13 => ⟨S_, .f32⟩
  | 14 => ⟨S8x2048x8, .f32⟩
  | 15 => ⟨S8x2048x8x1, .f32⟩
  | 16 => ⟨S_, .f32⟩
  | 17 => ⟨S8x2048x8x1, .f32⟩
  | 18 => ⟨S8x2048x8x1, .f32⟩
  | 19 => ⟨S_, .f32⟩
  | 20 => ⟨S8x2048x8x1, .f32⟩
  | 21 => ⟨S8x2048x8x1, .f32⟩
  | 22 => ⟨S8x2048x8x1, .f32⟩
  | 23 => ⟨S8x2048x8x128, .f32⟩
  | 24 => ⟨S8x2048x8x128, .f32⟩
  | 25 => ⟨S1x1x1x128, .f32⟩
  | 26 => ⟨S8x2048x8x128, .f32⟩
  | 27 => ⟨S8x2048x8x128, .f32⟩
  | 28 => ⟨S_, .f32⟩
  | 29 => ⟨S_, .f32⟩
  | 30 => ⟨S8x2048x8x128, .f32⟩
  | 31 => ⟨S8x2048x8x128, .f32⟩
  | 32 => ⟨S128, .f32⟩
  | 33 => ⟨S8x2048x8x128, .f32⟩
  | 34 => ⟨S_, .f32⟩
  | 35 => ⟨S8x2048x8, .f32⟩
  | 36 => ⟨S8x2048x8x1, .f32⟩
  | 37 => ⟨S_, .f32⟩
  | 38 => ⟨S8x2048x8x1, .f32⟩
  | 39 => ⟨S8x2048x8x1, .f32⟩
  | 40 => ⟨S_, .f32⟩
  | 41 => ⟨S8x2048x8x1, .f32⟩
  | 42 => ⟨S8x2048x8x1, .f32⟩
  | 43 => ⟨S8x2048x8x1, .f32⟩
  | 44 => ⟨S8x2048x8x128, .f32⟩
  | 45 => ⟨S8x2048x8x128, .f32⟩
  | 46 => ⟨S1x1x1x128, .f32⟩
  | 47 => ⟨S8x2048x8x128, .f32⟩
  | 48 => ⟨S8x2048x8x128, .f32⟩
  | 49 => ⟨S8x32x64x8x128, .f32⟩
  | 50 => ⟨S8x32x64x8x128, .f32⟩
  | 51 => ⟨S8x32x64x8x128, .f32⟩
  | 52 => ⟨S32, .i32⟩
  | 53 => ⟨S_, .i32⟩
  | 54 => ⟨S32, .i32⟩
  | 55 => ⟨S32, .i32⟩
  | 56 => ⟨S_, .i32⟩
  | 57 => ⟨S_, .i32⟩
  | 58 => ⟨S_, .i32⟩
  | 59 => ⟨S32, .i32⟩
  | 60 => ⟨S32, .i32⟩
  | 61 => ⟨S_, .i32⟩
  | 62 => ⟨S32, .i32⟩
  | 63 => ⟨S32, .i32⟩
  | 64 => ⟨S32x1, .i32⟩
  | 65 => ⟨S8, .i32⟩
  | 66 => ⟨S1x8, .i32⟩
  | 67 => ⟨S32x8, .i32⟩
  | 68 => ⟨S32x8, .i32⟩
  | 69 => ⟨S32x8, .i32⟩
  | 70 => ⟨S_, .i32⟩
  | 71 => ⟨S32x8, .i32⟩
  | 72 => ⟨S32x8, .i1⟩
  | 73 => ⟨S_, .i32⟩
  | 74 => ⟨S32x8, .i32⟩
  | 75 => ⟨S32x8, .i32⟩
  | 76 => ⟨S32x8, .i32⟩
  | 77 => ⟨S32x8x1, .i32⟩
  | 78 => ⟨S8x32x8x64x8x128, .f32⟩
  | 79 => ⟨S_, .i32⟩
  | 80 => ⟨S32x8, .i32⟩
  | 81 => ⟨S32x8, .i1⟩
  | 82 => ⟨S_, .i32⟩
  | 83 => ⟨S32x8, .i32⟩
  | 84 => ⟨S32x8, .i32⟩
  | 85 => ⟨S32x8, .i32⟩
  | 86 => ⟨S32x8x1, .i32⟩
  | 87 => ⟨S8x32x8x64x8x128, .f32⟩
  | 88 => ⟨S64, .i32⟩
  | 89 => ⟨S_, .i32⟩
  | 90 => ⟨S64, .i32⟩
  | 91 => ⟨S64, .i32⟩
  | 92 => ⟨S_, .i32⟩
  | 93 => ⟨S_, .i32⟩
  | 94 => ⟨S_, .i32⟩
  | 95 => ⟨S64, .i32⟩
  | 96 => ⟨S64, .i32⟩
  | 97 => ⟨S_, .i32⟩
  | 98 => ⟨S64, .i32⟩
  | 99 => ⟨S64, .i32⟩
  | 100 => ⟨S1x64, .i32⟩
  | 101 => ⟨S64x1, .i32⟩
  | 102 => ⟨S64x64, .i32⟩
  | 103 => ⟨S64x64, .i32⟩
  | 104 => ⟨S64x64, .i1⟩
  | 105 => ⟨S1x64, .i32⟩
  | 106 => ⟨S64x1, .i32⟩
  | 107 => ⟨S_, .i32⟩
  | 108 => ⟨S64x1, .i32⟩
  | 109 => ⟨S64x1, .i32⟩
  | 110 => ⟨S64x64, .i32⟩
  | 111 => ⟨S64x64, .i32⟩
  | 112 => ⟨S64x64, .i1⟩
  | 113 => ⟨S64x64, .i1⟩
  | 114 => ⟨S1x64, .i32⟩
  | 115 => ⟨S64x1, .i32⟩
  | 116 => ⟨S64x64, .i32⟩
  | 117 => ⟨S64x64, .i32⟩
  | 118 => ⟨S64x64, .i32⟩
  | 119 => ⟨S_, .i32⟩
  | 120 => ⟨S_, .i32⟩
  | 121 => ⟨S_, .i32⟩
  | 122 => ⟨S64x64, .i32⟩
  | 123 => ⟨S64x64, .i32⟩
  | 124 => ⟨S_, .i32⟩
  | 125 => ⟨S64x64, .i32⟩
  | 126 => ⟨S64x64, .i32⟩
  | 127 => ⟨S32x1, .i32⟩
  | _ => ⟨S16384x10240, .bf16⟩

abbrev hbmTy0_1 (i : Nat) : BufTy := match i % 128 with
  | 0 => ⟨S32x8, .i32⟩
  | 1 => ⟨S32x8, .i32⟩
  | 2 => ⟨S8x15x31, .f32⟩
  | 3 => ⟨S32x1x8x1, .i32⟩
  | 4 => ⟨S_, .i32⟩
  | 5 => ⟨S32x1x8x1, .i32⟩
  | 6 => ⟨S32x1x8x1, .i32⟩
  | 7 => ⟨S1x64x1x64, .i32⟩
  | 8 => ⟨S_, .i32⟩
  | 9 => ⟨S1x64x1x64, .i32⟩
  | 10 => ⟨S1x64x1x64, .i32⟩
  | 11 => ⟨S_, .i32⟩
  | 12 => ⟨S32x1x8x1, .i32⟩
  | 13 => ⟨S32x1x8x1, .i1⟩
  | 14 => ⟨S_, .i32⟩
  | 15 => ⟨S32x1x8x1, .i32⟩
  | 16 => ⟨S32x1x8x1, .i32⟩
  | 17 => ⟨S32x1x8x1, .i32⟩
  | 18 => ⟨S_, .i32⟩
  | 19 => ⟨S1x64x1x64, .i32⟩
  | 20 => ⟨S1x64x1x64, .i1⟩
  | 21 => ⟨S_, .i32⟩
  | 22 => ⟨S1x64x1x64, .i32⟩
  | 23 => ⟨S1x64x1x64, .i32⟩
  | 24 => ⟨S1x64x1x64, .i32⟩
  | 25 => ⟨S32x64x8x64, .i32⟩
  | 26 => ⟨S32x64x8x64, .i32⟩
  | 27 => ⟨S32x64x8x64x1, .i32⟩
  | 28 => ⟨S32x64x8x64x1, .i32⟩
  | 29 => ⟨S32x64x8x64x2, .i32⟩
  | 30 => ⟨S8x32x64x8x64, .f32⟩
  | 31 => ⟨S8x8x32x64x8x64, .f32⟩
  | 32 => ⟨S1x8x32x64x8x64, .f32⟩
  | 33 => ⟨S8x8x32x64x8x64, .f32⟩
  | 34 => ⟨S8x8x32x64x8x64, .f32⟩
  | 35 => ⟨S1x1x1x64x1x64, .i1⟩
  | 36 => ⟨S_, .f32⟩
  | 37 => ⟨S_, .f32⟩
  | 38 => ⟨S8x8x32x64x8x64, .i1⟩
  | 39 => ⟨S8x8x32x64x8x64, .f32⟩
  | 40 => ⟨S8x8x32x64x8x64, .f32⟩
  | 41 => ⟨S8x8x32x64x512, .f32⟩
  | 42 => ⟨S_, .f32⟩
  | 43 => ⟨S8x8x32x64, .f32⟩
  | 44 => ⟨S_, .f32⟩
  | 45 => ⟨S8x8x32x64, .f32⟩
  | 46 => ⟨S8x8x32x64, .f32⟩
  | 47 => ⟨S8x8x32x64x1, .f32⟩
  | 48 => ⟨S8x8x32x64x512, .f32⟩
  | 49 => ⟨S8x8x32x64x512, .f32⟩
  | 50 => ⟨S8x8x32x64x512, .f32⟩
  | 51 => ⟨S_, .f32⟩
  | 52 => ⟨S8x8x32x64, .f32⟩
  | 53 => ⟨S8x8x32x64x1, .f32⟩
  | 54 => ⟨S8x8x32x64x512, .f32⟩
  | 55 => ⟨S8x8x32x64x512, .f32⟩
  | 56 => ⟨S8x8x32x64x8x64, .f32⟩
  | 57 => ⟨S8x32x8x128x64, .f32⟩
  | 58 => ⟨S8x32x64x8x128, .f32⟩
  | 59 => ⟨S16384x1024, .f32⟩
  | 60 => ⟨S16384x1024, .bf16⟩
  | _ => ⟨S16384x10240, .bf16⟩

abbrev hbmTy (i : Nat) : BufTy := match i / 128 with
  | 0 => hbmTy0_0 i
  | 1 => hbmTy0_1 i
  | _ => ⟨S16384x10240, .bf16⟩

abbrev bufTy : (tb : Table) → Fin (tcTables nBuf tb) → BufTy
  | .hbm, ⟨i, _⟩ => hbmTy i
  | _, _ => ⟨S16384x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_c_7 : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_12 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_c_14 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_16 : Ref sig .tc := ⟨.hbm, 119, rfl⟩
abbrev main_c_17 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_c_19 : Ref sig .tc := ⟨.hbm, 136, rfl⟩
abbrev main_v96 : Ref sig .tc := ⟨.hbm, 137, rfl⟩
abbrev main_v97 : Ref sig .tc := ⟨.hbm, 138, rfl⟩
abbrev main_c_20 : Ref sig .tc := ⟨.hbm, 139, rfl⟩
abbrev main_v98 : Ref sig .tc := ⟨.hbm, 140, rfl⟩
abbrev main_v99 : Ref sig .tc := ⟨.hbm, 141, rfl⟩
abbrev main_c_21 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_22 : Ref sig .tc := ⟨.hbm, 146, rfl⟩
abbrev main_v103 : Ref sig .tc := ⟨.hbm, 147, rfl⟩
abbrev main_v104 : Ref sig .tc := ⟨.hbm, 148, rfl⟩
abbrev main_c_23 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_24 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_v119 : Ref sig .tc := ⟨.hbm, 168, rfl⟩
abbrev main_v120 : Ref sig .tc := ⟨.hbm, 169, rfl⟩
abbrev main_cst_25 : Ref sig .tc := ⟨.hbm, 170, rfl⟩
abbrev main_v121 : Ref sig .tc := ⟨.hbm, 171, rfl⟩
abbrev main_cst_26 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_cst_27 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩

abbrev nD : Nat := 1
abbrev τ : Topo := Topo.v7x

variable {F : FTy → Type} [FloatOps F]
-- ==== Kernel2.lean ====
abbrev S160 : Shape := ⟨1, ![160]⟩
abbrev S1 : Shape := ⟨1, ![1]⟩
abbrev S40960x1024 : Shape := ⟨2, ![40960, 1024]⟩
abbrev S4x8x1024x2048 : Shape := ⟨4, ![4, 8, 1024, 2048]⟩
abbrev S32x1024x2048 : Shape := ⟨3, ![32, 1024, 2048]⟩
abbrev S40960x2048 : Shape := ⟨2, ![40960, 2048]⟩
abbrev S256x1024 : Shape := ⟨2, ![256, 1024]⟩
abbrev S256x2048 : Shape := ⟨2, ![256, 2048]⟩
abbrev S2x1024x2048 : Shape := ⟨3, ![2, 1024, 2048]⟩
abbrev S1024x2048 : Shape := ⟨2, ![1024, 2048]⟩
abbrev S1x2 : Shape := ⟨2, ![1, 2]⟩
abbrev S1x1 : Shape := ⟨2, ![1, 1]⟩
abbrev S_ : Shape := ⟨0, ![]⟩
abbrev S1x1024x2048 : Shape := ⟨3, ![1, 1024, 2048]⟩

abbrev nBuf : Space → Nat
  | .hbm => 4
  | .vmem => 6
  | .smem => 5
  | _ => 0

abbrev bufTy : (tb : Table) → Fin (tcTables nBuf tb) → BufTy
  | .hbm, ⟨0, _⟩ => ⟨S40960x1024, .bf16⟩
  | .hbm, ⟨1, _⟩ => ⟨S4x8x1024x2048, .f32⟩
  | .hbm, ⟨2, _⟩ => ⟨S32x1024x2048, .f32⟩
  | .hbm, ⟨3, _⟩ => ⟨S40960x2048, .f32⟩
  | .local _ .vmem, ⟨0, _⟩ => ⟨S256x1024, .bf16⟩
  | .local _ .vmem, ⟨1, _⟩ => ⟨S256x1024, .bf16⟩
  | .local _ .vmem, ⟨2, _⟩ => ⟨S256x2048, .f32⟩
  | .local _ .vmem, ⟨3, _⟩ => ⟨S256x2048, .f32⟩
  | .local _ .vmem, ⟨4, _⟩ => ⟨S2x1024x2048, .f32⟩
  | .local _ .vmem, ⟨5, _⟩ => ⟨S1024x2048, .bf16⟩
  | .local _ .smem, ⟨0, _⟩ => ⟨S160, .i32⟩
  | .local _ .smem, ⟨1, _⟩ => ⟨S160, .i32⟩
  | .local _ .smem, ⟨2, _⟩ => ⟨S1, .i32⟩
  | .local _ .smem, ⟨3, _⟩ => ⟨S160, .i32⟩
  | .local _ .smem, ⟨4, _⟩ => ⟨S160, .i32⟩
  | _, _ => ⟨S40960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_v0 : Ref sig .tc := ⟨.hbm, 2, rfl⟩
abbrev main_v1 : Ref sig .tc := ⟨.hbm, 3, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![160], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_cond2 (i : grid0.Coords) : BitVec 1 :=
  let arg0 : BitVec 32 := BitVec.ofNat 32 (i 0).val
  let c0_i32_2 : BitVec 32 := 0#32
  let v8 : BitVec 1 := Scalar.cmpi .eq arg0 c0_i32_2
  let v9 : BitVec 32 := Scalar.extui v8
  let c0_i32_3 : BitVec 32 := 0#32
  let v10 : BitVec 1 := Scalar.cmpi .ne v9 c0_i32_3
  v10

def k0_off1 (v20 : BitVec 32) : Fin 3 → Nat :=
  let c0_i32_17 : BitVec 32 := 0#32
  let c0_i32_18 : BitVec 32 := 0#32
  ![v20.toNat, 0, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_chk1 (i : grid0.Coords) (v0 : BitVec 32) (v20 : BitVec 32) : Prop :=
  (∀ (k0_h1 : k0_cond1 i v0 = 1#1), ∀ (k0_h2 : k0_cond2 i = 1#1), ∀ a, (k0_off1 v20) a + S1x1024x2048.size a ≤ S32x1024x2048.size a)
theorem k0_off1_inb : ∀ (i : grid0.Coords) (v0 : BitVec 32) (v20 : BitVec 32) (k0_hw1 : k0_chk1 i v0 v20), ∀ (k0_h1 : k0_cond1 i v0 = 1#1), ∀ (k0_h2 : k0_cond2 i = 1#1), ∀ a, (k0_off1 v20) a + S1x1024x2048.size a ≤ S32x1024x2048.size a := fun i v0 v20 k0_hw1 k0_h1 k0_h2 => k0_hw1 k0_h1 k0_h2

def k0_off2 (i : grid0.Coords) : Fin 1 → Nat :=
  let arg0 : BitVec 32 := BitVec.ofNat 32 (i 0).val
  let v11 : Index := Scalar.indexCast arg0
  ![v11.toNat]
def k0_off3 (i : grid0.Coords) : Fin 1 → Nat :=
  let arg0 : BitVec 32 := BitVec.ofNat 32 (i 0).val
  let v20 : Index := Scalar.indexCast arg0
  ![v20.toNat]
def k0_off4 (v21 : BitVec 32) : Fin 2 → Nat :=
  let c0_i32_11 : BitVec 32 := 0#32
  ![0, v21.toNat]
def k0_cond3 (v12 : BitVec 32) : BitVec 1 :=
  let c1_i32 : BitVec 32 := 1#32
  let v13 : BitVec 1 := Scalar.cmpi .eq v12 c1_i32
  let v14 : BitVec 32 := Scalar.extui v13
  let c0_i32_4 : BitVec 32 := 0#32
  let v15 : BitVec 1 := Scalar.cmpi .ne v14 c0_i32_4
  v15

def k0_off5 (v21 : BitVec 32) : Fin 3 → Nat :=
  let c0_i32_12 : BitVec 32 := 0#32
  let c0_i32_13 : BitVec 32 := 0#32
  ![v21.toNat, 0, 0]
def k0_off6 (v23 : BitVec 32) : Fin 3 → Nat :=
  let c0_i32_14 : BitVec 32 := 0#32
  let c0_i32_15 : BitVec 32 := 0#32
  ![v23.toNat, 0, 0]

def k0_chk3 (i : grid0.Coords) (v0 : BitVec 32) (v12 : BitVec 32) (v23 : BitVec 32) : Prop :=
  (∀ (k0_h1 : k0_cond1 i v0 = 1#1), ∀ (k0_h3 : k0_cond3 v12 = 1#1), ∀ a, (k0_off6 v23) a + S1x1024x2048.size a ≤ S32x1024x2048.size a)
theorem k0_off6_inb : ∀ (i : grid0.Coords) (v0 : BitVec 32) (v12 : BitVec 32) (v23 : BitVec 32) (k0_hw3 : k0_chk3 i v0 v12 v23), ∀ (k0_h1 : k0_cond1 i v0 = 1#1), ∀ (k0_h3 : k0_cond3 v12 = 1#1), ∀ a, (k0_off6 v23) a + S1x1024x2048.size a ≤ S32x1024x2048.size a := fun i v0 v12 v23 k0_hw3 k0_h1 k0_h3 => k0_hw3 k0_h1 k0_h3

def k0_off7 (i : grid0.Coords) : Fin 1 → Nat :=
  let arg0 : BitVec 32 := BitVec.ofNat 32 (i 0).val
  let v30 : Index := Scalar.indexCast arg0
  ![v30.toNat]
def k0_off8 (i : grid0.Coords) : Fin 1 → Nat :=
  let arg0 : BitVec 32 := BitVec.ofNat 32 (i 0).val
  let v42 : Index := Scalar.indexCast arg0
  ![v42.toNat]
def k0_off9 (v21 : BitVec 32) : Fin 2 → Nat :=
  let c0_i32_23 : BitVec 32 := 0#32
  let c1_i32_22 : BitVec 32 := 1#32
  let v44 : BitVec 32 := Scalar.subi c1_i32_22 v21
  ![0, v44.toNat]
def k0_cond4 (v31 : BitVec 32) : BitVec 1 :=
  let c0_i32_16 : BitVec 32 := 0#32
  let v32 : BitVec 1 := Scalar.cmpi .sge v31 c0_i32_16
  let v33 : BitVec 32 := Scalar.extui v32
  let c0_i32_17 : BitVec 32 := 0#32
  let v34 : BitVec 1 := Scalar.cmpi .ne v33 c0_i32_17
  v34

def k0_off10 (v21 : BitVec 32) : Fin 3 → Nat :=
  let c1_i32_22 : BitVec 32 := 1#32
  let v44 : BitVec 32 := Scalar.subi c1_i32_22 v21
  let c0_i32_24 : BitVec 32 := 0#32
  let c0_i32_25 : BitVec 32 := 0#32
  ![v44.toNat, 0, 0]

def k0_chk4 (i : grid0.Coords) (v0 : BitVec 32) (v12 : BitVec 32) (v21 : BitVec 32) (v31 : BitVec 32) : Prop :=
  (∀ (k0_h1 : k0_cond1 i v0 = 1#1), ∀ (k0_h3 : k0_cond3 v12 = 1#1), ∀ (k0_h4 : k0_cond4 v31 = 1#1), ∀ a, (k0_off9 v21) a + S1x1.size a ≤ S1x2.size a) ∧
  (∀ (k0_h1 : k0_cond1 i v0 = 1#1), ∀ (k0_h3 : k0_cond3 v12 = 1#1), ∀ (k0_h4 : k0_cond4 v31 = 1#1), ∀ a, (k0_off10 v21) a + S1x1024x2048.size a ≤ S2x1024x2048.size a)
theorem k0_off9_inb : ∀ (i : grid0.Coords) (v0 : BitVec 32) (v12 : BitVec 32) (v21 : BitVec 32) (v31 : BitVec 32) (k0_hw4 : k0_chk4 i v0 v12 v21 v31), ∀ (k0_h1 : k0_cond1 i v0 = 1#1), ∀ (k0_h3 : k0_cond3 v12 = 1#1), ∀ (k0_h4 : k0_cond4 v31 = 1#1), ∀ a, (k0_off9 v21) a + S1x1.size a ≤ S1x2.size a := fun i v0 v12 v21 v31 k0_hw4 k0_h1 k0_h3 k0_h4 => k0_hw4.1 k0_h1 k0_h3 k0_h4
theorem k0_off10_inb : ∀ (i : grid0.Coords) (v0 : BitVec 32) (v12 : BitVec 32) (v21 : BitVec 32) (v31 : BitVec 32) (k0_hw4 : k0_chk4 i v0 v12 v21 v31), ∀ (k0_h1 : k0_cond1 i v0 = 1#1), ∀ (k0_h3 : k0_cond3 v12 = 1#1), ∀ (k0_h4 : k0_cond4 v31 = 1#1), ∀ a, (k0_off10 v21) a + S1x1024x2048.size a ≤ S2x1024x2048.size a := fun i v0 v12 v21 v31 k0_hw4 k0_h1 k0_h3 k0_h4 => k0_hw4.2 k0_h1 k0_h3 k0_h4

def k0_off11 (v43 : BitVec 32) : Fin 3 → Nat :=
  let c0_i32_26 : BitVec 32 := 0#32
  let c0_i32_27 : BitVec 32 := 0#32
  ![v43.toNat, 0, 0]

def k0_chk5 (i : grid0.Coords) (v0 : BitVec 32) (v12 : BitVec 32) (v31 : BitVec 32) (v43 : BitVec 32) : Prop :=
  (∀ (k0_h1 : k0_cond1 i v0 = 1#1), ∀ (k0_h3 : k0_cond3 v12 = 1#1), ∀ (k0_h4 : k0_cond4 v31 = 1#1), ∀ a, (k0_off11 v43) a + S1x1024x2048.size a ≤ S32x1024x2048.size a)
theorem k0_off11_inb : ∀ (i : grid0.Coords) (v0 : BitVec 32) (v12 : BitVec 32) (v31 : BitVec 32) (v43 : BitVec 32) (k0_hw5 : k0_chk5 i v0 v12 v31 v43), ∀ (k0_h1 : k0_cond1 i v0 = 1#1), ∀ (k0_h3 : k0_cond3 v12 = 1#1), ∀ (k0_h4 : k0_cond4 v31 = 1#1), ∀ a, (k0_off11 v43) a + S1x1024x2048.size a ≤ S32x1024x2048.size a := fun i v0 v12 v31 v43 k0_hw5 k0_h1 k0_h3 k0_h4 => k0_hw5 k0_h1 k0_h3 k0_h4

def k0_off12 (v21 : BitVec 32) : Fin 3 → Nat :=
  let v35 : Index := Scalar.indexCast v21
  let c0_18 : Index := 0#32
  let c0_19 : Index := 0#32
  ![v35.toNat, 0, 0]

def k0_chk2 (i : grid0.Coords) (v0 : BitVec 32) (v12 : BitVec 32) (v21 : BitVec 32) : Prop :=
  (∀ (k0_h1 : k0_cond1 i v0 = 1#1), ∀ (k0_h3 : k0_cond3 v12 = 1#1), ∀ a, (k0_off4 v21) a + S1x1.size a ≤ S1x2.size a) ∧
  (∀ (k0_h1 : k0_cond1 i v0 = 1#1), ∀ (k0_h3 : k0_cond3 v12 = 1#1), ∀ a, (k0_off5 v21) a + S1x1024x2048.size a ≤ S2x1024x2048.size a) ∧
  (∀ (k0_h1 : k0_cond1 i v0 = 1#1), ∀ (k0_h3 : k0_cond3 v12 = 1#1), ∀ a, (k0_off12 v21) a + S1x1024x2048.size a ≤ S2x1024x2048.size a)
theorem k0_off4_inb : ∀ (i : grid0.Coords) (v0 : BitVec 32) (v12 : BitVec 32) (v21 : BitVec 32) (k0_hw2 : k0_chk2 i v0 v12 v21), ∀ (k0_h1 : k0_cond1 i v0 = 1#1), ∀ (k0_h3 : k0_cond3 v12 = 1#1), ∀ a, (k0_off4 v21) a + S1x1.size a ≤ S1x2.size a := fun i v0 v12 v21 k0_hw2 k0_h1 k0_h3 => k0_hw2.1 k0_h1 k0_h3
theorem k0_off5_inb : ∀ (i : grid0.Coords) (v0 : BitVec 32) (v12 : BitVec 32) (v21 : BitVec 32) (k0_hw2 : k0_chk2 i v0 v12 v21), ∀ (k0_h1 : k0_cond1 i v0 = 1#1), ∀ (k0_h3 : k0_cond3 v12 = 1#1), ∀ a, (k0_off5 v21) a + S1x1024x2048.size a ≤ S2x1024x2048.size a := fun i v0 v12 v21 k0_hw2 k0_h1 k0_h3 => k0_hw2.2.1 k0_h1 k0_h3
theorem k0_off12_inb : ∀ (i : grid0.Coords) (v0 : BitVec 32) (v12 : BitVec 32) (v21 : BitVec 32) (k0_hw2 : k0_chk2 i v0 v12 v21), ∀ (k0_h1 : k0_cond1 i v0 = 1#1), ∀ (k0_h3 : k0_cond3 v12 = 1#1), ∀ a, (k0_off12 v21) a + S1x1024x2048.size a ≤ S2x1024x2048.size a := fun i v0 v12 v21 k0_hw2 k0_h1 k0_h3 => k0_hw2.2.2 k0_h1 k0_h3

def k0_cond5 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference2Ideal.lean ====
abbrev S160 : Shape := ⟨1, ![160]⟩
abbrev S1 : Shape := ⟨1, ![1]⟩
abbrev S40960x1024 : Shape := ⟨2, ![40960, 1024]⟩
abbrev S4x8x1024x2048 : Shape := ⟨4, ![4, 8, 1024, 2048]⟩
abbrev S32x1024x2048 : Shape := ⟨3, ![32, 1024, 2048]⟩
abbrev S160x1 : Shape := ⟨2, ![160, 1]⟩
abbrev S160x1024x2048 : Shape := ⟨3, ![160, 1024, 2048]⟩
abbrev S160x256x1024 : Shape := ⟨3, ![160, 256, 1024]⟩
abbrev S160x256x2048 : Shape := ⟨3, ![160, 256, 2048]⟩
abbrev S160x1x1 : Shape := ⟨3, ![160, 1, 1]⟩
abbrev S_ : Shape := ⟨0, ![]⟩
abbrev S40960x2048 : Shape := ⟨2, ![40960, 2048]⟩

abbrev nBuf : Space → Nat
  | .hbm => 23
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S1, .i32⟩
  | .hbm, ⟨3, _⟩ => ⟨S160, .i32⟩
  | .hbm, ⟨4, _⟩ => ⟨S160, .i32⟩
  | .hbm, ⟨5, _⟩ => ⟨S40960x1024, .bf16⟩
  | .hbm, ⟨6, _⟩ => ⟨S4x8x1024x2048, .f32⟩
  | .hbm, ⟨7, _⟩ => ⟨S32x1024x2048, .f32⟩
  | .hbm, ⟨8, _⟩ => ⟨S160x1, .i32⟩
  | .hbm, ⟨9, _⟩ => ⟨S160x1024x2048, .f32⟩
  | .hbm, ⟨10, _⟩ => ⟨S40960x1024, .f32⟩
  | .hbm, ⟨11, _⟩ => ⟨S160x256x1024, .f32⟩
  | .hbm, ⟨12, _⟩ => ⟨S160x256x2048, .f32⟩
  | .hbm, ⟨13, _⟩ => ⟨S160, .i32⟩
  | .hbm, ⟨14, _⟩ => ⟨S160, .i32⟩
  | .hbm, ⟨15, _⟩ => ⟨S160, .i1⟩
  | .hbm, ⟨16, _⟩ => ⟨S160x1x1, .i1⟩
  | .hbm, ⟨17, _⟩ => ⟨S_, .f32⟩
  | .hbm, ⟨18, _⟩ => ⟨S_, .f32⟩
  | .hbm, ⟨19, _⟩ => ⟨S160x256x2048, .i1⟩
  | .hbm, ⟨20, _⟩ => ⟨S160x256x2048, .f32⟩
  | .hbm, ⟨21, _⟩ => ⟨S160x256x2048, .f32⟩
  | .hbm, ⟨22, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel3.lean ====
abbrev S160 : Shape := ⟨1, ![160]⟩
abbrev S1 : Shape := ⟨1, ![1]⟩
abbrev S40960x2048 : Shape := ⟨2, ![40960, 2048]⟩
abbrev S1x2048 : Shape := ⟨2, ![1, 2048]⟩
abbrev S4x8x2048x1024 : Shape := ⟨4, ![4, 8, 2048, 1024]⟩
abbrev S2048 : Shape := ⟨1, ![2048]⟩
abbrev S32x2048x1024 : Shape := ⟨3, ![32, 2048, 1024]⟩
abbrev S40960x1024 : Shape := ⟨2, ![40960, 1024]⟩
abbrev S256x2048 : Shape := ⟨2, ![256, 2048]⟩
abbrev S256x1024 : Shape := ⟨2, ![256, 1024]⟩
abbrev S2x2048x1024 : Shape := ⟨3, ![2, 2048, 1024]⟩
abbrev S2048x1024 : Shape := ⟨2, ![2048, 1024]⟩
abbrev S2x2 : Shape := ⟨2, ![2, 2]⟩
abbrev S1x1 : Shape := ⟨2, ![1, 1]⟩
abbrev S_ : Shape := ⟨0, ![]⟩
abbrev S1x2048x1024 : Shape := ⟨3, ![1, 2048, 1024]⟩
abbrev S256 : Shape := ⟨1, ![256]⟩
abbrev S256x1 : Shape := ⟨2, ![256, 1]⟩

abbrev nBuf : Space → Nat
  | .hbm => 9
  | .vmem => 9
  | .smem => 5
  | _ => 0

abbrev bufTy : (tb : Table) → Fin (tcTables nBuf tb) → BufTy
  | .hbm, ⟨0, _⟩ => ⟨S40960x2048, .f32⟩
  | .hbm, ⟨1, _⟩ => ⟨S1x2048, .f32⟩
  | .hbm, ⟨2, _⟩ => ⟨S4x8x2048x1024, .f32⟩
  | .hbm, ⟨3, _⟩ => ⟨S4x8x2048x1024, .f32⟩
  | .hbm, ⟨4, _⟩ => ⟨S2048, .f32⟩
  | .hbm, ⟨5, _⟩ => ⟨S32x2048x1024, .f32⟩
  | .hbm, ⟨6, _⟩ => ⟨S32x2048x1024, .f32⟩
  | .hbm, ⟨7, _⟩ => ⟨S1x2048, .f32⟩
  | .hbm, ⟨8, _⟩ => ⟨S40960x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x1024, .bf16⟩
  | .local _ .vmem, ⟨4, _⟩ => ⟨S256x1024, .bf16⟩
  | .local _ .vmem, ⟨5, _⟩ => ⟨S2x2048x1024, .f32⟩
  | .local _ .vmem, ⟨6, _⟩ => ⟨S2x2048x1024, .f32⟩
  | .local _ .vmem, ⟨7, _⟩ => ⟨S2048x1024, .bf16⟩
  | .local _ .vmem, ⟨8, _⟩ => ⟨S2048x1024, .bf16⟩
  | .local _ .smem, ⟨0, _⟩ => ⟨S160, .i32⟩
  | .local _ .smem, ⟨1, _⟩ => ⟨S160, .i32⟩
  | .local _ .smem, ⟨2, _⟩ => ⟨S1, .i32⟩
  | .local _ .smem, ⟨3, _⟩ => ⟨S160, .i32⟩
  | .local _ .smem, ⟨4, _⟩ => ⟨S160, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![160], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_cond2 (i : grid0.Coords) : BitVec 1 :=
  let arg0 : BitVec 32 := BitVec.ofNat 32 (i 0).val
  let c0_i32_2 : BitVec 32 := 0#32
  let v8 : BitVec 1 := Scalar.cmpi .eq arg0 c0_i32_2
  let v9 : BitVec 32 := Scalar.extui v8
  let c0_i32_3 : BitVec 32 := 0#32
  let v10 : BitVec 1 := Scalar.cmpi .ne v9 c0_i32_3
  v10

def k0_off1 (v41 : BitVec 32) : Fin 3 → Nat :=
  let c0_i32_25 : BitVec 32 := 0#32
  let c0_i32_26 : BitVec 32 := 0#32
  ![v41.toNat, 0, 0]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_chk1 (i : grid0.Coords) (v0 : BitVec 32) (v41 : BitVec 32) : Prop :=
  (∀ (k0_h1 : k0_cond1 i v0 = 1#1), ∀ (k0_h2 : k0_cond2 i = 1#1), ∀ a, (k0_off1 v41) a + S1x2048x1024.size a ≤ S32x2048x1024.size a)
theorem k0_off1_inb : ∀ (i : grid0.Coords) (v0 : BitVec 32) (v41 : BitVec 32) (k0_hw1 : k0_chk1 i v0 v41), ∀ (k0_h1 : k0_cond1 i v0 = 1#1), ∀ (k0_h2 : k0_cond2 i = 1#1), ∀ a, (k0_off1 v41) a + S1x2048x1024.size a ≤ S32x2048x1024.size a := fun i v0 v41 k0_hw1 k0_h1 k0_h2 => k0_hw1 k0_h1 k0_h2

def k0_off2 (i : grid0.Coords) : Fin 1 → Nat :=
  let arg0 : BitVec 32 := BitVec.ofNat 32 (i 0).val
  let v11 : Index := Scalar.indexCast arg0
  ![v11.toNat]
def k0_off3 (i : grid0.Coords) : Fin 1 → Nat :=
  let arg0 : BitVec 32 := BitVec.ofNat 32 (i 0).val
  let v41 : Index := Scalar.indexCast arg0
  ![v41.toNat]
def k0_off4 (v42 : BitVec 32) : Fin 2 → Nat :=
  let c0_i32_19 : BitVec 32 := 0#32
  ![0, v42.toNat]
def k0_cond3 (v12 : BitVec 32) : BitVec 1 :=
  let c1_i32 : BitVec 32 := 1#32
  let v13 : BitVec 1 := Scalar.cmpi .eq v12 c1_i32
  let v14 : BitVec 32 := Scalar.extui v13
  let c0_i32_4 : BitVec 32 := 0#32
  let v15 : BitVec 1 := Scalar.cmpi .ne v14 c0_i32_4
  v15

def k0_off5 (v42 : BitVec 32) : Fin 3 → Nat :=
  let c0_i32_20 : BitVec 32 := 0#32
  let c0_i32_21 : BitVec 32 := 0#32
  ![v42.toNat, 0, 0]
def k0_off6 (v44 : BitVec 32) : Fin 3 → Nat :=
  let c0_i32_22 : BitVec 32 := 0#32
  let c0_i32_23 : BitVec 32 := 0#32
  ![v44.toNat, 0, 0]

def k0_chk3 (i : grid0.Coords) (v0 : BitVec 32) (v12 : BitVec 32) (v44 : BitVec 32) : Prop :=
  (∀ (k0_h1 : k0_cond1 i v0 = 1#1), ∀ (k0_h3 : k0_cond3 v12 = 1#1), ∀ a, (k0_off6 v44) a + S1x2048x1024.size a ≤ S32x2048x1024.size a)
theorem k0_off6_inb : ∀ (i : grid0.Coords) (v0 : BitVec 32) (v12 : BitVec 32) (v44 : BitVec 32) (k0_hw3 : k0_chk3 i v0 v12 v44), ∀ (k0_h1 : k0_cond1 i v0 = 1#1), ∀ (k0_h3 : k0_cond3 v12 = 1#1), ∀ a, (k0_off6 v44) a + S1x2048x1024.size a ≤ S32x2048x1024.size a := fun i v0 v12 v44 k0_hw3 k0_h1 k0_h3 => k0_hw3 k0_h1 k0_h3

def k0_off7 (v42 : BitVec 32) : Fin 2 → Nat :=
  let c1_i32_24 : BitVec 32 := 1#32
  ![1, v42.toNat]
def k0_off8 (v42 : BitVec 32) : Fin 3 → Nat :=
  let c0_i32_25 : BitVec 32 := 0#32
  let c0_i32_26 : BitVec 32 := 0#32
  ![v42.toNat, 0, 0]
def k0_off9 (i : grid0.Coords) : Fin 1 → Nat :=
  let arg0 : BitVec 32 := BitVec.ofNat 32 (i 0).val
  let v57 : Index := Scalar.indexCast arg0
  ![v57.toNat]
def k0_off10 (i : grid0.Coords) : Fin 1 → Nat :=
  let arg0 : BitVec 32 := BitVec.ofNat 32 (i 0).val
  let v76 : Index := Scalar.indexCast arg0
  ![v76.toNat]
def k0_off11 (v42 : BitVec 32) : Fin 2 → Nat :=
  let c0_i32_40 : BitVec 32 := 0#32
  let c1_i32_39 : BitVec 32 := 1#32
  let v78 : BitVec 32 := Scalar.subi c1_i32_39 v42
  ![0, v78.toNat]
def k0_cond4 (v58 : BitVec 32) : BitVec 1 :=
  let c0_i32_29 : BitVec 32 := 0#32
  let v59 : BitVec 1 := Scalar.cmpi .sge v58 c0_i32_29
  let v60 : BitVec 32 := Scalar.extui v59
  let c0_i32_30 : BitVec 32 := 0#32
  let v61 : BitVec 1 := Scalar.cmpi .ne v60 c0_i32_30
  v61

def k0_off12 (v42 : BitVec 32) : Fin 3 → Nat :=
  let c1_i32_39 : BitVec 32 := 1#32
  let v78 : BitVec 32 := Scalar.subi c1_i32_39 v42
  let c0_i32_41 : BitVec 32 := 0#32
  let c0_i32_42 : BitVec 32 := 0#32
  ![v78.toNat, 0, 0]
def k0_off13 (v77 : BitVec 32) : Fin 3 → Nat :=
  let c0_i32_43 : BitVec 32 := 0#32
  let c0_i32_44 : BitVec 32 := 0#32
  ![v77.toNat, 0, 0]

def k0_chk5 (i : grid0.Coords) (v0 : BitVec 32) (v12 : BitVec 32) (v58 : BitVec 32) (v77 : BitVec 32) : Prop :=
  (∀ (k0_h1 : k0_cond1 i v0 = 1#1), ∀ (k0_h3 : k0_cond3 v12 = 1#1), ∀ (k0_h4 : k0_cond4 v58 = 1#1), ∀ a, (k0_off13 v77) a + S1x2048x1024.size a ≤ S32x2048x1024.size a)
theorem k0_off13_inb : ∀ (i : grid0.Coords) (v0 : BitVec 32) (v12 : BitVec 32) (v58 : BitVec 32) (v77 : BitVec 32) (k0_hw5 : k0_chk5 i v0 v12 v58 v77), ∀ (k0_h1 : k0_cond1 i v0 = 1#1), ∀ (k0_h3 : k0_cond3 v12 = 1#1), ∀ (k0_h4 : k0_cond4 v58 = 1#1), ∀ a, (k0_off13 v77) a + S1x2048x1024.size a ≤ S32x2048x1024.size a := fun i v0 v12 v58 v77 k0_hw5 k0_h1 k0_h3 k0_h4 => k0_hw5 k0_h1 k0_h3 k0_h4

def k0_off14 (v42 : BitVec 32) : Fin 2 → Nat :=
  let c1_i32_45 : BitVec 32 := 1#32
  let c1_i32_39 : BitVec 32 := 1#32
  let v78 : BitVec 32 := Scalar.subi c1_i32_39 v42
  ![1, v78.toNat]
def k0_off15 (v42 : BitVec 32) : Fin 3 → Nat :=
  let c1_i32_39 : BitVec 32 := 1#32
  let v78 : BitVec 32 := Scalar.subi c1_i32_39 v42
  let c0_i32_46 : BitVec 32 := 0#32
  let c0_i32_47 : BitVec 32 := 0#32
  ![v78.toNat, 0, 0]

def k0_chk4 (i : grid0.Coords) (v0 : BitVec 32) (v12 : BitVec 32) (v42 : BitVec 32) (v58 : BitVec 32) : Prop :=
  (∀ (k0_h1 : k0_cond1 i v0 = 1#1), ∀ (k0_h3 : k0_cond3 v12 = 1#1), ∀ (k0_h4 : k0_cond4 v58 = 1#1), ∀ a, (k0_off11 v42) a + S1x1.size a ≤ S2x2.size a) ∧
  (∀ (k0_h1 : k0_cond1 i v0 = 1#1), ∀ (k0_h3 : k0_cond3 v12 = 1#1), ∀ (k0_h4 : k0_cond4 v58 = 1#1), ∀ a, (k0_off12 v42) a + S1x2048x1024.size a ≤ S2x2048x1024.size a) ∧
  (∀ (k0_h1 : k0_cond1 i v0 = 1#1), ∀ (k0_h3 : k0_cond3 v12 = 1#1), ∀ (k0_h4 : k0_cond4 v58 = 1#1), ∀ a, (k0_off14 v42) a + S1x1.size a ≤ S2x2.size a) ∧
  (∀ (k0_h1 : k0_cond1 i v0 = 1#1), ∀ (k0_h3 : k0_cond3 v12 = 1#1), ∀ (k0_h4 : k0_cond4 v58 = 1#1), ∀ a, (k0_off15 v42) a + S1x2048x1024.size a ≤ S2x2048x1024.size a)
theorem k0_off11_inb : ∀ (i : grid0.Coords) (v0 : BitVec 32) (v12 : BitVec 32) (v42 : BitVec 32) (v58 : BitVec 32) (k0_hw4 : k0_chk4 i v0 v12 v42 v58), ∀ (k0_h1 : k0_cond1 i v0 = 1#1), ∀ (k0_h3 : k0_cond3 v12 = 1#1), ∀ (k0_h4 : k0_cond4 v58 = 1#1), ∀ a, (k0_off11 v42) a + S1x1.size a ≤ S2x2.size a := fun i v0 v12 v42 v58 k0_hw4 k0_h1 k0_h3 k0_h4 => k0_hw4.1 k0_h1 k0_h3 k0_h4
theorem k0_off12_inb : ∀ (i : grid0.Coords) (v0 : BitVec 32) (v12 : BitVec 32) (v42 : BitVec 32) (v58 : BitVec 32) (k0_hw4 : k0_chk4 i v0 v12 v42 v58), ∀ (k0_h1 : k0_cond1 i v0 = 1#1), ∀ (k0_h3 : k0_cond3 v12 = 1#1), ∀ (k0_h4 : k0_cond4 v58 = 1#1), ∀ a, (k0_off12 v42) a + S1x2048x1024.size a ≤ S2x2048x1024.size a := fun i v0 v12 v42 v58 k0_hw4 k0_h1 k0_h3 k0_h4 => k0_hw4.2.1 k0_h1 k0_h3 k0_h4
theorem k0_off14_inb : ∀ (i : grid0.Coords) (v0 : BitVec 32) (v12 : BitVec 32) (v42 : BitVec 32) (v58 : BitVec 32) (k0_hw4 : k0_chk4 i v0 v12 v42 v58), ∀ (k0_h1 : k0_cond1 i v0 = 1#1), ∀ (k0_h3 : k0_cond3 v12 = 1#1), ∀ (k0_h4 : k0_cond4 v58 = 1#1), ∀ a, (k0_off14 v42) a + S1x1.size a ≤ S2x2.size a := fun i v0 v12 v42 v58 k0_hw4 k0_h1 k0_h3 k0_h4 => k0_hw4.2.2.1 k0_h1 k0_h3 k0_h4
theorem k0_off15_inb : ∀ (i : grid0.Coords) (v0 : BitVec 32) (v12 : BitVec 32) (v42 : BitVec 32) (v58 : BitVec 32) (k0_hw4 : k0_chk4 i v0 v12 v42 v58), ∀ (k0_h1 : k0_cond1 i v0 = 1#1), ∀ (k0_h3 : k0_cond3 v12 = 1#1), ∀ (k0_h4 : k0_cond4 v58 = 1#1), ∀ a, (k0_off15 v42) a + S1x2048x1024.size a ≤ S2x2048x1024.size a := fun i v0 v12 v42 v58 k0_hw4 k0_h1 k0_h3 k0_h4 => k0_hw4.2.2.2 k0_h1 k0_h3 k0_h4

def k0_off16 (v42 : BitVec 32) : Fin 3 → Nat :=
  let v62 : Index := Scalar.indexCast v42
  let c0_31 : Index := 0#32
  let c0_32 : Index := 0#32
  ![v62.toNat, 0, 0]

def k0_chk2 (i : grid0.Coords) (v0 : BitVec 32) (v12 : BitVec 32) (v42 : BitVec 32) : Prop :=
  (∀ (k0_h1 : k0_cond1 i v0 = 1#1), ∀ (k0_h3 : k0_cond3 v12 = 1#1), ∀ a, (k0_off4 v42) a + S1x1.size a ≤ S2x2.size a) ∧
  (∀ (k0_h1 : k0_cond1 i v0 = 1#1), ∀ (k0_h3 : k0_cond3 v12 = 1#1), ∀ a, (k0_off5 v42) a + S1x2048x1024.size a ≤ S2x2048x1024.size a) ∧
  (∀ (k0_h1 : k0_cond1 i v0 = 1#1), ∀ (k0_h3 : k0_cond3 v12 = 1#1), ∀ a, (k0_off7 v42) a + S1x1.size a ≤ S2x2.size a) ∧
  (∀ (k0_h1 : k0_cond1 i v0 = 1#1), ∀ (k0_h3 : k0_cond3 v12 = 1#1), ∀ a, (k0_off8 v42) a + S1x2048x1024.size a ≤ S2x2048x1024.size a) ∧
  (∀ (k0_h1 : k0_cond1 i v0 = 1#1), ∀ (k0_h3 : k0_cond3 v12 = 1#1), ∀ a, (k0_off16 v42) a + S1x2048x1024.size a ≤ S2x2048x1024.size a)
theorem k0_off4_inb : ∀ (i : grid0.Coords) (v0 : BitVec 32) (v12 : BitVec 32) (v42 : BitVec 32) (k0_hw2 : k0_chk2 i v0 v12 v42), ∀ (k0_h1 : k0_cond1 i v0 = 1#1), ∀ (k0_h3 : k0_cond3 v12 = 1#1), ∀ a, (k0_off4 v42) a + S1x1.size a ≤ S2x2.size a := fun i v0 v12 v42 k0_hw2 k0_h1 k0_h3 => k0_hw2.1 k0_h1 k0_h3
theorem k0_off5_inb : ∀ (i : grid0.Coords) (v0 : BitVec 32) (v12 : BitVec 32) (v42 : BitVec 32) (k0_hw2 : k0_chk2 i v0 v12 v42), ∀ (k0_h1 : k0_cond1 i v0 = 1#1), ∀ (k0_h3 : k0_cond3 v12 = 1#1), ∀ a, (k0_off5 v42) a + S1x2048x1024.size a ≤ S2x2048x1024.size a := fun i v0 v12 v42 k0_hw2 k0_h1 k0_h3 => k0_hw2.2.1 k0_h1 k0_h3
theorem k0_off7_inb : ∀ (i : grid0.Coords) (v0 : BitVec 32) (v12 : BitVec 32) (v42 : BitVec 32) (k0_hw2 : k0_chk2 i v0 v12 v42), ∀ (k0_h1 : k0_cond1 i v0 = 1#1), ∀ (k0_h3 : k0_cond3 v12 = 1#1), ∀ a, (k0_off7 v42) a + S1x1.size a ≤ S2x2.size a := fun i v0 v12 v42 k0_hw2 k0_h1 k0_h3 => k0_hw2.2.2.1 k0_h1 k0_h3
theorem k0_off8_inb : ∀ (i : grid0.Coords) (v0 : BitVec 32) (v12 : BitVec 32) (v42 : BitVec 32) (k0_hw2 : k0_chk2 i v0 v12 v42), ∀ (k0_h1 : k0_cond1 i v0 = 1#1), ∀ (k0_h3 : k0_cond3 v12 = 1#1), ∀ a, (k0_off8 v42) a + S1x2048x1024.size a ≤ S2x2048x1024.size a := fun i v0 v12 v42 k0_hw2 k0_h1 k0_h3 => k0_hw2.2.2.2.1 k0_h1 k0_h3
theorem k0_off16_inb : ∀ (i : grid0.Coords) (v0 : BitVec 32) (v12 : BitVec 32) (v42 : BitVec 32) (k0_hw2 : k0_chk2 i v0 v12 v42), ∀ (k0_h1 : k0_cond1 i v0 = 1#1), ∀ (k0_h3 : k0_cond3 v12 = 1#1), ∀ a, (k0_off16 v42) a + S1x2048x1024.size a ≤ S2x2048x1024.size a := fun i v0 v12 v42 k0_hw2 k0_h1 k0_h3 => k0_hw2.2.2.2.2 k0_h1 k0_h3

def k0_cond5 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S160 : Shape := ⟨1, ![160]⟩
abbrev S1 : Shape := ⟨1, ![1]⟩
abbrev S40960x2048 : Shape := ⟨2, ![40960, 2048]⟩
abbrev S1x2048 : Shape := ⟨2, ![1, 2048]⟩
abbrev S4x8x2048x1024 : Shape := ⟨4, ![4, 8, 2048, 1024]⟩
abbrev S2048 : Shape := ⟨1, ![2048]⟩
abbrev S_ : Shape := ⟨0, ![]⟩
abbrev S40960 : Shape := ⟨1, ![40960]⟩
abbrev S40960x1 : Shape := ⟨2, ![40960, 1]⟩
abbrev S160x256x2048 : Shape := ⟨3, ![160, 256, 2048]⟩
abbrev S32x2048x1024 : Shape := ⟨3, ![32, 2048, 1024]⟩
abbrev S160x1 : Shape := ⟨2, ![160, 1]⟩
abbrev S160x2048x1024 : Shape := ⟨3, ![160, 2048, 1024]⟩
abbrev S160x256x1024 : Shape := ⟨3, ![160, 256, 1024]⟩
abbrev S160x1x1 : Shape := ⟨3, ![160, 1, 1]⟩
abbrev S40960x1024 : Shape := ⟨2, ![40960, 1024]⟩

abbrev nBuf : Space → Nat
  | .hbm => 56
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S1, .i32⟩
  | .hbm, ⟨3, _⟩ => ⟨S160, .i32⟩
  | .hbm, ⟨4, _⟩ => ⟨S160, .i32⟩
  | .hbm, ⟨5, _⟩ => ⟨S40960x2048, .f32⟩
  | .hbm, ⟨6, _⟩ => ⟨S1x2048, .f32⟩
  | .hbm, ⟨7, _⟩ => ⟨S4x8x2048x1024, .f32⟩
  | .hbm, ⟨8, _⟩ => ⟨S4x8x2048x1024, .f32⟩
  | .hbm, ⟨9, _⟩ => ⟨S2048, .f32⟩
  | .hbm, ⟨10, _⟩ => ⟨S40960x2048, .f32⟩
  | .hbm, ⟨11, _⟩ => ⟨S_, .f32⟩
  | .hbm, ⟨12, _⟩ => ⟨S40960, .f32⟩
  | .hbm, ⟨13, _⟩ => ⟨S40960x1, .f32⟩
  | .hbm, ⟨14, _⟩ => ⟨S_, .f32⟩
  | .hbm, ⟨15, _⟩ => ⟨S40960x1, .f32⟩
  | .hbm, ⟨16, _⟩ => ⟨S40960x1, .f32⟩
  | .hbm, ⟨17, _⟩ => ⟨S_, .f32⟩
  | .hbm, ⟨18, _⟩ => ⟨S40960x1, .f32⟩
  | .hbm, ⟨19, _⟩ => ⟨S40960x1, .f32⟩
  | .hbm, ⟨20, _⟩ => ⟨S40960x1, .f32⟩
  | .hbm, ⟨21, _⟩ => ⟨S40960x2048, .f32⟩
  | .hbm, ⟨22, _⟩ => ⟨S40960x2048, .f32⟩
  | .hbm, ⟨23, _⟩ => ⟨S1x2048, .f32⟩
  | .hbm, ⟨24, _⟩ => ⟨S40960x2048, .f32⟩
  | .hbm, ⟨25, _⟩ => ⟨S40960x2048, .f32⟩
  | .hbm, ⟨26, _⟩ => ⟨S160x256x2048, .f32⟩
  | .hbm, ⟨27, _⟩ => ⟨S32x2048x1024, .f32⟩
  | .hbm, ⟨28, _⟩ => ⟨S160x1, .i32⟩
  | .hbm, ⟨29, _⟩ => ⟨S160x2048x1024, .f32⟩
  | .hbm, ⟨30, _⟩ => ⟨S160x256x1024, .f32⟩
  | .hbm, ⟨31, _⟩ => ⟨S32x2048x1024, .f32⟩
  | .hbm, ⟨32, _⟩ => ⟨S160x1, .i32⟩
  | .hbm, ⟨33, _⟩ => ⟨S160x2048x1024, .f32⟩
  | .hbm, ⟨34, _⟩ => ⟨S160x256x1024, .f32⟩
  | .hbm, ⟨35, _⟩ => ⟨S160x256x1024, .f32⟩
  | .hbm, ⟨36, _⟩ => ⟨S160x256x1024, .f32⟩
  | .hbm, ⟨37, _⟩ => ⟨S_, .f32⟩
  | .hbm, ⟨38, _⟩ => ⟨S160x256x1024, .f32⟩
  | .hbm, ⟨39, _⟩ => ⟨S160x256x1024, .f32⟩
  | .hbm, ⟨40, _⟩ => ⟨S_, .f32⟩
  | .hbm, ⟨41, _⟩ => ⟨S160x256x1024, .f32⟩
  | .hbm, ⟨42, _⟩ => ⟨S160x256x1024, .f32⟩
  | .hbm, ⟨43, _⟩ => ⟨S160x256x1024, .f32⟩
  | .hbm, ⟨44, _⟩ => ⟨S160x256x1024, .f32⟩
  | .hbm, ⟨45, _⟩ => ⟨S160, .i32⟩
  | .hbm, ⟨46, _⟩ => ⟨S160, .i32⟩
  | .hbm, ⟨47, _⟩ => ⟨S160, .i1⟩
  | .hbm, ⟨48, _⟩ => ⟨S160x1x1, .i1⟩
  | .hbm, ⟨49, _⟩ => ⟨S_, .f32⟩
  | .hbm, ⟨50, _⟩ => ⟨S_, .f32⟩
  | .hbm, ⟨51, _⟩ => ⟨S160x256x1024, .i1⟩
  | .hbm, ⟨52, _⟩ => ⟨S160x256x1024, .f32⟩
  | .hbm, ⟨53, _⟩ => ⟨S160x256x1024, .f32⟩
  | .hbm, ⟨54, _⟩ => ⟨S40960x1024, .f32⟩
  | .hbm, ⟨55, _⟩ => ⟨S40960x1024, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_v0 : Ref sig .tc := ⟨.hbm, 32, rfl⟩
abbrev main_v19 : Ref sig .tc := ⟨.hbm, 33, rfl⟩
abbrev main_v20 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩

abbrev nD : Nat := 1
abbrev τ : Topo := Topo.v7x

variable {F : FTy → Type} [FloatOps F]
-- ==== Kernel4.lean ====
abbrev S8x2048x2048 : Shape := ⟨3, ![8, 2048, 2048]⟩
abbrev S1x2048 : Shape := ⟨2, ![1, 2048]⟩
abbrev S1x2048x10240 : Shape := ⟨3, ![1, 2048, 10240]⟩
abbrev S16384x2048 : Shape := ⟨2, ![16384, 2048]⟩
abbrev S2048 : Shape := ⟨1, ![2048]⟩
abbrev S2048x10240 : Shape := ⟨2, ![2048, 10240]⟩
abbrev S16384x10240 : Shape := ⟨2, ![16384, 10240]⟩
abbrev S1024x2048 : Shape := ⟨2, ![1024, 2048]⟩
abbrev S2048x2048 : Shape := ⟨2, ![2048, 2048]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x10240, .f32⟩
  | .hbm, ⟨3, _⟩ => ⟨S16384x2048, .f32⟩
  | .hbm, ⟨4, _⟩ => ⟨S2048, .f32⟩
  | .hbm, ⟨5, _⟩ => ⟨S2048x10240, .f32⟩
  | .hbm, ⟨6, _⟩ => ⟨S2048x10240, .bf16⟩
  | .hbm, ⟨7, _⟩ => ⟨S1x2048, .f32⟩
  | .hbm, ⟨8, _⟩ => ⟨S16384x10240, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c128_i32 : BitVec 32 := 128#32
  let v10 : BitVec 32 := Scalar.muli arg7 c128_i32
  v10
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c128_i32 : BitVec 32 := 128#32
  let v10 : BitVec 32 := Scalar.muli arg7 c128_i32
  let v11 : BitVec 32 := v10
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8x2048x2048 : Shape := ⟨3, ![8, 2048, 2048]⟩
abbrev S1x2048 : Shape := ⟨2, ![1, 2048]⟩
abbrev S1x2048x10240 : Shape := ⟨3, ![1, 2048, 10240]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x10240 : Shape := ⟨2, ![2048, 10240]⟩
abbrev S8x2048x10240 : Shape := ⟨3, ![8, 2048, 10240]⟩
abbrev S16384x10240 : Shape := ⟨2, ![16384, 10240]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S1x2048x10240, .f32⟩
  | .hbm, ⟨3, _⟩ => ⟨S2048, .f32⟩
  | .hbm, ⟨4, _⟩ => ⟨S8x2048x2048, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S1x1x2048, .f32⟩
  | .hbm, ⟨18, _⟩ => ⟨S8x2048x2048, .f32⟩
  | .hbm, ⟨19, _⟩ => ⟨S8x2048x2048, .f32⟩
  | .hbm, ⟨20, _⟩ => ⟨S2048x10240, .f32⟩
  | .hbm, ⟨21, _⟩ => ⟨S8x2048x10240, .f32⟩
  | .hbm, ⟨22, _⟩ => ⟨S16384x10240, .f32⟩
  | .hbm, ⟨23, _⟩ => ⟨S16384x10240, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S16384x1024 : Shape := ⟨2, ![16384, 1024]⟩
abbrev S16384x10240 : Shape := ⟨2, ![16384, 10240]⟩
abbrev S16384x2048 : Shape := ⟨2, ![16384, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x2048x32 : Shape := ⟨3, ![1, 2048, 32]⟩
abbrev S2048x32 : Shape := ⟨2, ![2048, 32]⟩
abbrev S32x2048 : Shape := ⟨2, ![32, 2048]⟩
abbrev S2048x4 : Shape := ⟨2, ![2048, 4]⟩
abbrev S4x2048 : Shape := ⟨2, ![4, 2048]⟩
abbrev S_ : Shape := ⟨0, ![]⟩
abbrev S12x2048 : Shape := ⟨2, ![12, 2048]⟩
abbrev S48x2048 : Shape := ⟨2, ![48, 2048]⟩
abbrev S96x2048 : Shape := ⟨2, ![96, 2048]⟩
abbrev S1024x2048 : Shape := ⟨2, ![1024, 2048]⟩
abbrev S2048x2048 : Shape := ⟨2, ![2048, 2048]⟩
abbrev S2048 : Shape := ⟨1, ![2048]⟩
abbrev S48x16384 : Shape := ⟨2, ![48, 16384]⟩
abbrev S512x1024 : Shape := ⟨2, ![512, 1024]⟩
abbrev S512x2048 : Shape := ⟨2, ![512, 2048]⟩
abbrev S48x512 : Shape := ⟨2, ![48, 512]⟩
abbrev S256x1024 : Shape := ⟨2, ![256, 1024]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩
abbrev S96x256 : Shape := ⟨2, ![96, 256]⟩
abbrev S48x256 : Shape := ⟨2, ![48, 256]⟩

abbrev nBuf : Space → Nat
  | .hbm => 32
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x10240, .bf16⟩
  | .hbm, ⟨3, _⟩ => ⟨S16384x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x4, .f32⟩
  | .hbm, ⟨9, _⟩ => ⟨S1x2048x32, .f32⟩
  | .hbm, ⟨10, _⟩ => ⟨S2048x32, .f32⟩
  | .hbm, ⟨11, _⟩ => ⟨S32x2048, .f32⟩
  | .hbm, ⟨12, _⟩ => ⟨S2048x4, .f32⟩
  | .hbm, ⟨13, _⟩ => ⟨S4x2048, .f32⟩
  | .hbm, ⟨14, _⟩ => ⟨S_, .f32⟩
  | .hbm, ⟨15, _⟩ => ⟨S12x2048, .f32⟩
  | .hbm, ⟨16, _⟩ => ⟨S48x2048, .f32⟩
  | .hbm, ⟨17, _⟩ => ⟨S48x2048, .bf16⟩
  | .hbm, ⟨18, _⟩ => ⟨S48x2048, .f32⟩
  | .hbm, ⟨19, _⟩ => ⟨S48x2048, .f32⟩
  | .hbm, ⟨20, _⟩ => ⟨S48x2048, .bf16⟩
  | .hbm, ⟨21, _⟩ => ⟨S96x2048, .bf16⟩
  | .hbm, ⟨22, _⟩ => ⟨S1024x2048, .f32⟩
  | .hbm, ⟨23, _⟩ => ⟨S1024x2048, .bf16⟩
  | .hbm, ⟨24, _⟩ => ⟨S1024x2048, .f32⟩
  | .hbm, ⟨25, _⟩ => ⟨S1024x2048, .bf16⟩
  | .hbm, ⟨26, _⟩ => ⟨S2048x2048, .f32⟩
  | .hbm, ⟨27, _⟩ => ⟨S2048x2048, .bf16⟩
  | .hbm, ⟨28, _⟩ => ⟨S2048, .f32⟩
  | .hbm, ⟨29, _⟩ => ⟨S1x2048, .f32⟩
  | .hbm, ⟨30, _⟩ => ⟨S16384x2048, .f32⟩
  | .hbm, ⟨31, _⟩ => ⟨S48x16384, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S96x2048, .bf16⟩
  | .local _ .vmem, ⟨15, _⟩ => ⟨S512x2048, .f32⟩
  | .local _ .vmem, ⟨16, _⟩ => ⟨S512x2048, .f32⟩
  | .local _ .vmem, ⟨17, _⟩ => ⟨S48x512, .f32⟩
  | .local _ .vmem, ⟨18, _⟩ => ⟨S48x512, .f32⟩
  | .local _ .vmem, ⟨19, _⟩ => ⟨S512x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S48x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference5Ideal.lean ====
abbrev S16384x1024 : Shape := ⟨2, ![16384, 1024]⟩
abbrev S16384x10240 : Shape := ⟨2, ![16384, 10240]⟩
abbrev S16384x2048 : Shape := ⟨2, ![16384, 2048]⟩
abbrev S1x1024x2048 : Shape := ⟨3, ![1, 1024, 2048]⟩
abbrev S1x2048x2048 : Shape := ⟨3, ![1, 2048, 2048]⟩
abbrev S1x2048 : Shape := ⟨2, ![1, 2048]⟩
abbrev S1x2048x4 : Shape := ⟨3, ![1, 2048, 4]⟩
abbrev S1x2048x32 : Shape := ⟨3, ![1, 2048, 32]⟩
abbrev S1024x2048 : Shape := ⟨2, ![1024, 2048]⟩
abbrev S_ : Shape := ⟨0, ![]⟩
abbrev S2048x2048 : Shape := ⟨2, ![2048, 2048]⟩
abbrev S2048 : Shape := ⟨1, ![2048]⟩
abbrev S16384 : Shape := ⟨1, ![16384]⟩
abbrev S16384x1 : Shape := ⟨2, ![16384, 1]⟩
abbrev S2048x32 : Shape := ⟨2, ![2048, 32]⟩
abbrev S16384x32 : Shape := ⟨2, ![16384, 32]⟩
abbrev S2048x4 : Shape := ⟨2, ![2048, 4]⟩
abbrev S16384x4 : Shape := ⟨2, ![16384, 4]⟩
abbrev S32x16384 : Shape := ⟨2, ![32, 16384]⟩
abbrev S4x16384 : Shape := ⟨2, ![4, 16384]⟩
abbrev S12x16384 : Shape := ⟨2, ![12, 16384]⟩
abbrev S48x16384 : Shape := ⟨2, ![48, 16384]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x10240, .bf16⟩
  | .hbm, ⟨3, _⟩ => ⟨S16384x2048, .f32⟩
  | .hbm, ⟨4, _⟩ => ⟨S1x1024x2048, .f32⟩
  | .hbm, ⟨5, _⟩ => ⟨S1x1024x2048, .f32⟩
  | .hbm, ⟨6, _⟩ => ⟨S1x2048x2048, .f32⟩
  | .hbm, ⟨7, _⟩ => ⟨S1x2048, .f32⟩
  | .hbm, ⟨8, _⟩ => ⟨S1x2048x4, .f32⟩
  | .hbm, ⟨9, _⟩ => ⟨S1x2048x32, .f32⟩
  | .hbm, ⟨10, _⟩ => ⟨S16384x2048, .bf16⟩
  | .hbm, ⟨11, _⟩ => ⟨S16384x2048, .f32⟩
  | .hbm, ⟨12, _⟩ => ⟨S16384x2048, .bf16⟩
  | .hbm, ⟨13, _⟩ => ⟨S16384x2048, .f32⟩
  | .hbm, ⟨14, _⟩ => ⟨S16384x1024, .f32⟩
  | .hbm, ⟨15, _⟩ => ⟨S1024x2048, .f32⟩
  | .hbm, ⟨16, _⟩ => ⟨S16384x2048, .f32⟩
  | .hbm, ⟨17, _⟩ => ⟨S16384x1024, .f32⟩
  | .hbm, ⟨18, _⟩ => ⟨S1024x2048, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S_, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S2048x2048, .f32⟩
  | .hbm, ⟨40, _⟩ => ⟨S16384x2048, .f32⟩
  | .hbm, ⟨41, _⟩ => ⟨S16384x2048, .f32⟩
  | .hbm, ⟨42, _⟩ => ⟨S2048, .f32⟩
  | .hbm, ⟨43, _⟩ => ⟨S16384x2048, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x2048, .f32⟩
  | .hbm, ⟨55, _⟩ => ⟨S16384x2048, .f32⟩
  | .hbm, ⟨56, _⟩ => ⟨S1x2048, .f32⟩
  | .hbm, ⟨57, _⟩ => ⟨S16384x2048, .f32⟩
  | .hbm, ⟨58, _⟩ => ⟨S16384x2048, .f32⟩
  | .hbm, ⟨59, _⟩ => ⟨S2048x32, .f32⟩
  | .hbm, ⟨60, _⟩ => ⟨S16384x32, .f32⟩
  | .hbm, ⟨61, _⟩ => ⟨S2048x4, .f32⟩
  | .hbm, ⟨62, _⟩ => ⟨S16384x4, .f32⟩
  | .hbm, ⟨63, _⟩ => ⟨S32x16384, .f32⟩
  | .hbm, ⟨64, _⟩ => ⟨S4x16384, .f32⟩
  | .hbm, ⟨65, _⟩ => ⟨S_, .f32⟩
  | .hbm, ⟨66, _⟩ => ⟨S12x16384, .f32⟩
  | .hbm, ⟨67, _⟩ => ⟨S48x16384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.GateSpec.lean ====
/- What the gate and up projections compute of one row of tokens and one column of the weights. -/
module

public import Idealize.ShloMosaic.Lib.Pointwise

@[expose] public section

noncomputable section

namespace Cert.Hidden

open Idealize.ShloMosaic

/-- A row over its root mean square, times the gain. -/
def nrm (y g : Fin 2048 → EReal) (k : Fin 2048) : EReal :=
  y k * Ideal.rsqrt (Ideal.div (∑ l : Fin 2048, y l * y l) (Ideal.ofBits .f32 0x45000000#32) + Ideal.ofBits .f32 0x358637BD#32) * g k

/-- `g · sigmoid g · u` of the normed row's products with a column of the gate weights and one of the up weights. -/
def hid (y g wg wu : Fin 2048 → EReal) : EReal :=
  (∑ k : Fin 2048, nrm y g k * wg k) * Ideal.logistic (∑ k : Fin 2048, nrm y g k * wg k) * ∑ k : Fin 2048, nrm y g k * wu k

theorem hid_congr {y y' g g' wg wg' wu wu' : Fin 2048 → EReal} (h1 : ∀ k, y k = y' k) (h2 : ∀ k, g k = g' k) (h3 : ∀ k, wg k = wg' k) (h4 : ∀ k, wu k = wu' k) :
    hid y g wg wu = hid y' g' wg' wu' := by
  obtain rfl := funext h1
  obtain rfl := funext h2
  obtain rfl := funext h3
  obtain rfl := funext h4
  rfl

end Cert.Hidden

end
-- ==== Proof.Math.lean ====
/- The arithmetic of one attention row over the extended reals: a softmax taken in base two over a padded row of keys,
   divided at the end, is the softmax in base e over the keys that count, divided before the product with the values. -/
module

public import Idealize.ShloMosaic.PureOps.Ideal.Laws

@[expose] public section

noncomputable section

namespace Cert.NA

open Idealize.ShloMosaic

/-- The factor between the two bases: one over the natural logarithm of two. -/
def lg : ℝ := (Real.log 2)⁻¹

theorem lg_pos : 0 < lg := inv_pos.mpr (Real.log_pos (by norm_num))

/-- A finite nonnegative factor moves through a finite sum, whatever the terms. -/
theorem mul_sum_coe {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

/-- A finite nonnegative factor distributes over a sum of two. -/
theorem coe_mul_add (c : ℝ) (hc : 0 ≤ c) (x y : EReal) : (c : EReal) * (x + y) = c * x + c * y :=
  EReal.left_distrib_of_nonneg_of_ne_top (by exact_mod_cast hc) (EReal.coe_ne_top c) _ _

/-- Two to the power of a scaled difference is e to the power of the difference. -/
theorem exp2_scaled (s : EReal) (M : ℝ) :
    Ideal.exp2 ((lg : EReal) * s - (lg : EReal) * (M : EReal)) = Ideal.exp (s - (M : EReal)) := by
  induction s with
  | bot =>
    rw [EReal.coe_mul_bot_of_pos lg_pos, EReal.bot_sub, EReal.bot_sub, Ideal.exp2_bot, Ideal.exp_bot]
  | top =>
    rw [EReal.coe_mul_top_of_pos lg_pos, ← EReal.coe_mul, EReal.top_sub_coe, EReal.top_sub_coe, Ideal.exp2_top,
      Ideal.exp_top]
  | coe r =>
    rw [← EReal.coe_mul, ← EReal.coe_mul, ← EReal.coe_sub, ← EReal.coe_sub, Ideal.exp2_coe, Ideal.exp_coe]
    congr 1
    show (2 : ℝ) ^ (lg * r - lg * M) = _
    rw [Real.rpow_def_of_pos (by norm_num), ← mul_sub, ← mul_assoc, lg,
      mul_inv_cancel₀ (Real.log_pos (by norm_num : (1 : ℝ) < 2)).ne', one_mul]

/-- The row: `sK` the scores in base two over the padded keys, `sR` the scores over the keys that count, `emb` where a
    key that counts stands among the padded ones. The greatest score is finite. -/
theorem row {J K : Type*} [Fintype J] [Fintype K] (emb : K → J) (hemb : Function.Injective emb)
    (sK : J → EReal) (vK : J → EReal) (sR : K → EReal) (vR : K → EReal)
    (hs : ∀ k, sK (emb k) = (lg : EReal) * sR k) (hpad : ∀ j, (∀ k, emb k ≠ j) → sK j = ⊥)
    (hv : ∀ k, vK (emb k) = vR k) (htop : ∀ k, sR k ≠ ⊤) (hbot : ∃ k, sR k ≠ ⊥) :
    Ideal.div (∑ j, Ideal.exp2 (sK j - Finset.univ.sup sK) * vK j) (∑ j, Ideal.exp2 (sK j - Finset.univ.sup sK) * 1)
      = ∑ k, Ideal.div (Ideal.exp (sR k - Finset.univ.sup sR)) (∑ k', Ideal.exp (sR k' - Finset.univ.sup sR)) * vR k := by
  classical
  -- the greatest score is a real number
  obtain ⟨k₀, hk₀⟩ := hbot
  have hne : (Finset.univ : Finset K).Nonempty := ⟨k₀, Finset.mem_univ _⟩
  obtain ⟨kM, -, hkM⟩ := Finset.exists_mem_eq_sup Finset.univ hne sR
  have hMb : Finset.univ.sup sR ≠ ⊥ := fun h => hk₀ (le_bot_iff.mp (h ▸ Finset.le_sup (Finset.mem_univ k₀)))
  obtain ⟨M, hM⟩ : ∃ M : ℝ, Finset.univ.sup sR = (M : EReal) :=
    ⟨_, (EReal.coe_toReal (hkM ▸ htop kM) hMb).symm⟩
  -- the padded row's greatest score is the same, scaled
  have hMK : Finset.univ.sup sK = (lg : EReal) * (M : EReal) := by
    apply le_antisymm
    · refine Finset.sup_le fun j _ => ?_
      by_cases h : ∃ k, emb k = j
      · obtain ⟨k, rfl⟩ := h
        rw [hs]
        exact mul_le_mul_of_nonneg_left (hM ▸ Finset.le_sup (Finset.mem_univ k)) (by exact_mod_cast lg_pos.le)
      · rw [hpad j (fun k hk => h ⟨k, hk⟩)]; exact bot_le
    · rw [← hM, hkM, ← hs]
      exact Finset.le_sup (Finset.mem_univ _)
  -- each weight
  have hp : ∀ k, Ideal.exp2 (sK (emb k) - Finset.univ.sup sK) = Ideal.exp (sR k - (M : EReal)) := fun k => by
    rw [hs, hMK, exp2_scaled]
  have hp0 : ∀ j, (∀ k, emb k ≠ j) → Ideal.exp2 (sK j - Finset.univ.sup sK) = 0 := fun j hj => by
    rw [hpad j hj, EReal.bot_sub, Ideal.exp2_bot]
  have hsum : ∀ f : J → EReal, (∀ j, (∀ k, emb k ≠ j) → f j = 0) → ∑ j, f j = ∑ k, f (emb k) := fun f hf => by
    rw [← Finset.sum_image (s := Finset.univ) (f := f) (g := emb) (fun a _ b _ h => hemb h)]
    refine (Finset.sum_subset (Finset.subset_univ _) fun j _ hj => hf j fun k hk => hj ?_).symm
    exact Finset.mem_image.mpr ⟨k, Finset.mem_univ _, hk⟩
  rw [hsum _ (fun j hj => by rw [hp0 j hj, zero_mul]), hsum _ (fun j hj => by rw [hp0 j hj, zero_mul]), hM]
  simp only [hp, hv, mul_one]
  -- the weights are real numbers, their sum a positive one
  have hreal : ∀ k, ∃ r : ℝ, 0 ≤ r ∧ Ideal.exp (sR k - (M : EReal)) = (r : EReal) := fun k => by
    have := htop k
    induction h : sR k with
    | bot => exact ⟨0, le_rfl, by rw [EReal.bot_sub, Ideal.exp_bot]; rfl⟩
    | top => exact absurd h this
    | coe r => exact ⟨Real.exp (r - M), (Real.exp_pos _).le, by rw [← EReal.coe_sub, Ideal.exp_coe]⟩
  choose w hw0 hw using hreal
  have hwM : w kM = 1 := by
    have := hw kM
    rw [← hkM, hM, ← EReal.coe_sub, sub_self, Ideal.exp_coe, Real.exp_zero] at this
    exact_mod_cast this.symm
  have hl : (∑ k, Ideal.exp (sR k - (M : EReal))) = ((∑ k, w k : ℝ) : EReal) := by
    simp only [hw]
    induction (Finset.univ : Finset K) using Finset.induction_on with
    | empty => simp
    | insert a s ha ih => rw [Finset.sum_insert ha, Finset.sum_insert ha, ih, EReal.coe_add]
  have hpos : 0 < ∑ k, w k :=
    lt_of_lt_of_le (by rw [hwM]; norm_num) (Finset.single_le_sum (fun k _ => hw0 k) (Finset.mem_univ kM))
  rw [hl, Ideal.div_coe hpos.ne', mul_comm, mul_sum_coe _ _ (by positivity)]
  refine Finset.sum_congr rfl fun k _ => ?_
  rw [Ideal.div_coe hpos.ne', ← mul_assoc, mul_comm (((1 / ∑ k, w k : ℝ)) : EReal)]

end Cert.NA

end
-- ==== Proof.Spec.lean ====
/- What is computed, in numbers: one row brought to unit mean square, a row of scores in base two, and the weighted
   mean that a row of scores takes of the values. -/
module

public import Idealize.ShloMosaic.PureOps.Ideal.Laws
public import proofs.«01_k».proof.Proof.Math

@[expose] public section

noncomputable section

namespace Cert.NA

open Idealize.ShloMosaic

/-- A row over the root of its mean square, times a gain. -/
def rms (x g : Fin 128 → EReal) (d : Fin 128) : EReal :=
  x d * Ideal.rsqrt (Ideal.div (∑ k, x k * x k) (Ideal.ofBits .f32 0x43000000#32) + Ideal.ofBits .f32 0x358637BD#32) * g d

/-- The scale of the scores, one over the root of the width. -/
def sc : ℝ := (Real.sqrt 128)⁻¹

/-- A query's scores in base two against `n` keys, the scale of the scores and the change of base taken into the query. -/
def score2 {n : ℕ} (q : Fin 128 → EReal) (k : Fin n → Fin 128 → EReal) (b : Fin n → EReal) (j : Fin n) : EReal :=
  ∑ e, q e * ((sc * lg : ℝ) : EReal) * k j e + b j * (lg : EReal)

/-- The weighted mean of the values, the weights powers of two, divided at the end. -/
def mean2 {n : ℕ} (s v : Fin n → EReal) : EReal :=
  Ideal.div (∑ j, Ideal.exp2 (s j - Finset.univ.sup s) * v j) (∑ j, Ideal.exp2 (s j - Finset.univ.sup s) * 1)

/-- The first key row of the band of row group `g`, twelve key rows long. -/
def band (g : ℕ) : ℕ := min (4 * g - 4) 20

/-- Which of the three bias patterns row group `g` uses. -/
def pat (g : ℕ) : Fin 3 := if g = 0 then 0 else if g = 7 then 2 else 1

/-- The token that key `j` of row group `g`'s band is. -/
def key (g : ℕ) (j : Fin 768) : Fin 2048 := ⟨band g * 64 + j.val, by have := j.isLt; unfold band; omega⟩

end Cert.NA

end
-- ==== Proof.Finite.lean ====
/- What is a real number when the gains and the bias parameters are: the normalised rows whatever the projection holds, and
   so every score on the window. -/
module

public import proofs.«01_k».proof.Proof.Spec

@[expose] public section

noncomputable section

namespace Cert.NA

open Idealize.ShloMosaic

/-- A value that is a real number. -/
def IsReal (x : EReal) : Prop := ∃ r : ℝ, x = (r : EReal)

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

theorem isReal_of_ne {x : EReal} (h1 : x ≠ ⊤) (h2 : x ≠ ⊥) : IsReal x := ⟨x.toReal, (EReal.coe_toReal h1 h2).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i ∈ s, IsReal (f i)) : IsReal (∑ i ∈ s, f i) :=
  Finset.sum_induction f IsReal (fun _ _ => IsReal.add) ⟨0, rfl⟩ h

theorem mul_self_nonneg' (x : EReal) : 0 ≤ x * x := by
  induction x with
  | bot => simp
  | top => simp
  | coe r => exact_mod_cast mul_self_nonneg r

/-- The small number added to a mean square is a positive real. -/
theorem eps_real : ∃ e : ℝ, 0 < e ∧ Ideal.ofBits .f32 0x358637BD#32 = (e : EReal) := by
  refine ⟨8796093 / 2 ^ 43, by norm_num, ?_⟩
  simp [Ideal.ofBits, Ideal.ieee, -EReal.coe_mul]
  norm_num

theorem width_real : Ideal.ofBits .f32 0x43000000#32 = ((128 : ℝ) : EReal) := by
  simp [Ideal.ofBits, Ideal.ieee, -EReal.coe_mul]; norm_num

/-- A normalised entry is a real number whatever the row holds: a row with an infinite entry has an infinite mean square,
    whose inverse root is zero. -/
theorem rms_real (x g : Fin 128 → EReal) (hg : ∀ d, IsReal (g d)) (d : Fin 128) : IsReal (rms x g d) := by
  unfold rms
  obtain ⟨e, he, hE⟩ := eps_real
  rw [hE, width_real, Ideal.div_coe (by norm_num : (128 : ℝ) ≠ 0)]
  by_cases hx : ∀ k, IsReal (x k)
  · obtain ⟨s, hs0, hs⟩ : ∃ s : ℝ, 0 ≤ s ∧ ∑ k, x k * x k = (s : EReal) := by
      obtain ⟨s, hs⟩ := IsReal.sum Finset.univ (fun k => x k * x k) fun k _ => (hx k).mul (hx k)
      refine ⟨s, ?_, hs⟩
      have h0 : (0 : EReal) ≤ ∑ k, x k * x k := Finset.sum_nonneg fun k _ => mul_self_nonneg' (x k)
      rw [hs] at h0
      exact_mod_cast h0
    rw [hs, ← EReal.coe_mul, ← EReal.coe_add]
    have hp : 0 < s * (1 / 128) + e := by positivity
    refine ((hx d).mul ⟨(Real.sqrt (s * (1 / 128) + e))⁻¹, ?_⟩).mul (hg d)
    show (if s * (1 / 128) + e < 0 then (⊥ : EReal) else if s * (1 / 128) + e = 0 then ⊤ else _) = _
    rw [if_neg (not_lt.mpr hp.le), if_neg hp.ne']
  · obtain ⟨k, hk⟩ := not_forall.mp hx
    have ht : x k * x k = ⊤ := by
      rcases eq_or_ne (x k) ⊤ with h | h
      · rw [h]; rfl
      · rcases eq_or_ne (x k) ⊥ with h' | h'
        · rw [h']; rfl
        · exact absurd (isReal_of_ne h h') hk
    have hs : ∑ k, x k * x k = ⊤ :=
      top_le_iff.mp (ht ▸ Finset.single_le_sum (f := fun k => x k * x k) (fun i _ => mul_self_nonneg' (x i)) (Finset.mem_univ k))
    rw [hs, EReal.top_mul_coe_of_pos (by norm_num : (0 : ℝ) < 1 / 128), EReal.top_add_coe]
    show IsReal (x d * 0 * g d)
    rw [mul_zero, zero_mul]
    exact ⟨0, rfl⟩

/-- A value whose size is below infinity is a real number. -/
theorem isReal_of_abs {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  have hlt : max x (-x) < ⊤ := by
    by_contra hn
    have : Ideal.cmp .olt (max x (-x)) ⊤ = 0#1 := by simp [Ideal.cmp, hn]
    rw [this] at h
    exact absurd h (by decide)
  refine isReal_of_ne (fun hx => ?_) (fun hx => ?_)
  · rw [hx] at hlt; simp at hlt
  · rw [hx] at hlt; simp at hlt

end Cert.NA

end
-- ==== Proof.OutSpec.lean ====
/- What the output projection computes of one row: the two attentions merged, the sum with x, and a logit of the router. -/
module

public import proofs.«01_k».proof.Proof.GateSpec
public import proofs.«01_k».proof.Proof.Finite

@[expose] public section

noncomputable section

namespace Cert.Merge

open Idealize.ShloMosaic Cert.Hidden Cert.NA

/-- The two attentions' products with a column, each times the sigmoid of its gate. -/
def mrg (oa ob : Fin 1024 → EReal) (ga gb : EReal) (wd wn : Fin 1024 → EReal) : EReal :=
  Ideal.logistic ga * ∑ q : Fin 1024, oa q * wd q + Ideal.logistic gb * ∑ q : Fin 1024, ob q * wn q

/-- A row of x plus the merged row's product with the output weights. -/
def sumrow (oa ob : Fin 1024 → EReal) (ga gb x : Fin 2048 → EReal) (wd wn : Fin 1024 → Fin 2048 → EReal) (wo : Fin 2048 → Fin 2048 → EReal) (d : Fin 2048) : EReal :=
  x d + ∑ k : Fin 2048, mrg oa ob (ga k) (gb k) (fun q => wd q k) (fun q => wn q k) * wo k d

/-- A logit as the kernel sums it: the weights in two parts, and the row's remainder. -/
def parts (h wh wl wc : Fin 2048 → EReal) : EReal :=
  ∑ k : Fin 2048, wh k * h k + ∑ k : Fin 2048, wl k * h k + ∑ k : Fin 2048, wc k * (h k - h k)

/-- A logit of a normed row. -/
def logit (h w : Fin 2048 → EReal) : EReal := ∑ k : Fin 2048, h k * w k

theorem real_sub {x : EReal} (h : IsReal x) : x - x = 0 := by
  obtain ⟨r, rfl⟩ := h
  rw [← EReal.coe_sub, sub_self, EReal.coe_zero]

/-- Of real weights and a real row the second parts are zero. -/
theorem parts_eq (h w wl : Fin 2048 → EReal) (hh : ∀ k, IsReal (h k)) (hw : ∀ k, IsReal (w k)) (hl : ∀ k, wl k = w k - w k) :
    parts h w wl w = logit h w := by
  unfold parts logit
  have e1 : ∑ k : Fin 2048, wl k * h k = 0 := Finset.sum_eq_zero fun k _ => by rw [hl, real_sub (hw k), zero_mul]
  have e2 : ∑ k : Fin 2048, w k * (h k - h k) = 0 := Finset.sum_eq_zero fun k _ => by rw [real_sub (hh k), mul_zero]
  rw [e1, e2, add_zero, add_zero]
  exact Finset.sum_congr rfl fun k _ => mul_comm _ _

theorem wide_real : Ideal.ofBits .f32 0x45000000#32 = ((2048 : ℝ) : EReal) := by
  simp [Ideal.ofBits, Ideal.ieee, -EReal.coe_mul]; norm_num

/-- A normalised entry is a real number whatever the row holds: a row with an infinite entry has an infinite mean square,
    whose inverse root is zero. -/
theorem nrm_real (x g : Fin 2048 → EReal) (hg : ∀ d, IsReal (g d)) (d : Fin 2048) : IsReal (nrm x g d) := by
  unfold nrm
  obtain ⟨e, he, hE⟩ := eps_real
  rw [hE, wide_real, Ideal.div_coe (by norm_num : (2048 : ℝ) ≠ 0)]
  by_cases hx : ∀ k, IsReal (x k)
  · obtain ⟨s, hs0, hs⟩ : ∃ s : ℝ, 0 ≤ s ∧ ∑ k, x k * x k = (s : EReal) := by
      obtain ⟨s, hs⟩ := IsReal.sum Finset.univ (fun k => x k * x k) fun k _ => (hx k).mul (hx k)
      refine ⟨s, ?_, hs⟩
      have h0 : (0 : EReal) ≤ ∑ k, x k * x k := Finset.sum_nonneg fun k _ => mul_self_nonneg' (x k)
      rw [hs] at h0
      exact_mod_cast h0
    rw [hs, ← EReal.coe_mul, ← EReal.coe_add]
    have hp : 0 < s * (1 / 2048) + e := by positivity
    refine ((hx d).mul ⟨(Real.sqrt (s * (1 / 2048) + e))⁻¹, ?_⟩).mul (hg d)
    show (if s * (1 / 2048) + e < 0 then (⊥ : EReal) else if s * (1 / 2048) + e = 0 then ⊤ else _) = _
    rw [if_neg (not_lt.mpr hp.le), if_neg hp.ne']
  · obtain ⟨k, hk⟩ := not_forall.mp hx
    have ht : x k * x k = ⊤ := by
      rcases eq_or_ne (x k) ⊤ with h | h
      · rw [h]; rfl
      · rcases eq_or_ne (x k) ⊥ with h' | h'
        · rw [h']; rfl
        · exact absurd (isReal_of_ne h h') hk
    have hs : ∑ k, x k * x k = ⊤ :=
      top_le_iff.mp (ht ▸ Finset.single_le_sum (f := fun k => x k * x k) (fun i _ => mul_self_nonneg' (x i)) (Finset.mem_univ k))
    rw [hs, EReal.top_mul_coe_of_pos (by norm_num : (0 : ℝ) < 1 / 2048), EReal.top_add_coe]
    show IsReal (x d * 0 * g d)
    rw [mul_zero, zero_mul]
    exact ⟨0, rfl⟩

/-! ### The two results, of the arrays as launched -/

/-- The column of the projection holding the gate of the first attention, -/
def colA (k : Fin 2048) : Fin 10240 := ⟨6144 + k.val, by omega⟩
/-- and of the second. -/
def colB (k : Fin 2048) : Fin 10240 := ⟨8192 + k.val, by omega⟩

/-- The sum with x. -/
def x1At (A0 A1 : (⟨2, ![16384, 1024]⟩ : Shape).Idx → EReal) (A2 : (⟨2, ![16384, 10240]⟩ : Shape).Idx → EReal) (A3 : (⟨2, ![16384, 2048]⟩ : Shape).Idx → EReal)
    (A4 A5 : (⟨3, ![1, 1024, 2048]⟩ : Shape).Idx → EReal) (A6 : (⟨3, ![1, 2048, 2048]⟩ : Shape).Idx → EReal) (r : Fin 16384) (d : Fin 2048) : EReal :=
  sumrow (fun q => A0 (ix2 r q)) (fun q => A1 (ix2 r q)) (fun k => A2 (ix2 r (colA k))) (fun k => A2 (ix2 r (colB k))) (fun l => A3 (ix2 r l))
    (fun q k => A4 (ix3 0 q k)) (fun q k => A5 (ix3 0 q k)) (fun k l => A6 (ix3 0 k l)) d

/-- A row of the router: the experts', then the groups', then zero. -/
def wAt (A8 : (⟨3, ![1, 2048, 4]⟩ : Shape).Idx → EReal) (A9 : (⟨3, ![1, 2048, 32]⟩ : Shape).Idx → EReal) (e : Fin 48) (k : Fin 2048) : EReal :=
  if h : e.val < 32 then A9 (ix3 0 k ⟨e.val, h⟩) else if h' : e.val < 36 then A8 (ix3 0 k ⟨e.val - 32, by omega⟩) else 0

theorem wAt_real (A8 : (⟨3, ![1, 2048, 4]⟩ : Shape).Idx → EReal) (A9 : (⟨3, ![1, 2048, 32]⟩ : Shape).Idx → EReal)
    (h8 : ∀ i, IsReal (A8 i)) (h9 : ∀ i, IsReal (A9 i)) (e : Fin 48) (k : Fin 2048) : IsReal (wAt A8 A9 e k) := by
  unfold wAt
  split_ifs
  · exact h9 _
  · exact h8 _
  · exact ⟨0, rfl⟩

/-- The normed row. -/
def hAt (A0 A1 : (⟨2, ![16384, 1024]⟩ : Shape).Idx → EReal) (A2 : (⟨2, ![16384, 10240]⟩ : Shape).Idx → EReal) (A3 : (⟨2, ![16384, 2048]⟩ : Shape).Idx → EReal)
    (A4 A5 : (⟨3, ![1, 1024, 2048]⟩ : Shape).Idx → EReal) (A6 : (⟨3, ![1, 2048, 2048]⟩ : Shape).Idx → EReal) (A7 : (⟨2, ![1, 2048]⟩ : Shape).Idx → EReal)
    (r : Fin 16384) : Fin 2048 → EReal :=
  nrm (fun l => x1At A0 A1 A2 A3 A4 A5 A6 r l) (fun l => A7 (ix2 0 l))

/-- An index of two coordinates. -/
theorem idx2 {n0 n1 : ℕ} (j : (⟨2, ![n0, n1]⟩ : Shape).Idx) (a : Fin n0) (b : Fin n1) (h0 : (j 0).val = a.val) (h1 : (j 1).val = b.val) : j = ix2 a b := by
  funext x; apply Fin.ext
  match x with
  | ⟨0, _⟩ => exact h0
  | ⟨1, _⟩ => exact h1

/-- An index of three. -/
theorem idx3 {n0 n1 n2 : ℕ} (j : (⟨3, ![n0, n1, n2]⟩ : Shape).Idx) (a : Fin n0) (b : Fin n1) (c : Fin n2) (h0 : (j 0).val = a.val) (h1 : (j 1).val = b.val)
    (h2 : (j 2).val = c.val) : j = ix3 a b c := by
  funext x; apply Fin.ext
  match x with
  | ⟨0, _⟩ => exact h0
  | ⟨1, _⟩ => exact h1
  | ⟨2, _⟩ => exact h2

end Cert.Merge

end
-- ==== Proof.OutValue.lean ====
/- The arrays the output projection leaves, at an index. -/
module

public import proofs.«01_k».proof.Proof.Gen.Kernel5Ideal.Value
public import proofs.«01_k».proof.Proof.OutSpec
public import Idealize.ShloMosaic.Lib.Pipeline.ValueKit
public import Idealize.ShloMosaic.Lib.Pointwise

@[expose] public section

set_option maxRecDepth 16384

noncomputable section

namespace Cert.Kernel5Ideal.Out

open Idealize.ShloMosaic Idealize.ShloMosaic.TcCoe Idealize.ShloMosaic.Tactic Idealize.SL.Sem
open Cert.Kernel5Ideal Cert.Kernel5Ideal.Gen Cert.Hidden Cert.Merge

theorem pay2_at (a b : FVec Ideal S256x1024 .bf16) (wd wn : FVec Ideal S1024x1024 .bf16) (ga gb : FVec Ideal S256x1024 .bf16) (i : Fin 256) (k : Fin 1024) :
    k0_pay2 (F := Ideal) a b wd wn ga gb (ix2 i k)
      = mrg (fun q => a (ix2 i q)) (fun q => b (ix2 i q)) (ga (ix2 i k)) (gb (ix2 i k)) (fun q => wd (ix2 q k)) (fun q => wn (ix2 q k)) := by
  pointwise [k0_pay2, mrg]

theorem pay12_at (a b : FVec Ideal S256x1024 .bf16) (wd wn : FVec Ideal S1024x1024 .bf16) (ga gb : FVec Ideal S256x1024 .bf16) (i : Fin 256) (k : Fin 1024) :
    k0_pay12 (F := Ideal) a b wd wn ga gb (ix2 i k)
      = mrg (fun q => a (ix2 i q)) (fun q => b (ix2 i q)) (ga (ix2 i k)) (gb (ix2 i k)) (fun q => wd (ix2 q k)) (fun q => wn (ix2 q k)) := by
  pointwise [k0_pay12, mrg]

theorem pay5_at (a b : FVec Ideal S256x1024 .bf16) (wd wn : FVec Ideal S1024x1024 .bf16) (ga gb : FVec Ideal S256x1024 .bf16) (i : Fin 256) (k : Fin 1024) :
    k0_pay5 (F := Ideal) (k0_pay3 b wn) (k0_pay4 a wd ga) gb (ix2 i k)
      = mrg (fun q => a (ix2 i q)) (fun q => b (ix2 i q)) (ga (ix2 i k)) (gb (ix2 i k)) (fun q => wd (ix2 q k)) (fun q => wn (ix2 q k)) := by
  pointwise [k0_pay5, k0_pay3, k0_pay4, mrg]

theorem pay15_at (a b : FVec Ideal S256x1024 .bf16) (wd wn : FVec Ideal S1024x1024 .bf16) (ga gb : FVec Ideal S256x1024 .bf16) (i : Fin 256) (k : Fin 1024) :
    k0_pay15 (F := Ideal) b (k0_pay13 a wd) (k0_pay14 wn) (constant S256x1024 .f32 0x00000000#32) ga gb (ix2 i k)
      = mrg (fun q => a (ix2 i q)) (fun q => b (ix2 i q)) (ga (ix2 i k)) (gb (ix2 i k)) (fun q => wd (ix2 q k)) (fun q => wn (ix2 q k)) := by
  pointwise [k0_pay15, k0_pay13, k0_pay14, mrg]

theorem pay6_at (x : FVec Ideal S256x2048 .f32) (m : FVec Ideal S256x2048 .bf16) (wo : FVec Ideal S2048x2048 .bf16) (i : Fin 256) (d : Fin 2048) :
    k0_pay6 (F := Ideal) x m wo (ix2 i d) = x (ix2 i d) + ∑ k : Fin 2048, m (ix2 i k) * wo (ix2 k d) := by
  pointwise [k0_pay6]

theorem pay16_at (x : FVec Ideal S256x2048 .f32) (m : FVec Ideal S256x2048 .bf16) (wo : FVec Ideal S2048x2048 .bf16) (i : Fin 256) (d : Fin 2048) :
    k0_pay16 (F := Ideal) x m wo (ix2 i d) = x (ix2 i d) + ∑ k : Fin 2048, m (ix2 i k) * wo (ix2 k d) := by
  pointwise [k0_pay16]

theorem pay7_at (x : FVec Ideal S256x2048 .f32) (m : FVec Ideal S256x2048 .bf16) (wo : FVec Ideal S2048x2048 .bf16) (g : FVec Ideal S1x2048 .f32) (i : Fin 256) (d : Fin 2048) :
    k0_pay7 (F := Ideal) x m wo g (ix2 i d) = nrm (fun l => k0_pay6 (F := Ideal) x m wo (ix2 i l)) (fun l => g (ix2 0 l)) d := by
  unfold k0_pay7
  generalize k0_pay6 (F := Ideal) x m wo = y
  pointwise [nrm]

theorem pay17_at (x : FVec Ideal S256x2048 .f32) (m : FVec Ideal S256x2048 .bf16) (wo : FVec Ideal S2048x2048 .bf16) (g : FVec Ideal S1x2048 .f32) (i : Fin 256) (d : Fin 2048) :
    k0_pay17 (F := Ideal) x m wo g (ix2 i d) = nrm (fun l => k0_pay16 (F := Ideal) x m wo (ix2 i l)) (fun l => g (ix2 0 l)) d := by
  unfold k0_pay17
  generalize k0_pay16 (F := Ideal) x m wo = y
  pointwise [nrm]

/-- The row of the second part of the weights. -/
def low (e : Fin 48) : Fin 96 := ⟨48 + e.val, by omega⟩
/-- The row of the first part. -/
def high (e : Fin 48) : Fin 96 := ⟨e.val, by omega⟩

theorem pay11_at (x : FVec Ideal S256x2048 .f32) (m : FVec Ideal S256x2048 .bf16) (wo : FVec Ideal S2048x2048 .bf16) (g : FVec Ideal S1x2048 .f32)
    (w : FVec Ideal S96x2048 .bf16) (w' : FVec Ideal S48x2048 .bf16) (e : Fin 48) (i : Fin 256) :
    k0_pay11 (F := Ideal) (k0_pay9 x m wo g) (k0_pay10 x m wo g w) w' (ix2 e i)
      = parts (fun k => k0_pay7 (F := Ideal) x m wo g (ix2 i k)) (fun k => w (ix2 (high e) k)) (fun k => w (ix2 (low e) k)) (fun k => w' (ix2 e k)) := by
  unfold k0_pay9 k0_pay10 k0_pay8
  generalize k0_pay7 (F := Ideal) x m wo g = h
  pointwise [k0_pay11, parts, low, high]

theorem pay1_at (x : FVec Ideal S256x2048 .f32) (m : FVec Ideal S256x2048 .bf16) (wo : FVec Ideal S2048x2048 .bf16) (g : FVec Ideal S1x2048 .f32)
    (w : FVec Ideal S96x2048 .bf16) (w' : FVec Ideal S48x2048 .bf16) (e : Fin 48) (i : Fin 256) :
    k0_pay1 (F := Ideal) (k0_pay18 x m wo g) (k0_pay19 x m wo g) w w' (ix2 e i)
      = parts (fun k => k0_pay17 (F := Ideal) x m wo g (ix2 i k)) (fun k => w (ix2 (high e) k)) (fun k => w (ix2 (low e) k)) (fun k => w' (ix2 e k)) := by
  unfold k0_pay18 k0_pay19 k0_pay18
  generalize k0_pay17 (F := Ideal) x m wo g = h
  pointwise [k0_pay1, parts, low, high]

end Cert.Kernel5Ideal.Out

end
-- ==== Proof.OutFrame.lean ====
/- A block of the two results of the output projection, from the blocks it reads. -/
module

public import proofs.«01_k».proof.Proof.OutValue
public import Idealize.ShloMosaic.Lib.Pipeline.ValueKit
public import Idealize.ShloMosaic.Lib.Pointwise

@[expose] public section

set_option maxRecDepth 16384

noncomputable section

namespace Cert.Kernel5Ideal.Out

open Idealize.ShloMosaic Idealize.ShloMosaic.TcCoe Idealize.ShloMosaic.Tactic Idealize.SL.Sem
open Cert.Kernel5Ideal Cert.Kernel5Ideal.Gen Cert.Hidden Cert.Merge

/-- The merged rows of a block. -/
def mblk (x0 x1 : FVec Ideal S512x1024 .bf16) (x2 x3 : FVec Ideal S512x2048 .bf16) (x5 x6 : FVec Ideal S1024x2048 .bf16) (a : Fin 512) (b : Fin 2048) : EReal :=
  mrg (fun q => x0 (ix2 a q)) (fun q => x1 (ix2 a q)) (x2 (ix2 a b)) (x3 (ix2 a b)) (fun q => x5 (ix2 q b)) (fun q => x6 (ix2 q b))

theorem mrg_congr {oa oa' ob ob' wd wd' wn wn' : Fin 1024 → EReal} {ga ga' gb gb' : EReal} (h0 : oa = oa') (h1 : ob = ob') (h2 : ga = ga') (h3 : gb = gb')
    (h4 : wd = wd') (h5 : wn = wn') : mrg oa ob ga gb wd wn = mrg oa' ob' ga' gb' wd' wn' := by
  subst h0 h1 h2 h3 h4 h5
  rfl

/-- A tile of the merged rows, from the blocks it loads. -/
theorem tile (x0 x1 : FVec Ideal S512x1024 .bf16) (x2 x3 : FVec Ideal S512x2048 .bf16) (x5 x6 : FVec Ideal S1024x2048 .bf16) (r n : ℕ) (hA : ∀ a, (![r, 0] : Fin 2 → ℕ) a + S256x1024.size a ≤ S512x1024.size a)
    (hB : ∀ a, (![r, n] : Fin 2 → ℕ) a + S256x1024.size a ≤ S512x2048.size a) (hC : ∀ a, (![0, n] : Fin 2 → ℕ) a + S1024x1024.size a ≤ S1024x2048.size a)
    (i : Fin 256) (k : Fin 1024) (u : Fin 512) (v : Fin 2048) (h0 : u.val = r + i.val) (h1 : v.val = n + k.val) :
    mrg (fun q => View.ld (Val := Elt Ideal) (e' := .bf16) x0 (Rect.unit ![r, 0] ![256, 1024] hA) (ix2 i q))
        (fun q => View.ld (Val := Elt Ideal) (e' := .bf16) x1 (Rect.unit ![r, 0] ![256, 1024] hA) (ix2 i q))
        (View.ld (Val := Elt Ideal) (e' := .bf16) x2 (Rect.unit ![r, n] ![256, 1024] hB) (ix2 i k))
        (View.ld (Val := Elt Ideal) (e' := .bf16) x3 (Rect.unit ![r, n] ![256, 1024] hB) (ix2 i k))
        (fun q => View.ld (Val := Elt Ideal) (e' := .bf16) x5 (Rect.unit ![0, n] ![1024, 1024] hC) (ix2 q k))
        (fun q => View.ld (Val := Elt Ideal) (e' := .bf16) x6 (Rect.unit ![0, n] ![1024, 1024] hC) (ix2 q k))
      = mblk x0 x1 x2 x3 x5 x6 u v := by
  have ha : ∀ q : Fin 1024, (Rect.unit (s := S512x1024) ![r, 0] ![256, 1024] hA).idx (ix2 i q) = ix2 u q := fun q => by
    funext a; apply Fin.ext
    match a with
    | ⟨0, _⟩ => show r + 1 * i.val = u.val; omega
    | ⟨1, _⟩ => show 0 + 1 * q.val = q.val; omega
  have hb : (Rect.unit (s := S512x2048) ![r, n] ![256, 1024] hB).idx (ix2 i k) = ix2 u v := by
    funext a; apply Fin.ext
    match a with
    | ⟨0, _⟩ => show r + 1 * i.val = u.val; omega
    | ⟨1, _⟩ => show n + 1 * k.val = v.val; omega
  have hc : ∀ q : Fin 1024, (Rect.unit (s := S1024x2048) ![0, n] ![1024, 1024] hC).idx (ix2 q k) = ix2 q v := fun q => by
    funext a; apply Fin.ext
    match a with
    | ⟨0, _⟩ => show 0 + 1 * q.val = q.val; omega
    | ⟨1, _⟩ => show n + 1 * k.val = v.val; omega
  exact mrg_congr (funext fun q => congrArg x0 (ha q)) (funext fun q => congrArg x1 (ha q)) (congrArg x2 hb) (congrArg x3 hb)
    (funext fun q => congrArg x5 (hc q)) (funext fun q => congrArg x6 (hc q))

/-- The tiles of the merged rows stored before the first half is read back, -/
def tiles1 (x0 x1 : FVec Ideal S512x1024 .bf16) (x2 x3 : FVec Ideal S512x2048 .bf16) (x5 x6 : FVec Ideal S1024x2048 .bf16) : List (View.Piece (Elt Ideal) S512x2048 .bf16) :=
    [⟨Rect.unit (s := S512x2048) ![0, 1024] ![256, 1024] inb_S512x2048_S256x1024_0_1024, k0_pay5 (k0_pay3 (View.ld (Val := Elt Ideal) (e' := .bf16) x1 (Rect.unit (s := S512x1024) ![0, 0] ![256, 1024] inb_S512x1024_S256x1024_0_0)) (View.ld (Val := Elt Ideal) (e' := .bf16) x6 (Rect.unit (s := S1024x2048) ![0, 1024] ![1024, 1024] inb_S1024x2048_S1024x1024_0_1024))) (k0_pay4 (View.ld (Val := Elt Ideal) (e' := .bf16) x0 (Rect.unit (s := S512x1024) ![0, 0] ![256, 1024] inb_S512x1024_S256x1024_0_0)) (View.ld (Val := Elt Ideal) (e' := .bf16) x5 (Rect.unit (s := S1024x2048) ![0, 1024] ![1024, 1024] inb_S1024x2048_S1024x1024_0_1024)) (View.ld (Val := Elt Ideal) (e' := .bf16) x2 (Rect.unit (s := S512x2048) ![0, 1024] ![256, 1024] inb_S512x2048_S256x1024_0_1024))) (View.ld (Val := Elt Ideal) (e' := .bf16) x3 (Rect.unit (s := S512x2048) ![0, 1024] ![256, 1024] inb_S512x2048_S256x1024_0_1024))⟩,
     ⟨Rect.unit (s := S512x2048) ![0, 0] ![256, 1024] inb_S512x2048_S256x1024_0_0, k0_pay2 (View.ld (Val := Elt Ideal) (e' := .bf16) x0 (Rect.unit (s := S512x1024) ![0, 0] ![256, 1024] inb_S512x1024_S256x1024_0_0)) (View.ld (Val := Elt Ideal) (e' := .bf16) x1 (Rect.unit (s := S512x1024) ![0, 0] ![256, 1024] inb_S512x1024_S256x1024_0_0)) (View.ld (Val := Elt Ideal) (e' := .bf16) x5 (Rect.unit (s := S1024x2048) ![0, 0] ![1024, 1024] inb_S1024x2048_S1024x1024_0_0)) (View.ld (Val := Elt Ideal) (e' := .bf16) x6 (Rect.unit (s := S1024x2048) ![0, 0] ![1024, 1024] inb_S1024x2048_S1024x1024_0_0)) (View.ld (Val := Elt Ideal) (e' := .bf16) x2 (Rect.unit (s := S512x2048) ![0, 0] ![256, 1024] inb_S512x2048_S256x1024_0_0)) (View.ld (Val := Elt Ideal) (e' := .bf16) x3 (Rect.unit (s := S512x2048) ![0, 0] ![256, 1024] inb_S512x2048_S256x1024_0_0))⟩]

/-- and before the second is. -/
def tiles2 (x0 x1 : FVec Ideal S512x1024 .bf16) (x2 x3 : FVec Ideal S512x2048 .bf16) (x5 x6 : FVec Ideal S1024x2048 .bf16) : List (View.Piece (Elt Ideal) S512x2048 .bf16) :=
    [⟨Rect.unit (s := S512x2048) ![256, 1024] ![256, 1024] inb_S512x2048_S256x1024_256_1024, k0_pay15 (View.ld (Val := Elt Ideal) (e' := .bf16) x1 (Rect.unit (s := S512x1024) ![256, 0] ![256, 1024] inb_S512x1024_S256x1024_256_0)) (k0_pay13 (View.ld (Val := Elt Ideal) (e' := .bf16) x0 (Rect.unit (s := S512x1024) ![256, 0] ![256, 1024] inb_S512x1024_S256x1024_256_0)) (View.ld (Val := Elt Ideal) (e' := .bf16) x5 (Rect.unit (s := S1024x2048) ![0, 1024] ![1024, 1024] inb_S1024x2048_S1024x1024_0_1024))) (k0_pay14 (View.ld (Val := Elt Ideal) (e' := .bf16) x6 (Rect.unit (s := S1024x2048) ![0, 1024] ![1024, 1024] inb_S1024x2048_S1024x1024_0_1024))) (constant S256x1024 .f32 0x00000000#32) (View.ld (Val := Elt Ideal) (e' := .bf16) x2 (Rect.unit (s := S512x2048) ![256, 1024] ![256, 1024] inb_S512x2048_S256x1024_256_1024)) (View.ld (Val := Elt Ideal) (e' := .bf16) x3 (Rect.unit (s := S512x2048) ![256, 1024] ![256, 1024] inb_S512x2048_S256x1024_256_1024))⟩,
     ⟨Rect.unit (s := S512x2048) ![256, 0] ![256, 1024] inb_S512x2048_S256x1024_256_0, k0_pay12 (View.ld (Val := Elt Ideal) (e' := .bf16) x0 (Rect.unit (s := S512x1024) ![256, 0] ![256, 1024] inb_S512x1024_S256x1024_256_0)) (View.ld (Val := Elt Ideal) (e' := .bf16) x1 (Rect.unit (s := S512x1024) ![256, 0] ![256, 1024] inb_S512x1024_S256x1024_256_0)) (View.ld (Val := Elt Ideal) (e' := .bf16) x5 (Rect.unit (s := S1024x2048) ![0, 0] ![1024, 1024] inb_S1024x2048_S1024x1024_0_0)) (View.ld (Val := Elt Ideal) (e' := .bf16) x6 (Rect.unit (s := S1024x2048) ![0, 0] ![1024, 1024] inb_S1024x2048_S1024x1024_0_0)) (View.ld (Val := Elt Ideal) (e' := .bf16) x2 (Rect.unit (s := S512x2048) ![256, 0] ![256, 1024] inb_S512x2048_S256x1024_256_0)) (View.ld (Val := Elt Ideal) (e' := .bf16) x3 (Rect.unit (s := S512x2048) ![256, 0] ![256, 1024] inb_S512x2048_S256x1024_256_0))⟩,
     ⟨Rect.unit (s := S512x2048) ![0, 1024] ![256, 1024] inb_S512x2048_S256x1024_0_1024, k0_pay5 (k0_pay3 (View.ld (Val := Elt Ideal) (e' := .bf16) x1 (Rect.unit (s := S512x1024) ![0, 0] ![256, 1024] inb_S512x1024_S256x1024_0_0)) (View.ld (Val := Elt Ideal) (e' := .bf16) x6 (Rect.unit (s := S1024x2048) ![0, 1024] ![1024, 1024] inb_S1024x2048_S1024x1024_0_1024))) (k0_pay4 (View.ld (Val := Elt Ideal) (e' := .bf16) x0 (Rect.unit (s := S512x1024) ![0, 0] ![256, 1024] inb_S512x1024_S256x1024_0_0)) (View.ld (Val := Elt Ideal) (e' := .bf16) x5 (Rect.unit (s := S1024x2048) ![0, 1024] ![1024, 1024] inb_S1024x2048_S1024x1024_0_1024)) (View.ld (Val := Elt Ideal) (e' := .bf16) x2 (Rect.unit (s := S512x2048) ![0, 1024] ![256, 1024] inb_S512x2048_S256x1024_0_1024))) (View.ld (Val := Elt Ideal) (e' := .bf16) x3 (Rect.unit (s := S512x2048) ![0, 1024] ![256, 1024] inb_S512x2048_S256x1024_0_1024))⟩,
     ⟨Rect.unit (s := S512x2048) ![0, 0] ![256, 1024] inb_S512x2048_S256x1024_0_0, k0_pay2 (View.ld (Val := Elt Ideal) (e' := .bf16) x0 (Rect.unit (s := S512x1024) ![0, 0] ![256, 1024] inb_S512x1024_S256x1024_0_0)) (View.ld (Val := Elt Ideal) (e' := .bf16) x1 (Rect.unit (s := S512x1024) ![0, 0] ![256, 1024] inb_S512x1024_S256x1024_0_0)) (View.ld (Val := Elt Ideal) (e' := .bf16) x5 (Rect.unit (s := S1024x2048) ![0, 0] ![1024, 1024] inb_S1024x2048_S1024x1024_0_0)) (View.ld (Val := Elt Ideal) (e' := .bf16) x6 (Rect.unit (s := S1024x2048) ![0, 0] ![1024, 1024] inb_S1024x2048_S1024x1024_0_0)) (View.ld (Val := Elt Ideal) (e' := .bf16) x2 (Rect.unit (s := S512x2048) ![0, 0] ![256, 1024] inb_S512x2048_S256x1024_0_0)) (View.ld (Val := Elt Ideal) (e' := .bf16) x3 (Rect.unit (s := S512x2048) ![0, 0] ![256, 1024] inb_S512x2048_S256x1024_0_0))⟩]

theorem tiles1_at (x0 x1 : FVec Ideal S512x1024 .bf16) (x2 x3 : FVec Ideal S512x2048 .bf16) (x5 x6 : FVec Ideal S1024x2048 .bf16) (u : Fin 512) (v : Fin 2048) : View.AllAt (tiles1 x0 x1 x2 x3 x5 x6) (ix2 u v) (mblk x0 x1 x2 x3 x5 x6 u v) := by
  unfold tiles1
  refine View.allAt_cons_unit _ _ _ _ _ ?_ (View.allAt_cons_unit _ _ _ _ _ ?_ (View.allAt_nil _ _))
  · intro x h
    obtain ⟨i, k, rfl⟩ : ∃ (i : Fin 256) (k : Fin 1024), x = ix2 i k := ⟨x 0, x 1, eq_ix2 x⟩
    exact (pay5_at _ _ _ _ _ _ i k).trans (tile x0 x1 x2 x3 x5 x6 0 1024 _ _ _ i k u v (h 0) (h 1))
  · intro x h
    obtain ⟨i, k, rfl⟩ : ∃ (i : Fin 256) (k : Fin 1024), x = ix2 i k := ⟨x 0, x 1, eq_ix2 x⟩
    exact (pay2_at _ _ _ _ _ _ i k).trans (tile x0 x1 x2 x3 x5 x6 0 0 _ _ _ i k u v (h 0) (h 1))

theorem tiles2_at (x0 x1 : FVec Ideal S512x1024 .bf16) (x2 x3 : FVec Ideal S512x2048 .bf16) (x5 x6 : FVec Ideal S1024x2048 .bf16) (u : Fin 512) (v : Fin 2048) : View.AllAt (tiles2 x0 x1 x2 x3 x5 x6) (ix2 u v) (mblk x0 x1 x2 x3 x5 x6 u v) := by
  unfold tiles2
  refine View.allAt_cons_unit _ _ _ _ _ ?_ (View.allAt_cons_unit _ _ _ _ _ ?_ (tiles1_at x0 x1 x2 x3 x5 x6 u v))
  · intro x h
    obtain ⟨i, k, rfl⟩ : ∃ (i : Fin 256) (k : Fin 1024), x = ix2 i k := ⟨x 0, x 1, eq_ix2 x⟩
    exact (pay15_at _ _ _ _ _ _ i k).trans (tile x0 x1 x2 x3 x5 x6 256 1024 _ _ _ i k u v (h 0) (h 1))
  · intro x h
    obtain ⟨i, k, rfl⟩ : ∃ (i : Fin 256) (k : Fin 1024), x = ix2 i k := ⟨x 0, x 1, eq_ix2 x⟩
    exact (pay12_at _ _ _ _ _ _ i k).trans (tile x0 x1 x2 x3 x5 x6 256 0 _ _ _ i k u v (h 0) (h 1))

/-- A half of the block's rows. -/
def half0 (i : Fin 256) : Fin 512 := ⟨i.val, by omega⟩
def half1 (i : Fin 256) : Fin 512 := ⟨256 + i.val, by omega⟩

theorem read1 (arg13 : Memref sig .tc .vmem S512x2048 .bf16) (x0 x1 : FVec Ideal S512x1024 .bf16) (x2 x3 : FVec Ideal S512x2048 .bf16) (x5 x6 : FVec Ideal S1024x2048 .bf16) (i : Fin 256) (k : Fin 2048) :
    arg13.view.readCov (tiles1 x0 x1 x2 x3 x5 x6) (Rect.unit (s := S512x2048) ![0, 0] ![256, 2048] inb_S512x2048_S256x2048_0_0).toLoadRect (ix2 i k)
      = mblk x0 x1 x2 x3 x5 x6 (half0 i) k := by
  have e : (Rect.unit (s := S512x2048) ![0, 0] ![256, 2048] inb_S512x2048_S256x2048_0_0).toLoadRect.idx (ix2 i k) = ix2 (half0 i) k := by
    funext a; apply Fin.ext
    match a with
    | ⟨0, _⟩ => show 0 + 1 * i.val = i.val; omega
    | ⟨1, _⟩ => show 0 + 1 * k.val = k.val; omega
  rw [View.readCov_eq_canon']
  refine (congrArg (View.canon _) e).trans ?_
  refine View.canon_eq_of_allAt _ _ _ ?_ (tiles1_at x0 x1 x2 x3 x5 x6 _ _)
  unfold tiles1
  by_cases hk : k.val < 1024
  · refine ⟨_, List.mem_cons_of_mem _ (List.mem_cons_self), ?_⟩
    refine (Rect.mem_set_unit (inb := inb_S512x2048_S256x1024_0_0)).mpr fun a => ?_
    match a with
    | ⟨0, _⟩ => show 0 ≤ i.val ∧ i.val < 0 + 256; omega
    | ⟨1, _⟩ => show 0 ≤ k.val ∧ k.val < 0 + 1024; omega
  · refine ⟨_, List.mem_cons_self, ?_⟩
    refine (Rect.mem_set_unit (inb := inb_S512x2048_S256x1024_0_1024)).mpr fun a => ?_
    match a with
    | ⟨0, _⟩ => show 0 ≤ i.val ∧ i.val < 0 + 256; omega
    | ⟨1, _⟩ => show 1024 ≤ k.val ∧ k.val < 1024 + 1024; omega

theorem read2 (arg13 : Memref sig .tc .vmem S512x2048 .bf16) (x0 x1 : FVec Ideal S512x1024 .bf16) (x2 x3 : FVec Ideal S512x2048 .bf16) (x5 x6 : FVec Ideal S1024x2048 .bf16) (i : Fin 256) (k : Fin 2048) :
    arg13.view.readCov (tiles2 x0 x1 x2 x3 x5 x6) (Rect.unit (s := S512x2048) ![256, 0] ![256, 2048] inb_S512x2048_S256x2048_256_0).toLoadRect (ix2 i k)
      = mblk x0 x1 x2 x3 x5 x6 (half1 i) k := by
  have e : (Rect.unit (s := S512x2048) ![256, 0] ![256, 2048] inb_S512x2048_S256x2048_256_0).toLoadRect.idx (ix2 i k) = ix2 (half1 i) k := by
    funext a; apply Fin.ext
    match a with
    | ⟨0, _⟩ => show 256 + 1 * i.val = 256 + i.val; omega
    | ⟨1, _⟩ => show 0 + 1 * k.val = k.val; omega
  rw [View.readCov_eq_canon']
  refine (congrArg (View.canon _) e).trans ?_
  refine View.canon_eq_of_allAt _ _ _ ?_ (tiles2_at x0 x1 x2 x3 x5 x6 _ _)
  unfold tiles2
  by_cases hk : k.val < 1024
  · refine ⟨_, List.mem_cons_of_mem _ (List.mem_cons_self), ?_⟩
    refine (Rect.mem_set_unit (inb := inb_S512x2048_S256x1024_256_0)).mpr fun a => ?_
    match a with
    | ⟨0, _⟩ => show 256 ≤ 256 + i.val ∧ 256 + i.val < 256 + 256; omega
    | ⟨1, _⟩ => show 0 ≤ k.val ∧ k.val < 0 + 1024; omega
  · refine ⟨_, List.mem_cons_self, ?_⟩
    refine (Rect.mem_set_unit (inb := inb_S512x2048_S256x1024_256_1024)).mpr fun a => ?_
    match a with
    | ⟨0, _⟩ => show 256 ≤ 256 + i.val ∧ 256 + i.val < 256 + 256; omega
    | ⟨1, _⟩ => show 1024 ≤ k.val ∧ k.val < 1024 + 1024; omega

/-- A block of the sums with x. -/
def x1blk (x0 x1 : FVec Ideal S512x1024 .bf16) (x2 x3 : FVec Ideal S512x2048 .bf16) (x4 : FVec Ideal S512x2048 .f32) (x5 x6 : FVec Ideal S1024x2048 .bf16) (x7 : FVec Ideal S2048x2048 .bf16) (r : Fin 512) (d : Fin 2048) : EReal :=
  x4 (ix2 r d) + ∑ k : Fin 2048, mblk x0 x1 x2 x3 x5 x6 r k * x7 (ix2 k d)

/-- A block of the logits, as the kernel sums them. -/
def ltblk (x0 x1 : FVec Ideal S512x1024 .bf16) (x2 x3 : FVec Ideal S512x2048 .bf16) (x4 : FVec Ideal S512x2048 .f32) (x5 x6 : FVec Ideal S1024x2048 .bf16) (x7 : FVec Ideal S2048x2048 .bf16) (x8 : FVec Ideal S1x2048 .f32) (x9 : FVec Ideal S96x2048 .bf16) (e : Fin 48) (r : Fin 512) : EReal :=
  parts (nrm (fun l => x1blk x0 x1 x2 x3 x4 x5 x6 x7 r l) (fun l => x8 (ix2 0 l))) (fun k => x9 (ix2 (high e) k)) (fun k => x9 (ix2 (low e) k)) (fun k => x9 (ix2 (high e) k))

theorem ldx0 (x4 : FVec Ideal S512x2048 .f32) (i : Fin 256) (d : Fin 2048) :
    View.ld (Val := Elt Ideal) (e' := .f32) x4 (Rect.unit (s := S512x2048) ![0, 0] ![256, 2048] inb_S512x2048_S256x2048_0_0) (ix2 i d) = x4 (ix2 (half0 i) d) := by
  refine View.ld_unit_apply_of _ _ _ _ _ _ fun a => ?_
  match a with
  | ⟨0, _⟩ => show i.val = 0 + i.val; omega
  | ⟨1, _⟩ => show d.val = 0 + d.val; omega

theorem ldx1 (x4 : FVec Ideal S512x2048 .f32) (i : Fin 256) (d : Fin 2048) :
    View.ld (Val := Elt Ideal) (e' := .f32) x4 (Rect.unit (s := S512x2048) ![256, 0] ![256, 2048] inb_S512x2048_S256x2048_256_0) (ix2 i d) = x4 (ix2 (half1 i) d) := by
  refine View.ld_unit_apply_of _ _ _ _ _ _ fun a => ?_
  match a with
  | ⟨0, _⟩ => rfl
  | ⟨1, _⟩ => show d.val = 0 + d.val; omega

theorem ldw (x9 : FVec Ideal S96x2048 .bf16) (e : Fin 48) (k : Fin 2048) :
    View.ld (Val := Elt Ideal) (e' := .bf16) x9 (Rect.unit (s := S96x2048) ![0, 0] ![48, 2048] inb_S96x2048_S48x2048_0_0) (ix2 e k) = x9 (ix2 (high e) k) := by
  refine View.ld_unit_apply_of _ _ _ _ _ _ fun a => ?_
  match a with
  | ⟨0, _⟩ => show e.val = 0 + e.val; omega
  | ⟨1, _⟩ => show k.val = 0 + k.val; omega

section Half
variable (x0 x1 : FVec Ideal S512x1024 .bf16) (x2 x3 : FVec Ideal S512x2048 .bf16) (x4 : FVec Ideal S512x2048 .f32) (x5 x6 : FVec Ideal S1024x2048 .bf16) (x7 : FVec Ideal S2048x2048 .bf16) (x8 : FVec Ideal S1x2048 .f32) (x9 : FVec Ideal S96x2048 .bf16)
  (R : FVec Ideal S256x2048 .bf16)

theorem sum0 (hR : ∀ i k, R (ix2 i k) = mblk x0 x1 x2 x3 x5 x6 (half0 i) k) (i : Fin 256) (d : Fin 2048) :
    k0_pay6 (F := Ideal) (View.ld (Val := Elt Ideal) (e' := .f32) x4 (Rect.unit (s := S512x2048) ![0, 0] ![256, 2048] inb_S512x2048_S256x2048_0_0)) R x7 (ix2 i d) = x1blk x0 x1 x2 x3 x4 x5 x6 x7 (half0 i) d := by
  refine (pay6_at _ _ _ i d).trans (congrArg₂ (· + ·) (ldx0 x4 i d) (Finset.sum_congr rfl fun k _ => ?_))
  rw [hR]

theorem sum1 (hR : ∀ i k, R (ix2 i k) = mblk x0 x1 x2 x3 x5 x6 (half1 i) k) (i : Fin 256) (d : Fin 2048) :
    k0_pay16 (F := Ideal) (View.ld (Val := Elt Ideal) (e' := .f32) x4 (Rect.unit (s := S512x2048) ![256, 0] ![256, 2048] inb_S512x2048_S256x2048_256_0)) R x7 (ix2 i d) = x1blk x0 x1 x2 x3 x4 x5 x6 x7 (half1 i) d := by
  refine (pay16_at _ _ _ i d).trans (congrArg₂ (· + ·) (ldx1 x4 i d) (Finset.sum_congr rfl fun k _ => ?_))
  rw [hR]

theorem logits0 (hR : ∀ i k, R (ix2 i k) = mblk x0 x1 x2 x3 x5 x6 (half0 i) k) (e : Fin 48) (i : Fin 256) :
    k0_pay11 (F := Ideal) (k0_pay9 (View.ld (Val := Elt Ideal) (e' := .f32) x4 (Rect.unit (s := S512x2048) ![0, 0] ![256, 2048] inb_S512x2048_S256x2048_0_0)) R x7 x8)
        (k0_pay10 (View.ld (Val := Elt Ideal) (e' := .f32) x4 (Rect.unit (s := S512x2048) ![0, 0] ![256, 2048] inb_S512x2048_S256x2048_0_0)) R x7 x8 x9)
        (View.ld (Val := Elt Ideal) (e' := .bf16) x9 (Rect.unit (s := S96x2048) ![0, 0] ![48, 2048] inb_S96x2048_S48x2048_0_0)) (ix2 e i) = ltblk x0 x1 x2 x3 x4 x5 x6 x7 x8 x9 e (half0 i) := by
  refine (pay11_at _ _ _ _ _ _ e i).trans ?_
  unfold ltblk
  have hh : (fun k => k0_pay7 (F := Ideal) (View.ld (Val := Elt Ideal) (e' := .f32) x4 (Rect.unit (s := S512x2048) ![0, 0] ![256, 2048] inb_S512x2048_S256x2048_0_0)) R x7 x8 (ix2 i k))
      = nrm (fun l => x1blk x0 x1 x2 x3 x4 x5 x6 x7 (half0 i) l) (fun l => x8 (ix2 0 l)) := by
    funext k
    refine (pay7_at _ _ _ _ i k).trans ?_
    rw [funext fun l => sum0 x0 x1 x2 x3 x4 x5 x6 x7 R hR i l]
  rw [hh]
  exact congrArg (parts _ _ _) (funext fun k => ldw x9 e k)

theorem logits1 (hR : ∀ i k, R (ix2 i k) = mblk x0 x1 x2 x3 x5 x6 (half1 i) k) (e : Fin 48) (i : Fin 256) :
    k0_pay1 (F := Ideal) (k0_pay18 (View.ld (Val := Elt Ideal) (e' := .f32) x4 (Rect.unit (s := S512x2048) ![256, 0] ![256, 2048] inb_S512x2048_S256x2048_256_0)) R x7 x8)
        (k0_pay19 (View.ld (Val := Elt Ideal) (e' := .f32) x4 (Rect.unit (s := S512x2048) ![256, 0] ![256, 2048] inb_S512x2048_S256x2048_256_0)) R x7 x8) x9
        (View.ld (Val := Elt Ideal) (e' := .bf16) x9 (Rect.unit (s := S96x2048) ![0, 0] ![48, 2048] inb_S96x2048_S48x2048_0_0)) (ix2 e i) = ltblk x0 x1 x2 x3 x4 x5 x6 x7 x8 x9 e (half1 i) := by
  refine (pay1_at _ _ _ _ _ _ e i).trans ?_
  unfold ltblk
  have hh : (fun k => k0_pay17 (F := Ideal) (View.ld (Val := Elt Ideal) (e' := .f32) x4 (Rect.unit (s := S512x2048) ![256, 0] ![256, 2048] inb_S512x2048_S256x2048_256_0)) R x7 x8 (ix2 i k))
      = nrm (fun l => x1blk x0 x1 x2 x3 x4 x5 x6 x7 (half1 i) l) (fun l => x8 (ix2 0 l)) := by
    funext k
    refine (pay17_at _ _ _ _ i k).trans ?_
    rw [funext fun l => sum1 x0 x1 x2 x3 x4 x5 x6 x7 R hR i l]
  rw [hh]
  exact congrArg (parts _ _ _) (funext fun k => ldw x9 e k)

end Half

theorem out_10 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S96x2048 .bf16) (harg10 : arg10.IsWhole) (arg11 : Memref sig .tc .vmem S512x2048 .f32) (harg11 : arg11.IsWhole) (arg12 : Memref sig .tc .vmem S48x512 .f32) (harg12 : arg12.IsWhole) (arg13 : Memref sig .tc .vmem S512x2048 .bf16) (harg13 : arg13.IsWhole)
    (x0 x1 : FVec Ideal S512x1024 .bf16) (x2 x3 : FVec Ideal S512x2048 .bf16) (x4 : FVec Ideal S512x2048 .f32) (x5 x6 : FVec Ideal S1024x2048 .bf16) (x7 : FVec Ideal S2048x2048 .bf16) (x8 : FVec Ideal S1x2048 .f32) (x9 : FVec Ideal S96x2048 .bf16) (y : S512x2048.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y = x1blk x0 x1 x2 x3 x4 x5 x6 x7 (y 0) (y 1) := by
  frame_out
  canon_tiles z h
  · obtain ⟨i, d, rfl⟩ : ∃ (i : Fin 256) (d : Fin 2048), z = ix2 i d := ⟨z 0, z 1, eq_ix2 z⟩
    refine (sum1 x0 x1 x2 x3 x4 x5 x6 x7 _ (read2 arg13 x0 x1 x2 x3 x5 x6) i d).trans ?_
    exact congrArg₂ (x1blk x0 x1 x2 x3 x4 x5 x6 x7) (Fin.ext h0.symm) (Fin.ext h1.symm)
  · obtain ⟨i, d, rfl⟩ : ∃ (i : Fin 256) (d : Fin 2048), z = ix2 i d := ⟨z 0, z 1, eq_ix2 z⟩
    refine (sum0 x0 x1 x2 x3 x4 x5 x6 x7 _ (read1 arg13 x0 x1 x2 x3 x5 x6) i d).trans ?_
    exact congrArg₂ (x1blk x0 x1 x2 x3 x4 x5 x6 x7) (Fin.ext h0.symm) (Fin.ext h1.symm)

theorem out_11 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S1024x2048 .bf16) (harg6 : arg6.IsWhole) (arg7 : Memref sig .tc .vmem S1024x2048 .bf16) (harg7 : arg7.IsWhole) (arg8 : Memref sig .tc .vmem S2048x2048 .bf16) (harg8 : arg8.IsWhole) (arg9 : Memref sig .tc .vmem S1x2048 .f32) (harg9 : arg9.IsWhole) (arg10 : Memref sig .tc .vmem S96x2048 .bf16) (harg10 : arg10.IsWhole) (arg11 : Memref sig .tc .vmem S512x2048 .f32) (harg11 : arg11.IsWhole) (arg12 : Memref sig .tc .vmem S48x512 .f32) (harg12 : arg12.IsWhole) (arg13 : Memref sig .tc .vmem S512x2048 .bf16) (harg13 : arg13.IsWhole)
    (x0 x1 : FVec Ideal S512x1024 .bf16) (x2 x3 : FVec Ideal S512x2048 .bf16) (x4 : FVec Ideal S512x2048 .f32) (x5 x6 : FVec Ideal S1024x2048 .bf16) (x7 : FVec Ideal S2048x2048 .bf16) (x8 : FVec Ideal S1x2048 .f32) (x9 : FVec Ideal S96x2048 .bf16) (y : S48x512.Idx) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 y = ltblk x0 x1 x2 x3 x4 x5 x6 x7 x8 x9 (y 0) (y 1) := by
  frame_out
  canon_tiles z h
  · obtain ⟨e, i, rfl⟩ : ∃ (e : Fin 48) (i : Fin 256), z = ix2 e i := ⟨z 0, z 1, eq_ix2 z⟩
    refine (logits1 x0 x1 x2 x3 x4 x5 x6 x7 x8 x9 _ (read2 arg13 x0 x1 x2 x3 x5 x6) e i).trans ?_
    exact congrArg₂ (ltblk x0 x1 x2 x3 x4 x5 x6 x7 x8 x9) (Fin.ext h0.symm) (Fin.ext h1.symm)
  · obtain ⟨e, i, rfl⟩ : ∃ (e : Fin 48) (i : Fin 256), z = ix2 e i := ⟨z 0, z 1, eq_ix2 z⟩
    refine (logits0 x0 x1 x2 x3 x4 x5 x6 x7 x8 x9 _ (read1 arg13 x0 x1 x2 x3 x5 x6) e i).trans ?_
    exact congrArg₂ (ltblk x0 x1 x2 x3 x4 x5 x6 x7 x8 x9) (Fin.ext h0.symm) (Fin.ext h1.symm)

end Cert.Kernel5Ideal.Out

end
-- ==== Proof.OutFinal.lean ====
/- The two arrays the output projection leaves, in terms of the arrays as launched. -/
module

public import proofs.«01_k».proof.Proof.OutFrame

@[expose] public section

set_option maxRecDepth 16384

noncomputable section

namespace Cert.Kernel5Ideal.Out

open Idealize.ShloMosaic Idealize.ShloMosaic.TcCoe Idealize.ShloMosaic.Tactic Idealize.SL.Sem
open Cert.Kernel5Ideal Cert.Kernel5Ideal.Gen Cert.Hidden Cert.Merge

variable (m : (ℓ : Loc nD τ sig) → Buf (Elt Ideal) ℓ) (c : Dev nD)

/-! ### The arrays at the region's entry -/

abbrev A0 : S16384x1024.Idx → EReal := m (c, Proc.devRef .tc main_arg0)
abbrev A1 : S16384x1024.Idx → EReal := m (c, Proc.devRef .tc main_arg1)
abbrev A2 : S16384x10240.Idx → EReal := m (c, Proc.devRef .tc main_arg2)
abbrev A3 : S16384x2048.Idx → EReal := m (c, Proc.devRef .tc main_arg3)
abbrev A4 : S1x1024x2048.Idx → EReal := m (c, Proc.devRef .tc main_arg4)
abbrev A5 : S1x1024x2048.Idx → EReal := m (c, Proc.devRef .tc main_arg5)
abbrev A6 : S1x2048x2048.Idx → EReal := m (c, Proc.devRef .tc main_arg6)
abbrev A7 : S1x2048.Idx → EReal := m (c, Proc.devRef .tc main_arg7)
abbrev A8 : S1x2048x4.Idx → EReal := m (c, Proc.devRef .tc main_arg8)
abbrev A9 : S1x2048x32.Idx → EReal := m (c, Proc.devRef .tc main_arg9)

theorem V_wd : (V m c main_v12 : S1024x2048.Idx → EReal) = shapeCast S1024x2048 (A4 m c) shapeCasts_S1x1024x2048_S1024x2048 := by
  unfold V
  simp only [hostOps0, List.flatten_cons, List.flatten_nil, List.append_nil, List.cons_append, List.nil_append]
  after_results <;> rfl

theorem V_wn : (V m c main_v14 : S1024x2048.Idx → EReal) = shapeCast S1024x2048 (A5 m c) shapeCasts_S1x1024x2048_S1024x2048 := by
  unfold V
  simp only [hostOps0, List.flatten_cons, List.flatten_nil, List.append_nil, List.cons_append, List.nil_append]
  after_results <;> rfl

theorem V_wo : (V m c main_v16 : S2048x2048.Idx → EReal) = shapeCast S2048x2048 (A6 m c) shapeCasts_S1x2048x2048_S2048x2048 := by
  unfold V
  simp only [hostOps0, List.flatten_cons, List.flatten_nil, List.append_nil, List.cons_append, List.nil_append]
  after_results <;> rfl

theorem V_gain : (V m c main_v18 : S1x2048.Idx → EReal) = A7 m c := by
  unfold V
  simp only [hostOps0, List.flatten_cons, List.flatten_nil, List.append_nil, List.cons_append, List.nil_append]
  after_results
  show shapeCast S1x2048 (shapeCast S2048 (A7 m c) shapeCasts_S1x2048_S2048) shapeCasts_S2048_S1x2048 = _
  exact shapeCast_shapeCast _ _ _

/-- The rows of the router as the host stacks them. -/
def stack (a : S1x2048x32.Idx → EReal) (b : S1x2048x4.Idx → EReal) : S48x2048.Idx → EReal :=
  concatenate S48x2048 0 [⟨S32x2048, transpose S32x2048 [1, 0] (shapeCast S2048x32 a shapeCasts_S1x2048x32_S2048x32) transposes_S2048x32_S32x2048_1_0⟩,
    ⟨S4x2048, transpose S4x2048 [1, 0] (shapeCast S2048x4 b shapeCasts_S1x2048x4_S2048x4) transposes_S2048x4_S4x2048_1_0⟩,
    ⟨S12x2048, broadcastInDim S12x2048 ![] bcast_S_S12x2048 (constant (F := Ideal) S_ .f32 0x00000000#32)⟩] concatenates_S32x2048_S4x2048_S12x2048_S48x2048_d0

theorem stack_at (e : Fin 48) (k : Fin 2048) : stack (A9 m c) (A8 m c) (ix2 e k) = wAt (A8 m c) (A9 m c) e k := by
  unfold stack
  by_cases h : e.val < 32
  · refine (concatenate_apply_piece (t := S48x2048) 0 _ _ (ix2 e k) 0 (by show 0 < 3; decide) S32x2048 _ rfl rfl 0 rfl (ix2 ⟨e.val, h⟩ k) ?_ ?_).trans ?_
    · intro b hb
      match b with
      | ⟨0, _⟩ => exact absurd rfl hb
      | ⟨1, _⟩ => rfl
    · show 0 + e.val = e.val; omega
    · rw [wAt, dif_pos h]
      pointwise
  · by_cases h' : e.val < 36
    · refine (concatenate_apply_piece (t := S48x2048) 0 _ _ (ix2 e k) 1 (by show 1 < 3; decide) S4x2048 _ rfl rfl 32 rfl (ix2 ⟨e.val - 32, by omega⟩ k) ?_ ?_).trans ?_
      · intro b hb
        match b with
        | ⟨0, _⟩ => exact absurd rfl hb
        | ⟨1, _⟩ => rfl
      · show 32 + (e.val - 32) = e.val; omega
      · rw [wAt, dif_neg h, dif_pos h']
        pointwise
    · refine (concatenate_apply_piece (t := S48x2048) 0 _ _ (ix2 e k) 2 (by show 2 < 3; decide) S12x2048 _ rfl rfl 36 rfl (ix2 ⟨e.val - 36, by omega⟩ k) ?_ ?_).trans ?_
      · intro b hb
        match b with
        | ⟨0, _⟩ => exact absurd rfl hb
        | ⟨1, _⟩ => rfl
      · show 36 + (e.val - 36) = e.val; omega
      · rw [wAt, dif_neg h, dif_neg h']
        exact Ideal.ofBits_zero_f32

theorem V_router : (V m c main_v10 : S96x2048.Idx → EReal)
    = concatenate S96x2048 0 [⟨S48x2048, stack (A9 m c) (A8 m c)⟩, ⟨S48x2048, fun i => stack (A9 m c) (A8 m c) i - stack (A9 m c) (A8 m c) i⟩]
        concatenates_S48x2048_S48x2048_S96x2048_d0 := by
  unfold V
  simp only [hostOps0, List.flatten_cons, List.flatten_nil, List.append_nil, List.cons_append, List.nil_append]
  after_results <;> rfl

theorem high_at (e : Fin 48) (k : Fin 2048) : (V m c main_v10 : S96x2048.Idx → EReal) (ix2 (high e) k) = wAt (A8 m c) (A9 m c) e k := by
  rw [V_router]
  refine (concatenate_pair_apply_left (t := S96x2048) (s₁ := S48x2048) (s₂ := S48x2048) 0 _ _ _ (ix2 (high e) k) rfl (ix2 (n0 := 48) (n1 := 2048) e k) fun b => ?_).trans (stack_at m c e k)
  match b with
  | ⟨0, _⟩ => rfl
  | ⟨1, _⟩ => rfl

theorem low_at (e : Fin 48) (k : Fin 2048) : (V m c main_v10 : S96x2048.Idx → EReal) (ix2 (low e) k)
    = wAt (A8 m c) (A9 m c) e k - wAt (A8 m c) (A9 m c) e k := by
  rw [V_router]
  refine (concatenate_pair_apply_right (t := S96x2048) (s₁ := S48x2048) (s₂ := S48x2048) 0 _ _ _ (ix2 (low e) k) rfl rfl (ix2 (n0 := 48) (n1 := 2048) e k) (fun b hb => ?_) ?_).trans ?_
  · match b with
    | ⟨0, _⟩ => exact absurd rfl hb
    | ⟨1, _⟩ => rfl
  · show e.val + 48 = 48 + e.val; omega
  · rw [stack_at]

/-! ### The blocks a point reads -/

theorem idx0 : ∀ t : Fin grid0.N, win0_0.index t (0 : Fin 2) = t.val ∧ win0_0.index t (1 : Fin 2) = 0 := by decide +kernel
theorem idx1 : ∀ t : Fin grid0.N, win0_1.index t (0 : Fin 2) = t.val ∧ win0_1.index t (1 : Fin 2) = 0 := by decide +kernel
theorem idx2' : ∀ t : Fin grid0.N, win0_2.index t (0 : Fin 2) = t.val ∧ win0_2.index t (1 : Fin 2) = 3 := by decide +kernel
theorem idx3' : ∀ t : Fin grid0.N, win0_3.index t (0 : Fin 2) = t.val ∧ win0_3.index t (1 : Fin 2) = 4 := by decide +kernel
theorem idx4 : ∀ t : Fin grid0.N, win0_4.index t (0 : Fin 2) = t.val ∧ win0_4.index t (1 : Fin 2) = 0 := by decide +kernel
theorem idx5 : ∀ t : Fin grid0.N, win0_5.index t (0 : Fin 2) = 0 ∧ win0_5.index t (1 : Fin 2) = 0 := by decide +kernel
theorem idx6 : ∀ t : Fin grid0.N, win0_6.index t (0 : Fin 2) = 0 ∧ win0_6.index t (1 : Fin 2) = 0 := by decide +kernel
theorem idx7 : ∀ t : Fin grid0.N, win0_7.index t (0 : Fin 2) = 0 ∧ win0_7.index t (1 : Fin 2) = 0 := by decide +kernel
theorem idx8 : ∀ t : Fin grid0.N, win0_8.index t (0 : Fin 2) = 0 ∧ win0_8.index t (1 : Fin 2) = 0 := by decide +kernel
theorem idx9 : ∀ t : Fin grid0.N, win0_9.index t (0 : Fin 2) = 0 ∧ win0_9.index t (1 : Fin 2) = 0 := by decide +kernel
theorem idx10 : ∀ t : Fin grid0.N, win0_10.index t (0 : Fin 2) = t.val ∧ win0_10.index t (1 : Fin 2) = 0 := by decide +kernel
theorem idx11 : ∀ t : Fin grid0.N, win0_11.index t (0 : Fin 2) = 0 ∧ win0_11.index t (1 : Fin 2) = t.val := by decide +kernel
theorem flush10 : ∀ t : Fin grid0.N, win0_10.flush t = true := by decide +kernel
theorem flush11 : ∀ t : Fin grid0.N, win0_11.flush t = true := by decide +kernel

theorem lt32 (t : Fin cfg0.N) : t.val < 32 := lt_of_lt_of_eq t.isLt (show cfg0.N = 32 from N_0)

/-- The row of a point's block. -/
def row (t : Fin cfg0.N) (i : Fin 512) : Fin 16384 := ⟨t.val * 512 + i.val, by have := lt32 t; omega⟩

theorem in0 (t : Fin cfg0.N) (i : Fin 512) (k : Fin 1024) : (iblk m c 0 t : S512x1024.Idx → EReal) (ix2 i k) = A0 m c (ix2 (row t i) k) := by
  obtain ⟨e0, e1⟩ := idx0 t
  rw [A0, ← V_main_arg0 m c]
  refine congrArg (V m c main_arg0) (idx2 _ _ _ ?_ ?_)
  · show win0_0.index t (0 : Fin 2) * 512 + 1 * i.val = t.val * 512 + i.val; rw [e0]; omega
  · show win0_0.index t (1 : Fin 2) * 1024 + 1 * k.val = k.val; rw [e1]; omega

theorem in1 (t : Fin cfg0.N) (i : Fin 512) (k : Fin 1024) : (iblk m c 1 t : S512x1024.Idx → EReal) (ix2 i k) = A1 m c (ix2 (row t i) k) := by
  obtain ⟨e0, e1⟩ := idx1 t
  rw [A1, ← V_main_arg1 m c]
  refine congrArg (V m c main_arg1) (idx2 _ _ _ ?_ ?_)
  · show win0_1.index t (0 : Fin 2) * 512 + 1 * i.val = t.val * 512 + i.val; rw [e0]; omega
  · show win0_1.index t (1 : Fin 2) * 1024 + 1 * k.val = k.val; rw [e1]; omega

theorem in2 (t : Fin cfg0.N) (i : Fin 512) (k : Fin 2048) : (iblk m c 2 t : S512x2048.Idx → EReal) (ix2 i k) = A2 m c (ix2 (row t i) (colA k)) := by
  obtain ⟨e0, e1⟩ := idx2' t
  rw [A2, ← V_main_arg2 m c]
  refine congrArg (V m c main_arg2) (idx2 _ _ _ ?_ ?_)
  · show win0_2.index t (0 : Fin 2) * 512 + 1 * i.val = t.val * 512 + i.val; rw [e0]; omega
  · show win0_2.index t (1 : Fin 2) * 2048 + 1 * k.val = 6144 + k.val; rw [e1]; omega

theorem in3 (t : Fin cfg0.N) (i : Fin 512) (k : Fin 2048) : (iblk m c 3 t : S512x2048.Idx → EReal) (ix2 i k) = A2 m c (ix2 (row t i) (colB k)) := by
  obtain ⟨e0, e1⟩ := idx3' t
  rw [A2, ← V_main_arg2 m c]
  refine congrArg (V m c main_arg2) (idx2 _ _ _ ?_ ?_)
  · show win0_3.index t (0 : Fin 2) * 512 + 1 * i.val = t.val * 512 + i.val; rw [e0]; omega
  · show win0_3.index t (1 : Fin 2) * 2048 + 1 * k.val = 8192 + k.val; rw [e1]; omega

theorem in4 (t : Fin cfg0.N) (i : Fin 512) (k : Fin 2048) : (iblk m c 4 t : S512x2048.Idx → EReal) (ix2 i k) = A3 m c (ix2 (row t i) k) := by
  obtain ⟨e0, e1⟩ := idx4 t
  rw [A3, ← V_main_arg3 m c]
  refine congrArg (V m c main_arg3) (idx2 _ _ _ ?_ ?_)
  · show win0_4.index t (0 : Fin 2) * 512 + 1 * i.val = t.val * 512 + i.val; rw [e0]; omega
  · show win0_4.index t (1 : Fin 2) * 2048 + 1 * k.val = k.val; rw [e1]; omega

/-- A matrix given with one leading unit axis. -/
theorem lead {n0 n1 : ℕ} (x : (⟨3, ![1, n0, n1]⟩ : Shape).Idx → EReal) (h : (⟨3, ![1, n0, n1]⟩ : Shape).ShapeCasts ⟨2, ![n0, n1]⟩) (q : Fin n0) (k : Fin n1) :
    shapeCast ⟨2, ![n0, n1]⟩ x h (ix2 q k) = x (ix3 0 q k) := by
  refine shapeCast_apply x h (ix2 q k) (ix3 0 q k) ?_
  rewrite [Shape.rowMajor_val_three, Shape.rowMajor_val_two]
  show (0 * n0 + q.val) * n1 + k.val = q.val * n1 + k.val
  rw [Nat.zero_mul, Nat.zero_add]

theorem in5 (t : Fin cfg0.N) (q : Fin 1024) (k : Fin 2048) : (iblk m c 5 t : S1024x2048.Idx → EReal) (ix2 q k) = A4 m c (ix3 0 q k) := by
  obtain ⟨e0, e1⟩ := idx5 t
  refine Eq.trans (congrArg (V m c main_v12) (idx2 _ q k ?_ ?_)) ((congrFun (V_wd m c) _).trans (lead _ _ q k))
  · show win0_5.index t (0 : Fin 2) * 1024 + 1 * q.val = q.val; rw [e0]; omega
  · show win0_5.index t (1 : Fin 2) * 2048 + 1 * k.val = k.val; rw [e1]; omega

theorem in6 (t : Fin cfg0.N) (q : Fin 1024) (k : Fin 2048) : (iblk m c 6 t : S1024x2048.Idx → EReal) (ix2 q k) = A5 m c (ix3 0 q k) := by
  obtain ⟨e0, e1⟩ := idx6 t
  refine Eq.trans (congrArg (V m c main_v14) (idx2 _ q k ?_ ?_)) ((congrFun (V_wn m c) _).trans (lead _ _ q k))
  · show win0_6.index t (0 : Fin 2) * 1024 + 1 * q.val = q.val; rw [e0]; omega
  · show win0_6.index t (1 : Fin 2) * 2048 + 1 * k.val = k.val; rw [e1]; omega

theorem in7 (t : Fin cfg0.N) (q k : Fin 2048) : (iblk m c 7 t : S2048x2048.Idx → EReal) (ix2 q k) = A6 m c (ix3 0 q k) := by
  obtain ⟨e0, e1⟩ := idx7 t
  refine Eq.trans (congrArg (V m c main_v16) (idx2 _ q k ?_ ?_)) ((congrFun (V_wo m c) _).trans (lead _ _ q k))
  · show win0_7.index t (0 : Fin 2) * 2048 + 1 * q.val = q.val; rw [e0]; omega
  · show win0_7.index t (1 : Fin 2) * 2048 + 1 * k.val = k.val; rw [e1]; omega

theorem in8 (t : Fin cfg0.N) (k : Fin 2048) : (iblk m c 8 t : S1x2048.Idx → EReal) (ix2 0 k) = A7 m c (ix2 0 k) := by
  obtain ⟨e0, e1⟩ := idx8 t
  refine Eq.trans (congrArg (V m c main_v18) (idx2 _ 0 k ?_ ?_)) (congrFun (V_gain m c) _)
  · show win0_8.index t (0 : Fin 2) * 1 + 1 * 0 = 0; rw [e0]
  · show win0_8.index t (1 : Fin 2) * 2048 + 1 * k.val = k.val; rw [e1]; omega

theorem in9 (t : Fin cfg0.N) (e : Fin 96) (k : Fin 2048) : (iblk m c 9 t : S96x2048.Idx → EReal) (ix2 e k) = (V m c main_v10 : S96x2048.Idx → EReal) (ix2 e k) := by
  obtain ⟨e0, e1⟩ := idx9 t
  refine congrArg (V m c main_v10) (idx2 _ e k ?_ ?_)
  · show win0_9.index t (0 : Fin 2) * 96 + 1 * e.val = e.val; rw [e0]; omega
  · show win0_9.index t (1 : Fin 2) * 2048 + 1 * k.val = k.val; rw [e1]; omega

/-! ### The whole results -/

/-- The sum with x, -/
abbrev resX : Buf (Elt Ideal) ((c : Thread nD τ).loc main_v19_0) := fun i : S16384x2048.Idx =>
  x1At (A0 m c) (A1 m c) (A2 m c) (A3 m c) (A4 m c) (A5 m c) (A6 m c) (i 0) (i 1)

/-- and the logits as the kernel sums them. -/
abbrev resL : Buf (Elt Ideal) ((c : Thread nD τ).loc main_v19_1) := fun i : S48x16384.Idx =>
  parts (hAt (A0 m c) (A1 m c) (A2 m c) (A3 m c) (A4 m c) (A5 m c) (A6 m c) (A7 m c) (i 1)) (wAt (A8 m c) (A9 m c) (i 0))
    (fun k => wAt (A8 m c) (A9 m c) (i 0) k - wAt (A8 m c) (A9 m c) (i 0) k) (wAt (A8 m c) (A9 m c) (i 0))

theorem x1_at (t : Fin cfg0.N) (i : Fin 512) (d : Fin 2048) :
    x1blk (iblk m c 0 t) (iblk m c 1 t) (iblk m c 2 t) (iblk m c 3 t) (iblk m c 4 t) (iblk m c 5 t) (iblk m c 6 t) (iblk m c 7 t) i d
      = x1At (A0 m c) (A1 m c) (A2 m c) (A3 m c) (A4 m c) (A5 m c) (A6 m c) (row t i) d := by
  unfold x1blk x1At sumrow
  refine congrArg₂ (· + ·) (in4 m c t i d) (Finset.sum_congr rfl fun k _ => congrArg₂ (· * ·) ?_ (in7 m c t k d))
  unfold mblk
  exact mrg_congr (funext fun q => in0 m c t i q) (funext fun q => in1 m c t i q) (in2 m c t i k) (in3 m c t i k)
    (funext fun q => in5 m c t q k) (funext fun q => in6 m c t q k)

theorem parts_congr {h h' wh wh' wl wl' wc wc' : Fin 2048 → EReal} (e0 : h = h') (e1 : wh = wh') (e2 : wl = wl') (e3 : wc = wc') :
    parts h wh wl wc = parts h' wh' wl' wc' := by
  subst e0 e1 e2 e3
  rfl

theorem lt_at (t : Fin cfg0.N) (e : Fin 48) (i : Fin 512) :
    ltblk (iblk m c 0 t) (iblk m c 1 t) (iblk m c 2 t) (iblk m c 3 t) (iblk m c 4 t) (iblk m c 5 t) (iblk m c 6 t) (iblk m c 7 t) (iblk m c 8 t) (iblk m c 9 t) e i
      = parts (hAt (A0 m c) (A1 m c) (A2 m c) (A3 m c) (A4 m c) (A5 m c) (A6 m c) (A7 m c) (row t i)) (wAt (A8 m c) (A9 m c) e)
          (fun k => wAt (A8 m c) (A9 m c) e k - wAt (A8 m c) (A9 m c) e k) (wAt (A8 m c) (A9 m c) e) := by
  unfold ltblk hAt
  refine parts_congr (congrArg₂ nrm (funext fun l => x1_at m c t i l) (funext fun l => in8 m c t l)) (funext fun k => ?_) (funext fun k => ?_) (funext fun k => ?_)
  · exact (in9 m c t (high e) k).trans (high_at m c e k)
  · exact (in9 m c t (low e) k).trans (low_at m c e k)
  · exact (in9 m c t (high e) k).trans (high_at m c e k)

theorem flushed10_eq (t : Fin cfg0.N) : (dats m 0 c).flushed 10 t = ((cfg0.win 10).blk t).view.read (Elt Ideal) (resX m c) := by
  rw [Value.flushed10_A]
  funext j
  obtain ⟨i, d, rfl⟩ : ∃ (i : Fin 512) (d : Fin 2048), j = ix2 i d := ⟨j 0, j 1, eq_ix2 j⟩
  obtain ⟨e0, e1⟩ := idx10 t
  have hE : ((cfg0.win 10).blk t).view.emb (ix2 i d) = ix2 (row t i) d := by
    refine idx2 _ _ _ ?_ ?_
    · show win0_10.index t (0 : Fin 2) * 512 + 1 * i.val = t.val * 512 + i.val; rw [e0]; omega
    · show win0_10.index t (1 : Fin 2) * 2048 + 1 * d.val = d.val; rw [e1]; omega
  refine Eq.trans (out_10 c _ _ _ _ _ _ _ _ _ _ _ _ _ _ _ _ _ _ _ _ _ _ _ _ _ _ _ _ _ _ _ _ _ _ _ _ _ (ix2 i d)) ((x1_at m c t i d).trans ?_)
  show resX m c (ix2 (row t i) d) = resX m c (((cfg0.win 10).blk t).view.emb (ix2 i d))
  rw [hE]

theorem flushed11_eq (t : Fin cfg0.N) : (dats m 0 c).flushed 11 t = ((cfg0.win 11).blk t).view.read (Elt Ideal) (resL m c) := by
  rw [Value.flushed11_A]
  funext j
  obtain ⟨e, i, rfl⟩ : ∃ (e : Fin 48) (i : Fin 512), j = ix2 e i := ⟨j 0, j 1, eq_ix2 j⟩
  obtain ⟨e0, e1⟩ := idx11 t
  have hE : ((cfg0.win 11).blk t).view.emb (ix2 e i) = ix2 e (row t i) := by
    refine idx2 _ _ _ ?_ ?_
    · show win0_11.index t (0 : Fin 2) * 48 + 1 * e.val = e.val; rw [e0]; omega
    · show win0_11.index t (1 : Fin 2) * 512 + 1 * i.val = t.val * 512 + i.val; rw [e1]; omega
  refine Eq.trans (out_11 c _ _ _ _ _ _ _ _ _ _ _ _ _ _ _ _ _ _ _ _ _ _ _ _ _ _ _ _ _ _ _ _ _ _ _ _ _ (ix2 e i)) ((lt_at m c t e i).trans ?_)
  show resL m c (ix2 e (row t i)) = resL m c (((cfg0.win 11).blk t).view.emb (ix2 e i))
  rw [hE]

theorem mem_blk10 (t : Fin cfg0.N) (i : S16384x2048.Idx) :
    i ∈ ((cfg0.win 10).blk t).view.set ↔ ∀ a : Fin 2, win0_10.index t a * S512x2048.size a ≤ (i a).val ∧ (i a).val < win0_10.index t a * S512x2048.size a + S512x2048.size a := by
  show i ∈ ((View.whole main_v19_0).slice (win0_10.rect t)).set ↔ _
  rw [View.set_slice_whole, Rect.mem_set_unit]
  exact Iff.rfl

theorem mem_blk11 (t : Fin cfg0.N) (i : S48x16384.Idx) :
    i ∈ ((cfg0.win 11).blk t).view.set ↔ ∀ a : Fin 2, win0_11.index t a * S48x512.size a ≤ (i a).val ∧ (i a).val < win0_11.index t a * S48x512.size a + S48x512.size a := by
  show i ∈ ((View.whole main_v19_1).slice (win0_11.rect t)).set ↔ _
  rw [View.set_slice_whole, Rect.mem_set_unit]
  exact Iff.rfl

theorem finalX : (dats m 0 c).arrAt 10 cfg0.N = resX m c :=
  (dats m 0 c).arrAt_eq_of_cover 10 (resX m c) (fun t _ => flushed10_eq m c t) fun i => by
    have h0 : (i 0).val < 16384 := (i 0).isLt
    have h1 : (i 1).val < 2048 := (i 1).isLt
    have hN : cfg0.N = 32 := N_0
    let t : Fin cfg0.N := ⟨(i 0).val / 512, by omega⟩
    obtain ⟨e0, e1⟩ := idx10 t
    have ht : t.val = (i 0).val / 512 := rfl
    refine ⟨t, flush10 t, (mem_blk10 t i).2 fun a => ?_⟩
    match a with
    | ⟨0, _⟩ => show win0_10.index t (0 : Fin 2) * 512 ≤ (i 0).val ∧ (i 0).val < win0_10.index t (0 : Fin 2) * 512 + 512; rw [e0]; omega
    | ⟨1, _⟩ => show win0_10.index t (1 : Fin 2) * 2048 ≤ (i 1).val ∧ (i 1).val < win0_10.index t (1 : Fin 2) * 2048 + 2048; rw [e1]; omega

theorem finalL : (dats m 0 c).arrAt 11 cfg0.N = resL m c :=
  (dats m 0 c).arrAt_eq_of_cover 11 (resL m c) (fun t _ => flushed11_eq m c t) fun i => by
    have h0 : (i 0).val < 48 := (i 0).isLt
    have h1 : (i 1).val < 16384 := (i 1).isLt
    have hN : cfg0.N = 32 := N_0
    let t : Fin cfg0.N := ⟨(i 1).val / 512, by omega⟩
    obtain ⟨e0, e1⟩ := idx11 t
    have ht : t.val = (i 1).val / 512 := rfl
    refine ⟨t, flush11 t, (mem_blk11 t i).2 fun a => ?_⟩
    match a with
    | ⟨0, _⟩ => show win0_11.index t (0 : Fin 2) * 48 ≤ (i 0).val ∧ (i 0).val < win0_11.index t (0 : Fin 2) * 48 + 48; rw [e0]; omega
    | ⟨1, _⟩ => show win0_11.index t (1 : Fin 2) * 512 ≤ (i 1).val ∧ (i 1).val < win0_11.index t (1 : Fin 2) * 512 + 512; rw [e1]; omega

end Cert.Kernel5Ideal.Out

end
-- ==== Proof.OutRef.lean ====
/- The reference of the output projection, at an index. -/
module

public import proofs.«01_k».proof.Proof.Gen.Reference5Ideal.Read
public import proofs.«01_k».proof.Proof.OutSpec
public import Idealize.ShloMosaic.Lib.IdealHost

@[expose] public section

set_option maxRecDepth 16384

noncomputable section

namespace Cert.Reference5Ideal.Out

open Idealize.ShloMosaic Idealize.ShloMosaic.TcCoe Idealize.ShloMosaic.Tactic
open Cert.Reference5Ideal Cert.Reference5Ideal.Gen Cert.Reference5Ideal.Read Cert.Hidden Cert.Merge

variable (x0 x1 : S16384x1024.Idx → EReal) (x2 : S16384x10240.Idx → EReal) (x3 : S16384x2048.Idx → EReal) (x4 x5 : S1x1024x2048.Idx → EReal)
  (x6 : S1x2048x2048.Idx → EReal) (x7 : S1x2048.Idx → EReal) (x8 : S1x2048x4.Idx → EReal) (x9 : S1x2048x32.Idx → EReal)

theorem gateA_at (r : Fin 16384) (k : Fin 2048) : val_main_v15 (F := Ideal) x2 (ix2 r k) = Ideal.logistic (x2 (ix2 r (colA k))) := by
  rw [val_main_v15_apply, val_main_v14_apply, val_main_v13_apply, val_main_v12_apply, val_main_v11_apply, val_main_v10_apply, val_main_v1_apply, val_main_v0_apply,
    val_main_cst_apply, val_main_cst_0_apply, idx2 (idx_main_v0 (ix2 r k)) r (colA k) rfl rfl]
  have one : (FloatOps.ofBits (F := Ideal) .f32 0x3F800000#32 : EReal) = 1 := Ideal.ofBits_one_f32
  rw [one]
  rfl

theorem gateB_at (r : Fin 16384) (k : Fin 2048) : val_main_v22 (F := Ideal) x2 (ix2 r k) = Ideal.logistic (x2 (ix2 r (colB k))) := by
  rw [val_main_v22_apply, val_main_v21_apply, val_main_v20_apply, val_main_v19_apply, val_main_v18_apply, val_main_v17_apply, val_main_v3_apply, val_main_v2_apply,
    val_main_cst_1_apply, val_main_cst_2_apply, idx2 (idx_main_v2 (ix2 r k)) r (colB k) rfl rfl]
  have one : (FloatOps.ofBits (F := Ideal) .f32 0x3F800000#32 : EReal) = 1 := Ideal.ofBits_one_f32
  rw [one]
  rfl

theorem dotA_at (r : Fin 16384) (k : Fin 2048) : val_main_v6 (F := Ideal) x0 x4 (ix2 r k) = ∑ q : Fin 1024, x0 (ix2 r q) * x4 (ix3 0 q k) := by
  refine (val_main_v6_apply x0 x4 _).trans (Finset.sum_congr rfl fun q _ => congrArg₂ (· * ·) ?_ ?_)
  · exact congrArg x0 (idx2 (lidx_main_v6 (ix2 r k) q) r q rfl rfl)
  · rw [val_main_v5_apply]
    refine congrArg x4 (idx3 _ 0 q k rfl ?_ ?_)
    · show (q.val * 2048 + k.val) / 2048 % 1024 = q.val; omega
    · show (q.val * 2048 + k.val) % 2048 = k.val; omega

theorem dotB_at (r : Fin 16384) (k : Fin 2048) : val_main_v9 (F := Ideal) x1 x5 (ix2 r k) = ∑ q : Fin 1024, x1 (ix2 r q) * x5 (ix3 0 q k) := by
  refine (val_main_v9_apply x1 x5 _).trans (Finset.sum_congr rfl fun q _ => congrArg₂ (· * ·) ?_ ?_)
  · exact congrArg x1 (idx2 (lidx_main_v9 (ix2 r k) q) r q rfl rfl)
  · rw [val_main_v8_apply]
    refine congrArg x5 (idx3 _ 0 q k rfl ?_ ?_)
    · show (q.val * 2048 + k.val) / 2048 % 1024 = q.val; omega
    · show (q.val * 2048 + k.val) % 2048 = k.val; omega

theorem merged_at (r : Fin 16384) (k : Fin 2048) : val_main_v24 (F := Ideal) x0 x1 x2 x4 x5 (ix2 r k)
    = mrg (fun q => x0 (ix2 r q)) (fun q => x1 (ix2 r q)) (x2 (ix2 r (colA k))) (x2 (ix2 r (colB k))) (fun q => x4 (ix3 0 q k)) (fun q => x5 (ix3 0 q k)) := by
  rw [val_main_v24_apply, val_main_v16_apply, val_main_v23_apply, gateA_at, gateB_at, dotA_at, dotB_at]
  rfl

theorem sum_at (r : Fin 16384) (d : Fin 2048) : val_main_v27 (F := Ideal) x0 x1 x2 x3 x4 x5 x6 (ix2 r d) = x1At x0 x1 x2 x3 x4 x5 x6 r d := by
  rw [val_main_v27_apply]
  refine congrArg (x3 (ix2 r d) + ·) ((val_main_v26_apply x0 x1 x2 x4 x5 x6 _).trans (Finset.sum_congr rfl fun k _ => congrArg₂ (· * ·) ?_ ?_))
  · exact (congrArg (val_main_v24 (F := Ideal) x0 x1 x2 x4 x5) (idx2 (lidx_main_v26 (ix2 r d) k) r k rfl rfl)).trans (merged_at x0 x1 x2 x4 x5 r k)
  · rw [val_main_v25_apply]
    refine congrArg x6 (idx3 _ 0 k d rfl ?_ ?_)
    · show (k.val * 2048 + d.val) / 2048 % 2048 = k.val; omega
    · show (k.val * 2048 + d.val) % 2048 = d.val; omega

/-- The reference's root mean square of a row. -/
theorem rms_at (r : Fin 16384) :
    val_main_v36 (F := Ideal) x0 x1 x2 x3 x4 x5 x6 (ix2 r 0)
      = Ideal.rsqrt (Ideal.div (∑ l : Fin 2048, x1At x0 x1 x2 x3 x4 x5 x6 r l * x1At x0 x1 x2 x3 x4 x5 x6 r l) (Ideal.ofBits .f32 0x45000000#32) + Ideal.ofBits .f32 0x358637BD#32) := by
  rw [val_main_v36_apply, val_main_v35_apply, val_main_v33_apply, val_main_v31_apply, val_main_v32_apply, val_main_v34_apply, val_main_v30_apply, val_main_cst_3_apply,
    val_main_cst_4_apply, val_main_cst_5_apply]
  simp only [Ideal.hostUnary_rsqrt_def, Ideal.addf_def, Ideal.hostDivf_def, Ideal.ofBits_def, Ideal.ofBits_zero_f32, zero_add]
  refine congrArg (fun s => Ideal.rsqrt (Ideal.div s _ + _)) (Finset.sum_congr rfl fun l _ => ?_)
  rw [idx2 (idx_main_v30 (idx_main_v31 (ix2 r 0)) l) r l rfl rfl, val_main_v29_apply, sum_at]
  rfl

theorem nrm_at (r : Fin 16384) (k : Fin 2048) :
    val_main_v41 (F := Ideal) x0 x1 x2 x3 x4 x5 x6 x7 (ix2 r k) = hAt x0 x1 x2 x3 x4 x5 x6 x7 r k := by
  rw [val_main_v41_apply, val_main_v38_apply, val_main_v37_apply, val_main_v40_apply, val_main_v39_apply, val_main_v28_apply,
    idx2 (idx_main_v37 (ix2 r k)) r 0 rfl rfl, idx2 (idx_main_v28 (idx_main_v39 (idx_main_v40 (ix2 r k)))) 0 k rfl (Nat.mod_eq_of_lt k.isLt), rms_at, sum_at]
  rfl

theorem experts_at (e : Fin 32) (r : Fin 16384) : val_main_v46 (F := Ideal) x0 x1 x2 x3 x4 x5 x6 x7 x9 (ix2 e r)
    = logit (hAt x0 x1 x2 x3 x4 x5 x6 x7 r) (fun k => x9 (ix3 0 k e)) := by
  rw [val_main_v46_apply]
  refine (val_main_v43_apply x0 x1 x2 x3 x4 x5 x6 x7 x9 _).trans (Finset.sum_congr rfl fun k _ => congrArg₂ (· * ·) ?_ ?_)
  · exact (congrArg (val_main_v41 (F := Ideal) x0 x1 x2 x3 x4 x5 x6 x7) (idx2 (lidx_main_v43 (idx_main_v46 (ix2 e r)) k) r k rfl rfl)).trans (nrm_at x0 x1 x2 x3 x4 x5 x6 x7 r k)
  · rw [val_main_v42_apply]
    refine congrArg x9 (idx3 _ 0 k e rfl ?_ ?_)
    · show (k.val * 32 + e.val) / 32 % 2048 = k.val; omega
    · show (k.val * 32 + e.val) % 32 = e.val; omega

theorem groups_at (e : Fin 4) (r : Fin 16384) : val_main_v47 (F := Ideal) x0 x1 x2 x3 x4 x5 x6 x7 x8 (ix2 e r)
    = logit (hAt x0 x1 x2 x3 x4 x5 x6 x7 r) (fun k => x8 (ix3 0 k e)) := by
  rw [val_main_v47_apply]
  refine (val_main_v45_apply x0 x1 x2 x3 x4 x5 x6 x7 x8 _).trans (Finset.sum_congr rfl fun k _ => congrArg₂ (· * ·) ?_ ?_)
  · exact (congrArg (val_main_v41 (F := Ideal) x0 x1 x2 x3 x4 x5 x6 x7) (idx2 (lidx_main_v45 (idx_main_v47 (ix2 e r)) k) r k rfl rfl)).trans (nrm_at x0 x1 x2 x3 x4 x5 x6 x7 r k)
  · rw [val_main_v44_apply]
    refine congrArg x8 (idx3 _ 0 k e rfl ?_ ?_)
    · show (k.val * 4 + e.val) / 4 % 2048 = k.val; omega
    · show (k.val * 4 + e.val) % 4 = e.val; omega

theorem logits_at (e : Fin 48) (r : Fin 16384) : val_main_v49 (F := Ideal) x0 x1 x2 x3 x4 x5 x6 x7 x8 x9 (ix2 e r)
    = logit (hAt x0 x1 x2 x3 x4 x5 x6 x7 r) (wAt x8 x9 e) := by
  unfold val_main_v49
  by_cases h : e.val < 32
  · refine (concatenate_apply_piece (t := S48x16384) 0 _ _ (ix2 e r) 0 (by show 0 < 3; decide) S32x16384 _ rfl rfl 0 rfl (ix2 ⟨e.val, h⟩ r) ?_ ?_).trans ?_
    · intro b hb
      match b with
      | ⟨0, _⟩ => exact absurd rfl hb
      | ⟨1, _⟩ => rfl
    · show 0 + e.val = e.val; omega
    · refine (experts_at x0 x1 x2 x3 x4 x5 x6 x7 x9 _ r).trans (congrArg (logit _) (funext fun k => ?_))
      rw [wAt, dif_pos h]
  · by_cases h' : e.val < 36
    · refine (concatenate_apply_piece (t := S48x16384) 0 _ _ (ix2 e r) 1 (by show 1 < 3; decide) S4x16384 _ rfl rfl 32 rfl (ix2 ⟨e.val - 32, by omega⟩ r) ?_ ?_).trans ?_
      · intro b hb
        match b with
        | ⟨0, _⟩ => exact absurd rfl hb
        | ⟨1, _⟩ => rfl
      · show 32 + (e.val - 32) = e.val; omega
      · refine (groups_at x0 x1 x2 x3 x4 x5 x6 x7 x8 _ r).trans (congrArg (logit _) (funext fun k => ?_))
        rw [wAt, dif_neg h, dif_pos h']
    · refine (concatenate_apply_piece (t := S48x16384) 0 _ _ (ix2 e r) 2 (by show 2 < 3; decide) S12x16384 _ rfl rfl 36 rfl (ix2 ⟨e.val - 36, by omega⟩ r) ?_ ?_).trans ?_
      · intro b hb
        match b with
        | ⟨0, _⟩ => exact absurd rfl hb
        | ⟨1, _⟩ => rfl
      · show 36 + (e.val - 36) = e.val; omega
      · rw [val_main_v48_apply, val_main_cst_6_apply]
        refine (Ideal.ofBits_zero_f32).trans (Finset.sum_eq_zero fun k _ => ?_).symm
        rw [wAt, dif_neg h, dif_neg h', mul_zero]

end Cert.Reference5Ideal.Out

end
-- ==== Proof.ProjValue.lean ====
/- The array the input projection leaves, at an index: the rows over their root mean squares, times the weights. -/
module

public import proofs.«01_k».proof.Proof.Gen.Kernel4Ideal.Value
public import proofs.«01_k».proof.Proof.GateSpec
public import Idealize.ShloMosaic.Lib.Pipeline.ValueKit
public import Idealize.ShloMosaic.Lib.Pointwise

@[expose] public section

set_option maxRecDepth 16384

noncomputable section

namespace Cert.Kernel4Ideal.Proj

open Idealize.ShloMosaic Idealize.ShloMosaic.TcCoe Idealize.ShloMosaic.Tactic Idealize.SL.Sem
open Cert.Kernel4Ideal Cert.Kernel4Ideal.Gen Cert.Hidden

/-- One trip: its rows over their root mean squares, times the gain. -/
theorem pay1_at (x : FVec Ideal S128x2048 .f32) (g : FVec Ideal S1x2048 .f32) (i : Fin 128) (k : Fin 2048) :
    k0_pay1 (F := Ideal) x g (ix2 i k) = nrm (fun l => x (ix2 i l)) (fun l => g (ix2 0 l)) k := by
  pointwise [k0_pay1, nrm]

/-- One block: its rows times the columns of the weights. -/
theorem pay2_at (x : FVec Ideal S1024x2048 .bf16) (w : FVec Ideal S2048x2048 .bf16) (i : Fin 1024) (n : Fin 2048) :
    k0_pay2 (F := Ideal) x w (ix2 i n) = ∑ k : Fin 2048, x (ix2 i k) * w (ix2 k n) := by
  pointwise [k0_pay2]

/-- The normed rows of a block. -/
def blkN (x : FVec Ideal S1024x2048 .f32) (g : FVec Ideal S1x2048 .f32) (y : S1024x2048.Idx) : EReal :=
  nrm (fun l => x (ix2 (y 0) l)) (fun l => g (ix2 0 l)) (y 1)

theorem ld_rows (x0 : FVec Ideal S1024x2048 .f32) (o : ℕ) (inb : ∀ a, (![o, 0] : Fin 2 → ℕ) a + (![128, 2048] : Fin 2 → ℕ) a ≤ S1024x2048.size a) (r : Fin 128) (d l : Fin 2048) :
    View.ld (Val := Elt Ideal) (e' := .f32) x0 (Rect.unit (s := S1024x2048) ![o, 0] ![128, 2048] inb) (ix2 r l)
      = x0 (ix2 ((Rect.unit (s := S1024x2048) ![o, 0] ![128, 2048] inb).emb (ix2 r d) 0) l) := by
  refine congrArg x0 (funext fun a => Fin.ext ?_)
  match a with
  | ⟨0, _⟩ => rfl
  | ⟨1, _⟩ => show 0 + 1 * l.val = l.val; omega

theorem ld_gain (x1 : FVec Ideal S1x2048 .f32) (inb : ∀ a, (![0, 0] : Fin 2 → ℕ) a + (![1, 2048] : Fin 2 → ℕ) a ≤ S1x2048.size a) (l : Fin 2048) :
    View.ld (Val := Elt Ideal) (e' := .f32) x1 (Rect.unit (s := S1x2048) ![0, 0] ![1, 2048] inb) (ix2 0 l) = x1 (ix2 0 l) := by
  refine congrArg x1 (funext fun a => Fin.ext ?_)
  match a with
  | ⟨0, _⟩ => rfl
  | ⟨1, _⟩ => show 0 + 1 * l.val = l.val; omega

theorem trip_agree (𝒱 : Variants) (c : Dev nD) (bd : Option 𝒱.V) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x2048 .bf16) (harg4 : arg4.IsWhole)
    (arg5 : Memref sig .tc .vmem S1024x2048 .bf16) (harg5 : arg5.IsWhole) (arg6 : Memref sig .tc .vmem S1024x2048 .bf16) (harg6 : arg6.IsWhole)
    (h1 : k0_cond1 i = 1#1) (x0 : FVec Ideal S1024x2048 .f32) (x1 : FVec Ideal S1x2048 .f32) (k : Fin k0_t1_loop.trips) :
    ∀ p ∈ tripL_k0_t1 (F := Ideal) 𝒱 c bd i arg2 harg2 arg3 harg3 arg4 harg4 arg5 harg5 arg6 harg6 h1 (harg2.unread x0) (harg3.unread x1) k,
      ∀ x : p.1.shape.Idx, p.2 x = blkN x0 x1 (p.1.emb x) := by
  unfold tripL_k0_t1 trip_k0_t1
  dsimp only
  sl_unfold_words
  simp only [View.readAt_eq_ld, harg2.read_unread, harg3.read_unread]
  intro p hp
  obtain rfl := List.mem_singleton.1 hp
  intro (x : S128x2048.Idx)
  obtain ⟨r, d, rfl⟩ : ∃ (r : Fin 128) (d : Fin 2048), x = ix2 r d := ⟨x 0, x 1, eq_ix2 x⟩
  refine (pay1_at _ _ r d).trans ?_
  unfold blkN
  refine (congrArg₂ (fun f g => nrm f g d) (funext fun l => ld_rows x0 _ _ r d l) (funext fun l => ld_gain x1 _ l)).trans ?_
  refine congrArg (nrm _ _) (Fin.ext ?_)
  show d.val = 0 + 1 * d.val
  omega

theorem trips_agree (𝒱 : Variants) (c : Dev nD) (bd : Option 𝒱.V) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x2048 .bf16) (harg4 : arg4.IsWhole)
    (arg5 : Memref sig .tc .vmem S1024x2048 .bf16) (harg5 : arg5.IsWhole) (arg6 : Memref sig .tc .vmem S1024x2048 .bf16) (harg6 : arg6.IsWhole)
    (h1 : k0_cond1 i = 1#1) (x0 : FVec Ideal S1024x2048 .f32) (x1 : FVec Ideal S1x2048 .f32) (n : ℕ) (hn : n ≤ k0_t1_loop.trips) :
    ∀ p ∈ pb_k0_t1 (F := Ideal) 𝒱 c bd i arg2 harg2 arg3 harg3 arg4 harg4 arg5 harg5 arg6 harg6 h1 (harg2.unread x0) (harg3.unread x1) n,
      ∀ x : p.1.shape.Idx, p.2 x = blkN x0 x1 (p.1.emb x) := by
  induction n with
  | zero => exact fun p hp => absurd hp List.not_mem_nil
  | succ n ih =>
    have e := pb_k0_t1_succ (F := Ideal) 𝒱 c bd i arg2 harg2 arg3 harg3 arg4 harg4 arg5 harg5 arg6 harg6 h1 (harg2.unread x0) (harg3.unread x1) ⟨n, hn⟩
    intro p hp
    rw [e] at hp
    rcases List.mem_append.1 hp with h | h
    · exact trip_agree 𝒱 c bd i arg2 harg2 arg3 harg3 arg4 harg4 arg5 harg5 arg6 harg6 h1 x0 x1 ⟨n, hn⟩ p h
    · exact ih (Nat.le_of_succ_le hn) p h

theorem out_A (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x2048 .bf16) (harg4 : arg4.IsWhole)
    (arg5 : Memref sig .tc .vmem S1024x2048 .bf16) (harg5 : arg5.IsWhole) (arg6 : Memref sig .tc .vmem S1024x2048 .bf16) (harg6 : arg6.IsWhole)
    (hc0 : cond0_0 i) (x0 : FVec Ideal S1024x2048 .f32) (x1 : FVec Ideal S1x2048 .f32) (x2 : FVec Ideal S2048x2048 .bf16) :
    out0_A_3 (F := Ideal) c i arg2 harg2 arg3 harg3 arg4 harg4 arg5 harg5 arg6 harg6 hc0 x0 x1 x2
      = k0_pay2 (F := Ideal) (sout0_A_0 (F := Ideal) c i arg2 harg2 arg3 harg3 arg4 harg4 arg5 harg5 arg6 harg6 hc0 x0 x1 x2) x2 := by
  frame_out
  rw [View.readCov_eq_canon']
  exact congrArg (fun v => k0_pay2 (F := Ideal) v x2) (View.ld_unit_lit (S := S1024x2048) inb_S1024x2048_S1024x2048_0_0 _ (by decide))

theorem out_B (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x2048 .bf16) (harg4 : arg4.IsWhole)
    (arg5 : Memref sig .tc .vmem S1024x2048 .bf16) (harg5 : arg5.IsWhole) (arg6 : Memref sig .tc .vmem S1024x2048 .bf16) (harg6 : arg6.IsWhole)
    (hc0 : ¬cond0_0 i) (x0 : FVec Ideal S1024x2048 .f32) (x1 : FVec Ideal S1x2048 .f32) (x2 : FVec Ideal S2048x2048 .bf16) (xs : FVec Ideal S1024x2048 .bf16) :
    out0_B_3 (F := Ideal) c i arg2 harg2 arg3 harg3 arg4 harg4 arg5 harg5 arg6 harg6 hc0 x0 x1 x2 xs = k0_pay2 (F := Ideal) xs x2 := by
  frame_out

theorem sout_A (c : Dev nD) (i : grid0.Coords) (arg2 : Memref sig .tc .vmem S1024x2048 .f32) (harg2 : arg2.IsWhole)
    (arg3 : Memref sig .tc .vmem S1x2048 .f32) (harg3 : arg3.IsWhole) (arg4 : Memref sig .tc .vmem S2048x2048 .bf16) (harg4 : arg4.IsWhole)
    (arg5 : Memref sig .tc .vmem S1024x2048 .bf16) (harg5 : arg5.IsWhole) (arg6 : Memref sig .tc .vmem S1024x2048 .bf16) (harg6 : arg6.IsWhole)
    (hc0 : cond0_0 i) (x0 : FVec Ideal S1024x2048 .f32) (x1 : FVec Ideal S1x2048 .f32) (x2 : FVec Ideal S2048x2048 .bf16) :
    sout0_A_0 (F := Ideal) c i arg2 harg2 arg3 harg3 arg4 harg4 arg5 harg5 arg6 harg6 hc0 x0 x1 x2 = blkN x0 x1 := by
  have hcov := scover0_A_0 (F := Ideal) c i arg2 harg2 arg3 harg3 arg4 harg4 arg5 harg5 arg6 harg6 hc0 x0 x1 x2
  unfold sout0_A_0
  funext y
  refine View.read_writes_apply_of_pieces _ _ (blkN x0 x1) _ ?_ y (hcov y)
  clear hcov
  unfold kernelRun0_A
  dsimp only
  exact trips_agree Variants.none c none i arg2 harg2 arg3 harg3 arg4 harg4 arg5 harg5 arg6 harg6 hc0 x0 x1 _ (le_refl _)

variable (m : (ℓ : Loc nD τ sig) → Buf (Elt Ideal) ℓ) (c : Dev nD)

theorem V_x : V m c main_v0 = shapeCast S16384x2048 (m (c, Proc.devRef .tc main_arg0) : S8x2048x2048.Idx → EReal) shapeCasts_S8x2048x2048_S16384x2048 := by
  unfold V
  simp only [hostOps0, List.flatten_cons, List.flatten_nil, List.append_nil, List.cons_append, List.nil_append]
  after_results <;> rfl

theorem V_gain : (V m c main_v4 : S1x2048.Idx → EReal) = m (c, Proc.devRef .tc main_arg1) := by
  unfold V
  simp only [hostOps0, List.flatten_cons, List.flatten_nil, List.append_nil, List.cons_append, List.nil_append]
  after_results
  show shapeCast S1x2048 (shapeCast S2048 (m (c, Proc.devRef .tc main_arg1) : S1x2048.Idx → EReal) shapeCasts_S1x2048_S2048) shapeCasts_S2048_S1x2048 = _
  exact shapeCast_shapeCast _ _ _

theorem V_w : V m c main_v3 = shapeCast S2048x10240 (m (c, Proc.devRef .tc main_arg2) : S1x2048x10240.Idx → EReal) shapeCasts_S1x2048x10240_S2048x10240 := by
  unfold V
  simp only [hostOps0, List.flatten_cons, List.flatten_nil, List.append_nil, List.cons_append, List.nil_append]
  after_results <;> rfl

theorem idx0 : ∀ t : Fin grid0.N, win0_0.index t (0 : Fin 2) = t.val / 5 ∧ win0_0.index t (1 : Fin 2) = 0 := by decide +kernel
theorem idx1 : ∀ t : Fin grid0.N, win0_1.index t (0 : Fin 2) = 0 ∧ win0_1.index t (1 : Fin 2) = 0 := by decide +kernel
theorem idx2 : ∀ t : Fin grid0.N, win0_2.index t (0 : Fin 2) = 0 ∧ win0_2.index t (1 : Fin 2) = t.val % 5 := by decide +kernel
theorem idx3 : ∀ t : Fin grid0.N, win0_3.index t (0 : Fin 2) = t.val / 5 ∧ win0_3.index t (1 : Fin 2) = t.val % 5 := by decide +kernel

theorem lt80 (t : Fin cfg0.N) : t.val < 80 := lt_of_lt_of_eq t.isLt (show cfg0.N = 80 from N_0)

/-- The row of a point's block, -/
def row (t : Fin cfg0.N) (i : Fin 1024) : Fin 16384 := ⟨t.val / 5 * 1024 + i.val, by have := lt80 t; omega⟩
/-- and its column. -/
def col (t : Fin cfg0.N) (n : Fin 2048) : Fin 10240 := ⟨t.val % 5 * 2048 + n.val, by have := lt80 t; omega⟩

theorem in0 (t : Fin cfg0.N) (i : Fin 1024) (k : Fin 2048) : (iblk m c 0 t : S1024x2048.Idx → EReal) (ix2 i k)
    = (V m c main_v0 : S16384x2048.Idx → EReal) (ix2 (row t i) k) := by
  obtain ⟨e0, e1⟩ := idx0 t
  refine congrArg (V m c main_v0) (funext fun a => Fin.ext ?_)
  match a with
  | ⟨0, _⟩ => show win0_0.index t (0 : Fin 2) * 1024 + 1 * i.val = t.val / 5 * 1024 + i.val; rw [e0]; omega
  | ⟨1, _⟩ => show win0_0.index t (1 : Fin 2) * 2048 + 1 * k.val = k.val; rw [e1]; omega

theorem in1 (t : Fin cfg0.N) (k : Fin 2048) : (iblk m c 1 t : S1x2048.Idx → EReal) (ix2 0 k)
    = (m (c, Proc.devRef .tc main_arg1) : S1x2048.Idx → EReal) (ix2 0 k) := by
  obtain ⟨e0, e1⟩ := idx1 t
  rw [← V_gain m c]
  refine congrArg (V m c main_v4) (funext fun a => Fin.ext ?_)
  match a with
  | ⟨0, _⟩ => show win0_1.index t (0 : Fin 2) * 1 + 1 * 0 = 0; rw [e0]
  | ⟨1, _⟩ => show win0_1.index t (1 : Fin 2) * 2048 + 1 * k.val = k.val; rw [e1]; omega

theorem in2 (t : Fin cfg0.N) (k n : Fin 2048) : (iblk m c 2 t : S2048x2048.Idx → EReal) (ix2 k n)
    = (V m c main_v3 : S2048x10240.Idx → EReal) (ix2 k (col t n)) := by
  obtain ⟨e0, e1⟩ := idx2 t
  refine congrArg (V m c main_v3) (funext fun a => Fin.ext ?_)
  match a with
  | ⟨0, _⟩ => show win0_2.index t (0 : Fin 2) * 2048 + 1 * k.val = k.val; rw [e0]; omega
  | ⟨1, _⟩ => show win0_2.index t (1 : Fin 2) * 2048 + 1 * n.val = t.val % 5 * 2048 + n.val; rw [e1]; omega

/-- The normed rows of a row block, in terms of the arrays at the region's entry. -/
def rowsN (X : S16384x2048.Idx → EReal) (g : S1x2048.Idx → EReal) (q : Fin 16) (y : S1024x2048.Idx) : EReal :=
  nrm (fun l => X (ix2 ⟨q.val * 1024 + (y 0).val, by have : (y 0).val < 1024 := (y 0).isLt; omega⟩ l)) (fun l => g (ix2 0 l)) (y 1)

def qOf (t : Fin cfg0.N) : Fin 16 := ⟨t.val / 5, by have := lt80 t; omega⟩

theorem norm_at (t : Fin cfg0.N) : blkN (iblk m c 0 t) (iblk m c 1 t) = rowsN (V m c main_v0) (m (c, Proc.devRef .tc main_arg1)) (qOf t) := by
  funext y
  unfold blkN rowsN
  refine congrArg₂ (fun f g => nrm f g (y 1)) (funext fun l => ?_) (funext fun l => in1 m c t l)
  exact in0 m c t (y 0) l

/-- After every point the scratch holds the normed rows of the point's row block. -/
theorem scratch (n : ℕ) : ∀ hn : n < cfg0.N, (outsAt0 m c n hn).2 = rowsN (V m c main_v0) (m (c, Proc.devRef .tc main_arg1)) (qOf ⟨n, hn⟩) := by
  induction n with
  | zero =>
    intro hn
    rw [outsAt0_A m c ⟨0, hn⟩ (Nat.zero_mod _)]
    exact (sout_A c _ _ _ _ _ _ _ _ _ _ _ _ _ _ _).trans (norm_at m c ⟨0, hn⟩)
  | succ n ih =>
    intro hn
    by_cases h0 : (n + 1) % 5 = 0
    · rw [outsAt0_A m c ⟨n + 1, hn⟩ h0]
      exact (sout_A c _ _ _ _ _ _ _ _ _ _ _ _ _ _ _).trans (norm_at m c ⟨n + 1, hn⟩)
    · rw [outsAt0_B m c ⟨n + 1, hn⟩ h0]
      refine (ih (Nat.lt_of_succ_lt hn)).trans (congrArg (rowsN _ _) (Fin.ext ?_))
      show n / 5 = (n + 1) / 5
      omega

/-- What a point leaves of its block of the result. -/
theorem out_at (t : Fin cfg0.N) : (outsAt0 m c t.val t.isLt).1
    = k0_pay2 (F := Ideal) (rowsN (V m c main_v0) (m (c, Proc.devRef .tc main_arg1)) (qOf t)) (iblk m c 2 t) := by
  rw [← scratch m c t.val t.isLt]
  by_cases h0 : t.val % 5 = 0
  · rw [outsAt0_A m c t h0]
    dsimp only
    exact out_A c _ _ _ _ _ _ _ _ _ _ _ _ _ _ _
  · rw [outsAt0_B m c t h0]
    dsimp only
    exact out_B c _ _ _ _ _ _ _ _ _ _ _ _ _ _ _ _

/-- The whole result. -/
def arrP (X : S16384x2048.Idx → EReal) (g : S1x2048.Idx → EReal) (W : S2048x10240.Idx → EReal) (i : S16384x10240.Idx) : EReal :=
  ∑ k : Fin 2048, nrm (fun l => X (ix2 (i 0) l)) (fun l => g (ix2 0 l)) k * W (ix2 k (i 1))

/-- The result in terms of the arrays as launched. -/
abbrev resP : Buf (Elt Ideal) ((c : Thread nD τ).loc main_v5) :=
  arrP (V m c main_v0) (m (c, Proc.devRef .tc main_arg1)) (V m c main_v3)

theorem flushed_eq (t : Fin cfg0.N) :
    (dats m 0 c).flushed 3 t = ((cfg0.win 3).blk t).view.read (Elt Ideal) (resP m c) := by
  rw [Value.flushed3, out_at]
  funext j
  obtain ⟨i, n, rfl⟩ : ∃ (i : Fin 1024) (n : Fin 2048), j = ix2 i n := ⟨j 0, j 1, eq_ix2 j⟩
  obtain ⟨e0, e1⟩ := idx3 t
  have hE : ((cfg0.win 3).blk t).view.emb (ix2 i n) = ix2 (row t i) (col t n) := by
    funext a; apply Fin.ext
    match a with
    | ⟨0, _⟩ => show win0_3.index t (0 : Fin 2) * 1024 + 1 * i.val = t.val / 5 * 1024 + i.val; rw [e0]; omega
    | ⟨1, _⟩ => show win0_3.index t (1 : Fin 2) * 2048 + 1 * n.val = t.val % 5 * 2048 + n.val; rw [e1]; omega
  show k0_pay2 (F := Ideal) _ _ (ix2 i n) = resP m c (((cfg0.win 3).blk t).view.emb (ix2 i n))
  rw [hE]
  refine (pay2_at _ _ i n).trans ?_
  exact Finset.sum_congr rfl fun k _ => congrArg₂ (· * ·) rfl (in2 m c t k n)

theorem finalP : (dats m 0 c).arrAt 3 cfg0.N = resP m c :=
  (dats m 0 c).arrAt_eq_of_cover 3 (resP m c) (fun t _ => flushed_eq m c t) (fun i => (Value.covered_iff3 i).2 (by
    have h0 : (i 0).val < 16384 := (i 0).isLt; have h1 : (i 1).val < 10240 := (i 1).isLt; omega))

end Cert.Kernel4Ideal.Proj

end
-- ==== Proof.ProjRef.lean ====
/- The reference of the input projection, at an index. -/
module

public import proofs.«01_k».proof.Proof.Gen.Reference4Ideal.Read
public import proofs.«01_k».proof.Proof.GateSpec
public import Idealize.ShloMosaic.Lib.IdealHost

@[expose] public section

set_option maxRecDepth 16384

noncomputable section

namespace Cert.Reference4Ideal.Proj

open Idealize.ShloMosaic Idealize.ShloMosaic.TcCoe Idealize.ShloMosaic.Tactic
open Cert.Reference4Ideal Cert.Reference4Ideal.Gen Cert.Reference4Ideal.Read Cert.Hidden

variable (x0 : S8x2048x2048.Idx → EReal) (x1 : S1x2048.Idx → EReal) (x2 : S1x2048x10240.Idx → EReal)

/-- The reference's root mean square of a row. -/
theorem rms_at (b : Fin 8) (r : Fin 2048) :
    val_main_v8 (F := Ideal) x0 (ix3 b r 0)
      = Ideal.rsqrt (Ideal.div (∑ l : Fin 2048, x0 (ix3 b r l) * x0 (ix3 b r l)) (Ideal.ofBits .f32 0x45000000#32) + Ideal.ofBits .f32 0x358637BD#32) := by
  rw [val_main_v8_apply, val_main_v7_apply, val_main_v5_apply, val_main_v3_apply, val_main_v4_apply, val_main_v6_apply, val_main_v2_apply, val_main_cst_apply,
    val_main_cst_0_apply, val_main_cst_1_apply]
  simp only [Ideal.hostUnary_rsqrt_def, Ideal.addf_def, Ideal.hostDivf_def, Ideal.ofBits_def, Ideal.ofBits_zero_f32, zero_add]
  refine congrArg (fun s => Ideal.rsqrt (Ideal.div s _ + _)) (Finset.sum_congr rfl fun l _ => ?_)
  have hi : idx_main_v2 (idx_main_v3 (ix3 b r 0)) l = ix3 b r l := by
    funext a; refine Fin.ext ?_
    match a with
    | ⟨0, _⟩ => rfl
    | ⟨1, _⟩ => rfl
    | ⟨2, _⟩ => rfl
  rw [hi]
  rfl

theorem nrm_at (b : Fin 8) (r k : Fin 2048) :
    val_main_v13 (F := Ideal) x0 x1 (ix3 b r k) = nrm (fun l => x0 (ix3 b r l)) (fun l => x1 (ix2 0 l)) k := by
  rw [val_main_v13_apply, val_main_v10_apply, val_main_v9_apply, val_main_v12_apply, val_main_v11_apply, val_main_v0_apply]
  have h1 : idx_main_v9 (ix3 b r k) = ix3 b r 0 := by
    funext a; refine Fin.ext ?_
    match a with
    | ⟨0, _⟩ => rfl
    | ⟨1, _⟩ => rfl
    | ⟨2, _⟩ => rfl
  have h2 : idx_main_v0 (idx_main_v11 (idx_main_v12 (ix3 b r k))) = ix2 0 k := by
    funext a; refine Fin.ext ?_
    match a with
    | ⟨0, _⟩ => rfl
    | ⟨1, _⟩ => exact Nat.mod_eq_of_lt k.isLt
  rw [h1, h2, rms_at]
  rfl

/-- A row's sequence, -/
def seqOf (r : Fin 16384) : Fin 8 := ⟨r.val / 2048, by omega⟩
/-- and its token. -/
def tokOf (r : Fin 16384) : Fin 2048 := ⟨r.val % 2048, Nat.mod_lt _ (by decide)⟩

theorem ref_at (r : Fin 16384) (n : Fin 10240) :
    val_main_v17 (F := Ideal) x0 x1 x2 (ix2 r n)
      = ∑ k : Fin 2048, nrm (fun l => x0 (ix3 (seqOf r) (tokOf r) l)) (fun l => x1 (ix2 0 l)) k * x2 (ix3 0 k n) := by
  rw [val_main_v17_apply, val_main_v16_apply]
  have hi : idx_main_v16 (ix2 r n) = ix3 (seqOf r) (tokOf r) n := by
    funext a; refine Fin.ext ?_
    have := n.isLt
    match a with
    | ⟨0, _⟩ => show (r.val * 10240 + n.val) / 20971520 = r.val / 2048; omega
    | ⟨1, _⟩ => show (r.val * 10240 + n.val) / 10240 % 2048 = r.val % 2048; omega
    | ⟨2, _⟩ => show (r.val * 10240 + n.val) % 10240 = n.val; omega
  rw [hi]
  refine (val_main_v15_apply x0 x1 x2 _).trans (Finset.sum_congr rfl fun k _ => congrArg₂ (· * ·) ?_ ?_)
  · refine Eq.trans (congrArg (val_main_v13 (F := Ideal) x0 x1) ?_) (nrm_at x0 x1 (seqOf r) (tokOf r) k)
    funext a; refine Fin.ext ?_
    match a with
    | ⟨0, _⟩ => rfl
    | ⟨1, _⟩ => rfl
    | ⟨2, _⟩ => rfl
  · rw [val_main_v14_apply]
    refine congrArg x2 (funext fun a => Fin.ext ?_)
    have := n.isLt
    have := k.isLt
    match a with
    | ⟨0, _⟩ => rfl
    | ⟨1, _⟩ => show (k.val * 10240 + n.val) / 10240 % 2048 = k.val; omega
    | ⟨2, _⟩ => show (k.val * 10240 + n.val) % 10240 = n.val; omega

end Cert.Reference4Ideal.Proj

end
-- ==== Proof.DownKit.lean ====
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.WholeRead
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel2Ideal.Down

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_arg0
abbrev htbM0_0 : tbM0_0.IsWhole := Memref.isWhole_whole _
abbrev tbM0_1 : Memref sig .tc .smem S160 .i32 := Memref.whole main_arg1
abbrev htbM0_1 : tbM0_1.IsWhole := Memref.isWhole_whole _
abbrev tbM0_2 : Memref sig .tc .smem S1 .i32 := Memref.whole main_arg2
abbrev htbM0_2 : tbM0_2.IsWhole := Memref.isWhole_whole _
abbrev tbM0_3 : Memref sig .tc .smem S160 .i32 := Memref.whole main_arg3
abbrev htbM0_3 : tbM0_3.IsWhole := Memref.isWhole_whole _
abbrev tbM0_4 : Memref sig .tc .smem S160 .i32 := Memref.whole main_arg4
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (Pipeline.UD sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (Pipeline.UD sig nD τ) ℕ)) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel2Ideal`, Defs.lean, at any `F`). -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).1 0).trans (((dats 0 c).arrAt_in 0 rfl _).trans ((hA c 0).trans (V_main_arg5 m c))),
      ((h c).2 main_arg6 (by decide : main_arg6 ∈ Pipeline.restRefs sig spec0)).trans (V_main_arg6 m c)⟩) h

/-! ## The kernel body on any staging memrefs: a subtype the run finds -/

/-- One staging buffer of output window 1, through which its contents are stated (`View.read_writes_of_cover`: the
    choice does not matter). -/
abbrev VO0_1 : View sig .tc .vmem S256x2048 .f32 := (Memref.whole cc0_stg1_0 : Memref sig .tc .vmem S256x2048 .f32).view
/-- Each window's current staging memref at point `t`, spelled as the pipeline passes it (`bodyAt0`), and its wholeness. -/
abbrev ms0_0 (hO : Ok m) (t : Fin (cfgM m hO).N) : Memref sig .tc .vmem S256x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x2048 .f32 := spec0_1.stage ((cfgM m hO).slots t 1)
abbrev hs0_1 (hO : Ok m) (t : Fin (cfgM m hO).N) : (ms0_1 m hO t).IsWhole := hstage0_1 (((cfgM m hO).slots t 1).cast nbuf0_1)

/-- The scratch operands: whole scoped buffers of the kernel's own, passed beside the windows. -/
abbrev scM0_0 : Memref sig .tc .vmem S2x1024x2048 .f32 := Memref.whole cc0_scratch0
abbrev scM0_1 : Memref sig .tc .vmem S1024x2048 .bf16 := Memref.whole cc0_scratch1
/-- The operands left in HBM that the body copies into scratch itself, whole. -/
abbrev hbM0_0 : Memref sig .tc .hbm S32x1024x2048 .f32 := Memref.whole main_v0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 4, SemLoc.dma 5] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 4) 0 ∗ semVal ((c : Thread nD τ), SemLoc.dma 5) 0) := by
  rw [Pipeline.ownSems0_eq_of_list c osem0 [0, 1] (by decide) (by decide)]; rfl
/-- The HBM operands the body moves, as references: unscoped, no window's array, no table (`Pipeline.restRefsP`). -/
def H0 : Finset (Ref sig .tc) := {main_v0}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_v0)) := by
  rw [BI.bigSep_eq_bigSepL_of_eq [main_v0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 4) 0 ∗ semVal ((c : Thread nD τ), SemLoc.dma 5) 0) ∗ iprop(hbPt0 c hbM0_0 (V m c main_v0))) := by
  rw [Pipeline.ΦD_eq, scopedRest0_eq, ownSems00_eq, hbmPts0_eq]; simp only [scM0_0, scM0_1, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_down (grid0.coords t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (spec0_0.stage ((cfg0 a).slots t 0)) (hstage0_0 (((cfg0 a).slots t 0).cast nbuf0_0)) (Memref.whole main_v0) (Memref.isWhole_whole _) (spec0_1.stage ((cfg0 a).slots t 1)) (hstage0_1 (((cfg0 a).slots t 1).cast nbuf0_1)) (Memref.whole cc0_scratch0) (Memref.isWhole_whole _) (Memref.whole cc0_scratch1) (Memref.isWhole_whole _) cc0_scratch2

end Cert.Kernel2Ideal.Down

end
-- ==== Proof.DownRun.lean ====
module

public import proofs.«01_k».proof.Proof.DownKit

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The weights' blocks, the two slots and their counters -/

abbrev grpOff (b : Fin 32) : Fin 3 → Nat := ![b.val, 0, 0]
theorem grpOff_inb (b : Fin 32) : ∀ a, grpOff b a + S1x1024x2048.size a ≤ S32x1024x2048.size a := by
  have := b.isLt; intro a; fin_cases a
  · show b.val + 1 ≤ 32; omega
  · show 0 + 1024 ≤ 1024; omega
  · show 0 + 2048 ≤ 2048; omega
abbrev slotOff (s : Fin 2) : Fin 3 → Nat := ![s.val, 0, 0]
theorem slotOff_inb (s : Fin 2) : ∀ a, slotOff s a + S1x1024x2048.size a ≤ S2x1024x2048.size a := by
  have := s.isLt; intro a; fin_cases a
  · show s.val + 1 ≤ 2; omega
  · show 0 + 1024 ≤ 1024; omega
  · show 0 + 2048 ≤ 2048; omega
abbrev semOff (s : Fin 2) : Fin 2 → Nat := ![0, s.val]
theorem semOff_inb (s : Fin 2) : ∀ a, semOff s a + S1x1.size a ≤ S1x2.size a := by
  have := s.isLt; intro a; fin_cases a
  · show 0 + 1 ≤ 1; omega
  · show s.val + 1 ≤ 2; omega

/-- Expert `b`'s weights. -/
def grp (b : Fin 32) : Memref sig .tc .hbm S1024x2048 .f32 :=
  (hbM0_0.slice (Rect.unit (s := S32x1024x2048) (grpOff b) S1x1024x2048.size (grpOff_inb b)) (fun _ => rfl)).squeeze S1024x2048 squeezes_S1x1024x2048_S1024x2048
/-- Slot `s` of the buffer. -/
def rslot (s : Fin 2) : Memref sig .tc .vmem S1024x2048 .f32 :=
  (scM0_0.slice (Rect.unit (s := S2x1024x2048) (slotOff s) S1x1024x2048.size (slotOff_inb s)) (fun _ => rfl)).squeeze S1024x2048 squeezes_S1x1024x2048_S1024x2048
/-- Slot `s`'s counter. -/
def csm (s : Fin 2) : DmaSems sig S_ := (cc0_scratch2.slice (Rect.unit (s := S1x2) (semOff s) S1x1.size (semOff_inb s))).squeeze S_ squeezes_S1x1_S_

instance (s : Fin 2) : ClosedOff (slotOff s) := ⟨![s.val, 0, 0], rfl⟩
instance (b : Fin 32) : ClosedOff (grpOff b) := ⟨![b.val, 0, 0], rfl⟩

/-- A word as an expert, a slot. -/
def bOf (v : BitVec 32) : Fin 32 := Fin.ofNat 32 v.toNat
def sOf (v : BitVec 32) : Fin 2 := Fin.ofNat 2 v.toNat
/-- The other slot. -/
def oth (s : Fin 2) : Fin 2 := 1 - s

section Words
variable (v : BitVec 32)

theorem bOf_val (h : v.toNat < 32) : (bOf v).val = v.toNat := by simp [bOf, Fin.ofNat, Nat.mod_eq_of_lt h]
theorem sOf_val (h : v.toNat < 2) : (sOf v).val = v.toNat := by simp [sOf, Fin.ofNat, Nat.mod_eq_of_lt h]
theorem oth_val (h : v.toNat < 2) : (oth (sOf v)).val = (Scalar.subi 1#32 v).toNat := by
  have h2 : v = 0#32 ∨ v = 1#32 := by
    rcases (by omega : v.toNat = 0 ∨ v.toNat = 1) with h | h
    · exact .inl (BitVec.eq_of_toNat_eq h)
    · exact .inr (BitVec.eq_of_toNat_eq h)
  rcases h2 with rfl | rfl <;> decide

theorem off1_eq (h : v.toNat < 32) : k0_off1 v = grpOff (bOf v) := by unfold grpOff; rw [bOf_val v h]; rfl
theorem off6_eq (h : v.toNat < 32) : k0_off6 v = grpOff (bOf v) := by unfold grpOff; rw [bOf_val v h]; rfl
theorem off11_eq (h : v.toNat < 32) : k0_off11 v = grpOff (bOf v) := by unfold grpOff; rw [bOf_val v h]; rfl
theorem off4_eq (h : v.toNat < 2) : k0_off4 v = semOff (sOf v) := by unfold semOff; rw [sOf_val v h]; rfl
theorem off5_eq (h : v.toNat < 2) : k0_off5 v = slotOff (sOf v) := by unfold slotOff; rw [sOf_val v h]; rfl
theorem off12_eq (h : v.toNat < 2) : k0_off12 v = slotOff (sOf v) := by unfold slotOff; rw [sOf_val v h]; rfl
theorem off9_eq (h : v.toNat < 2) : k0_off9 v = semOff (oth (sOf v)) := by unfold semOff; rw [oth_val v h]; rfl
theorem off10_eq (h : v.toNat < 2) : k0_off10 v = slotOff (oth (sOf v)) := by unfold slotOff; rw [oth_val v h]; rfl

theorem csm_congr {off : Fin 2 → Nat} {s : Fin 2} (e : off = semOff s) (hh) :
    (cc0_scratch2.slice (Rect.unit (s := S1x2) off S1x1.size hh)).squeeze S_ squeezes_S1x1_S_ = csm s :=
  congrArg (fun A : DmaSems sig S1x1 => A.squeeze S_ squeezes_S1x1_S_) (SemArray.slice_unit_congr _ e _ _)
theorem rslot_congr {off : Fin 3 → Nat} {s : Fin 2} (e : off = slotOff s) (hh hs) :
    (scM0_0.slice (Rect.unit (s := S2x1024x2048) off S1x1024x2048.size hh) hs).squeeze S1024x2048 squeezes_S1x1024x2048_S1024x2048 = rslot s :=
  congrArg (fun M : Memref sig .tc .vmem S1x1024x2048 .f32 => M.squeeze S1024x2048 squeezes_S1x1024x2048_S1024x2048) (Memref.slice_unit_congr _ e _ _ _ _)
theorem grp_congr {off : Fin 3 → Nat} {b : Fin 32} (e : off = grpOff b) (hh hs) :
    (hbM0_0.slice (Rect.unit (s := S32x1024x2048) off S1x1024x2048.size hh) hs).squeeze S1024x2048 squeezes_S1x1024x2048_S1024x2048 = grp b :=
  congrArg (fun M : Memref sig .tc .hbm S1x1024x2048 .f32 => M.squeeze S1024x2048 squeezes_S1x1024x2048_S1024x2048) (Memref.slice_unit_congr _ e _ _ _ _)

@[sl_canon] theorem semL0 (hh) : (cc0_scratch2.slice (Rect.unit (s := S1x2) ![0, 0] S1x1.size hh)).squeeze S_ squeezes_S1x1_S_ = csm 0 := csm_congr (by decide) _
@[sl_canon] theorem slotL0 (hh hs) : (scM0_0.slice (Rect.unit (s := S2x1024x2048) ![0, 0, 0] S1x1024x2048.size hh) hs).squeeze S1024x2048 squeezes_S1x1024x2048_S1024x2048 = rslot 0 := rslot_congr (by decide) _ _
@[sl_canon] theorem grp1 (h : v.toNat < 32) (hh hs) :
    (hbM0_0.slice (Rect.unit (s := S32x1024x2048) (k0_off1 v) S1x1024x2048.size hh) hs).squeeze S1024x2048 squeezes_S1x1024x2048_S1024x2048 = grp (bOf v) := grp_congr (off1_eq v h) _ _
@[sl_canon] theorem grp6 (h : v.toNat < 32) (hh hs) :
    (hbM0_0.slice (Rect.unit (s := S32x1024x2048) (k0_off6 v) S1x1024x2048.size hh) hs).squeeze S1024x2048 squeezes_S1x1024x2048_S1024x2048 = grp (bOf v) := grp_congr (off6_eq v h) _ _
@[sl_canon] theorem grp11 (h : v.toNat < 32) (hh hs) :
    (hbM0_0.slice (Rect.unit (s := S32x1024x2048) (k0_off11 v) S1x1024x2048.size hh) hs).squeeze S1024x2048 squeezes_S1x1024x2048_S1024x2048 = grp (bOf v) := grp_congr (off11_eq v h) _ _
@[sl_canon] theorem sem4 (h : v.toNat < 2) (hh) :
    (cc0_scratch2.slice (Rect.unit (s := S1x2) (k0_off4 v) S1x1.size hh)).squeeze S_ squeezes_S1x1_S_ = csm (sOf v) := csm_congr (off4_eq v h) _
@[sl_canon] theorem sem9 (h : v.toNat < 2) (hh) :
    (cc0_scratch2.slice (Rect.unit (s := S1x2) (k0_off9 v) S1x1.size hh)).squeeze S_ squeezes_S1x1_S_ = csm (oth (sOf v)) := csm_congr (off9_eq v h) _
@[sl_canon] theorem slot5 (h : v.toNat < 2) (hh hs) :
    (scM0_0.slice (Rect.unit (s := S2x1024x2048) (k0_off5 v) S1x1024x2048.size hh) hs).squeeze S1024x2048 squeezes_S1x1024x2048_S1024x2048 = rslot (sOf v) := rslot_congr (off5_eq v h) _ _
@[sl_canon] theorem slot10 (h : v.toNat < 2) (hh hs) :
    (scM0_0.slice (Rect.unit (s := S2x1024x2048) (k0_off10 v) S1x1024x2048.size hh) hs).squeeze S1024x2048 squeezes_S1x1024x2048_S1024x2048 = rslot (oth (sOf v)) := rslot_congr (off10_eq v h) _ _

end Words

/-! ## The words the body reads -/

section Run

variable (c : Dev nD) (i : grid0.Coords) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)

abbrev wZ : BitVec 32 := tbM0_0.view.readAt (Elt F) (Rect.unit (s := S160) ![0] S1.size inb_S160_S1_0).toLoadRect xt0 (Shape.Idx.first (numel1_S1.symm ▸ Nat.one_pos))
abbrev wE : BitVec 32 := tbM0_0.view.readAt (Elt F) (Rect.unit (s := S160) (k0_off3 i) S1.size (k0_off3_inb i)).toLoadRect xt0 (Shape.Idx.first (numel1_S1.symm ▸ Nat.one_pos))
abbrev wF : BitVec 32 := tbM0_1.view.readAt (Elt F) (Rect.unit (s := S160) (k0_off2 i) S1.size (k0_off2_inb i)).toLoadRect xt1 (Shape.Idx.first (numel1_S1.symm ▸ Nat.one_pos))
abbrev wN : BitVec 32 := tbM0_2.view.readAt (Elt F) (Rect.unit (s := S1) ![0] S1.size inb_S1_S1_0).toLoadRect xt2 (Shape.Idx.first (numel1_S1.symm ▸ Nat.one_pos))
abbrev wS : BitVec 32 := tbM0_3.view.readAt (Elt F) (Rect.unit (s := S160) (k0_off3 i) S1.size (k0_off3_inb i)).toLoadRect xt3 (Shape.Idx.first (numel1_S1.symm ▸ Nat.one_pos))
abbrev wX : BitVec 32 := tbM0_4.view.readAt (Elt F) (Rect.unit (s := S160) (k0_off7 i) S1.size (k0_off7_inb i)).toLoadRect xt4 (Shape.Idx.first (numel1_S1.symm ▸ Nat.one_pos))
abbrev wX' : BitVec 32 := tbM0_4.view.readAt (Elt F) (Rect.unit (s := S160) (k0_off8 i) S1.size (k0_off8_inb i)).toLoadRect xt4 (Shape.Idx.first (numel1_S1.symm ▸ Nat.one_pos))

variable (arg6 : Memref sig .tc .vmem S256x1024 .bf16) (harg6 : arg6.IsWhole) (arg8 : Memref sig .tc .vmem S256x2048 .f32) (harg8 : arg8.IsWhole)

abbrev bodyG : Prog (TpuEff nD τ sig (Elt F) Λ₀ .tc) PUnit :=
  cc0_expert_down i tbM0_0 htbM0_0 tbM0_1 htbM0_1 tbM0_2 htbM0_2 tbM0_3 htbM0_3 tbM0_4 htbM0_4 arg6 harg6 (Memref.whole main_v0) (Memref.isWhole_whole _) arg8 harg8 scM0_0 (Memref.isWhole_whole _) scM0_1 (Memref.isWhole_whole _) cc0_scratch2

abbrev tabs : sProp (MT nD τ sig Unit (Elt F) ℕ (Pipeline.UD sig nD τ) ℕ) := iprop(tbPt0 c tbM0_0 xt0 ∗ tbPt0 c tbM0_1 xt1 ∗ tbPt0 c tbM0_2 xt2 ∗ tbPt0 c tbM0_3 xt3 ∗ tbPt0 c tbM0_4 xt4)

theorem readAt_full2 {sp : Space} {a b : ℕ} {e : EltTy} {M : Memref sig .tc sp ⟨2, ![a, b]⟩ e} (h : M.IsWhole) (X : Vec F ⟨2, ![a, b]⟩ e)
    (inb : ∀ k, (![0, 0] : Fin 2 → ℕ) k + (⟨2, ![a, b]⟩ : Shape).size k ≤ (⟨2, ![a, b]⟩ : Shape).size k) :
    M.view.readAt (Elt F) (Rect.unit (s := ⟨2, ![a, b]⟩) ![0, 0] (⟨2, ![a, b]⟩ : Shape).size inb).toLoadRect (h.unread X) = X := by
  funext y
  rw [h.readAt_unread]
  congr 1
  funext k
  apply Fin.ext
  fin_cases k <;> simp [Rect.unit, LoadRect.idx, Rect.toLoadRect]

theorem read_full2 {sp : Space} {a b : ℕ} {e : EltTy} {M : Memref sig .tc sp ⟨2, ![a, b]⟩ e} (f : M.view.ty.Contents (Elt F)) (X : Vec F ⟨2, ![a, b]⟩ e)
    (inb : ∀ k, (![0, 0] : Fin 2 → ℕ) k + (⟨2, ![a, b]⟩ : Shape).size k ≤ (⟨2, ![a, b]⟩ : Shape).size k) :
    M.view.read (Elt F) (M.view.writes (Elt F) f [⟨Rect.unit (s := ⟨2, ![a, b]⟩) ![0, 0] (⟨2, ![a, b]⟩ : Shape).size inb, X⟩]) = X := by
  funext y
  have h := View.read_writes_cons_emb M.view f (Rect.unit (s := ⟨2, ![a, b]⟩) ![0, 0] (⟨2, ![a, b]⟩ : Shape).size inb) X [] y
  have e : (Rect.unit (s := ⟨2, ![a, b]⟩) ![0, 0] (⟨2, ![a, b]⟩ : Shape).size inb).emb y = y := by
    funext k
    apply Fin.ext
    fin_cases k <;> simp [Rect.unit, Rect.emb]
  rwa [e] at h

/-- A point that multiplies with the weights already there. -/
theorem runB (x0 : Vec F S256x1024 .bf16) (B : Vec F S1024x2048 .bf16)
    (h1 : k0_cond1 i (wN c xt2) = 1#1) (h2 : ¬ k0_cond2 i = 1#1) (h3 : ¬ k0_cond3 (wF c i xt1) = 1#1) (h5 : ¬ k0_cond5 i (wN c xt2) = 1#1)
    (W : Waits sig Unit) (K : PUnit → sProp (MT nD τ sig Unit (Elt F) ℕ (Pipeline.UD sig nD τ) ℕ)) :
    iprop(owns (c : Thread nD τ) arg6 fullShare x0 ∗ (∃ d, owns (c : Thread nD τ) arg8 fullShare d) ∗ owns (c : Thread nD τ) scM0_1 fullShare B
        ∗ tabs c xt0 xt1 xt2 xt3 xt4 ∗ owes (c : Thread nD τ) 0 W
        ∗ (iprop(owns (c : Thread nD τ) arg6 fullShare x0 ∗ owns (c : Thread nD τ) arg8 fullShare (k0_pay2 x0 B) ∗ owns (c : Thread nD τ) scM0_1 fullShare B
            ∗ tabs c xt0 xt1 xt2 xt3 xt4 ∗ ∃ W', owes (c : Thread nD τ) 0 W') -∗ K ⟨⟩))
      ⊢ wp frame (wpE (defs₀ (F := F)) Variants.none c none) Set.univ (bodyG i arg6 harg6 arg8 harg8) K := by
  unfold bodyG
  simp only [cc0_expert_down_eq_skeleton]; unfold cc0_expert_down_skel
  unfold owns
  iintro ⟨⟨%f0, %hf0, H0⟩, ⟨%d1, %f1, -, H1⟩, ⟨%fs1, %hfs1, HS1⟩, ⟨HT0, HT1, HT2, HT3, HT4⟩, HW, Hk⟩
  obtain rfl := harg6.eq_unread hf0
  obtain rfl := (Memref.isWhole_whole cc0_scratch1).eq_unread hfs1
  sl_exec
  sl_step
  iapply Hk
  isplitl [H0]
  · iexists _; isplitr; · ipureintro; exact harg6.read_unread _
    iexact H0
  isplitl [H1]
  · iexists _; isplitr; swap; · iexact H1
    ipureintro
    rw [readAt_full2 harg6, readAt_full2 (Memref.isWhole_whole cc0_scratch1), read_full2]
  isplitl [HS1]
  · iexists _; isplitr; swap; · iexact HS1
    ipureintro; exact (Memref.isWhole_whole cc0_scratch1).read_unread _
  isplitr [HW]
  · isplitl [HT0]; · iexact HT0
    isplitl [HT1]; · iexact HT1
    isplitl [HT2]; · iexact HT2
    isplitl [HT3]; · iexact HT3
    iexact HT4
  iexists _; iexact HW

/-- A point past the plan's end. -/
theorem runD (h1 : ¬ k0_cond1 i (wN c xt2) = 1#1) (h5 : k0_cond5 i (wN c xt2) = 1#1) (x0 : Vec F S256x1024 .bf16)
    (W : Waits sig Unit) (K : PUnit → sProp (MT nD τ sig Unit (Elt F) ℕ (Pipeline.UD sig nD τ) ℕ)) :
    iprop(owns (c : Thread nD τ) arg6 fullShare x0 ∗ (∃ d, owns (c : Thread nD τ) arg8 fullShare d)
        ∗ tabs c xt0 xt1 xt2 xt3 xt4 ∗ owes (c : Thread nD τ) 0 W
        ∗ (iprop(owns (c : Thread nD τ) arg6 fullShare x0 ∗ owns (c : Thread nD τ) arg8 fullShare (k0_pay3 (F := F))
            ∗ tabs c xt0 xt1 xt2 xt3 xt4 ∗ ∃ W', owes (c : Thread nD τ) 0 W') -∗ K ⟨⟩))
      ⊢ wp frame (wpE (defs₀ (F := F)) Variants.none c none) Set.univ (bodyG i arg6 harg6 arg8 harg8) K := by
  unfold bodyG
  simp only [cc0_expert_down_eq_skeleton]; unfold cc0_expert_down_skel
  unfold owns
  iintro ⟨H0, ⟨%d1, %f1, -, H1⟩, ⟨HT0, HT1, HT2, HT3, HT4⟩, HW, Hk⟩
  sl_exec
  sl_step
  iapply Hk
  isplitl [H0]; · iexact H0
  isplitl [H1]
  · iexists _; isplitr; swap; · iexact H1
    ipureintro
    rw [read_full2]
  isplitr [HW]
  · isplitl [HT0]; · iexact HT0
    isplitl [HT1]; · iexact HT1
    isplitl [HT2]; · iexact HT2
    isplitl [HT3]; · iexact HT3
    iexact HT4
  iexists _; iexact HW

/-! ## Points that take a new expert's weights -/

abbrev cellP (s : Fin 2) : sProp (MT nD τ sig Unit (Elt F) ℕ (Pipeline.UD sig nD τ) ℕ) := semVal ((c : Thread nD τ), SemLoc.dma (csm s).sem) 0
abbrev slotP (s : Fin 2) (f : Buf (Elt F) ((rslot s).view.loc (c : Thread nD τ))) : sProp (MT nD τ sig Unit (Elt F) ℕ (Pipeline.UD sig nD τ) ℕ) :=
  (rslot s).view.loc (c : Thread nD τ) ↦[(rslot s).view.set]{fullShare} f
variable (XA : HbBuf0 (F := F) c hbM0_0)
/-- Expert `b`'s weights, at home. -/
abbrev homeP (b : Fin 32) : sProp (MT nD τ sig Unit (Elt F) ℕ (Pipeline.UD sig nD τ) ℕ) := (grp b).view.loc (c : Thread nD τ) ↦[(grp b).view.set]{fullShare} XA
/-- What the copy of expert `b`'s weights leaves in slot `s`. -/
abbrev landed (s : Fin 2) (b : Fin 32) (f : Buf (Elt F) ((rslot s).view.loc (c : Thread nD τ))) : Buf (Elt F) ((rslot s).view.loc (c : Thread nD τ)) :=
  (rslot s).view.writes (Elt F) f [⟨Rect.whole S1024x2048, ReadAs.same.apply ((grp b).view.read (Elt F) XA)⟩]
/-- The copy of expert `b`'s weights into slot `s`, on its way. -/
abbrev flightP (s : Fin 2) (b : Fin 32) (f : Buf (Elt F) ((rslot s).view.loc (c : Thread nD τ))) : sProp (MT nD τ sig Unit (Elt F) ℕ (Pipeline.UD sig nD τ) ℕ) :=
  Transfers.Flight countersEmb (c : Thread nD τ) (SemLoc.dma (csm s).sem) () (rslot s).view.dmaCredit iprop(slotP c s (landed c XA s b f) ∗ homeP c XA b)

/-- What the bf16 buffer holds of expert `b`'s weights. -/
abbrev Bw (b : Fin 32) : FVec F S1024x2048 .bf16 :=
  shapeCast S1024x2048 (truncf .bf16 ((grp b).view.read (Elt F) XA) bitsLt_bf16_f32) shapeCasts_S1024x2048_S1024x2048

theorem pay1_landed (s : Fin 2) (b : Fin 32) (f : Buf (Elt F) ((rslot s).view.loc (c : Thread nD τ))) {off : Fin 3 → Nat} (e : off = slotOff s)
    (inb : ∀ a, off a + S1x1024x2048.size a ≤ S2x1024x2048.size a) :
    k0_pay1 (scM0_0.view.readAt (Elt F) (Rect.unit (s := S2x1024x2048) off S1x1024x2048.size inb).toLoadRect (landed c XA s b f)) = Bw c XA b := by
  subst e
  have h : (rslot s).view.read (Elt F) (landed c XA s b f) = (grp b).view.read (Elt F) XA := View.read_writes_whole _ _ _
  show shapeCast S1024x2048 (truncf .bf16 ((rslot s).view.read (Elt F) (landed c XA s b f)) bitsLt_bf16_f32) shapeCasts_S1024x2048_S1024x2048 = _
  rw [h]

theorem cov_full2 {sp : Space} {a b : ℕ} {e : EltTy} {M : Memref sig .tc sp ⟨2, ![a, b]⟩ e} (X : Vec F ⟨2, ![a, b]⟩ e)
    (inb : ∀ k, (![0, 0] : Fin 2 → ℕ) k + (⟨2, ![a, b]⟩ : Shape).size k ≤ (⟨2, ![a, b]⟩ : Shape).size k) :
    M.view.readCov [⟨Rect.unit (s := ⟨2, ![a, b]⟩) ![0, 0] (⟨2, ![a, b]⟩ : Shape).size inb, X⟩] (Rect.unit (s := ⟨2, ![a, b]⟩) ![0, 0] (⟨2, ![a, b]⟩ : Shape).size inb).toLoadRect = X := by
  have e : ∀ y, (Rect.unit (s := ⟨2, ![a, b]⟩) ![0, 0] (⟨2, ![a, b]⟩ : Shape).size inb).toLoadRect.idx y = y := by
    intro y
    funext k
    apply Fin.ext
    fin_cases k <;> simp [Rect.unit, LoadRect.idx, Rect.toLoadRect]
  funext y
  show M.view.read (Elt F) _ ((Rect.unit (s := ⟨2, ![a, b]⟩) ![0, 0] (⟨2, ![a, b]⟩ : Shape).size inb).toLoadRect.idx y) = _
  rw [e, read_full2]

theorem runC1 (x0 : Vec F S256x1024 .bf16) (vN vF vS vE vX : BitVec 32) (R : sProp (MT nD τ sig Unit (Elt F) ℕ (Pipeline.UD sig nD τ) ℕ))
    (eN : wN c xt2 = vN) (eF : wF c i xt1 = vF) (eS : wS c i xt3 = vS) (eE : wE c i xt0 = vE) (eX : wX c i xt4 = vX)
    (h1 : k0_cond1 i vN = 1#1) (h2 : ¬ k0_cond2 i = 1#1) (h3 : k0_cond3 vF = 1#1) (h4 : k0_cond4 vX = 1#1) (h5 : ¬ k0_cond5 i vN = 1#1)
    (hs : vS.toNat < 2) (hE : vE.toNat < 32) (hX : vX.toNat < 32)
    (hw2 : k0_chk2 i vN vF vS) (hw3 : k0_chk3 i vN vF vE)
    (hw4 : k0_chk4 i vN vF vS vX) (hw5 : k0_chk5 i vN vF vX vX)
    (W : Waits sig Unit) (K : PUnit → sProp (MT nD τ sig Unit (Elt F) ℕ (Pipeline.UD sig nD τ) ℕ)) :
    iprop(owns (c : Thread nD τ) arg6 fullShare x0 ∗ (∃ d, owns (c : Thread nD τ) arg8 fullShare d) ∗ (∃ d, owns (c : Thread nD τ) scM0_1 fullShare d)
        ∗ tabs c xt0 xt1 xt2 xt3 xt4 ∗ owes (c : Thread nD τ) 0 W
        ∗ (∃ f, flightP c XA (sOf vS) (bOf vE) f)
        ∗ cellP c (oth (sOf vS)) ∗ (∃ f, slotP c (oth (sOf vS)) f)
        ∗ (homeP c XA (bOf vE) -∗ iprop(homeP c XA (bOf vX) ∗ R))
        ∗ (iprop(owns (c : Thread nD τ) arg6 fullShare x0 ∗ owns (c : Thread nD τ) arg8 fullShare (k0_pay2 x0 (Bw c XA (bOf vE))) ∗ owns (c : Thread nD τ) scM0_1 fullShare (Bw c XA (bOf vE))
            ∗ tabs c xt0 xt1 xt2 xt3 xt4 ∗ (∃ W', owes (c : Thread nD τ) 0 W') ∗ cellP c (sOf vS) ∗ (∃ f, slotP c (sOf vS) f) ∗ (∃ f, flightP c XA (oth (sOf vS)) (bOf vX) f) ∗ R) -∗ K ⟨⟩))
      ⊢ wp frame (wpE (defs₀ (F := F)) Variants.none c none) Set.univ (bodyG i arg6 harg6 arg8 harg8) K := by
  unfold bodyG
  simp only [cc0_expert_down_eq_skeleton]; unfold cc0_expert_down_skel
  unfold owns
  iintro ⟨⟨%f0, %hf0, H0⟩, ⟨%d1, %f1, -, H1⟩, ⟨%ds1, %fs1, -, HS1⟩, ⟨HT0, HT1, HT2, HT3, HT4⟩, HW, ⟨%ff, HF⟩, Hc1, ⟨%fs, Hs⟩, Hh, Hk⟩
  obtain rfl := harg6.eq_unread hf0
  have h1' : k0_cond1 i (wN c xt2) = 1#1 := eN ▸ h1
  have h3' : k0_cond3 (wF c i xt1) = 1#1 := eF ▸ h3
  have hw2' : k0_chk2 i (wN c xt2) (wF c i xt1) (wS c i xt3) := by rw [eN, eF, eS]; exact hw2
  have hw3' : k0_chk3 i (wN c xt2) (wF c i xt1) (wE c i xt0) := by rw [eN, eF, eE]; exact hw3
  sl_exec
  have eN' : vN = runC1.sl.r c xt2 := eN.symm
  subst eN'
  have eF' : vF = runC1.sl.r_1 c i xt1 := eF.symm
  subst eF'
  have eS' : vS = runC1.sl.r_2 c i xt3 := eS.symm
  subst eS'
  have eE' : vE = runC1.sl.r_3 c i xt0 := eE.symm
  subst eE'
  letI : ClosedOff (k0_off12 (runC1.sl.r_2 c i xt3)) := ⟨![(sOf (runC1.sl.r_2 c i xt3)).val, 0, 0], off12_eq _ hs⟩
  sl_exec
  ihave Hh2 := Hh $$ [HF_src]
  · iexact HF_src
  icases Hh2 with ⟨Hx, HR⟩
  have hw4' : k0_chk4 i (runC1.sl.r c xt2) (runC1.sl.r_1 c i xt1) (runC1.sl.r_2 c i xt3) (wX c i xt4) := by rw [eX]; exact hw4
  have h4' : k0_cond4 (wX c i xt4) = 1#1 := eX ▸ h4
  have hw5' : k0_chk5 i (runC1.sl.r c xt2) (runC1.sl.r_1 c i xt1) (wX c i xt4) (wX' c i xt4) := by
    have e : wX' c i xt4 = vX := eX
    rw [e, eX]; exact hw5
  sl_exec
  have eX' : vX = runC1.sl.r_5 c i xt4 := eX.symm
  subst eX'
  sl_exec
  sl_step
  unfold runC1.sl.v17
  unfold runC1.sl.HS1_1
  unfold runC1.sl.v36
  have hp := fun inb => pay1_landed c XA (sOf (runC1.sl.r_2 c i xt3)) (bOf (runC1.sl.r_3 c i xt0)) ((rslot (sOf (runC1.sl.r_2 c i xt3))).view.junk) (off12_eq _ hs) inb
  iapply Hk
  isplitl [H0]
  · iexists _; isplitr; · ipureintro; exact harg6.read_unread _
    iexact H0
  isplitl [H1]
  · iexists _; isplitr; swap; · iexact H1
    ipureintro
    rw [read_full2, readAt_full2 harg6, cov_full2]; exact congrArg (k0_pay2 x0) (hp _)
  isplitl [HS1]
  · iexists _; isplitr; swap; · iexact HS1
    ipureintro; rw [read_full2]; exact hp _
  isplitl [HT0 HT1 HT2 HT3 HT4]
  · isplitl [HT0]; · iexact HT0
    isplitl [HT1]; · iexact HT1
    isplitl [HT2]; · iexact HT2
    isplitl [HT3]; · iexact HT3
    iexact HT4
  isplitl [HW]; · iexists _; iexact HW
  isplitl [HF]; · iexact HF
  isplitl [HF_dst]; · iexists _; iexact HF_dst
  isplitl [Hc1]; · iexists _; iexact Hc1
  iexact HR

theorem runC2 (x0 : Vec F S256x1024 .bf16) (vN vF vS vE vX : BitVec 32)
    (eN : wN c xt2 = vN) (eF : wF c i xt1 = vF) (eS : wS c i xt3 = vS) (eE : wE c i xt0 = vE) (eX : wX c i xt4 = vX)
    (h1 : k0_cond1 i vN = 1#1) (h2 : ¬ k0_cond2 i = 1#1) (h3 : k0_cond3 vF = 1#1) (h4 : ¬ k0_cond4 vX = 1#1) (h5 : ¬ k0_cond5 i vN = 1#1)
    (hs : vS.toNat < 2) (hE : vE.toNat < 32)
    (hw2 : k0_chk2 i vN vF vS) (hw3 : k0_chk3 i vN vF vE)
    (hw4 : k0_chk4 i vN vF vS vX)
    (W : Waits sig Unit) (K : PUnit → sProp (MT nD τ sig Unit (Elt F) ℕ (Pipeline.UD sig nD τ) ℕ)) :
    iprop(owns (c : Thread nD τ) arg6 fullShare x0 ∗ (∃ d, owns (c : Thread nD τ) arg8 fullShare d) ∗ (∃ d, owns (c : Thread nD τ) scM0_1 fullShare d)
        ∗ tabs c xt0 xt1 xt2 xt3 xt4 ∗ owes (c : Thread nD τ) 0 W
        ∗ (∃ f, flightP c XA (sOf vS) (bOf vE) f)
        ∗ (iprop(owns (c : Thread nD τ) arg6 fullShare x0 ∗ owns (c : Thread nD τ) arg8 fullShare (k0_pay2 x0 (Bw c XA (bOf vE))) ∗ owns (c : Thread nD τ) scM0_1 fullShare (Bw c XA (bOf vE))
            ∗ tabs c xt0 xt1 xt2 xt3 xt4 ∗ (∃ W', owes (c : Thread nD τ) 0 W') ∗ cellP c (sOf vS) ∗ (∃ f, slotP c (sOf vS) f) ∗ homeP c XA (bOf vE)) -∗ K ⟨⟩))
      ⊢ wp frame (wpE (defs₀ (F := F)) Variants.none c none) Set.univ (bodyG i arg6 harg6 arg8 harg8) K := by
  unfold bodyG
  simp only [cc0_expert_down_eq_skeleton]; unfold cc0_expert_down_skel
  unfold owns
  iintro ⟨⟨%f0, %hf0, H0⟩, ⟨%d1, %f1, -, H1⟩, ⟨%ds1, %fs1, -, HS1⟩, ⟨HT0, HT1, HT2, HT3, HT4⟩, HW, ⟨%ff, HF⟩, Hk⟩
  obtain rfl := harg6.eq_unread hf0
  have h1' : k0_cond1 i (wN c xt2) = 1#1 := eN ▸ h1
  have h3' : k0_cond3 (wF c i xt1) = 1#1 := eF ▸ h3
  have hw2' : k0_chk2 i (wN c xt2) (wF c i xt1) (wS c i xt3) := by rw [eN, eF, eS]; exact hw2
  have hw3' : k0_chk3 i (wN c xt2) (wF c i xt1) (wE c i xt0) := by rw [eN, eF, eE]; exact hw3
  sl_exec
  have eN' : vN = runC2.sl.r c xt2 := eN.symm
  subst eN'
  have eF' : vF = runC2.sl.r_1 c i xt1 := eF.symm
  subst eF'
  have eS' : vS = runC2.sl.r_2 c i xt3 := eS.symm
  subst eS'
  have eE' : vE = runC2.sl.r_3 c i xt0 := eE.symm
  subst eE'
  letI : ClosedOff (k0_off12 (runC2.sl.r_2 c i xt3)) := ⟨![(sOf (runC2.sl.r_2 c i xt3)).val, 0, 0], off12_eq _ hs⟩
  sl_exec
  have hw4' : k0_chk4 i (runC2.sl.r c xt2) (runC2.sl.r_1 c i xt1) (runC2.sl.r_2 c i xt3) (wX c i xt4) := by rw [eX]; exact hw4
  have h4' : ¬ k0_cond4 (wX c i xt4) = 1#1 := eX ▸ h4
  sl_exec
  sl_step
  unfold runC2.sl.v17
  unfold runC2.sl.HS1_1
  unfold runC2.sl.v36
  have hp := fun inb => pay1_landed c XA (sOf (runC2.sl.r_2 c i xt3)) (bOf (runC2.sl.r_3 c i xt0)) ((rslot (sOf (runC2.sl.r_2 c i xt3))).view.junk) (off12_eq _ hs) inb
  iapply Hk
  isplitl [H0]
  · iexists _; isplitr; · ipureintro; exact harg6.read_unread _
    iexact H0
  isplitl [H1]
  · iexists _; isplitr; swap; · iexact H1
    ipureintro
    rw [read_full2, readAt_full2 harg6, cov_full2]; exact congrArg (k0_pay2 x0) (hp _)
  isplitl [HS1]
  · iexists _; isplitr; swap; · iexact HS1
    ipureintro; rw [read_full2]; exact hp _
  isplitl [HT0 HT1 HT2 HT3 HT4]
  · isplitl [HT0]; · iexact HT0
    isplitl [HT1]; · iexact HT1
    isplitl [HT2]; · iexact HT2
    isplitl [HT3]; · iexact HT3
    iexact HT4
  isplitl [HW]; · iexists _; iexact HW
  isplitl [HF]; · iexact HF
  isplitl [HF_dst]; · iexists _; iexact HF_dst
  iexact HF_src

theorem runA1 (x0 : Vec F S256x1024 .bf16) (vN vF vS vE vX vZ : BitVec 32) (R : sProp (MT nD τ sig Unit (Elt F) ℕ (Pipeline.UD sig nD τ) ℕ))
    (eN : wN c xt2 = vN) (eF : wF c i xt1 = vF) (eS : wS c i xt3 = vS) (eE : wE c i xt0 = vE) (eX : wX c i xt4 = vX) (eZ : wZ c xt0 = vZ) (hZE : vZ = vE) (hS0 : vS = 0#32)
    (h1 : k0_cond1 i vN = 1#1) (h2 : k0_cond2 i = 1#1) (h3 : k0_cond3 vF = 1#1) (h4 : k0_cond4 vX = 1#1) (h5 : ¬ k0_cond5 i vN = 1#1)
    (hs : vS.toNat < 2) (hE : vE.toNat < 32) (hX : vX.toNat < 32) (hw1 : k0_chk1 i vN vZ)
    (hw2 : k0_chk2 i vN vF vS) (hw3 : k0_chk3 i vN vF vE)
    (hw4 : k0_chk4 i vN vF vS vX) (hw5 : k0_chk5 i vN vF vX vX)
    (W : Waits sig Unit) (K : PUnit → sProp (MT nD τ sig Unit (Elt F) ℕ (Pipeline.UD sig nD τ) ℕ)) :
    iprop(owns (c : Thread nD τ) arg6 fullShare x0 ∗ (∃ d, owns (c : Thread nD τ) arg8 fullShare d) ∗ (∃ d, owns (c : Thread nD τ) scM0_1 fullShare d)
        ∗ tabs c xt0 xt1 xt2 xt3 xt4 ∗ owes (c : Thread nD τ) 0 W
        ∗ cellP c 0 ∗ (∃ f, slotP c 0 f) ∗ homeP c XA (bOf vZ)
        ∗ cellP c (oth (sOf vS)) ∗ (∃ f, slotP c (oth (sOf vS)) f)
        ∗ (homeP c XA (bOf vE) -∗ iprop(homeP c XA (bOf vX) ∗ R))
        ∗ (iprop(owns (c : Thread nD τ) arg6 fullShare x0 ∗ owns (c : Thread nD τ) arg8 fullShare (k0_pay2 x0 (Bw c XA (bOf vE))) ∗ owns (c : Thread nD τ) scM0_1 fullShare (Bw c XA (bOf vE))
            ∗ tabs c xt0 xt1 xt2 xt3 xt4 ∗ (∃ W', owes (c : Thread nD τ) 0 W') ∗ cellP c (sOf vS) ∗ (∃ f, slotP c (sOf vS) f) ∗ (∃ f, flightP c XA (oth (sOf vS)) (bOf vX) f) ∗ R) -∗ K ⟨⟩))
      ⊢ wp frame (wpE (defs₀ (F := F)) Variants.none c none) Set.univ (bodyG i arg6 harg6 arg8 harg8) K := by
  unfold bodyG
  simp only [cc0_expert_down_eq_skeleton]; unfold cc0_expert_down_skel
  unfold owns
  iintro ⟨⟨%f0, %hf0, H0⟩, ⟨%d1, %f1, -, H1⟩, ⟨%ds1, %fs1, -, HS1⟩, ⟨HT0, HT1, HT2, HT3, HT4⟩, HW, Hc0, ⟨%ff, Hs0⟩, Hz, Hc1, ⟨%fs, Hs⟩, Hh, Hk⟩
  obtain rfl := harg6.eq_unread hf0
  have h1' : k0_cond1 i (wN c xt2) = 1#1 := eN ▸ h1
  have h3' : k0_cond3 (wF c i xt1) = 1#1 := eF ▸ h3
  have hZ : vZ.toNat < 32 := by rw [hZE]; exact hE
  have hw1' : k0_chk1 i (wN c xt2) (wZ c xt0) := by rw [eN, eZ]; exact hw1
  have hw2' : k0_chk2 i (wN c xt2) (wF c i xt1) (wS c i xt3) := by rw [eN, eF, eS]; exact hw2
  have hw3' : k0_chk3 i (wN c xt2) (wF c i xt1) (wE c i xt0) := by rw [eN, eF, eE]; exact hw3
  sl_exec
  have eZ' : vZ = runA1.sl.r_1 c xt0 := eZ.symm
  subst eZ'
  sl_exec
  have eN' : vN = runA1.sl.r c xt2 := eN.symm
  subst eN'
  have eF' : vF = runA1.sl.r_2 c i xt1 := eF.symm
  subst eF'
  have eS' : vS = runA1.sl.r_3 c i xt3 := eS.symm
  subst eS'
  have hcv : iprop(∃ f, flightP c XA 0 (bOf (runA1.sl.r_1 c xt0)) f) ⊢ iprop(∃ f, flightP c XA (sOf (runA1.sl.r_3 c i xt3)) (bOf (runA1.sl.r_4 c i xt0)) f) := by
    have e1 : sOf (runA1.sl.r_3 c i xt3) = 0 := by rw [hS0]; rfl
    have e2 : runA1.sl.r_1 c xt0 = runA1.sl.r_4 c i xt0 := hZE.trans eE.symm
    rw [e1, e2]
  ihave HF2 := hcv $$ [Hc0]
  · iexists ff; iexact Hc0
  icases HF2 with ⟨%fg, HF⟩
  have eE' : vE = runA1.sl.r_4 c i xt0 := eE.symm
  subst eE'
  letI : ClosedOff (k0_off12 (runA1.sl.r_3 c i xt3)) := ⟨![(sOf (runA1.sl.r_3 c i xt3)).val, 0, 0], off12_eq _ hs⟩
  sl_exec
  ihave Hh2 := Hh $$ [HF_src]
  · iexact HF_src
  icases Hh2 with ⟨Hx, HR⟩
  have hw4' : k0_chk4 i (runA1.sl.r c xt2) (runA1.sl.r_2 c i xt1) (runA1.sl.r_3 c i xt3) (wX c i xt4) := by rw [eX]; exact hw4
  have h4' : k0_cond4 (wX c i xt4) = 1#1 := eX ▸ h4
  have hw5' : k0_chk5 i (runA1.sl.r c xt2) (runA1.sl.r_2 c i xt1) (wX c i xt4) (wX' c i xt4) := by
    have e : wX' c i xt4 = vX := eX
    rw [e, eX]; exact hw5
  sl_exec
  have eX' : vX = runA1.sl.r_6 c i xt4 := eX.symm
  subst eX'
  sl_exec
  sl_step
  unfold runA1.sl.v17
  unfold runA1.sl.HS1_1
  unfold runA1.sl.v36
  have hp := fun inb => pay1_landed c XA (sOf (runA1.sl.r_3 c i xt3)) (bOf (runA1.sl.r_4 c i xt0)) ((rslot (sOf (runA1.sl.r_3 c i xt3))).view.junk) (off12_eq _ hs) inb
  iapply Hk
  isplitl [H0]
  · iexists _; isplitr; · ipureintro; exact harg6.read_unread _
    iexact H0
  isplitl [H1]
  · iexists _; isplitr; swap; · iexact H1
    ipureintro
    rw [read_full2, readAt_full2 harg6, cov_full2]; exact congrArg (k0_pay2 x0) (hp _)
  isplitl [HS1]
  · iexists _; isplitr; swap; · iexact HS1
    ipureintro; rw [read_full2]; exact hp _
  isplitl [HT0 HT1 HT2 HT3 HT4]
  · isplitl [HT0]; · iexact HT0
    isplitl [HT1]; · iexact HT1
    isplitl [HT2]; · iexact HT2
    isplitl [HT3]; · iexact HT3
    iexact HT4
  isplitl [HW]; · iexists _; iexact HW
  isplitl [HF]; · iexact HF
  isplitl [HF_dst]; · iexists _; iexact HF_dst
  isplitl [Hc1]; · iexists _; iexact Hc1
  iexact HR

theorem runA2 (x0 : Vec F S256x1024 .bf16) (vN vF vS vE vX vZ : BitVec 32)
    (eN : wN c xt2 = vN) (eF : wF c i xt1 = vF) (eS : wS c i xt3 = vS) (eE : wE c i xt0 = vE) (eX : wX c i xt4 = vX) (eZ : wZ c xt0 = vZ) (hZE : vZ = vE) (hS0 : vS = 0#32)
    (h1 : k0_cond1 i vN = 1#1) (h2 : k0_cond2 i = 1#1) (h3 : k0_cond3 vF = 1#1) (h4 : ¬ k0_cond4 vX = 1#1) (h5 : ¬ k0_cond5 i vN = 1#1)
    (hs : vS.toNat < 2) (hE : vE.toNat < 32) (hw1 : k0_chk1 i vN vZ)
    (hw2 : k0_chk2 i vN vF vS) (hw3 : k0_chk3 i vN vF vE)
    (hw4 : k0_chk4 i vN vF vS vX)
    (W : Waits sig Unit) (K : PUnit → sProp (MT nD τ sig Unit (Elt F) ℕ (Pipeline.UD sig nD τ) ℕ)) :
    iprop(owns (c : Thread nD τ) arg6 fullShare x0 ∗ (∃ d, owns (c : Thread nD τ) arg8 fullShare d) ∗ (∃ d, owns (c : Thread nD τ) scM0_1 fullShare d)
        ∗ tabs c xt0 xt1 xt2 xt3 xt4 ∗ owes (c : Thread nD τ) 0 W
        ∗ cellP c 0 ∗ (∃ f, slotP c 0 f) ∗ homeP c XA (bOf vZ)
        ∗ (iprop(owns (c : Thread nD τ) arg6 fullShare x0 ∗ owns (c : Thread nD τ) arg8 fullShare (k0_pay2 x0 (Bw c XA (bOf vE))) ∗ owns (c : Thread nD τ) scM0_1 fullShare (Bw c XA (bOf vE))
            ∗ tabs c xt0 xt1 xt2 xt3 xt4 ∗ (∃ W', owes (c : Thread nD τ) 0 W') ∗ cellP c (sOf vS) ∗ (∃ f, slotP c (sOf vS) f) ∗ homeP c XA (bOf vE)) -∗ K ⟨⟩))
      ⊢ wp frame (wpE (defs₀ (F := F)) Variants.none c none) Set.univ (bodyG i arg6 harg6 arg8 harg8) K := by
  unfold bodyG
  simp only [cc0_expert_down_eq_skeleton]; unfold cc0_expert_down_skel
  unfold owns
  iintro ⟨⟨%f0, %hf0, H0⟩, ⟨%d1, %f1, -, H1⟩, ⟨%ds1, %fs1, -, HS1⟩, ⟨HT0, HT1, HT2, HT3, HT4⟩, HW, Hc0, ⟨%ff, Hs0⟩, Hz, Hk⟩
  obtain rfl := harg6.eq_unread hf0
  have h1' : k0_cond1 i (wN c xt2) = 1#1 := eN ▸ h1
  have h3' : k0_cond3 (wF c i xt1) = 1#1 := eF ▸ h3
  have hZ : vZ.toNat < 32 := by rw [hZE]; exact hE
  have hw1' : k0_chk1 i (wN c xt2) (wZ c xt0) := by rw [eN, eZ]; exact hw1
  have hw2' : k0_chk2 i (wN c xt2) (wF c i xt1) (wS c i xt3) := by rw [eN, eF, eS]; exact hw2
  have hw3' : k0_chk3 i (wN c xt2) (wF c i xt1) (wE c i xt0) := by rw [eN, eF, eE]; exact hw3
  sl_exec
  have eZ' : vZ = runA2.sl.r_1 c xt0 := eZ.symm
  subst eZ'
  sl_exec
  have eN' : vN = runA2.sl.r c xt2 := eN.symm
  subst eN'
  have eF' : vF = runA2.sl.r_2 c i xt1 := eF.symm
  subst eF'
  have eS' : vS = runA2.sl.r_3 c i xt3 := eS.symm
  subst eS'
  have hcv : iprop(∃ f, flightP c XA 0 (bOf (runA2.sl.r_1 c xt0)) f) ⊢ iprop(∃ f, flightP c XA (sOf (runA2.sl.r_3 c i xt3)) (bOf (runA2.sl.r_4 c i xt0)) f) := by
    have e1 : sOf (runA2.sl.r_3 c i xt3) = 0 := by rw [hS0]; rfl
    have e2 : runA2.sl.r_1 c xt0 = runA2.sl.r_4 c i xt0 := hZE.trans eE.symm
    rw [e1, e2]
  ihave HF2 := hcv $$ [Hc0]
  · iexists ff; iexact Hc0
  icases HF2 with ⟨%fg, HF⟩
  have eE' : vE = runA2.sl.r_4 c i xt0 := eE.symm
  subst eE'
  letI : ClosedOff (k0_off12 (runA2.sl.r_3 c i xt3)) := ⟨![(sOf (runA2.sl.r_3 c i xt3)).val, 0, 0], off12_eq _ hs⟩
  sl_exec
  have hw4' : k0_chk4 i (runA2.sl.r c xt2) (runA2.sl.r_2 c i xt1) (runA2.sl.r_3 c i xt3) (wX c i xt4) := by rw [eX]; exact hw4
  have h4' : ¬ k0_cond4 (wX c i xt4) = 1#1 := eX ▸ h4
  sl_exec
  sl_step
  unfold runA2.sl.v17
  unfold runA2.sl.HS1_1
  unfold runA2.sl.v36
  have hp := fun inb => pay1_landed c XA (sOf (runA2.sl.r_3 c i xt3)) (bOf (runA2.sl.r_4 c i xt0)) ((rslot (sOf (runA2.sl.r_3 c i xt3))).view.junk) (off12_eq _ hs) inb
  iapply Hk
  isplitl [H0]
  · iexists _; isplitr; · ipureintro; exact harg6.read_unread _
    iexact H0
  isplitl [H1]
  · iexists _; isplitr; swap; · iexact H1
    ipureintro
    rw [read_full2, readAt_full2 harg6, cov_full2]; exact congrArg (k0_pay2 x0) (hp _)
  isplitl [HS1]
  · iexists _; isplitr; swap; · iexact HS1
    ipureintro; rw [read_full2]; exact hp _
  isplitl [HT0 HT1 HT2 HT3 HT4]
  · isplitl [HT0]; · iexact HT0
    isplitl [HT1]; · iexact HT1
    isplitl [HT2]; · iexact HT2
    isplitl [HT3]; · iexact HT3
    iexact HT4
  isplitl [HW]; · iexists _; iexact HW
  isplitl [HF]; · iexact HF
  isplitl [HF_dst]; · iexists _; iexact HF_dst
  iexact HF_src

end Run

end Cert.Kernel2Ideal.Down

end
-- ==== Proof.DownFrame.lean ====
module

public import proofs.«01_k».proof.Proof.DownRun
public import Idealize.ShloMosaic.Lib.Claim

@[expose] public section

set_option maxRecDepth 16384

noncomputable section

namespace Cert.Kernel2Ideal.Down

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The slots and the weights, apart and together -/

section Pieces
variable (c : Dev nD) (XA : HbBuf0 (F := F) c hbM0_0)

abbrev S2 (s : Fin 2) : Finset S2x1024x2048.Idx := (Rect.unit (s := S2x1024x2048) (slotOff s) S1x1024x2048.size (slotOff_inb s)).set
theorem rslot_set (s : Fin 2) : (rslot s : Memref sig .tc .vmem _ _).view.set = S2 s := (View.set_reshape _ _).trans (View.set_slice_whole _ _)
theorem mem_S2 (s : Fin 2) (y : S2x1024x2048.Idx) : y ∈ S2 s ↔ (y 0).val = s.val := by
  rw [Rect.mem_set_unit]
  have h1 : (y 1).val < 1024 := (y 1).isLt
  have h2 : (y 2).val < 2048 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1024; omega
    · show 0 ≤ (y 2).val ∧ (y 2).val < 0 + 2048; omega
theorem S2_disjoint : ∀ s s' : Fin 2, s ≠ s' → Disjoint (S2 s) (S2 s') := by
  intro s s' hne; rw [Finset.disjoint_left]; intro y hy hy'; rw [mem_S2] at hy hy'; exact hne (Fin.ext (hy.symm.trans hy'))
theorem S2_cover : (Finset.univ : Finset (Fin 2)).biUnion S2 = Finset.univ := by
  ext y; simp only [Finset.mem_biUnion, Finset.mem_univ, true_and, iff_true]; exact ⟨(y 0).cast (by decide), by rw [mem_S2]; rfl⟩

theorem slotP_eq (s : Fin 2) (f) : slotP (F := F) c s f = (((c : Thread nD τ).loc cc0_scratch0) ↦[S2 s]{fullShare} f : sProp (MT nD τ sig Unit (Elt F) ℕ (Pipeline.UD sig nD τ) ℕ)) :=
  congrArg (fun S => (_ ↦[S]{fullShare} f : sProp (MT nD τ sig Unit (Elt F) ℕ (Pipeline.UD sig nD τ) ℕ))) (rslot_set s)

theorem buf_split : iprop(∃ d, owns (c : Thread nD τ) scM0_0 fullShare d) ⊢ (iprop((∃ f, slotP (F := F) c 0 f) ∗ ∃ f, slotP c 1 f) : sProp (MT nD τ sig Unit (Elt F) ℕ (Pipeline.UD sig nD τ) ℕ)) := by
  refine BIBase.Entails.trans ?_ (Ring.slots2_split (ℓ := (c : Thread nD τ).loc cc0_scratch0) S2 S2_disjoint S2_cover _ _ (slotP_eq c 0) (slotP_eq c 1))
  simp only [owns_whole]; rfl
theorem buf_join : (iprop((∃ f, slotP (F := F) c 0 f) ∗ ∃ f, slotP c 1 f) : sProp (MT nD τ sig Unit (Elt F) ℕ (Pipeline.UD sig nD τ) ℕ)) ⊢ iprop(∃ d, owns (c : Thread nD τ) scM0_0 fullShare d) := by
  refine BIBase.Entails.trans (Ring.slots2_join (ℓ := (c : Thread nD τ).loc cc0_scratch0) S2 S2_disjoint S2_cover _ _ (slotP_eq c 0) (slotP_eq c 1)) ?_
  simp only [owns_whole]; rfl

/-- The weights but expert `b`'s. -/
abbrev otherP (b : Fin 32) : sProp (MT nD τ sig Unit (Elt F) ℕ (Pipeline.UD sig nD τ) ℕ) := hbM0_0.view.loc (c : Thread nD τ) ↦[Finset.univ \ (grp b).view.set]{fullShare} XA
theorem home_split (b : Fin 32) : hbPt0 c hbM0_0 XA ⊢ iprop(homeP c XA b ∗ otherP c XA b) :=
  (pointsTo_split_subset (ℓ := hbM0_0.view.loc (c : Thread nD τ)) (Finset.subset_univ (grp b).view.set)).1
theorem home_join (b : Fin 32) : iprop(homeP c XA b ∗ otherP c XA b) ⊢ hbPt0 c hbM0_0 XA :=
  (pointsTo_split_subset (ℓ := hbM0_0.view.loc (c : Thread nD τ)) (Finset.subset_univ (grp b).view.set)).2

/-- No copy on its way. -/
abbrev Rest : sProp (MT nD τ sig Unit (Elt F) ℕ (Pipeline.UD sig nD τ) ℕ) := iprop(cellP c 0 ∗ (∃ f, slotP c 0 f) ∗ cellP c 1 ∗ (∃ f, slotP c 1 f) ∗ hbPt0 c hbM0_0 XA)
/-- The copy of expert `b`'s weights into slot `s` on its way. -/
abbrev Fly (s : Fin 2) (b : Fin 32) : sProp (MT nD τ sig Unit (Elt F) ℕ (Pipeline.UD sig nD τ) ℕ) := iprop((∃ f, flightP c XA s b f) ∗ cellP c (oth s) ∗ (∃ f, slotP c (oth s) f) ∗ otherP c XA b)

theorem oth_oth (s : Fin 2) : oth (oth s) = s := by revert s; decide

theorem rest_open (s : Fin 2) : Rest c XA ⊢ iprop(cellP c s ∗ (∃ f, slotP c s f) ∗ cellP c (oth s) ∗ (∃ f, slotP c (oth s) f) ∗ hbPt0 c hbM0_0 XA) := by
  rcases (by revert s; decide : s = 0 ∨ s = 1) with rfl | rfl
  · exact .rfl
  · change _ ⊢ iprop(cellP c 1 ∗ (∃ f, slotP c 1 f) ∗ cellP c 0 ∗ (∃ f, slotP c 0 f) ∗ hbPt0 c hbM0_0 XA)
    iintro ⟨A, B, C, D, E⟩
    isplitl [C]; · iexact C
    isplitl [D]; · iexact D
    isplitl [A]; · iexact A
    isplitl [B]; · iexact B
    iexact E
theorem rest_close (s : Fin 2) : iprop(cellP c s ∗ (∃ f, slotP c s f) ∗ cellP c (oth s) ∗ (∃ f, slotP c (oth s) f) ∗ hbPt0 c hbM0_0 XA) ⊢ Rest c XA := by
  rcases (by revert s; decide : s = 0 ∨ s = 1) with rfl | rfl
  · exact .rfl
  · change iprop(cellP c 1 ∗ (∃ f, slotP c 1 f) ∗ cellP c 0 ∗ (∃ f, slotP c 0 f) ∗ hbPt0 c hbM0_0 XA) ⊢ _
    iintro ⟨A, B, C, D, E⟩
    isplitl [C]; · iexact C
    isplitl [D]; · iexact D
    isplitl [A]; · iexact A
    isplitl [B]; · iexact B
    iexact E
end Pieces

/-! ## The plan's words, and what is asked of them -/

variable (m : (ℓ : Loc nD τ sig) → Buf (Elt F) ℓ) (ρ : Dev nD → PrngReg)

section Plan
variable (c : Dev nD) (t : Fin grid0.N)
abbrev jN : BitVec 32 := wN (F := F) c (tbl m 2)
abbrev jZ : BitVec 32 := wZ (F := F) c (tbl m 0)
abbrev jE : BitVec 32 := wE (F := F) c (grid0.coords t) (tbl m 0)
abbrev jF : BitVec 32 := wF (F := F) c (grid0.coords t) (tbl m 1)
abbrev jS : BitVec 32 := wS (F := F) c (grid0.coords t) (tbl m 3)
abbrev jX : BitVec 32 := wX (F := F) c (grid0.coords t) (tbl m 4)
/-- Row block `t` is in use, is the first of its expert, has an expert after it. -/
abbrev Use : Prop := k0_cond1 (grid0.coords t) (jN m c) = 1#1
abbrev Fst : Prop := k0_cond3 (jF m c t) = 1#1
abbrev Nxt : Prop := k0_cond4 (jX m c t) = 1#1
end Plan

/-- What is asked of the plan. -/
structure Plan (c : Dev nD) : Prop where
  c2 : ∀ t : Fin grid0.N, k0_cond2 (grid0.coords t) = 1#1 ↔ t.val = 0
  c5 : ∀ t : Fin grid0.N, k0_cond5 (grid0.coords t) (jN m c) = 1#1 ↔ ¬ Use m c t
  use0 : ∀ t : Fin grid0.N, t.val = 0 → Use m c t
  mono : ∀ t t' : Fin grid0.N, t.val + 1 = t'.val → Use m c t' → Use m c t
  last : ∀ t : Fin grid0.N, Use m c t → (∀ t' : Fin grid0.N, t'.val = t.val + 1 → ¬ Use m c t') → ¬ Nxt m c t
  hE : ∀ t, Use m c t → (jE m c t).toNat < 32
  hS : ∀ t, Use m c t → (jS m c t).toNat < 2
  hX : ∀ t, Use m c t → Nxt m c t → (jX m c t).toNat < 32
  fst0 : ∀ t : Fin grid0.N, t.val = 0 → Fst m c t
  slot0 : ∀ t : Fin grid0.N, t.val = 0 → jS m c t = 0#32
  zero : ∀ t : Fin grid0.N, t.val = 0 → jZ m c = jE m c t
  step : ∀ t t' : Fin grid0.N, t.val + 1 = t'.val → Use m c t' →
    (¬ Fst m c t' ∧ jE m c t' = jE m c t ∧ jS m c t' = jS m c t ∧ jX m c t' = jX m c t)
    ∨ (Fst m c t' ∧ Nxt m c t ∧ jE m c t' = jX m c t ∧ sOf (jS m c t') = oth (sOf (jS m c t)))

theorem chk1_of (i v0) {v : BitVec 32} (h : v.toNat < 32) : k0_chk1 i v0 v := fun _ _ => off1_eq v h ▸ grpOff_inb _
theorem chk2_of (i v0 v1) {v : BitVec 32} (h : v.toNat < 2) : k0_chk2 i v0 v1 v :=
  ⟨fun _ _ => off4_eq v h ▸ semOff_inb _, fun _ _ => off5_eq v h ▸ slotOff_inb _, fun _ _ => off12_eq v h ▸ slotOff_inb _⟩
theorem chk3_of (i v0 v1) {v : BitVec 32} (h : v.toNat < 32) : k0_chk3 i v0 v1 v := fun _ _ => off6_eq v h ▸ grpOff_inb _
theorem chk4_of (i v0 v1) {v : BitVec 32} (v' : BitVec 32) (h : v.toNat < 2) : k0_chk4 i v0 v1 v v' :=
  ⟨fun _ _ _ => off9_eq v h ▸ semOff_inb _, fun _ _ _ => off10_eq v h ▸ slotOff_inb _⟩
theorem chk5_of (i v0 v1 v2) {v : BitVec 32} (h : v.toNat < 32) : k0_chk5 i v0 v1 v2 v := fun _ _ _ => off11_eq v h ▸ grpOff_inb _

/-! ## The state between points -/

section State
variable (c : Dev nD)

abbrev Idle : sProp (MT nD τ sig Unit (Elt F) ℕ (Pipeline.UD sig nD τ) ℕ) := iprop((∃ d, owns (c : Thread nD τ) scM0_1 fullShare d) ∗ Rest c (V m c main_v0))
/-- After point `t`, in use. -/
def Mid (t : Fin grid0.N) : sProp (MT nD τ sig Unit (Elt F) ℕ (Pipeline.UD sig nD τ) ℕ) :=
  open Classical in
  iprop(owns (c : Thread nD τ) scM0_1 fullShare (Bw c (V m c main_v0) (bOf (jE m c t)))
    ∗ if Nxt m c t then Fly c (V m c main_v0) (oth (sOf (jS m c t))) (bOf (jX m c t)) else Rest c (V m c main_v0))
/-- Before point `k`. -/
def St (k : ℕ) : sProp (MT nD τ sig Unit (Elt F) ℕ (Pipeline.UD sig nD τ) ℕ) :=
  open Classical in
  if h : ∃ t : Fin grid0.N, t.val + 1 = k ∧ Use m c t then Mid m c h.choose else Idle m c

theorem St_mid {t : Fin grid0.N} (h : Use m c t) : St m c (t.val + 1) = Mid m c t := by
  have h' : ∃ t' : Fin grid0.N, t'.val + 1 = t.val + 1 ∧ Use m c t' := ⟨t, rfl, h⟩
  unfold St
  rw [dif_pos h']
  exact congrArg (Mid m c) (Fin.ext (by have := h'.choose_spec.1; omega))
theorem St_idle {k : ℕ} (h : ∀ t : Fin grid0.N, t.val + 1 = k → ¬ Use m c t) : St m c k = Idle m c := by
  unfold St
  rw [dif_neg (fun ⟨t, e, u⟩ => h t e u)]
theorem Mid_nxt {t : Fin grid0.N} (h : Nxt m c t) : Mid m c t = iprop(owns (c : Thread nD τ) scM0_1 fullShare (Bw c (V m c main_v0) (bOf (jE m c t))) ∗ Fly c (V m c main_v0) (oth (sOf (jS m c t))) (bOf (jX m c t))) := by
  unfold Mid; rw [if_pos h]
theorem Mid_rest {t : Fin grid0.N} (h : ¬ Nxt m c t) : Mid m c t = iprop(owns (c : Thread nD τ) scM0_1 fullShare (Bw c (V m c main_v0) (bOf (jE m c t))) ∗ Rest c (V m c main_v0)) := by
  unfold Mid; rw [if_neg h]
/-- Nothing is on its way before a point that is not in use, nor at the end. -/
theorem St_out (hP : Plan m c) {k : ℕ} (h : ∀ t : Fin grid0.N, t.val = k → ¬ Use m c t) : St m c k ⊢ Idle m c := by
  by_cases hk : ∃ t : Fin grid0.N, t.val + 1 = k ∧ Use m c t
  · obtain ⟨t, rfl, hu⟩ := hk
    rw [St_mid m c hu, Mid_rest m c (hP.last t hu (fun t' e => h t' e))]
    iintro ⟨A, B⟩
    isplitl [A]; · iexists _; iexact A
    iexact B
  · rw [St_idle m c (fun t e u => hk ⟨t, e, u⟩)]

end State

/-! ## The pipeline's proof data -/

/-- What the output's staging buffer holds after point `t`. -/
def outAt (hO : Ok m) (c : Dev nD) (t : Fin (cfgM m hO).N) : Vec F S256x2048 .f32 :=
  open Classical in
  if Use m c t then k0_pay2 (iblk m hO c 0 t) (Bw c (V m c main_v0) (bOf (jE m c t))) else k0_pay3

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => outAt m hO c t
  Φ k := iprop((∃ r, prngReg c r) ∗ tabs c (tbl m 0) (tbl m 1) (tbl m 2) (tbl m 3) (tbl m 4) ∗ St m c k.val)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d

/-! ## The body obligation -/

def bodyPre (hO : Ok m) (c : Dev nD) (t : Fin (cfgM m hO).N) : sProp (MT nD τ sig Unit (Elt F) ℕ (Pipeline.UD sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d)))
def bodyPost (hO : Ok m) (c : Dev nD) (t : Fin (cfgM m hO).N) : sProp (MT nD τ sig Unit (Elt F) ℕ (Pipeline.UD sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t))

theorem stepB (hO : Ok m) (c : Dev nD) (hP : Plan m c) (t : Fin (cfgM m hO).N) (hu : Use m c t) (hf : ¬ Fst m c t) (W : Waits sig Unit) (K : PUnit → sProp (MT nD τ sig Unit (Elt F) ℕ (Pipeline.UD sig nD τ) ℕ)) :
    iprop(owns (c : Thread nD τ) (ms0_0 m hO t) fullShare (iblk m hO c 0 t) ∗ (∃ d, owns (c : Thread nD τ) (ms0_1 m hO t) fullShare d)
        ∗ tabs c (tbl m 0) (tbl m 1) (tbl m 2) (tbl m 3) (tbl m 4) ∗ owes (c : Thread nD τ) 0 W ∗ St m c t.val
        ∗ (iprop(owns (c : Thread nD τ) (ms0_0 m hO t) fullShare (iblk m hO c 0 t)
            ∗ owns (c : Thread nD τ) (ms0_1 m hO t) fullShare (k0_pay2 (iblk m hO c 0 t) (Bw c (V m c main_v0) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t)) K := by
  have h5 : ¬ k0_cond5 (grid0.coords t) (jN m c) = 1#1 := fun h => (hP.c5 t).1 h hu
  have ht : t.val ≠ 0 := fun h => hf (hP.fst0 t h)
  have h2 : ¬ k0_cond2 (grid0.coords t) = 1#1 := fun h => ht ((hP.c2 t).1 h)
  obtain ⟨k, hk⟩ : ∃ k : Fin grid0.N, k.val + 1 = t.val := ⟨⟨t.val - 1, by have h0 : t.val < grid0.N := t.isLt; omega⟩, by show t.val - 1 + 1 = t.val; omega⟩
  have huk := hP.mono k t hk hu
  obtain ⟨-, e1, e2, e3⟩ := (hP.step k t hk hu).resolve_right (fun h => hf h.1)
  have hSt : St m c t.val = Mid m c t := by
    rw [← hk, St_mid m c huk]; unfold Mid Nxt; rw [e1, e2, e3]
  rw [hSt]
  unfold Mid
  iintro ⟨H0, H1, HT, HW, ⟨HS, HF⟩, Hk⟩
  iapply (runB c (grid0.coords t) (tbl m 0) (tbl m 1) (tbl m 2) (tbl m 3) (tbl m 4) _ _ _ _ (iblk m hO c 0 t) _ hu h2 hf h5 W _)
  isplitl [H0]; · iexact H0
  isplitl [H1]; · iexact H1
  isplitl [HS]; · iexact HS
  isplitl [HT]; · iexact HT
  isplitl [HW]; · iexact HW
  iintro ⟨H0, H1, HS, HT, HW⟩
  iapply Hk
  isplitl [H0]; · iexact H0
  isplitl [H1]; · iexact H1
  isplitl [HT]; · iexact HT
  isplitl [HW]; · iexact HW
  isplitl [HS]; · iexact HS
  iexact HF

theorem stepC1 (hO : Ok m) (c : Dev nD) (hP : Plan m c) (t : Fin (cfgM m hO).N) (hu : Use m c t) (hf : Fst m c t) (hn : Nxt m c t) (ht : t.val ≠ 0) (W : Waits sig Unit) (K : PUnit → sProp (MT nD τ sig Unit (Elt F) ℕ (Pipeline.UD sig nD τ) ℕ)) :
    iprop(owns (c : Thread nD τ) (ms0_0 m hO t) fullShare (iblk m hO c 0 t) ∗ (∃ d, owns (c : Thread nD τ) (ms0_1 m hO t) fullShare d)
        ∗ tabs c (tbl m 0) (tbl m 1) (tbl m 2) (tbl m 3) (tbl m 4) ∗ owes (c : Thread nD τ) 0 W ∗ St m c t.val
        ∗ (iprop(owns (c : Thread nD τ) (ms0_0 m hO t) fullShare (iblk m hO c 0 t)
            ∗ owns (c : Thread nD τ) (ms0_1 m hO t) fullShare (k0_pay2 (iblk m hO c 0 t) (Bw c (V m c main_v0) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t)) K := by
  have h5 : ¬ k0_cond5 (grid0.coords t) (jN m c) = 1#1 := fun h => (hP.c5 t).1 h hu
  have h2 : ¬ k0_cond2 (grid0.coords t) = 1#1 := fun h => ht ((hP.c2 t).1 h)
  have hE := hP.hE t hu
  have hS := hP.hS t hu
  have hX := hP.hX t hu hn
  obtain ⟨k, hk⟩ : ∃ k : Fin grid0.N, k.val + 1 = t.val := ⟨⟨t.val - 1, by have h0 : t.val < grid0.N := t.isLt; omega⟩, by show t.val - 1 + 1 = t.val; omega⟩
  have huk := hP.mono k t hk hu
  obtain ⟨-, hnk, e1, e2⟩ := (hP.step k t hk hu).resolve_left (fun h => h.1 hf)
  have hSt : St m c t.val = iprop(owns (c : Thread nD τ) scM0_1 fullShare (Bw c (V m c main_v0) (bOf (jE m c k))) ∗ Fly c (V m c main_v0) (sOf (jS m c t)) (bOf (jE m c t))) := by
    rw [← hk, St_mid m c huk, Mid_nxt m c hnk, e1, e2]
  rw [hSt]
  iintro ⟨H0, H1, HT, HW, ⟨HS, HF, Hc1, Hs1, Ho⟩, Hk⟩
  iapply (runC1 c (grid0.coords t) (tbl m 0) (tbl m 1) (tbl m 2) (tbl m 3) (tbl m 4) _ _ _ _ (V m c main_v0) (iblk m hO c 0 t) (jN m c) (jF m c t) (jS m c t) (jE m c t) (jX m c t) (otherP c (V m c main_v0) (bOf (jX m c t))) rfl rfl rfl rfl rfl hu h2 hf hn h5 hS hE hX (chk2_of _ _ _ hS) (chk3_of _ _ _ hE) (chk4_of _ _ _ _ hS) (chk5_of _ _ _ _ hX) W _)
  isplitl [H0]; · iexact H0
  isplitl [H1]; · iexact H1
  isplitl [HS]; · first | iexact HS | (iexists _; iexact HS)
  isplitl [HT]; · iexact HT
  isplitl [HW]; · iexact HW
  isplitl [HF]; · iexact HF
  isplitl [Hc1]; · iexact Hc1
  isplitl [Hs1]; · iexact Hs1
  isplitl [Ho]
  · iintro Hz
    iapply (home_split c (V m c main_v0) (bOf (jX m c t)))
    iapply (home_join c (V m c main_v0) (bOf (jE m c t)))
    isplitl [Hz]; · iexact Hz
    iexact Ho
  iintro ⟨H0, H1, HS, HT, HW, Hc, Hs, HF, Ho⟩
  rw [Mid_nxt m c hn]
  iapply Hk
  isplitl [H0]; · iexact H0
  isplitl [H1]; · iexact H1
  isplitl [HT]; · iexact HT
  isplitl [HW]; · iexact HW
  isplitl [HS]; · iexact HS
  isplitl [HF]; · iexact HF
  rw [oth_oth]
  isplitl [Hc]; · iexact Hc
  isplitl [Hs]; · iexact Hs
  iexact Ho

theorem stepC2 (hO : Ok m) (c : Dev nD) (hP : Plan m c) (t : Fin (cfgM m hO).N) (hu : Use m c t) (hf : Fst m c t) (hn : ¬ Nxt m c t) (ht : t.val ≠ 0) (W : Waits sig Unit) (K : PUnit → sProp (MT nD τ sig Unit (Elt F) ℕ (Pipeline.UD sig nD τ) ℕ)) :
    iprop(owns (c : Thread nD τ) (ms0_0 m hO t) fullShare (iblk m hO c 0 t) ∗ (∃ d, owns (c : Thread nD τ) (ms0_1 m hO t) fullShare d)
        ∗ tabs c (tbl m 0) (tbl m 1) (tbl m 2) (tbl m 3) (tbl m 4) ∗ owes (c : Thread nD τ) 0 W ∗ St m c t.val
        ∗ (iprop(owns (c : Thread nD τ) (ms0_0 m hO t) fullShare (iblk m hO c 0 t)
            ∗ owns (c : Thread nD τ) (ms0_1 m hO t) fullShare (k0_pay2 (iblk m hO c 0 t) (Bw c (V m c main_v0) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t)) K := by
  have h5 : ¬ k0_cond5 (grid0.coords t) (jN m c) = 1#1 := fun h => (hP.c5 t).1 h hu
  have h2 : ¬ k0_cond2 (grid0.coords t) = 1#1 := fun h => ht ((hP.c2 t).1 h)
  have hE := hP.hE t hu
  have hS := hP.hS t hu
  obtain ⟨k, hk⟩ : ∃ k : Fin grid0.N, k.val + 1 = t.val := ⟨⟨t.val - 1, by have h0 : t.val < grid0.N := t.isLt; omega⟩, by show t.val - 1 + 1 = t.val; omega⟩
  have huk := hP.mono k t hk hu
  obtain ⟨-, hnk, e1, e2⟩ := (hP.step k t hk hu).resolve_left (fun h => h.1 hf)
  have hSt : St m c t.val = iprop(owns (c : Thread nD τ) scM0_1 fullShare (Bw c (V m c main_v0) (bOf (jE m c k))) ∗ Fly c (V m c main_v0) (sOf (jS m c t)) (bOf (jE m c t))) := by
    rw [← hk, St_mid m c huk, Mid_nxt m c hnk, e1, e2]
  rw [hSt]
  iintro ⟨H0, H1, HT, HW, ⟨HS, HF, Hc1, Hs1, Ho⟩, Hk⟩
  iapply (runC2 c (grid0.coords t) (tbl m 0) (tbl m 1) (tbl m 2) (tbl m 3) (tbl m 4) _ _ _ _ (V m c main_v0) (iblk m hO c 0 t) (jN m c) (jF m c t) (jS m c t) (jE m c t) (jX m c t) rfl rfl rfl rfl rfl hu h2 hf hn h5 hS hE (chk2_of _ _ _ hS) (chk3_of _ _ _ hE) (chk4_of _ _ _ _ hS) W _)
  isplitl [H0]; · iexact H0
  isplitl [H1]; · iexact H1
  isplitl [HS]; · first | iexact HS | (iexists _; iexact HS)
  isplitl [HT]; · iexact HT
  isplitl [HW]; · iexact HW
  isplitl [HF]; · iexact HF
  iintro ⟨H0, H1, HS, HT, HW, Hc, Hs, Hz⟩
  rw [Mid_rest m c hn]
  iapply Hk
  isplitl [H0]; · iexact H0
  isplitl [H1]; · iexact H1
  isplitl [HT]; · iexact HT
  isplitl [HW]; · iexact HW
  isplitl [HS]; · iexact HS
  iapply (rest_close c (V m c main_v0) (sOf (jS m c t)))
  isplitl [Hc]; · iexact Hc
  isplitl [Hs]; · iexact Hs
  isplitl [Hc1]; · iexact Hc1
  isplitl [Hs1]; · iexact Hs1
  iapply (home_join c (V m c main_v0) (bOf (jE m c t)))
  isplitl [Hz]; · iexact Hz
  iexact Ho

theorem stepA1 (hO : Ok m) (c : Dev nD) (hP : Plan m c) (t : Fin (cfgM m hO).N) (hu : Use m c t) (hf : Fst m c t) (hn : Nxt m c t) (ht : t.val = 0) (W : Waits sig Unit) (K : PUnit → sProp (MT nD τ sig Unit (Elt F) ℕ (Pipeline.UD sig nD τ) ℕ)) :
    iprop(owns (c : Thread nD τ) (ms0_0 m hO t) fullShare (iblk m hO c 0 t) ∗ (∃ d, owns (c : Thread nD τ) (ms0_1 m hO t) fullShare d)
        ∗ tabs c (tbl m 0) (tbl m 1) (tbl m 2) (tbl m 3) (tbl m 4) ∗ owes (c : Thread nD τ) 0 W ∗ St m c t.val
        ∗ (iprop(owns (c : Thread nD τ) (ms0_0 m hO t) fullShare (iblk m hO c 0 t)
            ∗ owns (c : Thread nD τ) (ms0_1 m hO t) fullShare (k0_pay2 (iblk m hO c 0 t) (Bw c (V m c main_v0) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t)) K := by
  have h5 : ¬ k0_cond5 (grid0.coords t) (jN m c) = 1#1 := fun h => (hP.c5 t).1 h hu
  have h2 : k0_cond2 (grid0.coords t) = 1#1 := (hP.c2 t).2 ht
  have hE := hP.hE t hu
  have hS := hP.hS t hu
  have hX := hP.hX t hu hn
  have hS0 : jS m c t = 0#32 := hP.slot0 t ht
  have hZ : jZ m c = jE m c t := hP.zero t ht
  have hEz : (jZ m c).toNat < 32 := by rw [hZ]; exact hE
  have hs0 : sOf (jS m c t) = 0 := by rw [hS0]; rfl
  rw [St_idle m c (fun t' e => absurd e (by omega))]
  iintro ⟨H0, H1, HT, HW, ⟨HS, Hc0, Hs0, Hc1, Hs1, Hh⟩, Hk⟩
  ihave HB := (home_split c (V m c main_v0) (bOf (jE m c t))) $$ Hh
  icases HB with ⟨Hz, Ho⟩
  iapply (runA1 c (grid0.coords t) (tbl m 0) (tbl m 1) (tbl m 2) (tbl m 3) (tbl m 4) _ _ _ _ (V m c main_v0) (iblk m hO c 0 t) (jN m c) (jF m c t) (jS m c t) (jE m c t) (jX m c t) (jZ m c) (otherP c (V m c main_v0) (bOf (jX m c t))) rfl rfl rfl rfl rfl rfl hZ hS0 hu h2 hf hn h5 hS hE hX (chk1_of _ _ hEz) (chk2_of _ _ _ hS) (chk3_of _ _ _ hE) (chk4_of _ _ _ _ hS) (chk5_of _ _ _ _ hX) W _)
  isplitl [H0]; · iexact H0
  isplitl [H1]; · iexact H1
  isplitl [HS]; · first | iexact HS | (iexists _; iexact HS)
  isplitl [HT]; · iexact HT
  isplitl [HW]; · iexact HW
  isplitl [Hc0]; · iexact Hc0
  isplitl [Hs0]; · iexact Hs0
  isplitl [Hz]; · rw [hZ]; iexact Hz
  rw [hs0]
  isplitl [Hc1]; · iexact Hc1
  isplitl [Hs1]; · iexact Hs1
  isplitl [Ho]
  · iintro Hz
    iapply (home_split c (V m c main_v0) (bOf (jX m c t)))
    iapply (home_join c (V m c main_v0) (bOf (jE m c t)))
    isplitl [Hz]; · iexact Hz
    iexact Ho
  iintro ⟨H0, H1, HS, HT, HW, Hc, Hs, HF, Ho⟩
  rw [Mid_nxt m c hn]
  iapply Hk
  isplitl [H0]; · iexact H0
  isplitl [H1]; · iexact H1
  isplitl [HT]; · iexact HT
  isplitl [HW]; · iexact HW
  isplitl [HS]; · iexact HS
  rw [hs0]
  isplitl [HF]; · iexact HF
  rw [oth_oth]
  isplitl [Hc]; · iexact Hc
  isplitl [Hs]; · iexact Hs
  iexact Ho

theorem stepA2 (hO : Ok m) (c : Dev nD) (hP : Plan m c) (t : Fin (cfgM m hO).N) (hu : Use m c t) (hf : Fst m c t) (hn : ¬ Nxt m c t) (ht : t.val = 0) (W : Waits sig Unit) (K : PUnit → sProp (MT nD τ sig Unit (Elt F) ℕ (Pipeline.UD sig nD τ) ℕ)) :
    iprop(owns (c : Thread nD τ) (ms0_0 m hO t) fullShare (iblk m hO c 0 t) ∗ (∃ d, owns (c : Thread nD τ) (ms0_1 m hO t) fullShare d)
        ∗ tabs c (tbl m 0) (tbl m 1) (tbl m 2) (tbl m 3) (tbl m 4) ∗ owes (c : Thread nD τ) 0 W ∗ St m c t.val
        ∗ (iprop(owns (c : Thread nD τ) (ms0_0 m hO t) fullShare (iblk m hO c 0 t)
            ∗ owns (c : Thread nD τ) (ms0_1 m hO t) fullShare (k0_pay2 (iblk m hO c 0 t) (Bw c (V m c main_v0) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t)) K := by
  have h5 : ¬ k0_cond5 (grid0.coords t) (jN m c) = 1#1 := fun h => (hP.c5 t).1 h hu
  have h2 : k0_cond2 (grid0.coords t) = 1#1 := (hP.c2 t).2 ht
  have hE := hP.hE t hu
  have hS := hP.hS t hu
  have hS0 : jS m c t = 0#32 := hP.slot0 t ht
  have hZ : jZ m c = jE m c t := hP.zero t ht
  have hEz : (jZ m c).toNat < 32 := by rw [hZ]; exact hE
  have hs0 : sOf (jS m c t) = 0 := by rw [hS0]; rfl
  rw [St_idle m c (fun t' e => absurd e (by omega))]
  iintro ⟨H0, H1, HT, HW, ⟨HS, Hc0, Hs0, Hc1, Hs1, Hh⟩, Hk⟩
  ihave HB := (home_split c (V m c main_v0) (bOf (jE m c t))) $$ Hh
  icases HB with ⟨Hz, Ho⟩
  iapply (runA2 c (grid0.coords t) (tbl m 0) (tbl m 1) (tbl m 2) (tbl m 3) (tbl m 4) _ _ _ _ (V m c main_v0) (iblk m hO c 0 t) (jN m c) (jF m c t) (jS m c t) (jE m c t) (jX m c t) (jZ m c) rfl rfl rfl rfl rfl rfl hZ hS0 hu h2 hf hn h5 hS hE (chk1_of _ _ hEz) (chk2_of _ _ _ hS) (chk3_of _ _ _ hE) (chk4_of _ _ _ _ hS) W _)
  isplitl [H0]; · iexact H0
  isplitl [H1]; · iexact H1
  isplitl [HS]; · first | iexact HS | (iexists _; iexact HS)
  isplitl [HT]; · iexact HT
  isplitl [HW]; · iexact HW
  isplitl [Hc0]; · iexact Hc0
  isplitl [Hs0]; · iexact Hs0
  isplitl [Hz]; · rw [hZ]; iexact Hz
  iintro ⟨H0, H1, HS, HT, HW, Hc, Hs, Hz⟩
  rw [Mid_rest m c hn]
  iapply Hk
  isplitl [H0]; · iexact H0
  isplitl [H1]; · iexact H1
  isplitl [HT]; · iexact HT
  isplitl [HW]; · iexact HW
  isplitl [HS]; · iexact HS
  iapply (rest_close c (V m c main_v0) (sOf (jS m c t)))
  isplitl [Hc]; · iexact Hc
  isplitl [Hs]; · iexact Hs
  rw [hs0]
  isplitl [Hc1]; · iexact Hc1
  isplitl [Hs1]; · iexact Hs1
  iapply (home_join c (V m c main_v0) (bOf (jE m c t)))
  isplitl [Hz]; · iexact Hz
  iexact Ho

theorem stepU (hO : Ok m) (c : Dev nD) (hP : Plan m c) (t : Fin (cfgM m hO).N) (hu : Use m c t)  (W : Waits sig Unit) (K : PUnit → sProp (MT nD τ sig Unit (Elt F) ℕ (Pipeline.UD sig nD τ) ℕ)) :
    iprop(owns (c : Thread nD τ) (ms0_0 m hO t) fullShare (iblk m hO c 0 t) ∗ (∃ d, owns (c : Thread nD τ) (ms0_1 m hO t) fullShare d)
        ∗ tabs c (tbl m 0) (tbl m 1) (tbl m 2) (tbl m 3) (tbl m 4) ∗ owes (c : Thread nD τ) 0 W ∗ St m c t.val
        ∗ (iprop(owns (c : Thread nD τ) (ms0_0 m hO t) fullShare (iblk m hO c 0 t)
            ∗ owns (c : Thread nD τ) (ms0_1 m hO t) fullShare (k0_pay2 (iblk m hO c 0 t) (Bw c (V m c main_v0) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t)) K := by
  by_cases hf : Fst m c t
  · by_cases hn : Nxt m c t <;> by_cases ht : t.val = 0
    · exact stepA1 m hO c hP t hu hf hn ht W K
    · exact stepC1 m hO c hP t hu hf hn ht W K
    · exact stepA2 m hO c hP t hu hf hn ht W K
    · exact stepC2 m hO c hP t hu hf hn ht W K
  · exact stepB m hO c hP t hu hf W K

theorem sound_body (hO : Ok m) (c : Dev nD) (hP : Plan m c) (t : Fin (cfgM m hO).N) :
    bodyPre m hO c t ⊢ wp frame (wpE (defs₀ (F := F)) Variants.none c none) Set.univ (bodyAt0 (adm m hO) t) (fun _ => bodyPost m hO c t) := by
  unfold bodyPre bodyPost
  simp only [before0_0]
  rw [after0_0, after0_1]
  rw [show (dats m hO 0 c).Φ t.succ = iprop((∃ r, prngReg c r) ∗ tabs c (tbl m 0) (tbl m 1) (tbl m 2) (tbl m 3) (tbl m 4) ∗ St m c (t.val + 1)) from rfl,
    show (dats m hO 0 c).Φ t.castSucc = iprop((∃ r, prngReg c r) ∗ tabs c (tbl m 0) (tbl m 1) (tbl m 2) (tbl m 3) (tbl m 4) ∗ St m c t.val) from rfl]
  unfold Dat.owesAt Pipeline.owesWithin
  rw [show (dats m hO 0 c).owed t.castSucc = 0 from rfl, show (dats m hO 0 c).owed t.succ = 0 from rfl]
  change _ ⊢ wp frame _ _ (bodyG (grid0.coords t) (ms0_0 m hO t) (hs0_0 m hO t) (ms0_1 m hO t) (hs0_1 m hO t)) _
  unfold outAt
  by_cases hu : Use m c t
  · rw [if_pos hu, St_mid m c hu]
    iintro ⟨⟨Hg, HT, HSt⟩, ⟨%W, -, HW⟩, ⟨%d0, H0⟩, ⟨%d1, H1⟩⟩
    iapply (stepU m hO c hP t hu W _)
    isplitl [H0]; · iexact H0
    isplitl [H1]; · iexists _; iexact H1
    isplitl [HT]; · iexact HT
    isplitl [HW]; · iexact HW
    isplitl [HSt]; · iexact HSt
    iintro ⟨H0, H1, HT, ⟨%W', HW'⟩, HI⟩
    isplitl [Hg HT HI]
    · isplitl [Hg]; · iexact Hg
      isplitl [HT]; · iexact HT
      iexact HI
    isplitl [HW']
    · iexists W'; isplitr; · ipureintro; exact fun _ _ => Or.inl trivial
      iexact HW'
    isplitl [H0]; · iexact H0
    iexact H1
  · have h5 : k0_cond5 (grid0.coords t) (jN m c) = 1#1 := (hP.c5 t).2 hu
    rw [if_neg hu, St_idle m c (k := t.val + 1) (fun t' e => by have : t' = t := Fin.ext (by omega); subst this; exact hu)]
    iintro ⟨⟨Hg, HT, HSt⟩, ⟨%W, -, HW⟩, ⟨%d0, H0⟩, ⟨%d1, H1⟩⟩
    ihave HI := (St_out m c hP (k := t.val) (fun t' e => by have : t' = t := Fin.ext e; subst this; exact hu)) $$ HSt
    iapply (runD c (grid0.coords t) (tbl m 0) (tbl m 1) (tbl m 2) (tbl m 3) (tbl m 4) _ _ _ _ hu h5 (iblk m hO c 0 t) W _)
    isplitl [H0]; · iexact H0
    isplitl [H1]; · iexists _; iexact H1
    isplitl [HT]; · iexact HT
    isplitl [HW]; · iexact HW
    iintro ⟨H0, H1, HT, ⟨%W', HW'⟩⟩
    isplitl [Hg HT HI]
    · isplitl [Hg]; · iexact Hg
      isplitl [HT]; · iexact HT
      iexact HI
    isplitl [HW']
    · iexists W'; isplitr; · ipureintro; exact fun _ _ => Or.inl trivial
      iexact HW'
    isplitl [H0]; · iexact H0
    iexact H1

theorem pick (b f : Bool) (hf : f = true) (X Y : sProp (MT nD τ sig Unit (Elt F) ℕ (Pipeline.UD sig nD τ) ℕ)) : X ⊢ (match b with | true => (match f with | false => Y | true => X) | false => X) := by
  subst hf; cases b <;> exact .rfl

theorem flush0_1 (a : (pcfg0 (F := F)).Adm) : ∀ t : Fin (cfg0 a).N, ((cfg0 a).win 1).flush t = true :=
  (fun t => (Pipeline.Window.flushOf_reads cc0_transform_2 reads0_1 hreads0_1 0 (by decide) (by decide) (Pipeline.Window.sep_of_coord cc0_transform_2 0 0 (fun _ => rfl) (by decide)) (P := 1) (m := 0) (by decide) rfl t).mpr (Nat.mod_one _) : ∀ t : Fin grid0.N, Pipeline.Window.flushOf grid0 true cc0_transform_2 t = true)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
theorem body_obligation (hO : Ok m) (c : Dev nD) (hP : Plan m c) : BodyObligation (dats (F := F) m hO 0 c) (defs₀ (F := F)) Variants.none () Set.univ := fun t => by
  rw [bigSep_W0, bigSep_W0, defs₀_row m hO]
  refine triple_restated (sound_body m hO c hP t) rfl .rfl fun _ => ?_
  refine Idealize.SL.BI.sep_mono_r (Idealize.SL.BI.sep_mono_r (Idealize.SL.BI.sep_mono ?_ ?_))
  · exact Idealize.SL.BI.Entails.refl _
  · have hf : ((cfgM m hO).win 1).flush t = true := flush0_1 (adm m hO) t
    dsimp only
    split
    · split
      · rename_i h; exact absurd (hf.symm.trans h) (by decide)
      · exact Idealize.SL.BI.Entails.refl _
    · exact Idealize.SL.BI.Entails.refl _

/-! ## The run and the frame -/

theorem hin (hO : Ok m) (c : Dev nD) : iprop(Pipeline.ΦD osem0 spec0 H0 (V m) c ∗ Pipeline.ΦT pre0 (tbl m) c) ⊢ (dats m hO 0 c).Φ 0 := by
  rw [show (dats m hO 0 c).Φ 0 = iprop((∃ r, prngReg c r) ∗ tabs c (tbl m 0) (tbl m 1) (tbl m 2) (tbl m 3) (tbl m 4) ∗ St m c 0) from rfl,
    St_idle m c (fun t e => absurd e (by omega)), PhiD0_eq, PhiT0_eq]
  iintro ⟨⟨⟨HS0, HS1⟩, Hg, ⟨Hq0, Hq1⟩, Hh0⟩, HT⟩
  isplitl [Hg]; · iexact Hg
  isplitl [HT]; · iexact HT
  isplitl [HS1]; · iexact HS1
  ihave HB := (buf_split c) $$ HS0
  icases HB with ⟨Hb0, Hb1⟩
  isplitl [Hq0]; · iexact Hq0
  isplitl [Hb0]; · iexact Hb0
  isplitl [Hq1]; · iexact Hq1
  isplitl [Hb1]; · iexact Hb1
  iexact Hh0

theorem hout (hO : Ok m) (c : Dev nD) (hP : Plan m c) : (dats m hO 0 c).Φ (Fin.last _) ⊢ Pipeline.ΦD osem0 spec0 H0 (V m) c := by
  rw [show (dats m hO 0 c).Φ (Fin.last _) = iprop((∃ r, prngReg c r) ∗ tabs c (tbl m 0) (tbl m 1) (tbl m 2) (tbl m 3) (tbl m 4) ∗ St m c grid0.N) from rfl,
    PhiD0_eq]
  iintro ⟨Hg, -, HSt⟩
  ihave HI := (St_out m c hP (k := grid0.N) (fun t e => absurd t.isLt (by omega))) $$ HSt
  icases HI with ⟨HS1, Hq0, Hb0, Hq1, Hb1, Hh0⟩
  isplitl [HS1 Hb0 Hb1]
  · isplitl [Hb0 Hb1]
    · iapply (buf_join c)
      isplitl [Hb0]; · iexact Hb0
      iexact Hb1
    iexact HS1
  isplitl [Hg]; · iexact Hg
  isplitl [Hq0 Hq1]
  · isplitl [Hq0]; · iexact Hq0
    iexact Hq1
  iexact Hh0

set_option backward.isDefEq.respectTransparency.types false in
theorem run_main_quiescent (hO : Ok m) (hP : ∀ c, Plan m c) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO c (hP c)).loose) (hshare := fun c => (dats m hO 0 c).share_full fun _ => rfl)
    (howed := fun _ _ => rfl) (V := V m) (hmain := hmain m Variants.none) (hA := A_eq m hO) (hpf := V_pre m)
    (hin := hin m hO) (hout := fun c => hout m hO c (hP c))

theorem run_main (hO : Ok m) (hP : ∀ c, Plan m c) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hP)

theorem unchanged (hO : Ok m) (hP : ∀ c, Plan m c) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ hO (dats m hO) (A_eq m hO) (run_main m ρ hO hP)

theorem frame (hO : Ok m) (hP : ∀ c, Plan m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ hO hP) ((θ_run defs _ _).mono (fun _ h => h.2) (run_main_quiescent m ρ hO hP))

end Cert.Kernel2Ideal.Down

end
-- ==== Proof.PlanWords.lean ====
/- What the precondition on the plan says of its words. -/
module

public import proofs.«01_k».proof.Pre_plan_ok
public import Idealize.ShloMosaic.Lib.Pointwise

@[expose] public section

noncomputable section

namespace Cert.Plan

open Idealize.ShloMosaic Idealize.ShloMosaic.Tactic Cert.Pre_plan_ok

theorem and1 {x y : BitVec 1} : x &&& y = 1#1 ↔ x = 1#1 ∧ y = 1#1 := by
  rcases BitVec.eq_zero_or_eq_one x with rfl | rfl <;> rcases BitVec.eq_zero_or_eq_one y with rfl | rfl <;> decide
theorem or1 {x y : BitVec 1} : x ||| y = 1#1 ↔ x = 1#1 ∨ y = 1#1 := by
  rcases BitVec.eq_zero_or_eq_one x with rfl | rfl <;> rcases BitVec.eq_zero_or_eq_one y with rfl | rfl <;> decide
theorem not1 {x : BitVec 1} : ~~~x = 1#1 ↔ ¬ x = 1#1 := by
  rcases BitVec.eq_zero_or_eq_one x with rfl | rfl <;> decide
theorem ofBool1 {b : Bool} : BitVec.ofBool b = 1#1 ↔ b = true := by cases b <;> decide

theorem slt_iff {x y : BitVec 32} : x.slt y = true ↔ x.toInt < y.toInt := by simp [BitVec.slt]
theorem sle_iff {x y : BitVec 32} : x.sle y = true ↔ x.toInt ≤ y.toInt := by simp [BitVec.sle]
theorem toInt_cases (x : BitVec 32) : (x.toNat < 2147483648 ∧ x.toInt = x.toNat) ∨ (2147483648 ≤ x.toNat ∧ x.toInt = (x.toNat : ℤ) - 4294967296) := by
  have := x.isLt
  rw [BitVec.toInt_eq_toNat_cond]
  split
  · left; omega
  · right; exact ⟨by omega, by norm_num⟩

theorem ofNat_toInt {k : ℕ} (h : k < 1000) : (BitVec.ofNat 32 k).toInt = k := by
  have h1 : (BitVec.ofNat 32 k).toNat = k := by rw [BitVec.toNat_ofNat]; exact Nat.mod_eq_of_lt (by omega)
  rcases toInt_cases (BitVec.ofNat 32 k) with h2 | h2 <;> omega

/-- A plan whose words are in order. -/
structure Good (e f s x : S160.Idx → BitVec 32) (n : BitVec 32) : Prop where
  n1 : 1 ≤ n.toNat
  n160 : n.toNat ≤ 160
  words : ∀ k : Fin 160, k.val < n.toNat → (e (ix1 k)).toNat < 32 ∧ (s (ix1 k)).toNat < 2 ∧ (x (ix1 k)).toInt < 32
  f0 : f (ix1 0) = 1#32
  s0 : s (ix1 0) = 0#32
  step : ∀ k k' : Fin 160, k'.val = k.val + 1 → k'.val < n.toNat →
    (f (ix1 k') = 0#32 ∧ e (ix1 k') = e (ix1 k) ∧ s (ix1 k') = s (ix1 k) ∧ x (ix1 k') = x (ix1 k))
    ∨ (f (ix1 k') = 1#32 ∧ 0 ≤ (x (ix1 k)).toInt ∧ e (ix1 k') = x (ix1 k) ∧ s (ix1 k') = 1#32 - s (ix1 k))
  last : ∀ k : Fin 160, k.val + 1 = n.toNat → (x (ix1 k)).toInt < 0

variable {F : FTy → Type} [FloatOps F] [Cert.Pre_plan_ok.Facts]

theorem ix1_0 {n : ℕ} (k : Fin n) : ((ix1 k) 0).val = k.val := rfl
theorem bc1 {w : ℕ} (d : Fin S1.rank → Fin S160.rank) (h) (y : S1.Idx → BitVec w) (k : Fin 160) : broadcastInDim S160 d h y (ix1 k) = y (ix1 0) :=
  congrArg y (funext fun a => Fin.ext (by match a with | 0 => rfl))
theorem bc0 {t : Shape} {w : ℕ} (d : Fin S_.rank → Fin t.rank) (h) (c : BitVec w) (i : t.Idx) : broadcastInDim t d h (constantI S_ w c) i = c := rfl
theorem sl1 {w : ℕ} (y : S160.Idx → BitVec w) (h) (k : Fin 159) : extractStridedSlice S159 ![1] y h (ix1 k) = y (ix1 ⟨1 + k.val, by omega⟩) :=
  congrArg y (funext fun a => Fin.ext (by match a with | 0 => rfl))
theorem sl0 {w : ℕ} (y : S160.Idx → BitVec w) (h) (k : Fin 159) : extractStridedSlice S159 ![0] y h (ix1 k) = y (ix1 ⟨0 + k.val, by omega⟩) :=
  congrArg y (funext fun a => Fin.ext (by match a with | 0 => rfl))
theorem sl00 {w : ℕ} (y : S160.Idx → BitVec w) (h) : extractStridedSlice S1 ![0] y h (ix1 0) = y (ix1 0) :=
  congrArg y (funext fun a => Fin.ext (by match a with | 0 => rfl))

theorem good_of {e f s x : S160.Idx → BitVec 32} {n : S1.Idx → BitVec 32} {hid : FVec F S40960x1024 .bf16} {wd : FVec F S4x8x1024x2048 .f32}
    (h1 : (fn (F := F) e f n s x hid wd).1 = fun _ => 1#1)
    (h2 : (fn (F := F) e f n s x hid wd).2.1 = fun _ => 1#1)
    (h3 : (fn (F := F) e f n s x hid wd).2.2.1 = fun _ => 1#1)
    (h4 : (fn (F := F) e f n s x hid wd).2.2.2.1 = fun _ => 1#1)
    (h5 : (fn (F := F) e f n s x hid wd).2.2.2.2 = fun _ => 1#1) : Good e f s x (n (ix1 0)) := by
  have H1 : IntOp.andi (IntOp.cmpi .sge (n (ix1 0)) 1#32) (IntOp.cmpi .sle (n (ix1 0)) 160#32) = 1#1 := congrFun h1 (ix1 0)
  simp only [IntOp.andi, IntOp.cmpi, and1, ofBool1, sle_iff] at H1
  have N : 1 ≤ (n (ix1 0)).toNat ∧ (n (ix1 0)).toNat ≤ 160 ∧ (n (ix1 0)).toInt = (n (ix1 0)).toNat := by
    have e1 : (1#32 : BitVec 32).toInt = 1 := by decide
    have e2 : (160#32 : BitVec 32).toInt = 160 := by decide
    rw [e1, e2] at H1
    rcases toInt_cases (n (ix1 0)) with h | h <;> omega
  obtain ⟨n1, n2, n3⟩ := N
  have H2 (k : Fin 160) := congrFun h2 (ix1 k)
  have H3 := congrFun h3 (ix1 0)
  have H4 (k : Fin 159) := congrFun h4 (ix1 k)
  have H5 (k : Fin 160) := congrFun h5 (ix1 k)
  simp only [fn, fn_part1, fn_part2, fn_part3, ori, andi, noti, cmpi, subi, bc1, sl1, sl0, sl00, bc0, iotaInDim, ix1_0] at H2 H3 H4 H5
  have z0 : (0#32 : BitVec 32).toInt = 0 := by decide
  have z2 : (2#32 : BitVec 32).toInt = 2 := by decide
  have z32 : (32#32 : BitVec 32).toInt = 32 := by decide
  have use (k : Fin 160) (h : k.val < (n (ix1 0)).toNat) : (BitVec.ofNat 32 k.val).toInt < (n (ix1 0)).toInt := by
    rw [ofNat_toInt (by omega), n3]; exact_mod_cast h
  simp only [IntOp.andi, IntOp.ori, IntOp.cmpi, IntOp.subi, and1, or1, not1, ofBool1, sle_iff, slt_iff, z0, z2, z32, beq_iff_eq, bne_iff_ne] at H2 H3 H4 H5
  refine ⟨n1, n2, fun k hk => ?_, H3.1, H3.2, fun k k' e hk => ?_, fun k hk => ?_⟩
  · have := (H2 k).resolve_left (fun h => h (use k hk))
    rcases toInt_cases (e (ix1 k)) with h | h <;> rcases toInt_cases (s (ix1 k)) with h' | h' <;> omega
  · have := H4 ⟨k.val, by omega⟩
    rw [show (⟨1 + k.val, by omega⟩ : Fin 160) = k' from Fin.ext (by show 1 + k.val = k'.val; omega),
      show (⟨0 + k.val, by omega⟩ : Fin 160) = k from Fin.ext (by show 0 + k.val = k.val; omega)] at this
    rcases this with (h | h) | h
    · exact absurd (use k' hk) (by rw [show k'.val = 1 + k.val by omega]; exact h)
    · exact .inl ⟨h.1.1.1, h.1.1.2, h.1.2, h.2⟩
    · exact .inr ⟨h.1.1.1, h.1.1.2, h.1.2, h.2⟩
  · refine (H5 k).resolve_left (fun h => h ?_)
    apply BitVec.eq_of_toNat_eq
    rw [BitVec.toNat_ofNat, BitVec.toNat_sub]
    have : (1#32 : BitVec 32).toNat = 1 := by decide
    rw [this]; omega

end Cert.Plan

end
-- ==== Proof.DownPlan.lean ====
/- What the kernel asks of the plan, from the precondition on its words. -/
module

public import proofs.«01_k».proof.Proof.DownFrame
public import proofs.«01_k».proof.Proof.PlanWords

@[expose] public section

noncomputable section

namespace Cert.Kernel2Ideal.Down

open Idealize.ShloMosaic Idealize.ShloMosaic.TcCoe Idealize.ShloMosaic.Tactic Idealize.SL.Sem
open Cert.Kernel2Ideal Cert.Kernel2Ideal.Gen Cert.Plan

variable {F : FTy → Type} [FloatOps F] (m : (ℓ : Loc nD τ sig) → Buf (Elt F) ℓ) (c : Dev nD)

theorem coord (t : Fin grid0.N) : (grid0.coords t 0).val = t.val := by revert t; decide +kernel
theorem word_toNat (t : Fin grid0.N) : (BitVec.ofNat 32 (grid0.coords t 0).val).toNat = t.val := by
  rw [coord, BitVec.toNat_ofNat]; exact Nat.mod_eq_of_lt (by have h0 : t.val < 160 := t.isLt; omega)

/-- The words of the plan. -/
abbrev pE : S160.Idx → BitVec 32 := tbl m 0
abbrev pF : S160.Idx → BitVec 32 := tbl m 1
abbrev pN : S1.Idx → BitVec 32 := tbl m 2
abbrev pS : S160.Idx → BitVec 32 := tbl m 3
abbrev pX : S160.Idx → BitVec 32 := tbl m 4

theorem jN_eq : jN m c = pN m (ix1 0) := congrArg (pN m) (funext fun a => Fin.ext (by match a with | ⟨0, _⟩ => rfl))
theorem jZ_eq : jZ m c = pE m (ix1 0) := congrArg (pE m) (funext fun a => Fin.ext (by match a with | ⟨0, _⟩ => rfl))
theorem jE_eq (t : Fin grid0.N) : jE m c t = pE m (ix1 t) :=
  congrArg (pE m) (funext fun a => Fin.ext (by match a with | 0 => exact word_toNat t))
theorem jF_eq (t : Fin grid0.N) : jF m c t = pF m (ix1 t) :=
  congrArg (pF m) (funext fun a => Fin.ext (by match a with | 0 => exact word_toNat t))
theorem jS_eq (t : Fin grid0.N) : jS m c t = pS m (ix1 t) :=
  congrArg (pS m) (funext fun a => Fin.ext (by match a with | 0 => exact word_toNat t))
theorem jX_eq (t : Fin grid0.N) : jX m c t = pX m (ix1 t) :=
  congrArg (pX m) (funext fun a => Fin.ext (by match a with | 0 => exact word_toNat t))

/-- A comparison carried through a word and tested against zero. -/
theorem tested (b : BitVec 1) : Scalar.cmpi .ne (Scalar.extui b) 0#32 = 1#1 ↔ b = 1#1 := by
  rcases BitVec.eq_zero_or_eq_one b with rfl | rfl <;> decide

theorem cond1_iff (t : Fin grid0.N) (n : BitVec 32) : k0_cond1 (grid0.coords t) n = 1#1 ↔ (t.val : ℤ) < n.toInt := by
  have h0 : t.val < 160 := t.isLt
  unfold k0_cond1
  refine (tested _).trans ?_
  show BitVec.ofBool _ = _ ↔ _
  rw [ofBool1, slt_iff, coord, ofNat_toInt (by omega)]
theorem cond5_iff (t : Fin grid0.N) (n : BitVec 32) : k0_cond5 (grid0.coords t) n = 1#1 ↔ n.toInt ≤ (t.val : ℤ) := by
  have h0 : t.val < 160 := t.isLt
  unfold k0_cond5
  refine (tested _).trans ?_
  show BitVec.ofBool _ = _ ↔ _
  rw [ofBool1, sle_iff, coord, ofNat_toInt (by omega)]
theorem cond2_iff (t : Fin grid0.N) : k0_cond2 (grid0.coords t) = 1#1 ↔ t.val = 0 := by revert t; decide +kernel
theorem cond3_iff (f : BitVec 32) : k0_cond3 f = 1#1 ↔ f = 1#32 := by
  unfold k0_cond3
  refine (tested _).trans ?_
  show BitVec.ofBool _ = _ ↔ _
  rw [ofBool1, beq_iff_eq]
theorem cond4_iff (x : BitVec 32) : k0_cond4 x = 1#1 ↔ 0 ≤ x.toInt := by
  unfold k0_cond4
  refine (tested _).trans ?_
  show BitVec.ofBool _ = _ ↔ _
  rw [ofBool1, sle_iff]; rfl

theorem oth_word {v : BitVec 32} (h : v.toNat < 2) : sOf (1#32 - v) = oth (sOf v) := by
  have h1 : v = 0#32 ∨ v = 1#32 := by
    rcases (by omega : v.toNat = 0 ∨ v.toNat = 1) with e | e
    · left; exact BitVec.eq_of_toNat_eq e
    · right; exact BitVec.eq_of_toNat_eq e
  rcases h1 with rfl | rfl <;> decide

theorem plan_of (h : Good (pE m) (pF m) (pS m) (pX m) (pN m (ix1 0))) : Plan m c := by
  have n3 : (pN m (ix1 0)).toInt = (pN m (ix1 0)).toNat := by
    have := h.n160
    rcases toInt_cases (pN m (ix1 0)) with h | h <;> omega
  have use (t : Fin grid0.N) : Use m c t ↔ t.val < (pN m (ix1 0)).toNat := by
    unfold Use; rw [cond1_iff, jN_eq, n3]; exact Nat.cast_lt
  have nxt (t : Fin grid0.N) : Nxt m c t ↔ 0 ≤ (pX m (ix1 t)).toInt := by unfold Nxt; rw [cond4_iff, jX_eq]
  have fst (t : Fin grid0.N) : Fst m c t ↔ pF m (ix1 t) = 1#32 := by unfold Fst; rw [cond3_iff, jF_eq]
  have z : ∀ t : Fin grid0.N, t.val = 0 → (ix1 t : S160.Idx) = ix1 0 := fun t e => congrArg ix1 (Fin.ext e)
  refine ⟨cond2_iff, fun t => ?_, fun t e => (use t).2 (by have := h.n1; omega), fun t t' e u => (use t).2 (by have := (use t').1 u; omega),
    fun t u l => ?_, fun t u => ?_, fun t u => ?_, fun t u x => ?_, fun t e => (fst t).2 ?_, fun t e => ?_, fun t e => ?_, fun t t' e u => ?_⟩
  · rw [use, cond5_iff, jN_eq, n3]; omega
  · rw [nxt]
    have hu := (use t).1 u
    have : t.val + 1 = (pN m (ix1 0)).toNat := by
      by_contra hne
      have h160 := h.n160
      exact l ⟨t.val + 1, by show t.val + 1 < 160; omega⟩ rfl ((use _).2 (by show t.val + 1 < _; omega))
    have := h.last t this
    omega
  · rw [jE_eq]; exact (h.words t ((use t).1 u)).1
  · rw [jS_eq]; exact (h.words t ((use t).1 u)).2.1
  · rw [jX_eq]
    have h1 := (h.words t ((use t).1 u)).2.2
    have h2 := (nxt t).1 x
    rcases toInt_cases (pX m (ix1 t)) with h | h <;> omega
  · rw [z t e]; exact h.f0
  · rw [jS_eq, z t e]; exact h.s0
  · rw [jZ_eq, jE_eq, z t e]
  · rw [fst, nxt, jE_eq, jE_eq, jS_eq, jS_eq, jX_eq, jX_eq]
    have hu := (use t').1 u
    rcases h.step t t' e.symm hu with g | g
    · exact .inl ⟨by rw [g.1]; decide, g.2.1, g.2.2.1, g.2.2.2⟩
    · exact .inr ⟨g.1, g.2.1, g.2.2.1, by rw [g.2.2.2]; exact oth_word (h.words t (by omega)).2.1⟩

theorem ok_of (h1 : 1 ≤ (pN m (ix1 0)).toNat) (h2 : (pN m (ix1 0)).toNat ≤ 160) : Ok m := by
  intro i
  have hi : (i 0).val < 160 := (i 0).isLt
  have hat : (tbl m).at 2 (Rect.unit (s := S1) ![0] S1.size inb_S1_S1_0) numel1_S1 = pN m (ix1 0) :=
    congrArg (pN m) (funext fun a => Fin.ext (by match a with | ⟨0, _⟩ => rfl))
  have hw : (cc0_transform_0 inb_S1_S1_0 numel1_S1 (tbl m) i 0) < 160 := by
    show (Scalar.minsi (BitVec.ofNat 32 (i 0).val) (Scalar.subi ((tbl m).at 2 (Rect.unit (s := S1) ![0] S1.size inb_S1_S1_0) numel1_S1) 1#32)).toNat < 160
    rw [hat]
    show (if _ then _ else _ : BitVec 32).toNat < 160
    have h1' : (BitVec.ofNat 32 (i 0).val).toNat = (i 0).val := by rw [BitVec.toNat_ofNat]; exact Nat.mod_eq_of_lt (by omega)
    split
    · omega
    · show (pN m (ix1 0) - 1#32).toNat < 160
      rw [BitVec.toNat_sub, show (1#32 : BitVec 32).toNat = 1 from rfl]; omega
  have hb : ∀ a, (cc0_transform_0 inb_S1_S1_0 numel1_S1 (tbl m) i a + 1) * S256x1024.size a ≤ S40960x1024.size a := fun a => by
    match a with
    | 0 => show (_ + 1) * 256 ≤ 40960; omega
    | 1 => show (0 + 1) * 1024 ≤ 1024; omega
  refine ⟨hb, .inr (.inl (.inr ⟨by decide, rfl, .inl ⟨?_, ?_⟩⟩))⟩
  · show 2 ∣ _ * 256
    exact Dvd.dvd.mul_left (by decide) _
  · show 2 ∣ 256
    decide

end Cert.Kernel2Ideal.Down

end
-- ==== Proof.DownValue.lean ====
/- The array the down projection leaves, at an index. -/
module

public import proofs.«01_k».proof.Proof.DownPlan
public import Idealize.ShloMosaic.Lib.Pipeline.Value
public import Idealize.ShloMosaic.Lib.Pointwise

@[expose] public section

set_option maxRecDepth 16384

noncomputable section

namespace Cert.Kernel2Ideal.Down

open Idealize.ShloMosaic Idealize.ShloMosaic.TcCoe Idealize.ShloMosaic.Tactic Idealize.SL.Sem
open Cert.Kernel2Ideal Cert.Kernel2Ideal.Gen Cert.Plan

/-- One block: the rows times the expert's matrix. -/
theorem pay2_at (x : FVec Ideal S256x1024 .bf16) (w : FVec Ideal S1024x2048 .bf16) (i : Fin 256) (n : Fin 2048) :
    k0_pay2 (F := Ideal) x w (ix2 i n) = ∑ k : Fin 1024, x (ix2 i k) * w (ix2 k n) := by
  pointwise [k0_pay2]

theorem pay3_at (i : Fin 256) (n : Fin 2048) : k0_pay3 (F := Ideal) (ix2 i n) = (0 : EReal) := by
  pointwise [k0_pay3]

theorem Bw_at (c : Dev nD) (XA : S32x1024x2048.Idx → EReal) (b : Fin 32) (k : Fin 1024) (n : Fin 2048) :
    Bw (F := Ideal) c XA b (ix2 k n) = XA (ix3 b k n) := by
  unfold Bw
  rw [shapeCast_self]
  show (grp b).view.read (Elt Ideal) XA (ix2 k n) = _
  unfold grp
  rw [Memref.read_squeeze_slice hbM0_0 _ _ _ shapeCasts_S1x1024x2048_S1024x2048]
  rw [shapeCast_apply _ _ (ix2 k n) (ix3 0 k n) (by rewrite [Shape.rowMajor_val_two, Shape.rowMajor_val_three]; show ((0 * 1024 + k.val) * 2048 + n.val) = k.val * 2048 + n.val; omega)]
  refine congrArg XA (funext fun a => Fin.ext ?_)
  match a with
  | ⟨0, _⟩ => show b.val + 1 * 0 = b.val; omega
  | ⟨1, _⟩ => show 0 + 1 * k.val = k.val; omega
  | ⟨2, _⟩ => show 0 + 1 * n.val = n.val; omega

variable (m : (ℓ : Loc nD τ sig) → Buf (Elt Ideal) ℓ) (ρ : Dev nD → PrngReg) (c : Dev nD)

theorem V_wd : V m c main_v0 = shapeCast S32x1024x2048 (m (c, Proc.devRef .tc main_arg6) : S4x8x1024x2048.Idx → EReal) shapeCasts_S4x8x1024x2048_S32x1024x2048 := by
  unfold V
  simp only [hostOps0, List.flatten_cons, List.flatten_nil, List.append_nil, List.cons_append, List.nil_append]
  after_results <;> rfl

/-- The rows of a block of the first operand. -/
def row (t : Fin 160) (i : Fin 256) : Fin 40960 := ⟨t.val * 256 + i.val, by omega⟩

theorem in0 (hO : Ok m) (h1 : 1 ≤ (pN m (ix1 0)).toNat) (h2 : (pN m (ix1 0)).toNat ≤ 160) (t : Fin (cfgM m hO).N) (ht : t.val < (pN m (ix1 0)).toNat) (i : Fin 256) (k : Fin 1024) :
    (iblk m hO c 0 t : S256x1024.Idx → EReal) (ix2 i k)
      = (m (c, Proc.devRef .tc main_arg5) : S40960x1024.Idx → EReal) (ix2 (row t i) k) := by
  rw [← V_main_arg5 m c]
  have e0 : (cc0_transform_0 inb_S1_S1_0 numel1_S1 (tbl m) (grid0.coords t) 0) = t.val := by
    show (Scalar.minsi (BitVec.ofNat 32 (grid0.coords t 0).val) (Scalar.subi ((tbl m).at 2 (Rect.unit (s := S1) ![0] S1.size inb_S1_S1_0) numel1_S1) 1#32)).toNat = t.val
    rw [show (tbl m).at 2 (Rect.unit (s := S1) ![0] S1.size inb_S1_S1_0) numel1_S1 = pN m (ix1 0) from
      congrArg (pN m) (funext fun a => Fin.ext (by match a with | ⟨0, _⟩ => rfl))]
    show (if BitVec.slt _ _ = true then _ else _ : BitVec 32).toNat = t.val
    have e : (pN m (ix1 0) - 1#32).toNat = (pN m (ix1 0)).toNat - 1 := by
      rw [BitVec.toNat_sub, show (1#32 : BitVec 32).toNat = 1 from rfl]; omega
    split
    · exact word_toNat t
    · rename_i h
      have h' := slt_iff.not.mp h
      rw [coord, ofNat_toInt (by have h0 : t.val < 160 := t.isLt; omega)] at h'
      have h3 : (pN m (ix1 0) - 1#32).toInt = ((pN m (ix1 0)).toNat : ℤ) - 1 := by
        rcases toInt_cases (pN m (ix1 0) - 1#32) with g | g <;> omega
      have h4 : ¬ (t.val : ℤ) < (pN m (ix1 0) - 1#32).toInt := h'
      show (pN m (ix1 0) - 1#32).toNat = t.val
      omega
  refine congrArg (V m c main_arg5) (funext fun a => Fin.ext ?_)
  match a with
  | ⟨0, _⟩ => show cc0_transform_0 inb_S1_S1_0 numel1_S1 (tbl m) (grid0.coords t) 0 * 256 + 1 * i.val = t.val * 256 + i.val; rw [e0]; omega
  | ⟨1, _⟩ => show 0 * 1024 + 1 * k.val = k.val; omega

/-- The result at a row and a column: the row times the matrix of its block's expert where the block is in use, zero elsewhere. -/
def arrD (e : S160.Idx → BitVec 32) (n : S1.Idx → BitVec 32) (hid : S40960x1024.Idx → EReal) (w : S32x1024x2048.Idx → EReal) (i : S40960x2048.Idx) : EReal :=
  if (i 0).val / 256 < (n (ix1 0)).toNat then
    ∑ k : Fin 1024, hid (ix2 (i 0) k) * w (ix3 (bOf (e (ix1 ⟨(i 0).val / 256, by have : (i 0).val < 40960 := (i 0).isLt; omega⟩))) k (i 1))
  else 0

theorem arr_row (e : S160.Idx → BitVec 32) (n : S1.Idx → BitVec 32) (hid : S40960x1024.Idx → EReal) (w : S32x1024x2048.Idx → EReal)
    (t : Fin 160) (i : Fin 256) (d : Fin 2048) :
    arrD e n hid w (ix2 (row t i) d)
      = if t.val < (n (ix1 0)).toNat then ∑ k : Fin 1024, hid (ix2 (row t i) k) * w (ix3 (bOf (e (ix1 t))) k d) else 0 := by
  have hi := i.isLt
  have hr : (row t i).val / 256 = t.val := by show (t.val * 256 + i.val) / 256 = t.val; omega
  have hb : (⟨(row t i).val / 256, by have := (row t i).isLt; omega⟩ : Fin 160) = t := Fin.ext hr
  show (if (row t i).val / 256 < (n (ix1 0)).toNat then
    ∑ k : Fin 1024, hid (ix2 (row t i) k) * w (ix3 (bOf (e (ix1 (⟨(row t i).val / 256, by have := (row t i).isLt; omega⟩ : Fin 160)))) k d) else 0) = _
  rw [hb, hr]

/-- The result in terms of the arrays as launched. -/
abbrev resD : Buf (Elt Ideal) ((c : Thread nD τ).loc main_v1) :=
  arrD (pE m) (pN m) (m (c, Proc.devRef .tc main_arg5)) (V m c main_v0)

theorem idx1 : ∀ t : Fin grid0.N, cc0_transform_2 (grid0.coords t) (0 : Fin 2) = t.val ∧ cc0_transform_2 (grid0.coords t) (1 : Fin 2) = 0 := by decide +kernel

theorem flushed_eq (hO : Ok m) (h1 : 1 ≤ (pN m (ix1 0)).toNat) (h2 : (pN m (ix1 0)).toNat ≤ 160) (t : Fin (cfgM m hO).N) :
    (dats m hO 0 c).flushed 1 t = (((cfgM m hO).win 1).blk t).view.read (Elt Ideal) (resD m c) := by
  show ((cfgM m hO).win 1).cut (grid0.coords t) ((dats m hO 0 c).after 1 t) = _
  rw [after0_1]
  refine funext fun (j : S256x2048.Idx) => ?_
  obtain ⟨i, d, rfl⟩ : ∃ (i : Fin 256) (d : Fin 2048), j = ix2 i d := ⟨j 0, j 1, eq_ix2 j⟩
  obtain ⟨e0, e1⟩ := idx1 t
  have hE : (((cfgM m hO).win 1).blk t).view.emb (ix2 i d) = ix2 (row t i) d := by
    funext a; apply Fin.ext
    match a with
    | ⟨0, _⟩ => show cc0_transform_2 (grid0.coords t) (0 : Fin 2) * 256 + 1 * i.val = t.val * 256 + i.val; rw [e0]; omega
    | ⟨1, _⟩ => show cc0_transform_2 (grid0.coords t) (1 : Fin 2) * 2048 + 1 * d.val = d.val; rw [e1]; omega
  show outAt (F := Ideal) m hO c t (ix2 i d) = resD m c ((((cfgM m hO).win 1).blk t).view.emb (ix2 i d))
  rw [hE]
  have n3 : (pN m (ix1 0)).toInt = (pN m (ix1 0)).toNat := by
    rcases toInt_cases (pN m (ix1 0)) with h | h <;> omega
  have use : Use m c t ↔ t.val < (pN m (ix1 0)).toNat := by
    unfold Use; rw [cond1_iff, jN_eq, n3]; exact Nat.cast_lt
  refine Eq.trans ?_ (arr_row _ _ _ _ t i d).symm
  unfold outAt
  by_cases hu : t.val < (pN m (ix1 0)).toNat
  · rw [if_pos (use.2 hu), if_pos hu]
    refine (pay2_at _ _ i d).trans (Finset.sum_congr rfl fun k _ => ?_)
    rw [Bw_at, jE_eq]
    exact congrArg (· * _) (in0 m c hO h1 h2 t hu i k)
  · rw [if_neg (fun h => hu (use.1 h)), if_neg hu]
    exact pay3_at i d

theorem cover (hO : Ok m) (i : S40960x2048.Idx) : ∃ t : Fin (cfgM m hO).N, ((cfgM m hO).win 1).flush t = true ∧ i ∈ (((cfgM m hO).win 1).blk t).view.set := by
  have h0 : (i 0).val < 40960 := (i 0).isLt
  have h1 : (i 1).val < 2048 := (i 1).isLt
  obtain ⟨t, ht⟩ : ∃ t : Fin grid0.N, t.val = (i 0).val / 256 := ⟨⟨(i 0).val / 256, by show _ < 160; omega⟩, rfl⟩
  obtain ⟨e0, e1⟩ := idx1 t
  refine ⟨t, flush0_1 _ _, ?_⟩
  show i ∈ ((View.whole main_v1).slice (((cfgM m hO).win 1).rect t)).set
  refine Eq.mpr (congrArg (i ∈ ·) (View.set_slice_whole _ _)) ?_
  refine Rect.mem_set_unit.2 ?_
  intro a
  match a with
  | ⟨0, _⟩ =>
    show cc0_transform_2 (grid0.coords t) (0 : Fin 2) * 256 ≤ (i 0).val ∧ (i 0).val < cc0_transform_2 (grid0.coords t) (0 : Fin 2) * 256 + 256
    rw [e0, ht]; omega
  | ⟨1, _⟩ =>
    show cc0_transform_2 (grid0.coords t) (1 : Fin 2) * 2048 ≤ (i 1).val ∧ (i 1).val < cc0_transform_2 (grid0.coords t) (1 : Fin 2) * 2048 + 2048
    rw [e1]; omega

theorem finalD (hO : Ok m) (h1 : 1 ≤ (pN m (ix1 0)).toNat) (h2 : (pN m (ix1 0)).toNat ≤ 160) : (dats m hO 0 c).arrAt 1 (cfgM m hO).N = resD m c :=
  (dats m hO 0 c).arrAt_eq_of_cover 1 (resD m c) (fun t _ => flushed_eq m c hO h1 h2 t) (cover m hO)

theorem run_value (h1 : 1 ≤ (pN m (ix1 0)).toNat) (h2 : (pN m (ix1 0)).toNat ≤ 160) (hP : ∀ c, Plan m c) :
    θ_run defs (onTc (τ := τ) (main (F := Ideal))) ⟨m, fun _ => 0, ρ⟩ (fun r => ∀ c : Dev nD,
      r.2.mem ((c.tc : Thread nD τ).loc main_v1) = resD m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  have hO := ok_of m h1 h2
  (θ_run defs _ _).mono (fun r h c => And.intro ((h.1 c).trans (finalD m c hO h1 h2)) (h.2 c))
    (θ_run_and ((θ_run defs _ _).mono (fun r h c => (h c).1 1) (run_main m ρ hO hP)) (unchanged m ρ hO hP))

end Cert.Kernel2Ideal.Down

end
-- ==== Proof.DownRef.lean ====
/- The reference of the down projection, at an index. -/
module

public import proofs.«01_k».proof.Proof.Gen.Reference2Ideal.Read
public import proofs.«01_k».proof.Proof.PlanWords
public import Idealize.ShloMosaic.Lib.Pointwise

@[expose] public section

set_option maxRecDepth 16384

noncomputable section

namespace Cert.Reference2Ideal.Down

open Idealize.ShloMosaic Idealize.ShloMosaic.TcCoe Idealize.ShloMosaic.Tactic
open Cert.Reference2Ideal Cert.Reference2Ideal.Gen Cert.Reference2Ideal.Read

theorem gatherExpert (x : S32x1024x2048.Idx → EReal) (idx : S160x1.Idx → BitVec 32) (t : Fin 160) (k : Fin 1024) (n : Fin 2048) :
    Host.gather gather_S32x1024x2048_S160x1_S160x1024x2048_12_0_n_n_0_1_110242048 x idx (ix3 t k n)
      = x (ix3 ⟨min (idx (ix2 t 0)).toInt.toNat 31, by omega⟩ k n) := by
  generalize hd : gather_S32x1024x2048_S160x1_S160x1024x2048_12_0_n_n_0_1_110242048 = d
  have h1 : d.offsetDims = [1, 2] := by rw [← hd]; rfl
  have h2 : d.collapsedSliceDims = [0] := by rw [← hd]; rfl
  have h3 : d.operandBatchingDims = [] := by rw [← hd]; rfl
  have h4 : d.startIndicesBatchingDims = [] := by rw [← hd]; rfl
  have h5 : d.startIndexMap = [0] := by rw [← hd]; rfl
  have h6 : d.indexVectorDim = 1 := by rw [← hd]; rfl
  have h7 : d.sliceSizes = ![1, 1024, 2048] := by rw [← hd]; rfl
  clear hd
  obtain ⟨d1, d2, d3, d4, d5, d6, d7, wf⟩ := d
  simp only at h1 h2 h3 h4 h5 h6 h7
  subst h1 h2 h3 h4 h5 h6 h7
  unfold Host.gather
  congr 1
  funext b
  refine Fin.ext ?_
  match b with
  | ⟨0, _⟩ =>
    refine congrArg (fun i => min (idx i).toInt.toNat 31) ?_
    funext b; refine Fin.ext ?_
    match b with
    | ⟨0, _⟩ => rfl
    | ⟨1, _⟩ => rfl
  | ⟨1, _⟩ => exact Nat.zero_add _
  | ⟨2, _⟩ => exact Nat.zero_add _

variable (x0 : S160.Idx → BitVec 32) (x2 : S1.Idx → BitVec 32) (x5 : S40960x1024.Idx → EReal) (x6 : S4x8x1024x2048.Idx → EReal)

/-- The row block of a row. -/
def blkOf (r : Fin 40960) : Fin 160 := ⟨r.val / 256, by omega⟩

theorem weight_at (t : Fin 160) (k : Fin 1024) (n : Fin 2048) :
    val_main_v1 (F := Ideal) x0 x6 (ix3 t k n)
      = val_main_v0 (F := Ideal) x6 (ix3 ⟨min (x0 (ix1 t)).toInt.toNat 31, by omega⟩ k n) := by
  unfold val_main_v1
  generalize val_main_v0 (F := Ideal) x6 = y
  refine (gatherExpert y _ t k n).trans ?_
  have e : val_main_call0_v0 (F := Ideal) x0 (ix2 t 0) = x0 (ix1 t) :=
    (val_main_call0_v0_apply x0 _).trans (congrArg x0 (funext fun a => Fin.ext (by match a with | ⟨0, _⟩ => rfl)))
  exact congrArg (fun v : BitVec 32 => y (ix3 (⟨min v.toInt.toNat 31, by omega⟩ : Fin 32) k n)) e

theorem ref_at (r : Fin 40960) (n : Fin 2048) :
    val_main_v10 (F := Ideal) x0 x2 x5 x6 (ix2 r n)
      = if ((blkOf r).val : ℤ) < (x2 (ix1 0)).toInt then
          ∑ k : Fin 1024, x5 (ix2 r k) * val_main_v0 (F := Ideal) x6 (ix3 ⟨min (x0 (ix1 (blkOf r))).toInt.toNat 31, by omega⟩ k n)
        else 0 := by
  rw [val_main_v10_apply]
  have hi : idx_main_v10 (ix2 r n) = ix3 (blkOf r) ⟨r.val % 256, Nat.mod_lt _ (by decide)⟩ n := by
    funext a; refine Fin.ext ?_
    have := n.isLt
    match a with
    | ⟨0, _⟩ => show (r.val * 2048 + n.val) / 524288 = r.val / 256; omega
    | ⟨1, _⟩ => show (r.val * 2048 + n.val) / 2048 % 256 = r.val % 256; omega
    | ⟨2, _⟩ => show (r.val * 2048 + n.val) % 2048 = n.val; omega
  rw [hi, val_main_v9_apply, val_main_call1_v1_apply, val_main_v8_apply, val_main_v7_apply, val_main_v5_apply, val_main_v6_apply]
  unfold Scalar.select
  refine if_congr ?_ ?_ ?_
  · show BitVec.ofBool _ = 1#1 ↔ _
    rw [Cert.Plan.ofBool1, Cert.Plan.slt_iff]
    rw [show (BitVec.ofNat 32 ((idx_main_v8 (idx_main_call1_v1 (ix3 (blkOf r) (⟨r.val % 256, Nat.mod_lt _ (by decide)⟩ : Fin 256) n))) 0).val) = BitVec.ofNat 32 (blkOf r).val from rfl,
      Cert.Plan.ofNat_toInt (by omega)]
    rw [show idx_main_v6 (idx_main_v8 (idx_main_call1_v1 (ix3 (blkOf r) (⟨r.val % 256, Nat.mod_lt _ (by decide)⟩ : Fin 256) n))) = ix1 0 from
      funext fun a => Fin.ext (by match a with | ⟨0, _⟩ => rfl)]
  · rw [val_main_v4_apply]
    refine Finset.sum_congr rfl fun k _ => congrArg₂ (· * ·) ?_ ?_
    · rw [val_main_v3_apply, val_main_v2_apply]
      refine congrArg x5 ?_
      funext a; refine Fin.ext ?_
      have := k.isLt
      match a with
      | ⟨0, _⟩ => show ((r.val / 256 * 256 + r.val % 256) * 1024 + k.val) / 1024 = r.val; omega
      | ⟨1, _⟩ => show ((r.val / 256 * 256 + r.val % 256) * 1024 + k.val) % 1024 = k.val; omega
    · refine Eq.trans (congrArg (val_main_v1 (F := Ideal) x0 x6) ?_) (weight_at x0 x6 (blkOf r) k n)
      funext a; refine Fin.ext ?_
      match a with
      | ⟨0, _⟩ => rfl
      | ⟨1, _⟩ => rfl
      | ⟨2, _⟩ => rfl
  · rw [val_main_call1_v2_apply]
    show Ideal.ofBits .f32 0#32 = 0
    exact Ideal.ofBits_zero_f32

end Cert.Reference2Ideal.Down

end
-- ==== Proof.DownSame.lean ====
/- The down projection's kernel and its idealization are one program. -/
module

public import proofs.«01_k».proof.Proof.Gen.Kernel2
public import proofs.«01_k».proof.Proof.DownFrame

@[expose] public section

noncomputable section

namespace Cert.Kernel2Ideal.Down

open Idealize.ShloMosaic Idealize.SL.Sem

variable {F : FTy → Type} [FloatOps F]

theorem defs₀_eq : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc (funext fun l => funext fun x => ?_)
  match l, x with
  | 0, (t, s) => rfl

/-- The two body tables are equal, over any float values. -/
theorem defs_eq : @Cert.Kernel2.defs F _ Cert.Kernel2.Gen.facts = @Cert.Kernel2Ideal.defs F _ Cert.Kernel2Ideal.Gen.facts :=
  congrArg (Pipeline.defs Cert.Kernel2.pcfgs) defs₀_eq

end Cert.Kernel2Ideal.Down

end
-- ==== Proof.GateKit.lean ====
module

public import proofs.«01_k».proof.Proof.Gen.Kernel3Ideal.Launch
public import proofs.«01_k».proof.Proof.Gen.Kernel3Ideal.Skeleton
public import Idealize.ShloMosaic.Lib.Pipeline.Kit
public import Idealize.ShloMosaic.Lib.WholeRead
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel3Ideal.Gate

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes a buffer that is none of the four reshaped arrays: the region finds it as launched. -/
theorem V_of (c : Dev nD) (b : Ref sig .tc) (h : b ≠ main_v0 ∧ b ≠ main_v1 ∧ b ≠ main_v2 ∧ b ≠ main_v3) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne h.1, StableHlo.devRef_ne_of_ne h.2.1, StableHlo.devRef_ne_of_ne h.2.2.1, StableHlo.devRef_ne_of_ne h.2.2.2⟩))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S160 .i32 := Memref.whole main_arg0
abbrev htbM0_0 : tbM0_0.IsWhole := Memref.isWhole_whole _
abbrev tbM0_1 : Memref sig .tc .smem S160 .i32 := Memref.whole main_arg1
abbrev htbM0_1 : tbM0_1.IsWhole := Memref.isWhole_whole _
abbrev tbM0_2 : Memref sig .tc .smem S1 .i32 := Memref.whole main_arg2
abbrev htbM0_2 : tbM0_2.IsWhole := Memref.isWhole_whole _
abbrev tbM0_3 : Memref sig .tc .smem S160 .i32 := Memref.whole main_arg3
abbrev htbM0_3 : tbM0_3.IsWhole := Memref.isWhole_whole _
abbrev tbM0_4 : Memref sig .tc .smem S160 .i32 := Memref.whole main_arg4
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (Pipeline.UD sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (Pipeline.UD sig nD τ) ℕ)) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_of m c main_arg0 (by decide)),
      ((h c).2 main_arg1 (by decide : main_arg1 ∈ Pipeline.restRefs sig spec0)).trans (V_of m c main_arg1 (by decide)),
      ((h c).2 main_arg2 (by decide : main_arg2 ∈ Pipeline.restRefs sig spec0)).trans (V_of m c main_arg2 (by decide)),
      ((h c).2 main_arg3 (by decide : main_arg3 ∈ Pipeline.restRefs sig spec0)).trans (V_of m c main_arg3 (by decide)),
      ((h c).2 main_arg4 (by decide : main_arg4 ∈ Pipeline.restRefs sig spec0)).trans (V_of m c main_arg4 (by decide)),
      ((h c).1 0).trans (((dats 0 c).arrAt_in 0 rfl _).trans ((hA c 0).trans (V_of m c main_arg5 (by decide)))),
      ((h c).2 main_arg6 (by decide : main_arg6 ∈ Pipeline.restRefs sig spec0)).trans (V_of m c main_arg6 (by decide)),
      ((h c).2 main_arg7 (by decide : main_arg7 ∈ Pipeline.restRefs sig spec0)).trans (V_of m c main_arg7 (by decide)),
      ((h c).2 main_arg8 (by decide : main_arg8 ∈ Pipeline.restRefs sig spec0)).trans (V_of m c main_arg8 (by decide))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S256x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S256x1024 .bf16 := spec0_2.stage ((cfgM m hO).slots t 2)
abbrev hs0_2 (hO : Ok m) (t : Fin (cfgM m hO).N) : (ms0_2 m hO t).IsWhole := hstage0_2 (((cfgM m hO).slots t 2).cast nbuf0_2)

/-- The scratch operands: whole scoped buffers of the kernel's own, passed beside the windows. -/
abbrev scM0_0 : Memref sig .tc .vmem S2x2048x1024 .f32 := Memref.whole cc0_scratch0
abbrev scM0_1 : Memref sig .tc .vmem S2x2048x1024 .f32 := Memref.whole cc0_scratch1
abbrev scM0_2 : Memref sig .tc .vmem S2048x1024 .bf16 := Memref.whole cc0_scratch2
abbrev scM0_3 : Memref sig .tc .vmem S2048x1024 .bf16 := Memref.whole cc0_scratch3
/-- The operands left in HBM that the body copies into scratch itself, whole. -/
abbrev hbM0_0 : Memref sig .tc .hbm S32x2048x1024 .f32 := Memref.whole main_v1
abbrev hbM0_1 : Memref sig .tc .hbm S32x2048x1024 .f32 := Memref.whole main_v2
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

/-- The body's own DMA semaphores, cell by cell (their numbers in the pool): the kernel's own semaphores for the launch
    (`Pipeline.OwnSemFacts`: none is a window's). -/
abbrev osem0 : Fin 4 → SemLoc sig := fun j => (![SemLoc.dma 5, SemLoc.dma 6, SemLoc.dma 7, SemLoc.dma 8] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) := by
  rw [Pipeline.ownSems0_eq_of_list c osem0 [0, 1, 2, 3] (by decide) (by decide)]; rfl
/-- The HBM operands the body moves, as references: unscoped, no window's array, no table (`Pipeline.restRefsP`). -/
def H0 : Finset (Ref sig .tc) := {main_v1, main_v2}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_v1) ∗ hbPt0 c hbM0_1 (V m c main_v2)) := by
  rw [BI.bigSep_eq_bigSepL_of_eq [main_v1, main_v2] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0) ∗ iprop(hbPt0 c hbM0_0 (V m c main_v1) ∗ hbPt0 c hbM0_1 (V m c main_v2))) := by
  rw [Pipeline.ΦD_eq, scopedRest0_eq, ownSems00_eq, hbmPts0_eq]; simp only [scM0_0, scM0_1, scM0_2, scM0_3, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_expert_gateup (grid0.coords t) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole main_v1) (Memref.isWhole_whole _) (Memref.whole main_v2) (Memref.isWhole_whole _) (spec0_2.stage ((cfg0 a).slots t 2)) (hstage0_2 (((cfg0 a).slots t 2).cast nbuf0_2)) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4

end Cert.Kernel3Ideal.Gate

end
-- ==== Proof.GateRun.lean ====
module

public import proofs.«01_k».proof.Proof.GateKit

@[expose] public section

set_option maxRecDepth 16384

noncomputable section

namespace Cert.Kernel3Ideal.Gate

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The weights' blocks, the slots and their counters -/

abbrev grpOff (b : Fin 32) : Fin 3 → Nat := ![b.val, 0, 0]
theorem grpOff_inb (b : Fin 32) : ∀ a, grpOff b a + S1x2048x1024.size a ≤ S32x2048x1024.size a := by
  have := b.isLt; intro a; fin_cases a
  · show b.val + 1 ≤ 32; omega
  · show 0 + 2048 ≤ 2048; omega
  · show 0 + 1024 ≤ 1024; omega
abbrev slotOff (s : Fin 2) : Fin 3 → Nat := ![s.val, 0, 0]
theorem slotOff_inb (s : Fin 2) : ∀ a, slotOff s a + S1x2048x1024.size a ≤ S2x2048x1024.size a := by
  have := s.isLt; intro a; fin_cases a
  · show s.val + 1 ≤ 2; omega
  · show 0 + 2048 ≤ 2048; omega
  · show 0 + 1024 ≤ 1024; omega
abbrev semOff (k s : Fin 2) : Fin 2 → Nat := ![k.val, s.val]
theorem semOff_inb (k s : Fin 2) : ∀ a, semOff k s a + S1x1.size a ≤ S2x2.size a := by
  have := s.isLt; have := k.isLt; intro a; fin_cases a
  · show k.val + 1 ≤ 2; omega
  · show s.val + 1 ≤ 2; omega

/-- Expert `b`'s block of an array of weights. -/
abbrev grpOf (M : Memref sig .tc .hbm S32x2048x1024 .f32) (b : Fin 32) : Memref sig .tc .hbm S2048x1024 .f32 :=
  (M.slice (Rect.unit (s := S32x2048x1024) (grpOff b) S1x2048x1024.size (grpOff_inb b)) (fun _ => rfl)).squeeze S2048x1024 squeezes_S1x2048x1024_S2048x1024
/-- Slot `s` of a double buffer. -/
abbrev slotOf (M : Memref sig .tc .vmem S2x2048x1024 .f32) (s : Fin 2) : Memref sig .tc .vmem S2048x1024 .f32 :=
  (M.slice (Rect.unit (s := S2x2048x1024) (slotOff s) S1x2048x1024.size (slotOff_inb s)) (fun _ => rfl)).squeeze S2048x1024 squeezes_S1x2048x1024_S2048x1024
/-- Expert `b`'s gate weights and its up weights. -/
def grpG (b : Fin 32) : Memref sig .tc .hbm S2048x1024 .f32 := grpOf hbM0_0 b
def grpU (b : Fin 32) : Memref sig .tc .hbm S2048x1024 .f32 := grpOf hbM0_1 b
/-- Slot `s` of the buffer of the gate weights, of the up weights. -/
def slotG (s : Fin 2) : Memref sig .tc .vmem S2048x1024 .f32 := slotOf scM0_0 s
def slotU (s : Fin 2) : Memref sig .tc .vmem S2048x1024 .f32 := slotOf scM0_1 s
/-- Slot `s`'s counter of the gate weights (`k = 0`) and of the up weights (`k = 1`). -/
def csm (k s : Fin 2) : DmaSems sig S_ := (cc0_scratch4.slice (Rect.unit (s := S2x2) (semOff k s) S1x1.size (semOff_inb k s))).squeeze S_ squeezes_S1x1_S_

instance (s : Fin 2) : ClosedOff (slotOff s) := ⟨![s.val, 0, 0], rfl⟩
instance (b : Fin 32) : ClosedOff (grpOff b) := ⟨![b.val, 0, 0], rfl⟩

/-- A word as an expert, a slot. -/
def bOf (v : BitVec 32) : Fin 32 := Fin.ofNat 32 v.toNat
def sOf (v : BitVec 32) : Fin 2 := Fin.ofNat 2 v.toNat
/-- The other slot. -/
def oth (s : Fin 2) : Fin 2 := 1 - s

section Words
variable (v : BitVec 32)

theorem bOf_val (h : v.toNat < 32) : (bOf v).val = v.toNat := by simp [bOf, Fin.ofNat, Nat.mod_eq_of_lt h]
theorem sOf_val (h : v.toNat < 2) : (sOf v).val = v.toNat := by simp [sOf, Fin.ofNat, Nat.mod_eq_of_lt h]
theorem oth_val (h : v.toNat < 2) : (oth (sOf v)).val = (Scalar.subi 1#32 v).toNat := by
  have h2 : v = 0#32 ∨ v = 1#32 := by
    rcases (by omega : v.toNat = 0 ∨ v.toNat = 1) with h | h
    · exact .inl (BitVec.eq_of_toNat_eq h)
    · exact .inr (BitVec.eq_of_toNat_eq h)
  rcases h2 with rfl | rfl <;> decide

theorem off1_eq (h : v.toNat < 32) : k0_off1 v = grpOff (bOf v) := by unfold grpOff; rw [bOf_val v h]; rfl
theorem off6_eq (h : v.toNat < 32) : k0_off6 v = grpOff (bOf v) := by unfold grpOff; rw [bOf_val v h]; rfl
theorem off13_eq (h : v.toNat < 32) : k0_off13 v = grpOff (bOf v) := by unfold grpOff; rw [bOf_val v h]; rfl
theorem off4_eq (h : v.toNat < 2) : k0_off4 v = semOff 0 (sOf v) := by unfold semOff; rw [sOf_val v h]; rfl
theorem off7_eq (h : v.toNat < 2) : k0_off7 v = semOff 1 (sOf v) := by unfold semOff; rw [sOf_val v h]; rfl
theorem off5_eq (h : v.toNat < 2) : k0_off5 v = slotOff (sOf v) := by unfold slotOff; rw [sOf_val v h]; rfl
theorem off8_eq (h : v.toNat < 2) : k0_off8 v = slotOff (sOf v) := by unfold slotOff; rw [sOf_val v h]; rfl
theorem off16_eq (h : v.toNat < 2) : k0_off16 v = slotOff (sOf v) := by unfold slotOff; rw [sOf_val v h]; rfl
theorem off11_eq (h : v.toNat < 2) : k0_off11 v = semOff 0 (oth (sOf v)) := by unfold semOff; rw [oth_val v h]; rfl
theorem off14_eq (h : v.toNat < 2) : k0_off14 v = semOff 1 (oth (sOf v)) := by unfold semOff; rw [oth_val v h]; rfl
theorem off12_eq (h : v.toNat < 2) : k0_off12 v = slotOff (oth (sOf v)) := by unfold slotOff; rw [oth_val v h]; rfl
theorem off15_eq (h : v.toNat < 2) : k0_off15 v = slotOff (oth (sOf v)) := by unfold slotOff; rw [oth_val v h]; rfl

theorem csm_congr {off : Fin 2 → Nat} {k s : Fin 2} (e : off = semOff k s) (hh) :
    (cc0_scratch4.slice (Rect.unit (s := S2x2) off S1x1.size hh)).squeeze S_ squeezes_S1x1_S_ = csm k s :=
  congrArg (fun A : DmaSems sig S1x1 => A.squeeze S_ squeezes_S1x1_S_) (SemArray.slice_unit_congr _ e _ _)
theorem slot_congr (M : Memref sig .tc .vmem S2x2048x1024 .f32) {off : Fin 3 → Nat} {s : Fin 2} (e : off = slotOff s) (hh hs) :
    (M.slice (Rect.unit (s := S2x2048x1024) off S1x2048x1024.size hh) hs).squeeze S2048x1024 squeezes_S1x2048x1024_S2048x1024 = slotOf M s :=
  congrArg (fun M : Memref sig .tc .vmem S1x2048x1024 .f32 => M.squeeze S2048x1024 squeezes_S1x2048x1024_S2048x1024) (Memref.slice_unit_congr _ e _ _ _ _)
theorem grp_congr (M : Memref sig .tc .hbm S32x2048x1024 .f32) {off : Fin 3 → Nat} {b : Fin 32} (e : off = grpOff b) (hh hs) :
    (M.slice (Rect.unit (s := S32x2048x1024) off S1x2048x1024.size hh) hs).squeeze S2048x1024 squeezes_S1x2048x1024_S2048x1024 = grpOf M b :=
  congrArg (fun M : Memref sig .tc .hbm S1x2048x1024 .f32 => M.squeeze S2048x1024 squeezes_S1x2048x1024_S2048x1024) (Memref.slice_unit_congr _ e _ _ _ _)

@[sl_canon] theorem semL0 (hh) : (cc0_scratch4.slice (Rect.unit (s := S2x2) (![0, 0]) S1x1.size hh)).squeeze S_ squeezes_S1x1_S_ = csm 0 0 := csm_congr (by decide) _
@[sl_canon] theorem semL1 (hh) : (cc0_scratch4.slice (Rect.unit (s := S2x2) (![1, 0]) S1x1.size hh)).squeeze S_ squeezes_S1x1_S_ = csm 1 0 := csm_congr (by decide) _
@[sl_canon] theorem slotLG (hh hs) : (scM0_0.slice (Rect.unit (s := S2x2048x1024) (![0, 0, 0]) S1x2048x1024.size hh) hs).squeeze S2048x1024 squeezes_S1x2048x1024_S2048x1024 = slotG 0 := slot_congr scM0_0 (by decide) _ _
@[sl_canon] theorem slotLU (hh hs) : (scM0_1.slice (Rect.unit (s := S2x2048x1024) (![0, 0, 0]) S1x2048x1024.size hh) hs).squeeze S2048x1024 squeezes_S1x2048x1024_S2048x1024 = slotU 0 := slot_congr scM0_1 (by decide) _ _
@[sl_canon] theorem grpG1 (h : v.toNat < 32) (hh hs) :
    (hbM0_0.slice (Rect.unit (s := S32x2048x1024) (k0_off1 v) S1x2048x1024.size hh) hs).squeeze S2048x1024 squeezes_S1x2048x1024_S2048x1024 = grpG (bOf v) := grp_congr hbM0_0 (off1_eq v h) _ _
@[sl_canon] theorem grpU1 (h : v.toNat < 32) (hh hs) :
    (hbM0_1.slice (Rect.unit (s := S32x2048x1024) (k0_off1 v) S1x2048x1024.size hh) hs).squeeze S2048x1024 squeezes_S1x2048x1024_S2048x1024 = grpU (bOf v) := grp_congr hbM0_1 (off1_eq v h) _ _
@[sl_canon] theorem grpG6 (h : v.toNat < 32) (hh hs) :
    (hbM0_0.slice (Rect.unit (s := S32x2048x1024) (k0_off6 v) S1x2048x1024.size hh) hs).squeeze S2048x1024 squeezes_S1x2048x1024_S2048x1024 = grpG (bOf v) := grp_congr hbM0_0 (off6_eq v h) _ _
@[sl_canon] theorem grpU6 (h : v.toNat < 32) (hh hs) :
    (hbM0_1.slice (Rect.unit (s := S32x2048x1024) (k0_off6 v) S1x2048x1024.size hh) hs).squeeze S2048x1024 squeezes_S1x2048x1024_S2048x1024 = grpU (bOf v) := grp_congr hbM0_1 (off6_eq v h) _ _
@[sl_canon] theorem grpG13 (h : v.toNat < 32) (hh hs) :
    (hbM0_0.slice (Rect.unit (s := S32x2048x1024) (k0_off13 v) S1x2048x1024.size hh) hs).squeeze S2048x1024 squeezes_S1x2048x1024_S2048x1024 = grpG (bOf v) := grp_congr hbM0_0 (off13_eq v h) _ _
@[sl_canon] theorem grpU13 (h : v.toNat < 32) (hh hs) :
    (hbM0_1.slice (Rect.unit (s := S32x2048x1024) (k0_off13 v) S1x2048x1024.size hh) hs).squeeze S2048x1024 squeezes_S1x2048x1024_S2048x1024 = grpU (bOf v) := grp_congr hbM0_1 (off13_eq v h) _ _
@[sl_canon] theorem sem4 (h : v.toNat < 2) (hh) :
    (cc0_scratch4.slice (Rect.unit (s := S2x2) (k0_off4 v) S1x1.size hh)).squeeze S_ squeezes_S1x1_S_ = csm 0 (sOf v) := csm_congr (off4_eq v h) _
@[sl_canon] theorem sem7 (h : v.toNat < 2) (hh) :
    (cc0_scratch4.slice (Rect.unit (s := S2x2) (k0_off7 v) S1x1.size hh)).squeeze S_ squeezes_S1x1_S_ = csm 1 (sOf v) := csm_congr (off7_eq v h) _
@[sl_canon] theorem sem11 (h : v.toNat < 2) (hh) :
    (cc0_scratch4.slice (Rect.unit (s := S2x2) (k0_off11 v) S1x1.size hh)).squeeze S_ squeezes_S1x1_S_ = csm 0 (oth (sOf v)) := csm_congr (off11_eq v h) _
@[sl_canon] theorem sem14 (h : v.toNat < 2) (hh) :
    (cc0_scratch4.slice (Rect.unit (s := S2x2) (k0_off14 v) S1x1.size hh)).squeeze S_ squeezes_S1x1_S_ = csm 1 (oth (sOf v)) := csm_congr (off14_eq v h) _
@[sl_canon] theorem slot5 (h : v.toNat < 2) (hh hs) :
    (scM0_0.slice (Rect.unit (s := S2x2048x1024) (k0_off5 v) S1x2048x1024.size hh) hs).squeeze S2048x1024 squeezes_S1x2048x1024_S2048x1024 = slotG (sOf v) := slot_congr scM0_0 (off5_eq v h) _ _
@[sl_canon] theorem slot8 (h : v.toNat < 2) (hh hs) :
    (scM0_1.slice (Rect.unit (s := S2x2048x1024) (k0_off8 v) S1x2048x1024.size hh) hs).squeeze S2048x1024 squeezes_S1x2048x1024_S2048x1024 = slotU (sOf v) := slot_congr scM0_1 (off8_eq v h) _ _
@[sl_canon] theorem slot12 (h : v.toNat < 2) (hh hs) :
    (scM0_0.slice (Rect.unit (s := S2x2048x1024) (k0_off12 v) S1x2048x1024.size hh) hs).squeeze S2048x1024 squeezes_S1x2048x1024_S2048x1024 = slotG (oth (sOf v)) := slot_congr scM0_0 (off12_eq v h) _ _
@[sl_canon] theorem slot15 (h : v.toNat < 2) (hh hs) :
    (scM0_1.slice (Rect.unit (s := S2x2048x1024) (k0_off15 v) S1x2048x1024.size hh) hs).squeeze S2048x1024 squeezes_S1x2048x1024_S2048x1024 = slotU (oth (sOf v)) := slot_congr scM0_1 (off15_eq v h) _ _

end Words

/-! ## The words the body reads -/

section Run

variable (c : Dev nD) (i : grid0.Coords) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)

abbrev wZ : BitVec 32 := tbM0_0.view.readAt (Elt F) (Rect.unit (s := S160) ![0] S1.size inb_S160_S1_0).toLoadRect xt0 (Shape.Idx.first (numel1_S1.symm ▸ Nat.one_pos))
abbrev wE : BitVec 32 := tbM0_0.view.readAt (Elt F) (Rect.unit (s := S160) (k0_off3 i) S1.size (k0_off3_inb i)).toLoadRect xt0 (Shape.Idx.first (numel1_S1.symm ▸ Nat.one_pos))
abbrev wF : BitVec 32 := tbM0_1.view.readAt (Elt F) (Rect.unit (s := S160) (k0_off2 i) S1.size (k0_off2_inb i)).toLoadRect xt1 (Shape.Idx.first (numel1_S1.symm ▸ Nat.one_pos))
abbrev wN : BitVec 32 := tbM0_2.view.readAt (Elt F) (Rect.unit (s := S1) ![0] S1.size inb_S1_S1_0).toLoadRect xt2 (Shape.Idx.first (numel1_S1.symm ▸ Nat.one_pos))
abbrev wS : BitVec 32 := tbM0_3.view.readAt (Elt F) (Rect.unit (s := S160) (k0_off3 i) S1.size (k0_off3_inb i)).toLoadRect xt3 (Shape.Idx.first (numel1_S1.symm ▸ Nat.one_pos))
abbrev wX : BitVec 32 := tbM0_4.view.readAt (Elt F) (Rect.unit (s := S160) (k0_off9 i) S1.size (k0_off9_inb i)).toLoadRect xt4 (Shape.Idx.first (numel1_S1.symm ▸ Nat.one_pos))
abbrev wX' : BitVec 32 := tbM0_4.view.readAt (Elt F) (Rect.unit (s := S160) (k0_off10 i) S1.size (k0_off10_inb i)).toLoadRect xt4 (Shape.Idx.first (numel1_S1.symm ▸ Nat.one_pos))

variable (arg6 : Memref sig .tc .vmem S256x2048 .f32) (harg6 : arg6.IsWhole) (arg7 : Memref sig .tc .vmem S1x2048 .f32) (harg7 : arg7.IsWhole) (arg10 : Memref sig .tc .vmem S256x1024 .bf16) (harg10 : arg10.IsWhole)

abbrev bodyG : Prog (TpuEff nD τ sig (Elt F) Λ₀ .tc) PUnit :=
  cc0_expert_gateup i tbM0_0 htbM0_0 tbM0_1 htbM0_1 tbM0_2 htbM0_2 tbM0_3 htbM0_3 tbM0_4 htbM0_4 arg6 harg6 arg7 harg7 (Memref.whole main_v1) (Memref.isWhole_whole _) (Memref.whole main_v2) (Memref.isWhole_whole _) arg10 harg10 scM0_0 (Memref.isWhole_whole _) scM0_1 (Memref.isWhole_whole _) scM0_2 (Memref.isWhole_whole _) scM0_3 (Memref.isWhole_whole _) cc0_scratch4

abbrev tabs : sProp (MT nD τ sig Unit (Elt F) ℕ (Pipeline.UD sig nD τ) ℕ) := iprop(tbPt0 c tbM0_0 xt0 ∗ tbPt0 c tbM0_1 xt1 ∗ tbPt0 c tbM0_2 xt2 ∗ tbPt0 c tbM0_3 xt3 ∗ tbPt0 c tbM0_4 xt4)

theorem readAt_full2 {sp : Space} {a b : ℕ} {e : EltTy} {M : Memref sig .tc sp ⟨2, ![a, b]⟩ e} (h : M.IsWhole) (X : Vec F ⟨2, ![a, b]⟩ e)
    (inb : ∀ k, (![0, 0] : Fin 2 → ℕ) k + (⟨2, ![a, b]⟩ : Shape).size k ≤ (⟨2, ![a, b]⟩ : Shape).size k) :
    M.view.readAt (Elt F) (Rect.unit (s := ⟨2, ![a, b]⟩) ![0, 0] (⟨2, ![a, b]⟩ : Shape).size inb).toLoadRect (h.unread X) = X := by
  funext y
  rw [h.readAt_unread]
  congr 1
  funext k
  apply Fin.ext
  fin_cases k <;> simp [Rect.unit, LoadRect.idx, Rect.toLoadRect]

theorem read_full2 {sp : Space} {a b : ℕ} {e : EltTy} {M : Memref sig .tc sp ⟨2, ![a, b]⟩ e} (f : M.view.ty.Contents (Elt F)) (X : Vec F ⟨2, ![a, b]⟩ e)
    (inb : ∀ k, (![0, 0] : Fin 2 → ℕ) k + (⟨2, ![a, b]⟩ : Shape).size k ≤ (⟨2, ![a, b]⟩ : Shape).size k) :
    M.view.read (Elt F) (M.view.writes (Elt F) f [⟨Rect.unit (s := ⟨2, ![a, b]⟩) ![0, 0] (⟨2, ![a, b]⟩ : Shape).size inb, X⟩]) = X := by
  funext y
  have h := View.read_writes_cons_emb M.view f (Rect.unit (s := ⟨2, ![a, b]⟩) ![0, 0] (⟨2, ![a, b]⟩ : Shape).size inb) X [] y
  have e : (Rect.unit (s := ⟨2, ![a, b]⟩) ![0, 0] (⟨2, ![a, b]⟩ : Shape).size inb).emb y = y := by
    funext k
    apply Fin.ext
    fin_cases k <;> simp [Rect.unit, Rect.emb]
  rwa [e] at h

theorem cov_full2 {sp : Space} {a b : ℕ} {e : EltTy} {M : Memref sig .tc sp ⟨2, ![a, b]⟩ e} (X : Vec F ⟨2, ![a, b]⟩ e)
    (inb : ∀ k, (![0, 0] : Fin 2 → ℕ) k + (⟨2, ![a, b]⟩ : Shape).size k ≤ (⟨2, ![a, b]⟩ : Shape).size k) :
    M.view.readCov [⟨Rect.unit (s := ⟨2, ![a, b]⟩) ![0, 0] (⟨2, ![a, b]⟩ : Shape).size inb, X⟩] (Rect.unit (s := ⟨2, ![a, b]⟩) ![0, 0] (⟨2, ![a, b]⟩ : Shape).size inb).toLoadRect = X := by
  have e : ∀ y, (Rect.unit (s := ⟨2, ![a, b]⟩) ![0, 0] (⟨2, ![a, b]⟩ : Shape).size inb).toLoadRect.idx y = y := by
    intro y
    funext k
    apply Fin.ext
    fin_cases k <;> simp [Rect.unit, LoadRect.idx, Rect.toLoadRect]
  funext y
  show M.view.read (Elt F) _ ((Rect.unit (s := ⟨2, ![a, b]⟩) ![0, 0] (⟨2, ![a, b]⟩ : Shape).size inb).toLoadRect.idx y) = _
  rw [e, read_full2]

/-- The two windows the body reads. -/
abbrev insP (x0 : Vec F S256x2048 .f32) (x1 : Vec F S1x2048 .f32) : sProp (MT nD τ sig Unit (Elt F) ℕ (Pipeline.UD sig nD τ) ℕ) := iprop(owns (c : Thread nD τ) arg6 fullShare x0 ∗ owns (c : Thread nD τ) arg7 fullShare x1)
/-- The two buffers the body multiplies with. -/
abbrev packP (BG BU : Vec F S2048x1024 .bf16) : sProp (MT nD τ sig Unit (Elt F) ℕ (Pipeline.UD sig nD τ) ℕ) := iprop(owns (c : Thread nD τ) scM0_2 fullShare BG ∗ owns (c : Thread nD τ) scM0_3 fullShare BU)
abbrev packAny : sProp (MT nD τ sig Unit (Elt F) ℕ (Pipeline.UD sig nD τ) ℕ) := iprop(∃ BG BU, packP c BG BU)

/-- A point that multiplies with the weights already there. -/
theorem runB (x0 : Vec F S256x2048 .f32) (x1 : Vec F S1x2048 .f32) (BG BU : Vec F S2048x1024 .bf16)
    (h1 : k0_cond1 i (wN c xt2) = 1#1) (h2 : ¬ k0_cond2 i = 1#1) (h3 : ¬ k0_cond3 (wF c i xt1) = 1#1) (h5 : ¬ k0_cond5 i (wN c xt2) = 1#1)
    (W : Waits sig Unit) (K : PUnit → sProp (MT nD τ sig Unit (Elt F) ℕ (Pipeline.UD sig nD τ) ℕ)) :
    iprop(insP c arg6 arg7 x0 x1 ∗ (∃ d, owns (c : Thread nD τ) arg10 fullShare d) ∗ packP c BG BU
        ∗ tabs c xt0 xt1 xt2 xt3 xt4 ∗ owes (c : Thread nD τ) 0 W
        ∗ (iprop(insP c arg6 arg7 x0 x1 ∗ owns (c : Thread nD τ) arg10 fullShare (k0_pay2 x0 x1 BG BU) ∗ packP c BG BU
            ∗ tabs c xt0 xt1 xt2 xt3 xt4 ∗ ∃ W', owes (c : Thread nD τ) 0 W') -∗ K ⟨⟩))
      ⊢ wp frame (wpE (defs₀ (F := F)) Variants.none c none) Set.univ (bodyG i arg6 harg6 arg7 harg7 arg10 harg10) K := by
  unfold bodyG
  simp only [cc0_expert_gateup_eq_skeleton]; unfold cc0_expert_gateup_skel
  rw [k0_part1_eq_skeleton]; unfold k0_part1_skel
  unfold insP packP owns
  iintro ⟨⟨⟨%f0, %hf0, H0⟩, ⟨%f9, %hf9, H9⟩⟩, ⟨%d1, %f1, -, H1⟩, ⟨⟨%fs2, %hfs2, HS2⟩, ⟨%fs3, %hfs3, HS3⟩⟩, ⟨HT0, HT1, HT2, HT3, HT4⟩, HW, Hk⟩
  obtain rfl := harg6.eq_unread hf0
  obtain rfl := harg7.eq_unread hf9
  obtain rfl := (Memref.isWhole_whole cc0_scratch2).eq_unread hfs2
  obtain rfl := (Memref.isWhole_whole cc0_scratch3).eq_unread hfs3
  sl_exec
  sl_step
  iapply Hk
  isplitl [H0 H9]
  · isplitl [H0]
    · iexists _; isplitr; · ipureintro; exact harg6.read_unread _
      iexact H0
    · iexists _; isplitr; · ipureintro; exact harg7.read_unread _
      iexact H9
  isplitl [H1]
  · iexists _; isplitr; swap; · iexact H1
    ipureintro
    rw [readAt_full2 harg6, readAt_full2 harg7, readAt_full2 (Memref.isWhole_whole cc0_scratch2), readAt_full2 (Memref.isWhole_whole cc0_scratch3), read_full2]
  isplitl [HS2 HS3]
  · isplitl [HS2]
    · iexists _; isplitr; swap; · iexact HS2
      ipureintro; exact (Memref.isWhole_whole cc0_scratch2).read_unread _
    · iexists _; isplitr; swap; · iexact HS3
      ipureintro; exact (Memref.isWhole_whole cc0_scratch3).read_unread _
  isplitr [HW]
  · isplitl [HT0]; · iexact HT0
    isplitl [HT1]; · iexact HT1
    isplitl [HT2]; · iexact HT2
    isplitl [HT3]; · iexact HT3
    iexact HT4
  iexists _; iexact HW

/-- A point past the plan's end. -/
theorem runD (h1 : ¬ k0_cond1 i (wN c xt2) = 1#1) (h5 : k0_cond5 i (wN c xt2) = 1#1) (x0 : Vec F S256x2048 .f32) (x1 : Vec F S1x2048 .f32)
    (W : Waits sig Unit) (K : PUnit → sProp (MT nD τ sig Unit (Elt F) ℕ (Pipeline.UD sig nD τ) ℕ)) :
    iprop(insP c arg6 arg7 x0 x1 ∗ (∃ d, owns (c : Thread nD τ) arg10 fullShare d)
        ∗ tabs c xt0 xt1 xt2 xt3 xt4 ∗ owes (c : Thread nD τ) 0 W
        ∗ (iprop(insP c arg6 arg7 x0 x1 ∗ owns (c : Thread nD τ) arg10 fullShare (k0_pay3 (F := F))
            ∗ tabs c xt0 xt1 xt2 xt3 xt4 ∗ ∃ W', owes (c : Thread nD τ) 0 W') -∗ K ⟨⟩))
      ⊢ wp frame (wpE (defs₀ (F := F)) Variants.none c none) Set.univ (bodyG i arg6 harg6 arg7 harg7 arg10 harg10) K := by
  unfold bodyG
  simp only [cc0_expert_gateup_eq_skeleton]; unfold cc0_expert_gateup_skel
  rw [k0_part1_eq_skeleton]; unfold k0_part1_skel
  unfold owns
  iintro ⟨H0, ⟨%d1, %f1, -, H1⟩, ⟨HT0, HT1, HT2, HT3, HT4⟩, HW, Hk⟩
  sl_exec
  sl_step
  iapply Hk
  isplitl [H0]; · iexact H0
  isplitl [H1]
  · iexists _; isplitr; swap; · iexact H1
    ipureintro
    rw [read_full2]
  isplitr [HW]
  · isplitl [HT0]; · iexact HT0
    isplitl [HT1]; · iexact HT1
    isplitl [HT2]; · iexact HT2
    isplitl [HT3]; · iexact HT3
    iexact HT4
  iexists _; iexact HW

/-! ## Points that take a new expert's weights -/

abbrev cellG (s : Fin 2) : sProp (MT nD τ sig Unit (Elt F) ℕ (Pipeline.UD sig nD τ) ℕ) := semVal ((c : Thread nD τ), SemLoc.dma (csm 0 s).sem) 0
abbrev cellU (s : Fin 2) : sProp (MT nD τ sig Unit (Elt F) ℕ (Pipeline.UD sig nD τ) ℕ) := semVal ((c : Thread nD τ), SemLoc.dma (csm 1 s).sem) 0
abbrev cellP (s : Fin 2) : sProp (MT nD τ sig Unit (Elt F) ℕ (Pipeline.UD sig nD τ) ℕ) := iprop(cellG c s ∗ cellU c s)
abbrev slotPG (s : Fin 2) (f : Buf (Elt F) ((slotG s).view.loc (c : Thread nD τ))) : sProp (MT nD τ sig Unit (Elt F) ℕ (Pipeline.UD sig nD τ) ℕ) :=
  (slotG s).view.loc (c : Thread nD τ) ↦[(slotG s).view.set]{fullShare} f
abbrev slotPU (s : Fin 2) (f : Buf (Elt F) ((slotU s).view.loc (c : Thread nD τ))) : sProp (MT nD τ sig Unit (Elt F) ℕ (Pipeline.UD sig nD τ) ℕ) :=
  (slotU s).view.loc (c : Thread nD τ) ↦[(slotU s).view.set]{fullShare} f
/-- Slot `s` of both buffers, holding whatever. -/
abbrev slotP (s : Fin 2) : sProp (MT nD τ sig Unit (Elt F) ℕ (Pipeline.UD sig nD τ) ℕ) := iprop((∃ f, slotPG (F := F) c s f) ∗ ∃ f, slotPU (F := F) c s f)
variable (XG : HbBuf0 (F := F) c hbM0_0) (XU : HbBuf0 (F := F) c hbM0_1)
/-- Expert `b`'s weights, at home. -/
abbrev homeG (b : Fin 32) : sProp (MT nD τ sig Unit (Elt F) ℕ (Pipeline.UD sig nD τ) ℕ) := (grpG b).view.loc (c : Thread nD τ) ↦[(grpG b).view.set]{fullShare} XG
abbrev homeU (b : Fin 32) : sProp (MT nD τ sig Unit (Elt F) ℕ (Pipeline.UD sig nD τ) ℕ) := (grpU b).view.loc (c : Thread nD τ) ↦[(grpU b).view.set]{fullShare} XU
abbrev homeP (b : Fin 32) : sProp (MT nD τ sig Unit (Elt F) ℕ (Pipeline.UD sig nD τ) ℕ) := iprop(homeG c XG b ∗ homeU c XU b)
/-- What the copy of expert `b`'s weights leaves in slot `s`. -/
abbrev landedG (s : Fin 2) (b : Fin 32) (f : Buf (Elt F) ((slotG s).view.loc (c : Thread nD τ))) : Buf (Elt F) ((slotG s).view.loc (c : Thread nD τ)) :=
  (slotG s).view.writes (Elt F) f [⟨Rect.whole S2048x1024, ReadAs.same.apply ((grpG b).view.read (Elt F) XG)⟩]
/-- The copy of expert `b`'s weights into slot `s`, on its way. -/
abbrev flightG (s : Fin 2) (b : Fin 32) (f : Buf (Elt F) ((slotG s).view.loc (c : Thread nD τ))) : sProp (MT nD τ sig Unit (Elt F) ℕ (Pipeline.UD sig nD τ) ℕ) :=
  Transfers.Flight countersEmb (c : Thread nD τ) (SemLoc.dma (csm 0 s).sem) () (slotG s).view.dmaCredit iprop(slotPG c s (landedG c XG s b f) ∗ homeG c XG b)
/-- What the bf16 buffer holds of expert `b`'s weights. -/
abbrev BG (b : Fin 32) : FVec F S2048x1024 .bf16 :=
  shapeCast S2048x1024 (truncf .bf16 ((grpG b).view.read (Elt F) XG) bitsLt_bf16_f32) shapeCasts_S2048x1024_S2048x1024
theorem landG (s : Fin 2) (b : Fin 32) (f : Buf (Elt F) ((slotG s).view.loc (c : Thread nD τ))) {off : Fin 3 → Nat} (e : off = slotOff s)
    (inb : ∀ a, off a + S1x2048x1024.size a ≤ S2x2048x1024.size a) :
    k0_pay1 (k0_pay5 (scM0_0.view.readAt (Elt F) (Rect.unit (s := S2x2048x1024) off S1x2048x1024.size inb).toLoadRect (landedG c XG s b f))) = BG c XG b := by
  subst e
  have h : (slotG s).view.read (Elt F) (landedG c XG s b f) = (grpG b).view.read (Elt F) XG := View.read_writes_whole _ _ _
  show shapeCast S2048x1024 (truncf .bf16 ((slotG s).view.read (Elt F) (landedG c XG s b f)) bitsLt_bf16_f32) shapeCasts_S2048x1024_S2048x1024 = _
  rw [h]
/-- What the copy of expert `b`'s weights leaves in slot `s`. -/
abbrev landedU (s : Fin 2) (b : Fin 32) (f : Buf (Elt F) ((slotU s).view.loc (c : Thread nD τ))) : Buf (Elt F) ((slotU s).view.loc (c : Thread nD τ)) :=
  (slotU s).view.writes (Elt F) f [⟨Rect.whole S2048x1024, ReadAs.same.apply ((grpU b).view.read (Elt F) XU)⟩]
/-- The copy of expert `b`'s weights into slot `s`, on its way. -/
abbrev flightU (s : Fin 2) (b : Fin 32) (f : Buf (Elt F) ((slotU s).view.loc (c : Thread nD τ))) : sProp (MT nD τ sig Unit (Elt F) ℕ (Pipeline.UD sig nD τ) ℕ) :=
  Transfers.Flight countersEmb (c : Thread nD τ) (SemLoc.dma (csm 1 s).sem) () (slotU s).view.dmaCredit iprop(slotPU c s (landedU c XU s b f) ∗ homeU c XU b)
/-- What the bf16 buffer holds of expert `b`'s weights. -/
abbrev BU (b : Fin 32) : FVec F S2048x1024 .bf16 :=
  shapeCast S2048x1024 (truncf .bf16 ((grpU b).view.read (Elt F) XU) bitsLt_bf16_f32) shapeCasts_S2048x1024_S2048x1024
theorem landU (s : Fin 2) (b : Fin 32) (f : Buf (Elt F) ((slotU s).view.loc (c : Thread nD τ))) {off : Fin 3 → Nat} (e : off = slotOff s)
    (inb : ∀ a, off a + S1x2048x1024.size a ≤ S2x2048x1024.size a) :
    k0_pay1 (k0_pay5 (scM0_1.view.readAt (Elt F) (Rect.unit (s := S2x2048x1024) off S1x2048x1024.size inb).toLoadRect (landedU c XU s b f))) = BU c XU b := by
  subst e
  have h : (slotU s).view.read (Elt F) (landedU c XU s b f) = (grpU b).view.read (Elt F) XU := View.read_writes_whole _ _ _
  show shapeCast S2048x1024 (truncf .bf16 ((slotU s).view.read (Elt F) (landedU c XU s b f)) bitsLt_bf16_f32) shapeCasts_S2048x1024_S2048x1024 = _
  rw [h]
/-- The copies of expert `b`'s weights into slot `s`, on their way. -/
abbrev flightP (s : Fin 2) (b : Fin 32) : sProp (MT nD τ sig Unit (Elt F) ℕ (Pipeline.UD sig nD τ) ℕ) := iprop((∃ f, flightG c XG s b f) ∗ ∃ f, flightU c XU s b f)

theorem runC1 (x0 : Vec F S256x2048 .f32) (x1 : Vec F S1x2048 .f32) (vN vF vS vE vX : BitVec 32) (R : sProp (MT nD τ sig Unit (Elt F) ℕ (Pipeline.UD sig nD τ) ℕ))
    (eN : wN c xt2 = vN) (eF : wF c i xt1 = vF) (eS : wS c i xt3 = vS) (eE : wE c i xt0 = vE) (eX : wX c i xt4 = vX)
    (h1 : k0_cond1 i vN = 1#1) (h2 : ¬ k0_cond2 i = 1#1) (h3 : k0_cond3 vF = 1#1) (h4 : k0_cond4 vX = 1#1) (h5 : ¬ k0_cond5 i vN = 1#1)
    (hs : vS.toNat < 2) (hE : vE.toNat < 32) (hX : vX.toNat < 32)
    (hw2 : k0_chk2 i vN vF vS) (hw3 : k0_chk3 i vN vF vE)
    (hw4 : k0_chk4 i vN vF vS vX) (hw5 : k0_chk5 i vN vF vX vX)
    (W : Waits sig Unit) (K : PUnit → sProp (MT nD τ sig Unit (Elt F) ℕ (Pipeline.UD sig nD τ) ℕ)) :
    iprop(insP c arg6 arg7 x0 x1 ∗ (∃ d, owns (c : Thread nD τ) arg10 fullShare d) ∗ packAny (F := F) c
        ∗ tabs c xt0 xt1 xt2 xt3 xt4 ∗ owes (c : Thread nD τ) 0 W
        ∗ flightP c XG XU (sOf vS) (bOf vE)
        ∗ cellP c (oth (sOf vS)) ∗ slotP c (oth (sOf vS))
        ∗ (homeP c XG XU (bOf vE) -∗ iprop(homeP c XG XU (bOf vX) ∗ R))
        ∗ (iprop(insP c arg6 arg7 x0 x1 ∗ owns (c : Thread nD τ) arg10 fullShare (k0_pay2 x0 x1 (BG c XG (bOf vE)) (BU c XU (bOf vE))) ∗ packP c (BG c XG (bOf vE)) (BU c XU (bOf vE))
            ∗ tabs c xt0 xt1 xt2 xt3 xt4 ∗ (∃ W', owes (c : Thread nD τ) 0 W') ∗ cellP c (sOf vS) ∗ slotP c (sOf vS) ∗ flightP c XG XU (oth (sOf vS)) (bOf vX) ∗ R) -∗ K ⟨⟩))
      ⊢ wp frame (wpE (defs₀ (F := F)) Variants.none c none) Set.univ (bodyG i arg6 harg6 arg7 harg7 arg10 harg10) K := by
  unfold bodyG
  simp only [cc0_expert_gateup_eq_skeleton]; unfold cc0_expert_gateup_skel
  rw [k0_part1_eq_skeleton]; unfold k0_part1_skel
  unfold packAny insP packP owns
  iintro ⟨⟨⟨%f0, %hf0, H0⟩, ⟨%f9, %hf9, H9⟩⟩, ⟨%d1, %f1, -, H1⟩, ⟨%ds2, %ds3, ⟨%fs2, -, HS2⟩, ⟨%fs3, -, HS3⟩⟩, ⟨HT0, HT1, HT2, HT3, HT4⟩, HW, ⟨⟨%ffG, HF⟩, ⟨%ffU, HG⟩⟩, ⟨Hc1, Hu1⟩, ⟨⟨%fsG, Hs⟩, ⟨%fsU, Ht⟩⟩, Hh, Hk⟩
  obtain rfl := harg6.eq_unread hf0
  obtain rfl := harg7.eq_unread hf9
  have h1' : k0_cond1 i (wN c xt2) = 1#1 := eN ▸ h1
  have h3' : k0_cond3 (wF c i xt1) = 1#1 := eF ▸ h3
  have hw2' : k0_chk2 i (wN c xt2) (wF c i xt1) (wS c i xt3) := by rw [eN, eF, eS]; exact hw2
  have hw3' : k0_chk3 i (wN c xt2) (wF c i xt1) (wE c i xt0) := by rw [eN, eF, eE]; exact hw3
  sl_exec
  have eN' : vN = runC1.sl.r c xt2 := eN.symm
  subst eN'
  have eF' : vF = runC1.sl.r_1 c i xt1 := eF.symm
  subst eF'
  have eS' : vS = runC1.sl.r_2 c i xt3 := eS.symm
  subst eS'
  have eE' : vE = runC1.sl.r_3 c i xt0 := eE.symm
  subst eE'
  letI : ClosedOff (k0_off16 (runC1.sl.r_2 c i xt3)) := ⟨![(sOf (runC1.sl.r_2 c i xt3)).val, 0, 0], off16_eq _ hs⟩
  sl_exec
  ihave Hh2 := Hh $$ [HF_src HG_src]
  · isplitl [HF_src]; · iexact HF_src
    iexact HG_src
  icases Hh2 with ⟨⟨Hx, Hv⟩, HR⟩
  have hw4' : k0_chk4 i (runC1.sl.r c xt2) (runC1.sl.r_1 c i xt1) (runC1.sl.r_2 c i xt3) (wX c i xt4) := by rw [eX]; exact hw4
  have h4' : k0_cond4 (wX c i xt4) = 1#1 := eX ▸ h4
  have hw5' : k0_chk5 i (runC1.sl.r c xt2) (runC1.sl.r_1 c i xt1) (wX c i xt4) (wX' c i xt4) := by
    have e : wX' c i xt4 = vX := eX
    rw [e, eX]; exact hw5
  sl_exec
  have eX' : vX = runC1.sl.r_5 c i xt4 := eX.symm
  subst eX'
  sl_exec
  sl_step
  unfold runC1.sl.v32 runC1.sl.v34
  unfold runC1.sl.HS2_1 runC1.sl.HS3_1
  unfold runC1.sl.v63 runC1.sl.v70
  have hG := fun inb => landG c XG (sOf (runC1.sl.r_2 c i xt3)) (bOf (runC1.sl.r_3 c i xt0)) ((slotG (sOf (runC1.sl.r_2 c i xt3))).view.junk) (off16_eq _ hs) inb
  have hU := fun inb => landU c XU (sOf (runC1.sl.r_2 c i xt3)) (bOf (runC1.sl.r_3 c i xt0)) ((slotU (sOf (runC1.sl.r_2 c i xt3))).view.junk) (off16_eq _ hs) inb
  iapply Hk
  isplitl [H0 H9]
  · isplitl [H0]
    · iexists _; isplitr; · ipureintro; exact harg6.read_unread _
      iexact H0
    · iexists _; isplitr; · ipureintro; exact harg7.read_unread _
      iexact H9
  isplitl [H1]
  · iexists _; isplitr; swap; · iexact H1
    ipureintro
    rw [read_full2, readAt_full2 harg6, readAt_full2 harg7, cov_full2, cov_full2]; exact congrArg₂ (k0_pay2 x0 x1) (hG _) (hU _)
  isplitl [HS2 HS3]
  · isplitl [HS2]
    · iexists _; isplitr; swap; · iexact HS2
      ipureintro; rw [read_full2]; exact hG _
    · iexists _; isplitr; swap; · iexact HS3
      ipureintro; rw [read_full2]; exact hU _
  isplitl [HT0 HT1 HT2 HT3 HT4]
  · isplitl [HT0]; · iexact HT0
    isplitl [HT1]; · iexact HT1
    isplitl [HT2]; · iexact HT2
    isplitl [HT3]; · iexact HT3
    iexact HT4
  isplitl [HW]; · iexists _; iexact HW
  isplitl [HF HG]
  · isplitl [HF]; · iexact HF
    iexact HG
  isplitl [HF_dst HG_dst]
  · isplitl [HF_dst]; · iexists _; iexact HF_dst
    iexists _; iexact HG_dst
  isplitl [Hc1 Hu1]
  · isplitl [Hc1]; · iexists _; iexact Hc1
    iexists _; iexact Hu1
  iexact HR

theorem runC2 (x0 : Vec F S256x2048 .f32) (x1 : Vec F S1x2048 .f32) (vN vF vS vE vX : BitVec 32)
    (eN : wN c xt2 = vN) (eF : wF c i xt1 = vF) (eS : wS c i xt3 = vS) (eE : wE c i xt0 = vE) (eX : wX c i xt4 = vX)
    (h1 : k0_cond1 i vN = 1#1) (h2 : ¬ k0_cond2 i = 1#1) (h3 : k0_cond3 vF = 1#1) (h4 : ¬ k0_cond4 vX = 1#1) (h5 : ¬ k0_cond5 i vN = 1#1)
    (hs : vS.toNat < 2) (hE : vE.toNat < 32)
    (hw2 : k0_chk2 i vN vF vS) (hw3 : k0_chk3 i vN vF vE)
    (hw4 : k0_chk4 i vN vF vS vX)
    (W : Waits sig Unit) (K : PUnit → sProp (MT nD τ sig Unit (Elt F) ℕ (Pipeline.UD sig nD τ) ℕ)) :
    iprop(insP c arg6 arg7 x0 x1 ∗ (∃ d, owns (c : Thread nD τ) arg10 fullShare d) ∗ packAny (F := F) c
        ∗ tabs c xt0 xt1 xt2 xt3 xt4 ∗ owes (c : Thread nD τ) 0 W
        ∗ flightP c XG XU (sOf vS) (bOf vE)
        ∗ (iprop(insP c arg6 arg7 x0 x1 ∗ owns (c : Thread nD τ) arg10 fullShare (k0_pay2 x0 x1 (BG c XG (bOf vE)) (BU c XU (bOf vE))) ∗ packP c (BG c XG (bOf vE)) (BU c XU (bOf vE))
            ∗ tabs c xt0 xt1 xt2 xt3 xt4 ∗ (∃ W', owes (c : Thread nD τ) 0 W') ∗ cellP c (sOf vS) ∗ slotP c (sOf vS) ∗ homeP c XG XU (bOf vE)) -∗ K ⟨⟩))
      ⊢ wp frame (wpE (defs₀ (F := F)) Variants.none c none) Set.univ (bodyG i arg6 harg6 arg7 harg7 arg10 harg10) K := by
  unfold bodyG
  simp only [cc0_expert_gateup_eq_skeleton]; unfold cc0_expert_gateup_skel
  rw [k0_part1_eq_skeleton]; unfold k0_part1_skel
  unfold packAny insP packP owns
  iintro ⟨⟨⟨%f0, %hf0, H0⟩, ⟨%f9, %hf9, H9⟩⟩, ⟨%d1, %f1, -, H1⟩, ⟨%ds2, %ds3, ⟨%fs2, -, HS2⟩, ⟨%fs3, -, HS3⟩⟩, ⟨HT0, HT1, HT2, HT3, HT4⟩, HW, ⟨⟨%ffG, HF⟩, ⟨%ffU, HG⟩⟩, Hk⟩
  obtain rfl := harg6.eq_unread hf0
  obtain rfl := harg7.eq_unread hf9
  have h1' : k0_cond1 i (wN c xt2) = 1#1 := eN ▸ h1
  have h3' : k0_cond3 (wF c i xt1) = 1#1 := eF ▸ h3
  have hw2' : k0_chk2 i (wN c xt2) (wF c i xt1) (wS c i xt3) := by rw [eN, eF, eS]; exact hw2
  have hw3' : k0_chk3 i (wN c xt2) (wF c i xt1) (wE c i xt0) := by rw [eN, eF, eE]; exact hw3
  sl_exec
  have eN' : vN = runC2.sl.r c xt2 := eN.symm
  subst eN'
  have eF' : vF = runC2.sl.r_1 c i xt1 := eF.symm
  subst eF'
  have eS' : vS = runC2.sl.r_2 c i xt3 := eS.symm
  subst eS'
  have eE' : vE = runC2.sl.r_3 c i xt0 := eE.symm
  subst eE'
  letI : ClosedOff (k0_off16 (runC2.sl.r_2 c i xt3)) := ⟨![(sOf (runC2.sl.r_2 c i xt3)).val, 0, 0], off16_eq _ hs⟩
  sl_exec
  have hw4' : k0_chk4 i (runC2.sl.r c xt2) (runC2.sl.r_1 c i xt1) (runC2.sl.r_2 c i xt3) (wX c i xt4) := by rw [eX]; exact hw4
  have h4' : ¬ k0_cond4 (wX c i xt4) = 1#1 := eX ▸ h4
  sl_exec
  sl_step
  unfold runC2.sl.v32 runC2.sl.v34
  unfold runC2.sl.HS2_1 runC2.sl.HS3_1
  unfold runC2.sl.v63 runC2.sl.v70
  have hG := fun inb => landG c XG (sOf (runC2.sl.r_2 c i xt3)) (bOf (runC2.sl.r_3 c i xt0)) ((slotG (sOf (runC2.sl.r_2 c i xt3))).view.junk) (off16_eq _ hs) inb
  have hU := fun inb => landU c XU (sOf (runC2.sl.r_2 c i xt3)) (bOf (runC2.sl.r_3 c i xt0)) ((slotU (sOf (runC2.sl.r_2 c i xt3))).view.junk) (off16_eq _ hs) inb
  iapply Hk
  isplitl [H0 H9]
  · isplitl [H0]
    · iexists _; isplitr; · ipureintro; exact harg6.read_unread _
      iexact H0
    · iexists _; isplitr; · ipureintro; exact harg7.read_unread _
      iexact H9
  isplitl [H1]
  · iexists _; isplitr; swap; · iexact H1
    ipureintro
    rw [read_full2, readAt_full2 harg6, readAt_full2 harg7, cov_full2, cov_full2]; exact congrArg₂ (k0_pay2 x0 x1) (hG _) (hU _)
  isplitl [HS2 HS3]
  · isplitl [HS2]
    · iexists _; isplitr; swap; · iexact HS2
      ipureintro; rw [read_full2]; exact hG _
    · iexists _; isplitr; swap; · iexact HS3
      ipureintro; rw [read_full2]; exact hU _
  isplitl [HT0 HT1 HT2 HT3 HT4]
  · isplitl [HT0]; · iexact HT0
    isplitl [HT1]; · iexact HT1
    isplitl [HT2]; · iexact HT2
    isplitl [HT3]; · iexact HT3
    iexact HT4
  isplitl [HW]; · iexists _; iexact HW
  isplitl [HF HG]
  · isplitl [HF]; · iexact HF
    iexact HG
  isplitl [HF_dst HG_dst]
  · isplitl [HF_dst]; · iexists _; iexact HF_dst
    iexists _; iexact HG_dst
  isplitl [HF_src]; · iexact HF_src
  iexact HG_src

theorem runA1 (x0 : Vec F S256x2048 .f32) (x1 : Vec F S1x2048 .f32) (vN vF vS vE vX vZ : BitVec 32) (R : sProp (MT nD τ sig Unit (Elt F) ℕ (Pipeline.UD sig nD τ) ℕ))
    (eN : wN c xt2 = vN) (eF : wF c i xt1 = vF) (eS : wS c i xt3 = vS) (eE : wE c i xt0 = vE) (eX : wX c i xt4 = vX) (eZ : wZ c xt0 = vZ) (hZE : vZ = vE) (hS0 : vS = 0#32)
    (h1 : k0_cond1 i vN = 1#1) (h2 : k0_cond2 i = 1#1) (h3 : k0_cond3 vF = 1#1) (h4 : k0_cond4 vX = 1#1) (h5 : ¬ k0_cond5 i vN = 1#1)
    (hs : vS.toNat < 2) (hE : vE.toNat < 32) (hX : vX.toNat < 32) (hw1 : k0_chk1 i vN vZ)
    (hw2 : k0_chk2 i vN vF vS) (hw3 : k0_chk3 i vN vF vE)
    (hw4 : k0_chk4 i vN vF vS vX) (hw5 : k0_chk5 i vN vF vX vX)
    (W : Waits sig Unit) (K : PUnit → sProp (MT nD τ sig Unit (Elt F) ℕ (Pipeline.UD sig nD τ) ℕ)) :
    iprop(insP c arg6 arg7 x0 x1 ∗ (∃ d, owns (c : Thread nD τ) arg10 fullShare d) ∗ packAny (F := F) c
        ∗ tabs c xt0 xt1 xt2 xt3 xt4 ∗ owes (c : Thread nD τ) 0 W
        ∗ cellP c 0 ∗ slotP c 0 ∗ homeP c XG XU (bOf vZ)
        ∗ cellP c (oth (sOf vS)) ∗ slotP c (oth (sOf vS))
        ∗ (homeP c XG XU (bOf vE) -∗ iprop(homeP c XG XU (bOf vX) ∗ R))
        ∗ (iprop(insP c arg6 arg7 x0 x1 ∗ owns (c : Thread nD τ) arg10 fullShare (k0_pay2 x0 x1 (BG c XG (bOf vE)) (BU c XU (bOf vE))) ∗ packP c (BG c XG (bOf vE)) (BU c XU (bOf vE))
            ∗ tabs c xt0 xt1 xt2 xt3 xt4 ∗ (∃ W', owes (c : Thread nD τ) 0 W') ∗ cellP c (sOf vS) ∗ slotP c (sOf vS) ∗ flightP c XG XU (oth (sOf vS)) (bOf vX) ∗ R) -∗ K ⟨⟩))
      ⊢ wp frame (wpE (defs₀ (F := F)) Variants.none c none) Set.univ (bodyG i arg6 harg6 arg7 harg7 arg10 harg10) K := by
  unfold bodyG
  simp only [cc0_expert_gateup_eq_skeleton]; unfold cc0_expert_gateup_skel
  rw [k0_part1_eq_skeleton]; unfold k0_part1_skel
  unfold packAny insP packP owns
  iintro ⟨⟨⟨%f0, %hf0, H0⟩, ⟨%f9, %hf9, H9⟩⟩, ⟨%d1, %f1, -, H1⟩, ⟨%ds2, %ds3, ⟨%fs2, -, HS2⟩, ⟨%fs3, -, HS3⟩⟩, ⟨HT0, HT1, HT2, HT3, HT4⟩, HW, ⟨Hc0, Hu0⟩, ⟨⟨%ffG, Hs0⟩, ⟨%ffU, Ht0⟩⟩, ⟨Hz, Hy⟩, ⟨Hc1, Hu1⟩, ⟨⟨%fsG, Hs⟩, ⟨%fsU, Ht⟩⟩, Hh, Hk⟩
  obtain rfl := harg6.eq_unread hf0
  obtain rfl := harg7.eq_unread hf9
  have h1' : k0_cond1 i (wN c xt2) = 1#1 := eN ▸ h1
  have h3' : k0_cond3 (wF c i xt1) = 1#1 := eF ▸ h3
  have hZ : vZ.toNat < 32 := by rw [hZE]; exact hE
  have hw1' : k0_chk1 i (wN c xt2) (wZ c xt0) := by rw [eN, eZ]; exact hw1
  have hw2' : k0_chk2 i (wN c xt2) (wF c i xt1) (wS c i xt3) := by rw [eN, eF, eS]; exact hw2
  have hw3' : k0_chk3 i (wN c xt2) (wF c i xt1) (wE c i xt0) := by rw [eN, eF, eE]; exact hw3
  sl_exec
  have eZ' : vZ = runA1.sl.r_1 c xt0 := eZ.symm
  subst eZ'
  sl_exec
  have eN' : vN = runA1.sl.r c xt2 := eN.symm
  subst eN'
  have eF' : vF = runA1.sl.r_2 c i xt1 := eF.symm
  subst eF'
  have eS' : vS = runA1.sl.r_3 c i xt3 := eS.symm
  subst eS'
  have e1 : sOf (runA1.sl.r_3 c i xt3) = 0 := by rw [hS0]; rfl
  have e2 : runA1.sl.r_1 c xt0 = runA1.sl.r_4 c i xt0 := hZE.trans eE.symm
  have hcv : iprop(∃ f, flightG c XG 0 (bOf (runA1.sl.r_1 c xt0)) f) ⊢ iprop(∃ f, flightG c XG (sOf (runA1.sl.r_3 c i xt3)) (bOf (runA1.sl.r_4 c i xt0)) f) := by rw [e1, e2]
  have hcw : iprop(∃ f, flightU c XU 0 (bOf (runA1.sl.r_1 c xt0)) f) ⊢ iprop(∃ f, flightU c XU (sOf (runA1.sl.r_3 c i xt3)) (bOf (runA1.sl.r_4 c i xt0)) f) := by rw [e1, e2]
  ihave HF2 := hcv $$ [Hc0]
  · iexists ffG; iexact Hc0
  icases HF2 with ⟨%fg, HF⟩
  ihave HG2 := hcw $$ [Hu0]
  · iexists ffU; iexact Hu0
  icases HG2 with ⟨%fu, HG⟩
  have eE' : vE = runA1.sl.r_4 c i xt0 := eE.symm
  subst eE'
  letI : ClosedOff (k0_off16 (runA1.sl.r_3 c i xt3)) := ⟨![(sOf (runA1.sl.r_3 c i xt3)).val, 0, 0], off16_eq _ hs⟩
  sl_exec
  ihave Hh2 := Hh $$ [HF_src HG_src]
  · isplitl [HF_src]; · iexact HF_src
    iexact HG_src
  icases Hh2 with ⟨⟨Hx, Hv⟩, HR⟩
  have hw4' : k0_chk4 i (runA1.sl.r c xt2) (runA1.sl.r_2 c i xt1) (runA1.sl.r_3 c i xt3) (wX c i xt4) := by rw [eX]; exact hw4
  have h4' : k0_cond4 (wX c i xt4) = 1#1 := eX ▸ h4
  have hw5' : k0_chk5 i (runA1.sl.r c xt2) (runA1.sl.r_2 c i xt1) (wX c i xt4) (wX' c i xt4) := by
    have e : wX' c i xt4 = vX := eX
    rw [e, eX]; exact hw5
  sl_exec
  have eX' : vX = runA1.sl.r_6 c i xt4 := eX.symm
  subst eX'
  sl_exec
  sl_step
  unfold runA1.sl.v32 runA1.sl.v34
  unfold runA1.sl.HS2_1 runA1.sl.HS3_1
  unfold runA1.sl.v63 runA1.sl.v70
  have hG := fun inb => landG c XG (sOf (runA1.sl.r_3 c i xt3)) (bOf (runA1.sl.r_4 c i xt0)) ((slotG (sOf (runA1.sl.r_3 c i xt3))).view.junk) (off16_eq _ hs) inb
  have hU := fun inb => landU c XU (sOf (runA1.sl.r_3 c i xt3)) (bOf (runA1.sl.r_4 c i xt0)) ((slotU (sOf (runA1.sl.r_3 c i xt3))).view.junk) (off16_eq _ hs) inb
  iapply Hk
  isplitl [H0 H9]
  · isplitl [H0]
    · iexists _; isplitr; · ipureintro; exact harg6.read_unread _
      iexact H0
    · iexists _; isplitr; · ipureintro; exact harg7.read_unread _
      iexact H9
  isplitl [H1]
  · iexists _; isplitr; swap; · iexact H1
    ipureintro
    rw [read_full2, readAt_full2 harg6, readAt_full2 harg7, cov_full2, cov_full2]; exact congrArg₂ (k0_pay2 x0 x1) (hG _) (hU _)
  isplitl [HS2 HS3]
  · isplitl [HS2]
    · iexists _; isplitr; swap; · iexact HS2
      ipureintro; rw [read_full2]; exact hG _
    · iexists _; isplitr; swap; · iexact HS3
      ipureintro; rw [read_full2]; exact hU _
  isplitl [HT0 HT1 HT2 HT3 HT4]
  · isplitl [HT0]; · iexact HT0
    isplitl [HT1]; · iexact HT1
    isplitl [HT2]; · iexact HT2
    isplitl [HT3]; · iexact HT3
    iexact HT4
  isplitl [HW]; · iexists _; iexact HW
  isplitl [HF HG]
  · isplitl [HF]; · iexact HF
    iexact HG
  isplitl [HF_dst HG_dst]
  · isplitl [HF_dst]; · iexists _; iexact HF_dst
    iexists _; iexact HG_dst
  isplitl [Hc1 Hu1]
  · isplitl [Hc1]; · iexists _; iexact Hc1
    iexists _; iexact Hu1
  iexact HR

theorem runA2 (x0 : Vec F S256x2048 .f32) (x1 : Vec F S1x2048 .f32) (vN vF vS vE vX vZ : BitVec 32)
    (eN : wN c xt2 = vN) (eF : wF c i xt1 = vF) (eS : wS c i xt3 = vS) (eE : wE c i xt0 = vE) (eX : wX c i xt4 = vX) (eZ : wZ c xt0 = vZ) (hZE : vZ = vE) (hS0 : vS = 0#32)
    (h1 : k0_cond1 i vN = 1#1) (h2 : k0_cond2 i = 1#1) (h3 : k0_cond3 vF = 1#1) (h4 : ¬ k0_cond4 vX = 1#1) (h5 : ¬ k0_cond5 i vN = 1#1)
    (hs : vS.toNat < 2) (hE : vE.toNat < 32) (hw1 : k0_chk1 i vN vZ)
    (hw2 : k0_chk2 i vN vF vS) (hw3 : k0_chk3 i vN vF vE)
    (hw4 : k0_chk4 i vN vF vS vX)
    (W : Waits sig Unit) (K : PUnit → sProp (MT nD τ sig Unit (Elt F) ℕ (Pipeline.UD sig nD τ) ℕ)) :
    iprop(insP c arg6 arg7 x0 x1 ∗ (∃ d, owns (c : Thread nD τ) arg10 fullShare d) ∗ packAny (F := F) c
        ∗ tabs c xt0 xt1 xt2 xt3 xt4 ∗ owes (c : Thread nD τ) 0 W
        ∗ cellP c 0 ∗ slotP c 0 ∗ homeP c XG XU (bOf vZ)
        ∗ (iprop(insP c arg6 arg7 x0 x1 ∗ owns (c : Thread nD τ) arg10 fullShare (k0_pay2 x0 x1 (BG c XG (bOf vE)) (BU c XU (bOf vE))) ∗ packP c (BG c XG (bOf vE)) (BU c XU (bOf vE))
            ∗ tabs c xt0 xt1 xt2 xt3 xt4 ∗ (∃ W', owes (c : Thread nD τ) 0 W') ∗ cellP c (sOf vS) ∗ slotP c (sOf vS) ∗ homeP c XG XU (bOf vE)) -∗ K ⟨⟩))
      ⊢ wp frame (wpE (defs₀ (F := F)) Variants.none c none) Set.univ (bodyG i arg6 harg6 arg7 harg7 arg10 harg10) K := by
  unfold bodyG
  simp only [cc0_expert_gateup_eq_skeleton]; unfold cc0_expert_gateup_skel
  rw [k0_part1_eq_skeleton]; unfold k0_part1_skel
  unfold packAny insP packP owns
  iintro ⟨⟨⟨%f0, %hf0, H0⟩, ⟨%f9, %hf9, H9⟩⟩, ⟨%d1, %f1, -, H1⟩, ⟨%ds2, %ds3, ⟨%fs2, -, HS2⟩, ⟨%fs3, -, HS3⟩⟩, ⟨HT0, HT1, HT2, HT3, HT4⟩, HW, ⟨Hc0, Hu0⟩, ⟨⟨%ffG, Hs0⟩, ⟨%ffU, Ht0⟩⟩, ⟨Hz, Hy⟩, Hk⟩
  obtain rfl := harg6.eq_unread hf0
  obtain rfl := harg7.eq_unread hf9
  have h1' : k0_cond1 i (wN c xt2) = 1#1 := eN ▸ h1
  have h3' : k0_cond3 (wF c i xt1) = 1#1 := eF ▸ h3
  have hZ : vZ.toNat < 32 := by rw [hZE]; exact hE
  have hw1' : k0_chk1 i (wN c xt2) (wZ c xt0) := by rw [eN, eZ]; exact hw1
  have hw2' : k0_chk2 i (wN c xt2) (wF c i xt1) (wS c i xt3) := by rw [eN, eF, eS]; exact hw2
  have hw3' : k0_chk3 i (wN c xt2) (wF c i xt1) (wE c i xt0) := by rw [eN, eF, eE]; exact hw3
  sl_exec
  have eZ' : vZ = runA2.sl.r_1 c xt0 := eZ.symm
  subst eZ'
  sl_exec
  have eN' : vN = runA2.sl.r c xt2 := eN.symm
  subst eN'
  have eF' : vF = runA2.sl.r_2 c i xt1 := eF.symm
  subst eF'
  have eS' : vS = runA2.sl.r_3 c i xt3 := eS.symm
  subst eS'
  have e1 : sOf (runA2.sl.r_3 c i xt3) = 0 := by rw [hS0]; rfl
  have e2 : runA2.sl.r_1 c xt0 = runA2.sl.r_4 c i xt0 := hZE.trans eE.symm
  have hcv : iprop(∃ f, flightG c XG 0 (bOf (runA2.sl.r_1 c xt0)) f) ⊢ iprop(∃ f, flightG c XG (sOf (runA2.sl.r_3 c i xt3)) (bOf (runA2.sl.r_4 c i xt0)) f) := by rw [e1, e2]
  have hcw : iprop(∃ f, flightU c XU 0 (bOf (runA2.sl.r_1 c xt0)) f) ⊢ iprop(∃ f, flightU c XU (sOf (runA2.sl.r_3 c i xt3)) (bOf (runA2.sl.r_4 c i xt0)) f) := by rw [e1, e2]
  ihave HF2 := hcv $$ [Hc0]
  · iexists ffG; iexact Hc0
  icases HF2 with ⟨%fg, HF⟩
  ihave HG2 := hcw $$ [Hu0]
  · iexists ffU; iexact Hu0
  icases HG2 with ⟨%fu, HG⟩
  have eE' : vE = runA2.sl.r_4 c i xt0 := eE.symm
  subst eE'
  letI : ClosedOff (k0_off16 (runA2.sl.r_3 c i xt3)) := ⟨![(sOf (runA2.sl.r_3 c i xt3)).val, 0, 0], off16_eq _ hs⟩
  sl_exec
  have hw4' : k0_chk4 i (runA2.sl.r c xt2) (runA2.sl.r_2 c i xt1) (runA2.sl.r_3 c i xt3) (wX c i xt4) := by rw [eX]; exact hw4
  have h4' : ¬ k0_cond4 (wX c i xt4) = 1#1 := eX ▸ h4
  sl_exec
  sl_step
  unfold runA2.sl.v32 runA2.sl.v34
  unfold runA2.sl.HS2_1 runA2.sl.HS3_1
  unfold runA2.sl.v63 runA2.sl.v70
  have hG := fun inb => landG c XG (sOf (runA2.sl.r_3 c i xt3)) (bOf (runA2.sl.r_4 c i xt0)) ((slotG (sOf (runA2.sl.r_3 c i xt3))).view.junk) (off16_eq _ hs) inb
  have hU := fun inb => landU c XU (sOf (runA2.sl.r_3 c i xt3)) (bOf (runA2.sl.r_4 c i xt0)) ((slotU (sOf (runA2.sl.r_3 c i xt3))).view.junk) (off16_eq _ hs) inb
  iapply Hk
  isplitl [H0 H9]
  · isplitl [H0]
    · iexists _; isplitr; · ipureintro; exact harg6.read_unread _
      iexact H0
    · iexists _; isplitr; · ipureintro; exact harg7.read_unread _
      iexact H9
  isplitl [H1]
  · iexists _; isplitr; swap; · iexact H1
    ipureintro
    rw [read_full2, readAt_full2 harg6, readAt_full2 harg7, cov_full2, cov_full2]; exact congrArg₂ (k0_pay2 x0 x1) (hG _) (hU _)
  isplitl [HS2 HS3]
  · isplitl [HS2]
    · iexists _; isplitr; swap; · iexact HS2
      ipureintro; rw [read_full2]; exact hG _
    · iexists _; isplitr; swap; · iexact HS3
      ipureintro; rw [read_full2]; exact hU _
  isplitl [HT0 HT1 HT2 HT3 HT4]
  · isplitl [HT0]; · iexact HT0
    isplitl [HT1]; · iexact HT1
    isplitl [HT2]; · iexact HT2
    isplitl [HT3]; · iexact HT3
    iexact HT4
  isplitl [HW]; · iexists _; iexact HW
  isplitl [HF HG]
  · isplitl [HF]; · iexact HF
    iexact HG
  isplitl [HF_dst HG_dst]
  · isplitl [HF_dst]; · iexists _; iexact HF_dst
    iexists _; iexact HG_dst
  isplitl [HF_src]; · iexact HF_src
  iexact HG_src

end Run

end Cert.Kernel3Ideal.Gate

end
-- ==== Proof.GateFrame.lean ====
module

public import proofs.«01_k».proof.Proof.GateRun
public import Idealize.ShloMosaic.Lib.Claim

@[expose] public section

set_option maxRecDepth 16384

noncomputable section

namespace Cert.Kernel3Ideal.Gate

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The slots and the weights, apart and together -/

section Pieces
variable (c : Dev nD) (XG : HbBuf0 (F := F) c hbM0_0) (XU : HbBuf0 (F := F) c hbM0_1)

abbrev S2 (s : Fin 2) : Finset S2x2048x1024.Idx := (Rect.unit (s := S2x2048x1024) (slotOff s) S1x2048x1024.size (slotOff_inb s)).set
theorem slotG_set (s : Fin 2) : (slotG s : Memref sig .tc .vmem _ _).view.set = S2 s := (View.set_reshape _ _).trans (View.set_slice_whole _ _)
theorem slotU_set (s : Fin 2) : (slotU s : Memref sig .tc .vmem _ _).view.set = S2 s := (View.set_reshape _ _).trans (View.set_slice_whole _ _)
theorem mem_S2 (s : Fin 2) (y : S2x2048x1024.Idx) : y ∈ S2 s ↔ (y 0).val = s.val := by
  rw [Rect.mem_set_unit]
  have h1 : (y 1).val < 2048 := (y 1).isLt
  have h2 : (y 2).val < 1024 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 2048; omega
    · show 0 ≤ (y 2).val ∧ (y 2).val < 0 + 1024; omega
theorem S2_disjoint : ∀ s s' : Fin 2, s ≠ s' → Disjoint (S2 s) (S2 s') := by
  intro s s' hne; rw [Finset.disjoint_left]; intro y hy hy'; rw [mem_S2] at hy hy'; exact hne (Fin.ext (hy.symm.trans hy'))
theorem S2_cover : (Finset.univ : Finset (Fin 2)).biUnion S2 = Finset.univ := by
  ext y; simp only [Finset.mem_biUnion, Finset.mem_univ, true_and, iff_true]; exact ⟨(y 0).cast (by decide), by rw [mem_S2]; rfl⟩

theorem slotPG_eq (s : Fin 2) (f) : slotPG (F := F) c s f = (((c : Thread nD τ).loc cc0_scratch0) ↦[S2 s]{fullShare} f : sProp (MT nD τ sig Unit (Elt F) ℕ (Pipeline.UD sig nD τ) ℕ)) :=
  congrArg (fun S => (_ ↦[S]{fullShare} f : sProp (MT nD τ sig Unit (Elt F) ℕ (Pipeline.UD sig nD τ) ℕ))) (slotG_set s)
theorem slotPU_eq (s : Fin 2) (f) : slotPU (F := F) c s f = (((c : Thread nD τ).loc cc0_scratch1) ↦[S2 s]{fullShare} f : sProp (MT nD τ sig Unit (Elt F) ℕ (Pipeline.UD sig nD τ) ℕ)) :=
  congrArg (fun S => (_ ↦[S]{fullShare} f : sProp (MT nD τ sig Unit (Elt F) ℕ (Pipeline.UD sig nD τ) ℕ))) (slotU_set s)

theorem splitG : iprop(∃ d, owns (c : Thread nD τ) scM0_0 fullShare d) ⊢ (iprop((∃ f, slotPG (F := F) c 0 f) ∗ ∃ f, slotPG c 1 f) : sProp (MT nD τ sig Unit (Elt F) ℕ (Pipeline.UD sig nD τ) ℕ)) := by
  refine BIBase.Entails.trans ?_ (Ring.slots2_split (ℓ := (c : Thread nD τ).loc cc0_scratch0) S2 S2_disjoint S2_cover _ _ (slotPG_eq c 0) (slotPG_eq c 1))
  simp only [owns_whole]; rfl
theorem joinG : (iprop((∃ f, slotPG (F := F) c 0 f) ∗ ∃ f, slotPG c 1 f) : sProp (MT nD τ sig Unit (Elt F) ℕ (Pipeline.UD sig nD τ) ℕ)) ⊢ iprop(∃ d, owns (c : Thread nD τ) scM0_0 fullShare d) := by
  refine BIBase.Entails.trans (Ring.slots2_join (ℓ := (c : Thread nD τ).loc cc0_scratch0) S2 S2_disjoint S2_cover _ _ (slotPG_eq c 0) (slotPG_eq c 1)) ?_
  simp only [owns_whole]; rfl

theorem splitU : iprop(∃ d, owns (c : Thread nD τ) scM0_1 fullShare d) ⊢ (iprop((∃ f, slotPU (F := F) c 0 f) ∗ ∃ f, slotPU c 1 f) : sProp (MT nD τ sig Unit (Elt F) ℕ (Pipeline.UD sig nD τ) ℕ)) := by
  refine BIBase.Entails.trans ?_ (Ring.slots2_split (ℓ := (c : Thread nD τ).loc cc0_scratch1) S2 S2_disjoint S2_cover _ _ (slotPU_eq c 0) (slotPU_eq c 1))
  simp only [owns_whole]; rfl
theorem joinU : (iprop((∃ f, slotPU (F := F) c 0 f) ∗ ∃ f, slotPU c 1 f) : sProp (MT nD τ sig Unit (Elt F) ℕ (Pipeline.UD sig nD τ) ℕ)) ⊢ iprop(∃ d, owns (c : Thread nD τ) scM0_1 fullShare d) := by
  refine BIBase.Entails.trans (Ring.slots2_join (ℓ := (c : Thread nD τ).loc cc0_scratch1) S2 S2_disjoint S2_cover _ _ (slotPU_eq c 0) (slotPU_eq c 1)) ?_
  simp only [owns_whole]; rfl

/-- Both arrays of weights. -/
abbrev bothP : sProp (MT nD τ sig Unit (Elt F) ℕ (Pipeline.UD sig nD τ) ℕ) := iprop(hbPt0 c hbM0_0 XG ∗ hbPt0 c hbM0_1 XU)
/-- The weights but expert `b`'s. -/
abbrev otherP (b : Fin 32) : sProp (MT nD τ sig Unit (Elt F) ℕ (Pipeline.UD sig nD τ) ℕ) :=
  iprop((hbM0_0.view.loc (c : Thread nD τ) ↦[Finset.univ \ (grpG b).view.set]{fullShare} XG) ∗ hbM0_1.view.loc (c : Thread nD τ) ↦[Finset.univ \ (grpU b).view.set]{fullShare} XU)
theorem splitHG (b : Fin 32) : hbPt0 c hbM0_0 XG ⊢ iprop(homeG c XG b ∗ hbM0_0.view.loc (c : Thread nD τ) ↦[Finset.univ \ (grpG b).view.set]{fullShare} XG) :=
  (pointsTo_split_subset (ℓ := hbM0_0.view.loc (c : Thread nD τ)) (Finset.subset_univ (grpG b).view.set)).1
theorem splitHU (b : Fin 32) : hbPt0 c hbM0_1 XU ⊢ iprop(homeU c XU b ∗ hbM0_1.view.loc (c : Thread nD τ) ↦[Finset.univ \ (grpU b).view.set]{fullShare} XU) :=
  (pointsTo_split_subset (ℓ := hbM0_1.view.loc (c : Thread nD τ)) (Finset.subset_univ (grpU b).view.set)).1
theorem joinHG (b : Fin 32) : iprop(homeG c XG b ∗ hbM0_0.view.loc (c : Thread nD τ) ↦[Finset.univ \ (grpG b).view.set]{fullShare} XG) ⊢ hbPt0 c hbM0_0 XG :=
  (pointsTo_split_subset (ℓ := hbM0_0.view.loc (c : Thread nD τ)) (Finset.subset_univ (grpG b).view.set)).2
theorem joinHU (b : Fin 32) : iprop(homeU c XU b ∗ hbM0_1.view.loc (c : Thread nD τ) ↦[Finset.univ \ (grpU b).view.set]{fullShare} XU) ⊢ hbPt0 c hbM0_1 XU :=
  (pointsTo_split_subset (ℓ := hbM0_1.view.loc (c : Thread nD τ)) (Finset.subset_univ (grpU b).view.set)).2
theorem home_split (b : Fin 32) : bothP c XG XU ⊢ iprop(homeP c XG XU b ∗ otherP c XG XU b) := by
  iintro ⟨A, B⟩
  ihave A2 := (splitHG c XG b) $$ A
  ihave B2 := (splitHU c XU b) $$ B
  icases A2 with ⟨A, C⟩
  icases B2 with ⟨B, D⟩
  isplitl [A B]
  · isplitl [A]; · iexact A
    iexact B
  isplitl [C]; · iexact C
  iexact D
theorem home_join (b : Fin 32) : iprop(homeP c XG XU b ∗ otherP c XG XU b) ⊢ bothP c XG XU := by
  iintro ⟨⟨A, B⟩, ⟨C, D⟩⟩
  isplitl [A C]
  · iapply (joinHG c XG b)
    isplitl [A]; · iexact A
    iexact C
  · iapply (joinHU c XU b)
    isplitl [B]; · iexact B
    iexact D

/-- No copy on its way. -/
abbrev Rest : sProp (MT nD τ sig Unit (Elt F) ℕ (Pipeline.UD sig nD τ) ℕ) := iprop(cellP c 0 ∗ slotP (F := F) c 0 ∗ cellP c 1 ∗ slotP (F := F) c 1 ∗ bothP c XG XU)
/-- The copies of expert `b`'s weights into slot `s` on their way. -/
abbrev Fly (s : Fin 2) (b : Fin 32) : sProp (MT nD τ sig Unit (Elt F) ℕ (Pipeline.UD sig nD τ) ℕ) := iprop(flightP c XG XU s b ∗ cellP c (oth s) ∗ slotP (F := F) c (oth s) ∗ otherP c XG XU b)

theorem oth_oth (s : Fin 2) : oth (oth s) = s := by revert s; decide

theorem rest_close (s : Fin 2) : iprop(cellP c s ∗ slotP (F := F) c s ∗ cellP c (oth s) ∗ slotP (F := F) c (oth s) ∗ bothP c XG XU) ⊢ Rest c XG XU := by
  rcases (by revert s; decide : s = 0 ∨ s = 1) with rfl | rfl
  · exact .rfl
  · change iprop(cellP c 1 ∗ slotP (F := F) c 1 ∗ cellP c 0 ∗ slotP (F := F) c 0 ∗ bothP c XG XU) ⊢ _
    iintro ⟨A, B, C, D, E⟩
    isplitl [C]; · iexact C
    isplitl [D]; · iexact D
    isplitl [A]; · iexact A
    isplitl [B]; · iexact B
    iexact E
end Pieces

/-! ## The plan's words, and what is asked of them -/

variable (m : (ℓ : Loc nD τ sig) → Buf (Elt F) ℓ) (ρ : Dev nD → PrngReg)

section Plan
variable (c : Dev nD) (t : Fin grid0.N)
abbrev jN : BitVec 32 := wN (F := F) c (tbl m 2)
abbrev jZ : BitVec 32 := wZ (F := F) c (tbl m 0)
abbrev jE : BitVec 32 := wE (F := F) c (grid0.coords t) (tbl m 0)
abbrev jF : BitVec 32 := wF (F := F) c (grid0.coords t) (tbl m 1)
abbrev jS : BitVec 32 := wS (F := F) c (grid0.coords t) (tbl m 3)
abbrev jX : BitVec 32 := wX (F := F) c (grid0.coords t) (tbl m 4)
/-- Row block `t` is in use, is the first of its expert, has an expert after it. -/
abbrev Use : Prop := k0_cond1 (grid0.coords t) (jN m c) = 1#1
abbrev Fst : Prop := k0_cond3 (jF m c t) = 1#1
abbrev Nxt : Prop := k0_cond4 (jX m c t) = 1#1
end Plan

/-- What is asked of the plan. -/
structure Plan (c : Dev nD) : Prop where
  c2 : ∀ t : Fin grid0.N, k0_cond2 (grid0.coords t) = 1#1 ↔ t.val = 0
  c5 : ∀ t : Fin grid0.N, k0_cond5 (grid0.coords t) (jN m c) = 1#1 ↔ ¬ Use m c t
  use0 : ∀ t : Fin grid0.N, t.val = 0 → Use m c t
  mono : ∀ t t' : Fin grid0.N, t.val + 1 = t'.val → Use m c t' → Use m c t
  last : ∀ t : Fin grid0.N, Use m c t → (∀ t' : Fin grid0.N, t'.val = t.val + 1 → ¬ Use m c t') → ¬ Nxt m c t
  hE : ∀ t, Use m c t → (jE m c t).toNat < 32
  hS : ∀ t, Use m c t → (jS m c t).toNat < 2
  hX : ∀ t, Use m c t → Nxt m c t → (jX m c t).toNat < 32
  fst0 : ∀ t : Fin grid0.N, t.val = 0 → Fst m c t
  slot0 : ∀ t : Fin grid0.N, t.val = 0 → jS m c t = 0#32
  zero : ∀ t : Fin grid0.N, t.val = 0 → jZ m c = jE m c t
  step : ∀ t t' : Fin grid0.N, t.val + 1 = t'.val → Use m c t' →
    (¬ Fst m c t' ∧ jE m c t' = jE m c t ∧ jS m c t' = jS m c t ∧ jX m c t' = jX m c t)
    ∨ (Fst m c t' ∧ Nxt m c t ∧ jE m c t' = jX m c t ∧ sOf (jS m c t') = oth (sOf (jS m c t)))

theorem chk1_of (i v0) {v : BitVec 32} (h : v.toNat < 32) : k0_chk1 i v0 v := fun _ _ => off1_eq v h ▸ grpOff_inb _
theorem chk2_of (i v0 v1) {v : BitVec 32} (h : v.toNat < 2) : k0_chk2 i v0 v1 v :=
  ⟨fun _ _ => off4_eq v h ▸ semOff_inb _ _, fun _ _ => off5_eq v h ▸ slotOff_inb _, fun _ _ => off7_eq v h ▸ semOff_inb _ _, fun _ _ => off8_eq v h ▸ slotOff_inb _, fun _ _ => off16_eq v h ▸ slotOff_inb _⟩
theorem chk3_of (i v0 v1) {v : BitVec 32} (h : v.toNat < 32) : k0_chk3 i v0 v1 v := fun _ _ => off6_eq v h ▸ grpOff_inb _
theorem chk4_of (i v0 v1) {v : BitVec 32} (v' : BitVec 32) (h : v.toNat < 2) : k0_chk4 i v0 v1 v v' :=
  ⟨fun _ _ _ => off11_eq v h ▸ semOff_inb _ _, fun _ _ _ => off12_eq v h ▸ slotOff_inb _, fun _ _ _ => off14_eq v h ▸ semOff_inb _ _, fun _ _ _ => off15_eq v h ▸ slotOff_inb _⟩
theorem chk5_of (i v0 v1 v2) {v : BitVec 32} (h : v.toNat < 32) : k0_chk5 i v0 v1 v2 v := fun _ _ _ => off13_eq v h ▸ grpOff_inb _

/-! ## The state between points -/

section State
variable (c : Dev nD)

abbrev Idle : sProp (MT nD τ sig Unit (Elt F) ℕ (Pipeline.UD sig nD τ) ℕ) := iprop(packAny (F := F) c ∗ Rest c (V m c main_v1) (V m c main_v2))
/-- After point `t`, in use. -/
def Mid (t : Fin grid0.N) : sProp (MT nD τ sig Unit (Elt F) ℕ (Pipeline.UD sig nD τ) ℕ) :=
  open Classical in
  iprop(packP c (BG c (V m c main_v1) (bOf (jE m c t))) (BU c (V m c main_v2) (bOf (jE m c t)))
    ∗ if Nxt m c t then Fly c (V m c main_v1) (V m c main_v2) (oth (sOf (jS m c t))) (bOf (jX m c t)) else Rest c (V m c main_v1) (V m c main_v2))
/-- Before point `k`. -/
def St (k : ℕ) : sProp (MT nD τ sig Unit (Elt F) ℕ (Pipeline.UD sig nD τ) ℕ) :=
  open Classical in
  if h : ∃ t : Fin grid0.N, t.val + 1 = k ∧ Use m c t then Mid m c h.choose else Idle m c

theorem St_mid {t : Fin grid0.N} (h : Use m c t) : St m c (t.val + 1) = Mid m c t := by
  have h' : ∃ t' : Fin grid0.N, t'.val + 1 = t.val + 1 ∧ Use m c t' := ⟨t, rfl, h⟩
  unfold St
  rw [dif_pos h']
  exact congrArg (Mid m c) (Fin.ext (by have := h'.choose_spec.1; omega))
theorem St_idle {k : ℕ} (h : ∀ t : Fin grid0.N, t.val + 1 = k → ¬ Use m c t) : St m c k = Idle m c := by
  unfold St
  rw [dif_neg (fun ⟨t, e, u⟩ => h t e u)]
theorem Mid_nxt {t : Fin grid0.N} (h : Nxt m c t) : Mid m c t = iprop(packP c (BG c (V m c main_v1) (bOf (jE m c t))) (BU c (V m c main_v2) (bOf (jE m c t))) ∗ Fly c (V m c main_v1) (V m c main_v2) (oth (sOf (jS m c t))) (bOf (jX m c t))) := by
  unfold Mid; rw [if_pos h]
theorem Mid_rest {t : Fin grid0.N} (h : ¬ Nxt m c t) : Mid m c t = iprop(packP c (BG c (V m c main_v1) (bOf (jE m c t))) (BU c (V m c main_v2) (bOf (jE m c t))) ∗ Rest c (V m c main_v1) (V m c main_v2)) := by
  unfold Mid; rw [if_neg h]
/-- Nothing is on its way before a point that is not in use, nor at the end. -/
theorem St_out (hP : Plan m c) {k : ℕ} (h : ∀ t : Fin grid0.N, t.val = k → ¬ Use m c t) : St m c k ⊢ Idle m c := by
  by_cases hk : ∃ t : Fin grid0.N, t.val + 1 = k ∧ Use m c t
  · obtain ⟨t, rfl, hu⟩ := hk
    rw [St_mid m c hu, Mid_rest m c (hP.last t hu (fun t' e => h t' e))]
    iintro ⟨A, B⟩
    isplitl [A]; · iexists _; iexists _; iexact A
    iexact B
  · rw [St_idle m c (fun t e u => hk ⟨t, e, u⟩)]

end State

/-! ## The pipeline's proof data -/

/-- What the output's staging buffer holds after point `t`. -/
def outAt (hO : Ok m) (c : Dev nD) (t : Fin (cfgM m hO).N) : Vec F S256x1024 .bf16 :=
  open Classical in
  if Use m c t then k0_pay2 (iblk m hO c 0 t) (iblk m hO c 1 t) (BG c (V m c main_v1) (bOf (jE m c t))) (BU c (V m c main_v2) (bOf (jE m c t))) else k0_pay3

def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ k := iprop((∃ r, prngReg c r) ∗ tabs c (tbl m 0) (tbl m 1) (tbl m 2) (tbl m 3) (tbl m 4) ∗ St m c k.val)
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation -/

def bodyPre (hO : Ok m) (c : Dev nD) (t : Fin (cfgM m hO).N) : sProp (MT nD τ sig Unit (Elt F) ℕ (Pipeline.UD sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))
def bodyPost (hO : Ok m) (c : Dev nD) (t : Fin (cfgM m hO).N) : sProp (MT nD τ sig Unit (Elt F) ℕ (Pipeline.UD sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The two windows the body reads, at point `t`. -/
abbrev inAt (hO : Ok m) (c : Dev nD) (t : Fin (cfgM m hO).N) : sProp (MT nD τ sig Unit (Elt F) ℕ (Pipeline.UD sig nD τ) ℕ) := insP c (ms0_0 m hO t) (ms0_1 m hO t) (iblk m hO c 0 t) (iblk m hO c 1 t)

theorem stepB (hO : Ok m) (c : Dev nD) (hP : Plan m c) (t : Fin (cfgM m hO).N) (hu : Use m c t) (hf : ¬ Fst m c t) (W : Waits sig Unit) (K : PUnit → sProp (MT nD τ sig Unit (Elt F) ℕ (Pipeline.UD sig nD τ) ℕ)) :
    iprop(inAt m hO c t ∗ (∃ d, owns (c : Thread nD τ) (ms0_2 m hO t) fullShare d)
        ∗ tabs c (tbl m 0) (tbl m 1) (tbl m 2) (tbl m 3) (tbl m 4) ∗ owes (c : Thread nD τ) 0 W ∗ St m c t.val
        ∗ (iprop(inAt m hO c t
            ∗ owns (c : Thread nD τ) (ms0_2 m hO t) fullShare (k0_pay2 (iblk m hO c 0 t) (iblk m hO c 1 t) (BG c (V m c main_v1) (bOf (jE m c t))) (BU c (V m c main_v2) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t) (ms0_2 m hO t) (hs0_2 m hO t)) K := by
  have h5 : ¬ k0_cond5 (grid0.coords t) (jN m c) = 1#1 := fun h => (hP.c5 t).1 h hu
  have ht : t.val ≠ 0 := fun h => hf (hP.fst0 t h)
  have h2 : ¬ k0_cond2 (grid0.coords t) = 1#1 := fun h => ht ((hP.c2 t).1 h)
  obtain ⟨k, hk⟩ : ∃ k : Fin grid0.N, k.val + 1 = t.val := ⟨⟨t.val - 1, by have h0 : t.val < grid0.N := t.isLt; omega⟩, by show t.val - 1 + 1 = t.val; omega⟩
  have huk := hP.mono k t hk hu
  obtain ⟨-, e1, e2, e3⟩ := (hP.step k t hk hu).resolve_right (fun h => hf h.1)
  have hSt : St m c t.val = Mid m c t := by
    rw [← hk, St_mid m c huk]; unfold Mid Nxt; rw [e1, e2, e3]
  rw [hSt]
  unfold Mid
  iintro ⟨H0, H1, HT, HW, ⟨HS, HF⟩, Hk⟩
  iapply (runB c (grid0.coords t) (tbl m 0) (tbl m 1) (tbl m 2) (tbl m 3) (tbl m 4) _ _ _ _ _ _ (iblk m hO c 0 t) (iblk m hO c 1 t) _ _ hu h2 hf h5 W _)
  isplitl [H0]; · iexact H0
  isplitl [H1]; · iexact H1
  isplitl [HS]; · iexact HS
  isplitl [HT]; · iexact HT
  isplitl [HW]; · iexact HW
  iintro ⟨H0, H1, HS, HT, HW⟩
  iapply Hk
  isplitl [H0]; · iexact H0
  isplitl [H1]; · iexact H1
  isplitl [HT]; · iexact HT
  isplitl [HW]; · iexact HW
  isplitl [HS]; · iexact HS
  iexact HF

theorem stepC1 (hO : Ok m) (c : Dev nD) (hP : Plan m c) (t : Fin (cfgM m hO).N) (hu : Use m c t) (hf : Fst m c t) (hn : Nxt m c t) (ht : t.val ≠ 0) (W : Waits sig Unit) (K : PUnit → sProp (MT nD τ sig Unit (Elt F) ℕ (Pipeline.UD sig nD τ) ℕ)) :
    iprop(inAt m hO c t ∗ (∃ d, owns (c : Thread nD τ) (ms0_2 m hO t) fullShare d)
        ∗ tabs c (tbl m 0) (tbl m 1) (tbl m 2) (tbl m 3) (tbl m 4) ∗ owes (c : Thread nD τ) 0 W ∗ St m c t.val
        ∗ (iprop(inAt m hO c t
            ∗ owns (c : Thread nD τ) (ms0_2 m hO t) fullShare (k0_pay2 (iblk m hO c 0 t) (iblk m hO c 1 t) (BG c (V m c main_v1) (bOf (jE m c t))) (BU c (V m c main_v2) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t) (ms0_2 m hO t) (hs0_2 m hO t)) K := by
  have h5 : ¬ k0_cond5 (grid0.coords t) (jN m c) = 1#1 := fun h => (hP.c5 t).1 h hu
  have h2 : ¬ k0_cond2 (grid0.coords t) = 1#1 := fun h => ht ((hP.c2 t).1 h)
  have hE := hP.hE t hu
  have hS := hP.hS t hu
  have hX := hP.hX t hu hn
  obtain ⟨k, hk⟩ : ∃ k : Fin grid0.N, k.val + 1 = t.val := ⟨⟨t.val - 1, by have h0 : t.val < grid0.N := t.isLt; omega⟩, by show t.val - 1 + 1 = t.val; omega⟩
  have huk := hP.mono k t hk hu
  obtain ⟨-, hnk, e1, e2⟩ := (hP.step k t hk hu).resolve_left (fun h => h.1 hf)
  have hSt : St m c t.val = iprop(packP c (BG c (V m c main_v1) (bOf (jE m c k))) (BU c (V m c main_v2) (bOf (jE m c k))) ∗ Fly c (V m c main_v1) (V m c main_v2) (sOf (jS m c t)) (bOf (jE m c t))) := by
    rw [← hk, St_mid m c huk, Mid_nxt m c hnk, e1, e2]
  rw [hSt]
  iintro ⟨H0, H1, HT, HW, ⟨HS, HF, Hc1, Hs1, Ho⟩, Hk⟩
  iapply (runC1 c (grid0.coords t) (tbl m 0) (tbl m 1) (tbl m 2) (tbl m 3) (tbl m 4) _ _ _ _ _ _ (V m c main_v1) (V m c main_v2) (iblk m hO c 0 t) (iblk m hO c 1 t) (jN m c) (jF m c t) (jS m c t) (jE m c t) (jX m c t) (otherP c (V m c main_v1) (V m c main_v2) (bOf (jX m c t))) rfl rfl rfl rfl rfl hu h2 hf hn h5 hS hE hX (chk2_of _ _ _ hS) (chk3_of _ _ _ hE) (chk4_of _ _ _ _ hS) (chk5_of _ _ _ _ hX) W _)
  isplitl [H0]; · iexact H0
  isplitl [H1]; · iexact H1
  isplitl [HS]; · first | iexact HS | (iexists _; iexists _; iexact HS)
  isplitl [HT]; · iexact HT
  isplitl [HW]; · iexact HW
  isplitl [HF]; · iexact HF
  isplitl [Hc1]; · iexact Hc1
  isplitl [Hs1]; · iexact Hs1
  isplitl [Ho]
  · iintro Hz
    iapply (home_split c (V m c main_v1) (V m c main_v2) (bOf (jX m c t)))
    iapply (home_join c (V m c main_v1) (V m c main_v2) (bOf (jE m c t)))
    isplitl [Hz]; · iexact Hz
    iexact Ho
  iintro ⟨H0, H1, HS, HT, HW, Hc, Hs, HF, Ho⟩
  rw [Mid_nxt m c hn]
  iapply Hk
  isplitl [H0]; · iexact H0
  isplitl [H1]; · iexact H1
  isplitl [HT]; · iexact HT
  isplitl [HW]; · iexact HW
  isplitl [HS]; · iexact HS
  isplitl [HF]; · iexact HF
  rw [oth_oth]
  isplitl [Hc]; · iexact Hc
  isplitl [Hs]; · iexact Hs
  iexact Ho

theorem stepC2 (hO : Ok m) (c : Dev nD) (hP : Plan m c) (t : Fin (cfgM m hO).N) (hu : Use m c t) (hf : Fst m c t) (hn : ¬ Nxt m c t) (ht : t.val ≠ 0) (W : Waits sig Unit) (K : PUnit → sProp (MT nD τ sig Unit (Elt F) ℕ (Pipeline.UD sig nD τ) ℕ)) :
    iprop(inAt m hO c t ∗ (∃ d, owns (c : Thread nD τ) (ms0_2 m hO t) fullShare d)
        ∗ tabs c (tbl m 0) (tbl m 1) (tbl m 2) (tbl m 3) (tbl m 4) ∗ owes (c : Thread nD τ) 0 W ∗ St m c t.val
        ∗ (iprop(inAt m hO c t
            ∗ owns (c : Thread nD τ) (ms0_2 m hO t) fullShare (k0_pay2 (iblk m hO c 0 t) (iblk m hO c 1 t) (BG c (V m c main_v1) (bOf (jE m c t))) (BU c (V m c main_v2) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t) (ms0_2 m hO t) (hs0_2 m hO t)) K := by
  have h5 : ¬ k0_cond5 (grid0.coords t) (jN m c) = 1#1 := fun h => (hP.c5 t).1 h hu
  have h2 : ¬ k0_cond2 (grid0.coords t) = 1#1 := fun h => ht ((hP.c2 t).1 h)
  have hE := hP.hE t hu
  have hS := hP.hS t hu
  obtain ⟨k, hk⟩ : ∃ k : Fin grid0.N, k.val + 1 = t.val := ⟨⟨t.val - 1, by have h0 : t.val < grid0.N := t.isLt; omega⟩, by show t.val - 1 + 1 = t.val; omega⟩
  have huk := hP.mono k t hk hu
  obtain ⟨-, hnk, e1, e2⟩ := (hP.step k t hk hu).resolve_left (fun h => h.1 hf)
  have hSt : St m c t.val = iprop(packP c (BG c (V m c main_v1) (bOf (jE m c k))) (BU c (V m c main_v2) (bOf (jE m c k))) ∗ Fly c (V m c main_v1) (V m c main_v2) (sOf (jS m c t)) (bOf (jE m c t))) := by
    rw [← hk, St_mid m c huk, Mid_nxt m c hnk, e1, e2]
  rw [hSt]
  iintro ⟨H0, H1, HT, HW, ⟨HS, HF, Hc1, Hs1, Ho⟩, Hk⟩
  iapply (runC2 c (grid0.coords t) (tbl m 0) (tbl m 1) (tbl m 2) (tbl m 3) (tbl m 4) _ _ _ _ _ _ (V m c main_v1) (V m c main_v2) (iblk m hO c 0 t) (iblk m hO c 1 t) (jN m c) (jF m c t) (jS m c t) (jE m c t) (jX m c t) rfl rfl rfl rfl rfl hu h2 hf hn h5 hS hE (chk2_of _ _ _ hS) (chk3_of _ _ _ hE) (chk4_of _ _ _ _ hS) W _)
  isplitl [H0]; · iexact H0
  isplitl [H1]; · iexact H1
  isplitl [HS]; · first | iexact HS | (iexists _; iexists _; iexact HS)
  isplitl [HT]; · iexact HT
  isplitl [HW]; · iexact HW
  isplitl [HF]; · iexact HF
  iintro ⟨H0, H1, HS, HT, HW, Hc, Hs, Hz⟩
  rw [Mid_rest m c hn]
  iapply Hk
  isplitl [H0]; · iexact H0
  isplitl [H1]; · iexact H1
  isplitl [HT]; · iexact HT
  isplitl [HW]; · iexact HW
  isplitl [HS]; · iexact HS
  iapply (rest_close c (V m c main_v1) (V m c main_v2) (sOf (jS m c t)))
  isplitl [Hc]; · iexact Hc
  isplitl [Hs]; · iexact Hs
  isplitl [Hc1]; · iexact Hc1
  isplitl [Hs1]; · iexact Hs1
  iapply (home_join c (V m c main_v1) (V m c main_v2) (bOf (jE m c t)))
  isplitl [Hz]; · iexact Hz
  iexact Ho

theorem stepA1 (hO : Ok m) (c : Dev nD) (hP : Plan m c) (t : Fin (cfgM m hO).N) (hu : Use m c t) (hf : Fst m c t) (hn : Nxt m c t) (ht : t.val = 0) (W : Waits sig Unit) (K : PUnit → sProp (MT nD τ sig Unit (Elt F) ℕ (Pipeline.UD sig nD τ) ℕ)) :
    iprop(inAt m hO c t ∗ (∃ d, owns (c : Thread nD τ) (ms0_2 m hO t) fullShare d)
        ∗ tabs c (tbl m 0) (tbl m 1) (tbl m 2) (tbl m 3) (tbl m 4) ∗ owes (c : Thread nD τ) 0 W ∗ St m c t.val
        ∗ (iprop(inAt m hO c t
            ∗ owns (c : Thread nD τ) (ms0_2 m hO t) fullShare (k0_pay2 (iblk m hO c 0 t) (iblk m hO c 1 t) (BG c (V m c main_v1) (bOf (jE m c t))) (BU c (V m c main_v2) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t) (ms0_2 m hO t) (hs0_2 m hO t)) K := by
  have h5 : ¬ k0_cond5 (grid0.coords t) (jN m c) = 1#1 := fun h => (hP.c5 t).1 h hu
  have h2 : k0_cond2 (grid0.coords t) = 1#1 := (hP.c2 t).2 ht
  have hE := hP.hE t hu
  have hS := hP.hS t hu
  have hX := hP.hX t hu hn
  have hS0 : jS m c t = 0#32 := hP.slot0 t ht
  have hZ : jZ m c = jE m c t := hP.zero t ht
  have hEz : (jZ m c).toNat < 32 := by rw [hZ]; exact hE
  have hs0 : sOf (jS m c t) = 0 := by rw [hS0]; rfl
  rw [St_idle m c (fun t' e => absurd e (by omega))]
  iintro ⟨H0, H1, HT, HW, ⟨HS, Hc0, Hs0, Hc1, Hs1, Hh⟩, Hk⟩
  ihave HB := (home_split c (V m c main_v1) (V m c main_v2) (bOf (jE m c t))) $$ Hh
  icases HB with ⟨Hz, Ho⟩
  iapply (runA1 c (grid0.coords t) (tbl m 0) (tbl m 1) (tbl m 2) (tbl m 3) (tbl m 4) _ _ _ _ _ _ (V m c main_v1) (V m c main_v2) (iblk m hO c 0 t) (iblk m hO c 1 t) (jN m c) (jF m c t) (jS m c t) (jE m c t) (jX m c t) (jZ m c) (otherP c (V m c main_v1) (V m c main_v2) (bOf (jX m c t))) rfl rfl rfl rfl rfl rfl hZ hS0 hu h2 hf hn h5 hS hE hX (chk1_of _ _ hEz) (chk2_of _ _ _ hS) (chk3_of _ _ _ hE) (chk4_of _ _ _ _ hS) (chk5_of _ _ _ _ hX) W _)
  isplitl [H0]; · iexact H0
  isplitl [H1]; · iexact H1
  isplitl [HS]; · first | iexact HS | (iexists _; iexists _; iexact HS)
  isplitl [HT]; · iexact HT
  isplitl [HW]; · iexact HW
  isplitl [Hc0]; · iexact Hc0
  isplitl [Hs0]; · iexact Hs0
  isplitl [Hz]; · rw [hZ]; iexact Hz
  rw [hs0]
  isplitl [Hc1]; · iexact Hc1
  isplitl [Hs1]; · iexact Hs1
  isplitl [Ho]
  · iintro Hz
    iapply (home_split c (V m c main_v1) (V m c main_v2) (bOf (jX m c t)))
    iapply (home_join c (V m c main_v1) (V m c main_v2) (bOf (jE m c t)))
    isplitl [Hz]; · iexact Hz
    iexact Ho
  iintro ⟨H0, H1, HS, HT, HW, Hc, Hs, HF, Ho⟩
  rw [Mid_nxt m c hn]
  iapply Hk
  isplitl [H0]; · iexact H0
  isplitl [H1]; · iexact H1
  isplitl [HT]; · iexact HT
  isplitl [HW]; · iexact HW
  isplitl [HS]; · iexact HS
  rw [hs0]
  isplitl [HF]; · iexact HF
  rw [oth_oth]
  isplitl [Hc]; · iexact Hc
  isplitl [Hs]; · iexact Hs
  iexact Ho

theorem stepA2 (hO : Ok m) (c : Dev nD) (hP : Plan m c) (t : Fin (cfgM m hO).N) (hu : Use m c t) (hf : Fst m c t) (hn : ¬ Nxt m c t) (ht : t.val = 0) (W : Waits sig Unit) (K : PUnit → sProp (MT nD τ sig Unit (Elt F) ℕ (Pipeline.UD sig nD τ) ℕ)) :
    iprop(inAt m hO c t ∗ (∃ d, owns (c : Thread nD τ) (ms0_2 m hO t) fullShare d)
        ∗ tabs c (tbl m 0) (tbl m 1) (tbl m 2) (tbl m 3) (tbl m 4) ∗ owes (c : Thread nD τ) 0 W ∗ St m c t.val
        ∗ (iprop(inAt m hO c t
            ∗ owns (c : Thread nD τ) (ms0_2 m hO t) fullShare (k0_pay2 (iblk m hO c 0 t) (iblk m hO c 1 t) (BG c (V m c main_v1) (bOf (jE m c t))) (BU c (V m c main_v2) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t) (ms0_2 m hO t) (hs0_2 m hO t)) K := by
  have h5 : ¬ k0_cond5 (grid0.coords t) (jN m c) = 1#1 := fun h => (hP.c5 t).1 h hu
  have h2 : k0_cond2 (grid0.coords t) = 1#1 := (hP.c2 t).2 ht
  have hE := hP.hE t hu
  have hS := hP.hS t hu
  have hS0 : jS m c t = 0#32 := hP.slot0 t ht
  have hZ : jZ m c = jE m c t := hP.zero t ht
  have hEz : (jZ m c).toNat < 32 := by rw [hZ]; exact hE
  have hs0 : sOf (jS m c t) = 0 := by rw [hS0]; rfl
  rw [St_idle m c (fun t' e => absurd e (by omega))]
  iintro ⟨H0, H1, HT, HW, ⟨HS, Hc0, Hs0, Hc1, Hs1, Hh⟩, Hk⟩
  ihave HB := (home_split c (V m c main_v1) (V m c main_v2) (bOf (jE m c t))) $$ Hh
  icases HB with ⟨Hz, Ho⟩
  iapply (runA2 c (grid0.coords t) (tbl m 0) (tbl m 1) (tbl m 2) (tbl m 3) (tbl m 4) _ _ _ _ _ _ (V m c main_v1) (V m c main_v2) (iblk m hO c 0 t) (iblk m hO c 1 t) (jN m c) (jF m c t) (jS m c t) (jE m c t) (jX m c t) (jZ m c) rfl rfl rfl rfl rfl rfl hZ hS0 hu h2 hf hn h5 hS hE (chk1_of _ _ hEz) (chk2_of _ _ _ hS) (chk3_of _ _ _ hE) (chk4_of _ _ _ _ hS) W _)
  isplitl [H0]; · iexact H0
  isplitl [H1]; · iexact H1
  isplitl [HS]; · first | iexact HS | (iexists _; iexists _; iexact HS)
  isplitl [HT]; · iexact HT
  isplitl [HW]; · iexact HW
  isplitl [Hc0]; · iexact Hc0
  isplitl [Hs0]; · iexact Hs0
  isplitl [Hz]; · rw [hZ]; iexact Hz
  iintro ⟨H0, H1, HS, HT, HW, Hc, Hs, Hz⟩
  rw [Mid_rest m c hn]
  iapply Hk
  isplitl [H0]; · iexact H0
  isplitl [H1]; · iexact H1
  isplitl [HT]; · iexact HT
  isplitl [HW]; · iexact HW
  isplitl [HS]; · iexact HS
  iapply (rest_close c (V m c main_v1) (V m c main_v2) (sOf (jS m c t)))
  isplitl [Hc]; · iexact Hc
  isplitl [Hs]; · iexact Hs
  rw [hs0]
  isplitl [Hc1]; · iexact Hc1
  isplitl [Hs1]; · iexact Hs1
  iapply (home_join c (V m c main_v1) (V m c main_v2) (bOf (jE m c t)))
  isplitl [Hz]; · iexact Hz
  iexact Ho

theorem stepU (hO : Ok m) (c : Dev nD) (hP : Plan m c) (t : Fin (cfgM m hO).N) (hu : Use m c t)  (W : Waits sig Unit) (K : PUnit → sProp (MT nD τ sig Unit (Elt F) ℕ (Pipeline.UD sig nD τ) ℕ)) :
    iprop(inAt m hO c t ∗ (∃ d, owns (c : Thread nD τ) (ms0_2 m hO t) fullShare d)
        ∗ tabs c (tbl m 0) (tbl m 1) (tbl m 2) (tbl m 3) (tbl m 4) ∗ owes (c : Thread nD τ) 0 W ∗ St m c t.val
        ∗ (iprop(inAt m hO c t
            ∗ owns (c : Thread nD τ) (ms0_2 m hO t) fullShare (k0_pay2 (iblk m hO c 0 t) (iblk m hO c 1 t) (BG c (V m c main_v1) (bOf (jE m c t))) (BU c (V m c main_v2) (bOf (jE m c t))))
            ∗ tabs c (tbl m 0) (tbl m 1) (tbl m 2) (tbl m 3) (tbl m 4) ∗ (∃ W', owes (c : Thread nD τ) 0 W') ∗ Mid m c t) -∗ K ⟨⟩))
      ⊢ wp frame (wpE (defs₀ (F := F)) Variants.none c none) Set.univ (bodyG (grid0.coords t) (ms0_0 m hO t) (hs0_0 m hO t) (ms0_1 m hO t) (hs0_1 m hO t) (ms0_2 m hO t) (hs0_2 m hO t)) K := by
  by_cases hf : Fst m c t
  · by_cases hn : Nxt m c t <;> by_cases ht : t.val = 0
    · exact stepA1 m hO c hP t hu hf hn ht W K
    · exact stepC1 m hO c hP t hu hf hn ht W K
    · exact stepA2 m hO c hP t hu hf hn ht W K
    · exact stepC2 m hO c hP t hu hf hn ht W K
  · exact stepB m hO c hP t hu hf W K

theorem sound_body (hO : Ok m) (c : Dev nD) (hP : Plan m c) (t : Fin (cfgM m hO).N) :
    bodyPre m hO c t ⊢ wp frame (wpE (defs₀ (F := F)) Variants.none c none) Set.univ (bodyAt0 (adm m hO) t) (fun _ => bodyPost m hO c t) := by
  unfold bodyPre bodyPost
  simp only [before0_0, before0_1]
  rw [after0_0, after0_1, after0_2]
  rw [show (dats m hO 0 c).Φ t.succ = iprop((∃ r, prngReg c r) ∗ tabs c (tbl m 0) (tbl m 1) (tbl m 2) (tbl m 3) (tbl m 4) ∗ St m c (t.val + 1)) from rfl,
    show (dats m hO 0 c).Φ t.castSucc = iprop((∃ r, prngReg c r) ∗ tabs c (tbl m 0) (tbl m 1) (tbl m 2) (tbl m 3) (tbl m 4) ∗ St m c t.val) from rfl]
  unfold Dat.owesAt Pipeline.owesWithin
  rw [show (dats m hO 0 c).owed t.castSucc = 0 from rfl, show (dats m hO 0 c).owed t.succ = 0 from rfl]
  change _ ⊢ wp frame _ _ (bodyG (grid0.coords t) (ms0_0 m hO t) (hs0_0 m hO t) (ms0_1 m hO t) (hs0_1 m hO t) (ms0_2 m hO t) (hs0_2 m hO t)) _
  unfold outAt
  by_cases hu : Use m c t
  · rw [if_pos hu, St_mid m c hu]
    iintro ⟨⟨Hg, HT, HSt⟩, ⟨%W, -, HW⟩, ⟨%d0, H0⟩, ⟨%d9, H9⟩, ⟨%d1, H1⟩⟩
    iapply (stepU m hO c hP t hu W _)
    isplitl [H0 H9]
    · isplitl [H0]; · iexact H0
      iexact H9
    isplitl [H1]; · iexists _; iexact H1
    isplitl [HT]; · iexact HT
    isplitl [HW]; · iexact HW
    isplitl [HSt]; · iexact HSt
    iintro ⟨⟨H0, H9⟩, H1, HT, ⟨%W', HW'⟩, HI⟩
    isplitl [Hg HT HI]
    · isplitl [Hg]; · iexact Hg
      isplitl [HT]; · iexact HT
      iexact HI
    isplitl [HW']
    · iexists W'; isplitr; · ipureintro; exact fun _ _ => Or.inl trivial
      iexact HW'
    isplitl [H0]; · iexact H0
    isplitl [H9]; · iexact H9
    iexact H1
  · have h5 : k0_cond5 (grid0.coords t) (jN m c) = 1#1 := (hP.c5 t).2 hu
    rw [if_neg hu, St_idle m c (k := t.val + 1) (fun t' e => by have : t' = t := Fin.ext (by omega); subst this; exact hu)]
    iintro ⟨⟨Hg, HT, HSt⟩, ⟨%W, -, HW⟩, ⟨%d0, H0⟩, ⟨%d9, H9⟩, ⟨%d1, H1⟩⟩
    ihave HI := (St_out m c hP (k := t.val) (fun t' e => by have : t' = t := Fin.ext e; subst this; exact hu)) $$ HSt
    iapply (runD c (grid0.coords t) (tbl m 0) (tbl m 1) (tbl m 2) (tbl m 3) (tbl m 4) _ _ _ _ _ _ hu h5 (iblk m hO c 0 t) (iblk m hO c 1 t) W _)
    isplitl [H0 H9]
    · isplitl [H0]; · iexact H0
      iexact H9
    isplitl [H1]; · iexists _; iexact H1
    isplitl [HT]; · iexact HT
    isplitl [HW]; · iexact HW
    iintro ⟨⟨H0, H9⟩, H1, HT, ⟨%W', HW'⟩⟩
    isplitl [Hg HT HI]
    · isplitl [Hg]; · iexact Hg
      isplitl [HT]; · iexact HT
      iexact HI
    isplitl [HW']
    · iexists W'; isplitr; · ipureintro; exact fun _ _ => Or.inl trivial
      iexact HW'
    isplitl [H0]; · iexact H0
    isplitl [H9]; · iexact H9
    iexact H1

theorem pick (b f : Bool) (hf : f = true) (X Y : sProp (MT nD τ sig Unit (Elt F) ℕ (Pipeline.UD sig nD τ) ℕ)) : X ⊢ (match b with | true => (match f with | false => Y | true => X) | false => X) := by
  subst hf; cases b <;> exact .rfl

theorem flush0_2 (a : (pcfg0 (F := F)).Adm) : ∀ t : Fin (cfg0 a).N, ((cfg0 a).win 2).flush t = true :=
  (fun t => (Pipeline.Window.flushOf_reads cc0_transform_4 reads0_2 hreads0_2 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 2000000 in
theorem body_obligation (hO : Ok m) (c : Dev nD) (hP : Plan m c) : BodyObligation (dats (F := F) m hO 0 c) (defs₀ (F := F)) Variants.none () Set.univ := fun t => by
  rw [bigSep_W0, bigSep_W0, defs₀_row m hO]
  refine triple_restated (sound_body m hO c hP t) rfl .rfl fun _ => ?_
  refine Idealize.SL.BI.sep_mono_r (Idealize.SL.BI.sep_mono_r (Idealize.SL.BI.sep_mono ?_ (Idealize.SL.BI.sep_mono ?_ ?_)))
  · exact Idealize.SL.BI.Entails.refl _
  · exact Idealize.SL.BI.Entails.refl _
  · have hf : ((cfgM m hO).win 2).flush t = true := flush0_2 (adm m hO) t
    dsimp only
    split
    · split
      · rename_i h; exact absurd (hf.symm.trans h) (by decide)
      · exact Idealize.SL.BI.Entails.refl _
    · exact Idealize.SL.BI.Entails.refl _

/-! ## The run and the frame -/

theorem hin (hO : Ok m) (c : Dev nD) : iprop(Pipeline.ΦD osem0 spec0 H0 (V m) c ∗ Pipeline.ΦT pre0 (tbl m) c) ⊢ (dats m hO 0 c).Φ 0 := by
  rw [show (dats m hO 0 c).Φ 0 = iprop((∃ r, prngReg c r) ∗ tabs c (tbl m 0) (tbl m 1) (tbl m 2) (tbl m 3) (tbl m 4) ∗ St m c 0) from rfl,
    St_idle m c (fun t e => absurd e (by omega)), PhiD0_eq, PhiT0_eq]
  iintro ⟨⟨⟨HS0, HS1, HS2, HS3⟩, Hg, ⟨Hq0, Hq1, Hr0, Hr1⟩, Hh0⟩, HT⟩
  isplitl [Hg]; · iexact Hg
  isplitl [HT]; · iexact HT
  isplitl [HS2 HS3]
  · icases HS2 with ⟨%d2, HS2⟩
    icases HS3 with ⟨%d3, HS3⟩
    iexists d2; iexists d3
    isplitl [HS2]; · iexact HS2
    iexact HS3
  ihave HA := (splitG c) $$ HS0
  icases HA with ⟨Ha0, Ha1⟩
  ihave HB := (splitU c) $$ HS1
  icases HB with ⟨Hb0, Hb1⟩
  isplitl [Hq0 Hr0]
  · isplitl [Hq0]; · iexact Hq0
    iexact Hr0
  isplitl [Ha0 Hb0]
  · isplitl [Ha0]; · iexact Ha0
    iexact Hb0
  isplitl [Hq1 Hr1]
  · isplitl [Hq1]; · iexact Hq1
    iexact Hr1
  isplitl [Ha1 Hb1]
  · isplitl [Ha1]; · iexact Ha1
    iexact Hb1
  iexact Hh0

theorem hout (hO : Ok m) (c : Dev nD) (hP : Plan m c) : (dats m hO 0 c).Φ (Fin.last _) ⊢ Pipeline.ΦD osem0 spec0 H0 (V m) c := by
  rw [show (dats m hO 0 c).Φ (Fin.last _) = iprop((∃ r, prngReg c r) ∗ tabs c (tbl m 0) (tbl m 1) (tbl m 2) (tbl m 3) (tbl m 4) ∗ St m c grid0.N) from rfl,
    PhiD0_eq]
  iintro ⟨Hg, -, HSt⟩
  ihave HI := (St_out m c hP (k := grid0.N) (fun t e => absurd t.isLt (by omega))) $$ HSt
  icases HI with ⟨⟨%d2, %d3, HS2, HS3⟩, ⟨Hq0, Hr0⟩, ⟨Ha0, Hb0⟩, ⟨Hq1, Hr1⟩, ⟨Ha1, Hb1⟩, Hh0⟩
  isplitl [HS2 HS3 Ha0 Ha1 Hb0 Hb1]
  · isplitl [Ha0 Ha1]
    · iapply (joinG c)
      isplitl [Ha0]; · iexact Ha0
      iexact Ha1
    isplitl [Hb0 Hb1]
    · iapply (joinU c)
      isplitl [Hb0]; · iexact Hb0
      iexact Hb1
    isplitl [HS2]; · iexists d2; iexact HS2
    iexists d3; iexact HS3
  isplitl [Hg]; · iexact Hg
  isplitl [Hq0 Hq1 Hr0 Hr1]
  · isplitl [Hq0]; · iexact Hq0
    isplitl [Hq1]; · iexact Hq1
    isplitl [Hr0]; · iexact Hr0
    iexact Hr1
  iexact Hh0

set_option backward.isDefEq.respectTransparency.types false in
theorem run_main_quiescent (hO : Ok m) (hP : ∀ c, Plan m c) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO c (hP c)).loose) (hshare := fun c => (dats m hO 0 c).share_full fun _ => rfl)
    (howed := fun _ _ => rfl) (V := V m) (hmain := hmain m Variants.none) (hA := A_eq m hO) (hpf := V_pre m)
    (hin := hin m hO) (hout := fun c => hout m hO c (hP c))

theorem run_main (hO : Ok m) (hP : ∀ c, Plan m c) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hP)

theorem unchanged (hO : Ok m) (hP : ∀ c, Plan m c) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO hP)

theorem frame (hO : Ok m) (hP : ∀ c, Plan m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO hP) ((θ_run defs _ _).mono (fun _ h => h.2) (run_main_quiescent m ρ hO hP))

end Cert.Kernel3Ideal.Gate

end
-- ==== Proof.GatePlan.lean ====
/- What the kernel asks of the plan, from the precondition on its words. -/
module

public import proofs.«01_k».proof.Proof.GateFrame
public import proofs.«01_k».proof.Proof.PlanWords

@[expose] public section

noncomputable section

namespace Cert.Kernel3Ideal.Gate

open Idealize.ShloMosaic Idealize.ShloMosaic.TcCoe Idealize.ShloMosaic.Tactic Idealize.SL.Sem
open Cert.Kernel3Ideal Cert.Kernel3Ideal.Gen Cert.Plan

variable {F : FTy → Type} [FloatOps F] (m : (ℓ : Loc nD τ sig) → Buf (Elt F) ℓ) (c : Dev nD)

theorem coord (t : Fin grid0.N) : (grid0.coords t 0).val = t.val := by revert t; decide +kernel
theorem word_toNat (t : Fin grid0.N) : (BitVec.ofNat 32 (grid0.coords t 0).val).toNat = t.val := by
  rw [coord, BitVec.toNat_ofNat]; exact Nat.mod_eq_of_lt (by have h0 : t.val < 160 := t.isLt; omega)

/-- The words of the plan. -/
abbrev pE : S160.Idx → BitVec 32 := tbl m 0
abbrev pF : S160.Idx → BitVec 32 := tbl m 1
abbrev pN : S1.Idx → BitVec 32 := tbl m 2
abbrev pS : S160.Idx → BitVec 32 := tbl m 3
abbrev pX : S160.Idx → BitVec 32 := tbl m 4

theorem jN_eq : jN m c = pN m (ix1 0) := congrArg (pN m) (funext fun a => Fin.ext (by match a with | ⟨0, _⟩ => rfl))
theorem jZ_eq : jZ m c = pE m (ix1 0) := congrArg (pE m) (funext fun a => Fin.ext (by match a with | ⟨0, _⟩ => rfl))
theorem jE_eq (t : Fin grid0.N) : jE m c t = pE m (ix1 t) :=
  congrArg (pE m) (funext fun a => Fin.ext (by match a with | 0 => exact word_toNat t))
theorem jF_eq (t : Fin grid0.N) : jF m c t = pF m (ix1 t) :=
  congrArg (pF m) (funext fun a => Fin.ext (by match a with | 0 => exact word_toNat t))
theorem jS_eq (t : Fin grid0.N) : jS m c t = pS m (ix1 t) :=
  congrArg (pS m) (funext fun a => Fin.ext (by match a with | 0 => exact word_toNat t))
theorem jX_eq (t : Fin grid0.N) : jX m c t = pX m (ix1 t) :=
  congrArg (pX m) (funext fun a => Fin.ext (by match a with | 0 => exact word_toNat t))

/-- A comparison carried through a word and tested against zero. -/
theorem tested (b : BitVec 1) : Scalar.cmpi .ne (Scalar.extui b) 0#32 = 1#1 ↔ b = 1#1 := by
  rcases BitVec.eq_zero_or_eq_one b with rfl | rfl <;> decide

theorem cond1_iff (t : Fin grid0.N) (n : BitVec 32) : k0_cond1 (grid0.coords t) n = 1#1 ↔ (t.val : ℤ) < n.toInt := by
  have h0 : t.val < 160 := t.isLt
  unfold k0_cond1
  refine (tested _).trans ?_
  show BitVec.ofBool _ = _ ↔ _
  rw [ofBool1, slt_iff, coord, ofNat_toInt (by omega)]
theorem cond5_iff (t : Fin grid0.N) (n : BitVec 32) : k0_cond5 (grid0.coords t) n = 1#1 ↔ n.toInt ≤ (t.val : ℤ) := by
  have h0 : t.val < 160 := t.isLt
  unfold k0_cond5
  refine (tested _).trans ?_
  show BitVec.ofBool _ = _ ↔ _
  rw [ofBool1, sle_iff, coord, ofNat_toInt (by omega)]
theorem cond2_iff (t : Fin grid0.N) : k0_cond2 (grid0.coords t) = 1#1 ↔ t.val = 0 := by revert t; decide +kernel
theorem cond3_iff (f : BitVec 32) : k0_cond3 f = 1#1 ↔ f = 1#32 := by
  unfold k0_cond3
  refine (tested _).trans ?_
  show BitVec.ofBool _ = _ ↔ _
  rw [ofBool1, beq_iff_eq]
theorem cond4_iff (x : BitVec 32) : k0_cond4 x = 1#1 ↔ 0 ≤ x.toInt := by
  unfold k0_cond4
  refine (tested _).trans ?_
  show BitVec.ofBool _ = _ ↔ _
  rw [ofBool1, sle_iff]; rfl

theorem oth_word {v : BitVec 32} (h : v.toNat < 2) : sOf (1#32 - v) = oth (sOf v) := by
  have h1 : v = 0#32 ∨ v = 1#32 := by
    rcases (by omega : v.toNat = 0 ∨ v.toNat = 1) with e | e
    · left; exact BitVec.eq_of_toNat_eq e
    · right; exact BitVec.eq_of_toNat_eq e
  rcases h1 with rfl | rfl <;> decide

theorem plan_of (h : Good (pE m) (pF m) (pS m) (pX m) (pN m (ix1 0))) : Plan m c := by
  have n3 : (pN m (ix1 0)).toInt = (pN m (ix1 0)).toNat := by
    have := h.n160
    rcases toInt_cases (pN m (ix1 0)) with h | h <;> omega
  have use (t : Fin grid0.N) : Use m c t ↔ t.val < (pN m (ix1 0)).toNat := by
    unfold Use; rw [cond1_iff, jN_eq, n3]; exact Nat.cast_lt
  have nxt (t : Fin grid0.N) : Nxt m c t ↔ 0 ≤ (pX m (ix1 t)).toInt := by unfold Nxt; rw [cond4_iff, jX_eq]
  have fst (t : Fin grid0.N) : Fst m c t ↔ pF m (ix1 t) = 1#32 := by unfold Fst; rw [cond3_iff, jF_eq]
  have z : ∀ t : Fin grid0.N, t.val = 0 → (ix1 t : S160.Idx) = ix1 0 := fun t e => congrArg ix1 (Fin.ext e)
  refine ⟨cond2_iff, fun t => ?_, fun t e => (use t).2 (by have := h.n1; omega), fun t t' e u => (use t).2 (by have := (use t').1 u; omega),
    fun t u l => ?_, fun t u => ?_, fun t u => ?_, fun t u x => ?_, fun t e => (fst t).2 ?_, fun t e => ?_, fun t e => ?_, fun t t' e u => ?_⟩
  · rw [use, cond5_iff, jN_eq, n3]; omega
  · rw [nxt]
    have hu := (use t).1 u
    have : t.val + 1 = (pN m (ix1 0)).toNat := by
      by_contra hne
      have h160 := h.n160
      exact l ⟨t.val + 1, by show t.val + 1 < 160; omega⟩ rfl ((use _).2 (by show t.val + 1 < _; omega))
    have := h.last t this
    omega
  · rw [jE_eq]; exact (h.words t ((use t).1 u)).1
  · rw [jS_eq]; exact (h.words t ((use t).1 u)).2.1
  · rw [jX_eq]
    have h1 := (h.words t ((use t).1 u)).2.2
    have h2 := (nxt t).1 x
    rcases toInt_cases (pX m (ix1 t)) with h | h <;> omega
  · rw [z t e]; exact h.f0
  · rw [jS_eq, z t e]; exact h.s0
  · rw [jZ_eq, jE_eq, z t e]
  · rw [fst, nxt, jE_eq, jE_eq, jS_eq, jS_eq, jX_eq, jX_eq]
    have hu := (use t').1 u
    rcases h.step t t' e.symm hu with g | g
    · exact .inl ⟨by rw [g.1]; decide, g.2.1, g.2.2.1, g.2.2.2⟩
    · exact .inr ⟨g.1, g.2.1, g.2.2.1, by rw [g.2.2.2]; exact oth_word (h.words t (by omega)).2.1⟩

theorem ok_of (h1 : 1 ≤ (pN m (ix1 0)).toNat) (h2 : (pN m (ix1 0)).toNat ≤ 160) : Ok m := by
  intro i
  have hi : (i 0).val < 160 := (i 0).isLt
  have hat : (tbl m).at 2 (Rect.unit (s := S1) ![0] S1.size inb_S1_S1_0) numel1_S1 = pN m (ix1 0) :=
    congrArg (pN m) (funext fun a => Fin.ext (by match a with | ⟨0, _⟩ => rfl))
  have hw : (cc0_transform_0 inb_S1_S1_0 numel1_S1 (tbl m) i 0) < 160 := by
    show (Scalar.minsi (BitVec.ofNat 32 (i 0).val) (Scalar.subi ((tbl m).at 2 (Rect.unit (s := S1) ![0] S1.size inb_S1_S1_0) numel1_S1) 1#32)).toNat < 160
    rw [hat]
    show (if _ then _ else _ : BitVec 32).toNat < 160
    have h1' : (BitVec.ofNat 32 (i 0).val).toNat = (i 0).val := by rw [BitVec.toNat_ofNat]; exact Nat.mod_eq_of_lt (by omega)
    split
    · omega
    · show (pN m (ix1 0) - 1#32).toNat < 160
      rw [BitVec.toNat_sub, show (1#32 : BitVec 32).toNat = 1 from rfl]; omega
  have hb : ∀ a, (cc0_transform_0 inb_S1_S1_0 numel1_S1 (tbl m) i a + 1) * S256x2048.size a ≤ S40960x2048.size a := fun a => by
    match a with
    | 0 => show (_ + 1) * 256 ≤ 40960; omega
    | 1 => show (0 + 1) * 2048 ≤ 2048; omega
  exact ⟨hb, .inl rfl⟩

end Cert.Kernel3Ideal.Gate

end
-- ==== Proof.GateValue.lean ====
/- The array the gate and up projections leave, at an index. -/
module

public import proofs.«01_k».proof.Proof.GatePlan
public import proofs.«01_k».proof.Proof.GateSpec
public import Idealize.ShloMosaic.Lib.Pipeline.Value
public import Idealize.ShloMosaic.Lib.Pointwise

@[expose] public section

set_option maxRecDepth 16384

noncomputable section

namespace Cert.Kernel3Ideal.Gate

open Idealize.ShloMosaic Idealize.ShloMosaic.TcCoe Idealize.ShloMosaic.Tactic Idealize.SL.Sem
open Cert.Kernel3Ideal Cert.Kernel3Ideal.Gen Cert.Plan Cert.Hidden

/-- One block: the hidden activations of its rows. -/
theorem pay2_at (x : FVec Ideal S256x2048 .f32) (g : FVec Ideal S1x2048 .f32) (wg wu : FVec Ideal S2048x1024 .bf16) (i : Fin 256) (n : Fin 1024) :
    k0_pay2 (F := Ideal) x g wg wu (ix2 i n)
      = hid (fun k => x (ix2 i k)) (fun k => g (ix2 0 k)) (fun k => wg (ix2 k n)) (fun k => wu (ix2 k n)) := by
  pointwise [k0_pay2, hid, nrm]

theorem pay3_at (i : Fin 256) (n : Fin 1024) : k0_pay3 (F := Ideal) (ix2 i n) = (0 : EReal) := by
  pointwise [k0_pay3]

theorem BG_at (c : Dev nD) (XG : S32x2048x1024.Idx → EReal) (b : Fin 32) (k : Fin 2048) (n : Fin 1024) :
    BG (F := Ideal) c XG b (ix2 k n) = XG (ix3 b k n) := by
  unfold BG
  rw [shapeCast_self]
  show (grpG b).view.read (Elt Ideal) XG (ix2 k n) = _
  unfold grpG grpOf
  rw [Memref.read_squeeze_slice hbM0_0 _ _ _ shapeCasts_S1x2048x1024_S2048x1024]
  rw [shapeCast_apply _ _ (ix2 k n) (ix3 0 k n) (by rewrite [Shape.rowMajor_val_two, Shape.rowMajor_val_three]; show ((0 * 2048 + k.val) * 1024 + n.val) = k.val * 1024 + n.val; omega)]
  refine congrArg XG (funext fun a => Fin.ext ?_)
  match a with
  | ⟨0, _⟩ => show b.val + 1 * 0 = b.val; omega
  | ⟨1, _⟩ => show 0 + 1 * k.val = k.val; omega
  | ⟨2, _⟩ => show 0 + 1 * n.val = n.val; omega

theorem BU_at (c : Dev nD) (XU : S32x2048x1024.Idx → EReal) (b : Fin 32) (k : Fin 2048) (n : Fin 1024) :
    BU (F := Ideal) c XU b (ix2 k n) = XU (ix3 b k n) := by
  unfold BU
  rw [shapeCast_self]
  show (grpU b).view.read (Elt Ideal) XU (ix2 k n) = _
  unfold grpU grpOf
  rw [Memref.read_squeeze_slice hbM0_1 _ _ _ shapeCasts_S1x2048x1024_S2048x1024]
  rw [shapeCast_apply _ _ (ix2 k n) (ix3 0 k n) (by rewrite [Shape.rowMajor_val_two, Shape.rowMajor_val_three]; show ((0 * 2048 + k.val) * 1024 + n.val) = k.val * 1024 + n.val; omega)]
  refine congrArg XU (funext fun a => Fin.ext ?_)
  match a with
  | ⟨0, _⟩ => show b.val + 1 * 0 = b.val; omega
  | ⟨1, _⟩ => show 0 + 1 * k.val = k.val; omega
  | ⟨2, _⟩ => show 0 + 1 * n.val = n.val; omega

variable (m : (ℓ : Loc nD τ sig) → Buf (Elt Ideal) ℓ) (ρ : Dev nD → PrngReg) (c : Dev nD)

theorem V_wg : V m c main_v1 = shapeCast S32x2048x1024 (m (c, Proc.devRef .tc main_arg7) : S4x8x2048x1024.Idx → EReal) shapeCasts_S4x8x2048x1024_S32x2048x1024 := by
  unfold V
  simp only [hostOps0, List.flatten_cons, List.flatten_nil, List.append_nil, List.cons_append, List.nil_append]
  after_results <;> rfl

theorem V_wu : V m c main_v2 = shapeCast S32x2048x1024 (m (c, Proc.devRef .tc main_arg8) : S4x8x2048x1024.Idx → EReal) shapeCasts_S4x8x2048x1024_S32x2048x1024 := by
  unfold V
  simp only [hostOps0, List.flatten_cons, List.flatten_nil, List.append_nil, List.cons_append, List.nil_append]
  after_results <;> rfl

theorem V_gain : (V m c main_v3 : S1x2048.Idx → EReal) = m (c, Proc.devRef .tc main_arg6) := by
  unfold V
  simp only [hostOps0, List.flatten_cons, List.flatten_nil, List.append_nil, List.cons_append, List.nil_append]
  after_results
  show shapeCast S1x2048 (shapeCast S2048 (m (c, Proc.devRef .tc main_arg6) : S1x2048.Idx → EReal) shapeCasts_S1x2048_S2048) shapeCasts_S2048_S1x2048 = _
  exact shapeCast_shapeCast _ _ _

/-- The rows of a block of the first operand. -/
def row (t : Fin 160) (i : Fin 256) : Fin 40960 := ⟨t.val * 256 + i.val, by omega⟩

theorem in0 (hO : Ok m) (h1 : 1 ≤ (pN m (ix1 0)).toNat) (h2 : (pN m (ix1 0)).toNat ≤ 160) (t : Fin (cfgM m hO).N) (ht : t.val < (pN m (ix1 0)).toNat) (i : Fin 256) (k : Fin 2048) :
    (iblk m hO c 0 t : S256x2048.Idx → EReal) (ix2 i k)
      = (m (c, Proc.devRef .tc main_arg5) : S40960x2048.Idx → EReal) (ix2 (row t i) k) := by
  rw [← V_of m c main_arg5 (by decide)]
  have e0 : (cc0_transform_0 inb_S1_S1_0 numel1_S1 (tbl m) (grid0.coords t) 0) = t.val := by
    show (Scalar.minsi (BitVec.ofNat 32 (grid0.coords t 0).val) (Scalar.subi ((tbl m).at 2 (Rect.unit (s := S1) ![0] S1.size inb_S1_S1_0) numel1_S1) 1#32)).toNat = t.val
    rw [show (tbl m).at 2 (Rect.unit (s := S1) ![0] S1.size inb_S1_S1_0) numel1_S1 = pN m (ix1 0) from
      congrArg (pN m) (funext fun a => Fin.ext (by match a with | ⟨0, _⟩ => rfl))]
    show (if BitVec.slt _ _ = true then _ else _ : BitVec 32).toNat = t.val
    have e : (pN m (ix1 0) - 1#32).toNat = (pN m (ix1 0)).toNat - 1 := by
      rw [BitVec.toNat_sub, show (1#32 : BitVec 32).toNat = 1 from rfl]; omega
    split
    · exact word_toNat t
    · rename_i h
      have h' := slt_iff.not.mp h
      rw [coord, ofNat_toInt (by have h0 : t.val < 160 := t.isLt; omega)] at h'
      have h3 : (pN m (ix1 0) - 1#32).toInt = ((pN m (ix1 0)).toNat : ℤ) - 1 := by
        rcases toInt_cases (pN m (ix1 0) - 1#32) with g | g <;> omega
      have h4 : ¬ (t.val : ℤ) < (pN m (ix1 0) - 1#32).toInt := h'
      show (pN m (ix1 0) - 1#32).toNat = t.val
      omega
  refine congrArg (V m c main_arg5) (funext fun a => Fin.ext ?_)
  match a with
  | ⟨0, _⟩ => show cc0_transform_0 inb_S1_S1_0 numel1_S1 (tbl m) (grid0.coords t) 0 * 256 + 1 * i.val = t.val * 256 + i.val; rw [e0]; omega
  | ⟨1, _⟩ => show 0 * 2048 + 1 * k.val = k.val; omega

theorem in1 (hO : Ok m) (t : Fin (cfgM m hO).N) (k : Fin 2048) :
    (iblk m hO c 1 t : S1x2048.Idx → EReal) (ix2 0 k) = (m (c, Proc.devRef .tc main_arg6) : S1x2048.Idx → EReal) (ix2 0 k) := by
  rw [← V_gain m c]
  refine congrArg (V m c main_v3) (funext fun a => Fin.ext ?_)
  match a with
  | ⟨0, _⟩ => show 0 * 1 + 1 * 0 = 0; omega
  | ⟨1, _⟩ => show 0 * 2048 + 1 * k.val = k.val; omega

/-- The hidden activation of a row and a column, given the row's expert. -/
def hidAt (x : S40960x2048.Idx → EReal) (g : S1x2048.Idx → EReal) (wg wu : S32x2048x1024.Idx → EReal) (r : Fin 40960) (b : Fin 32) (d : Fin 1024) : EReal :=
  hid (fun k => x (ix2 r k)) (fun k => g (ix2 0 k)) (fun k => wg (ix3 b k d)) (fun k => wu (ix3 b k d))

/-- The result at a row and a column: the row's hidden activation where its block is in use, zero elsewhere. -/
def arrG (e : S160.Idx → BitVec 32) (n : S1.Idx → BitVec 32) (x : S40960x2048.Idx → EReal) (g : S1x2048.Idx → EReal) (wg wu : S32x2048x1024.Idx → EReal) (i : S40960x1024.Idx) : EReal :=
  if (i 0).val / 256 < (n (ix1 0)).toNat then
    hidAt x g wg wu (i 0) (bOf (e (ix1 ⟨(i 0).val / 256, by have : (i 0).val < 40960 := (i 0).isLt; omega⟩))) (i 1)
  else 0

theorem arr_row (e : S160.Idx → BitVec 32) (n : S1.Idx → BitVec 32) (x : S40960x2048.Idx → EReal) (g : S1x2048.Idx → EReal) (wg wu : S32x2048x1024.Idx → EReal)
    (t : Fin 160) (i : Fin 256) (d : Fin 1024) :
    arrG e n x g wg wu (ix2 (row t i) d)
      = if t.val < (n (ix1 0)).toNat then hidAt x g wg wu (row t i) (bOf (e (ix1 t))) d else 0 := by
  have hi := i.isLt
  have hr : (row t i).val / 256 = t.val := by show (t.val * 256 + i.val) / 256 = t.val; omega
  have hb : (⟨(row t i).val / 256, by have := (row t i).isLt; omega⟩ : Fin 160) = t := Fin.ext hr
  show (if (row t i).val / 256 < (n (ix1 0)).toNat then
    hidAt x g wg wu (row t i) (bOf (e (ix1 (⟨(row t i).val / 256, by have := (row t i).isLt; omega⟩ : Fin 160)))) d else 0) = _
  rw [hb, hr]

/-- The result in terms of the arrays as launched. -/
abbrev resG : Buf (Elt Ideal) ((c : Thread nD τ).loc main_v4) :=
  arrG (pE m) (pN m) (m (c, Proc.devRef .tc main_arg5)) (m (c, Proc.devRef .tc main_arg6)) (V m c main_v1) (V m c main_v2)

theorem idx1 : ∀ t : Fin grid0.N, cc0_transform_4 (grid0.coords t) (0 : Fin 2) = t.val ∧ cc0_transform_4 (grid0.coords t) (1 : Fin 2) = 0 := by decide +kernel

theorem flushed_eq (hO : Ok m) (h1 : 1 ≤ (pN m (ix1 0)).toNat) (h2 : (pN m (ix1 0)).toNat ≤ 160) (t : Fin (cfgM m hO).N) :
    (dats m hO 0 c).flushed 2 t = (((cfgM m hO).win 2).blk t).view.read (Elt Ideal) (resG m c) := by
  show ((cfgM m hO).win 2).cut (grid0.coords t) ((dats m hO 0 c).after 2 t) = _
  rw [after0_2]
  refine funext fun (j : S256x1024.Idx) => ?_
  obtain ⟨i, d, rfl⟩ : ∃ (i : Fin 256) (d : Fin 1024), j = ix2 i d := ⟨j 0, j 1, eq_ix2 j⟩
  obtain ⟨e0, e1⟩ := idx1 t
  have hE : (((cfgM m hO).win 2).blk t).view.emb (ix2 i d) = ix2 (row t i) d := by
    funext a; apply Fin.ext
    match a with
    | ⟨0, _⟩ => show cc0_transform_4 (grid0.coords t) (0 : Fin 2) * 256 + 1 * i.val = t.val * 256 + i.val; rw [e0]; omega
    | ⟨1, _⟩ => show cc0_transform_4 (grid0.coords t) (1 : Fin 2) * 1024 + 1 * d.val = d.val; rw [e1]; omega
  show outAt (F := Ideal) m hO c t (ix2 i d) = resG m c ((((cfgM m hO).win 2).blk t).view.emb (ix2 i d))
  rw [hE]
  have n3 : (pN m (ix1 0)).toInt = (pN m (ix1 0)).toNat := by
    rcases toInt_cases (pN m (ix1 0)) with h | h <;> omega
  have use : Use m c t ↔ t.val < (pN m (ix1 0)).toNat := by
    unfold Use; rw [cond1_iff, jN_eq, n3]; exact Nat.cast_lt
  refine Eq.trans ?_ (arr_row _ _ _ _ _ _ t i d).symm
  unfold outAt
  by_cases hu : t.val < (pN m (ix1 0)).toNat
  · rw [if_pos (use.2 hu), if_pos hu]
    refine (pay2_at _ _ _ _ i d).trans ?_
    unfold hidAt
    rw [jE_eq]
    exact hid_congr (fun k => in0 m c hO h1 h2 t hu i k) (fun k => in1 m c hO t k) (fun k => BG_at c _ _ k d) (fun k => BU_at c _ _ k d)
  · rw [if_neg (fun h => hu (use.1 h)), if_neg hu]
    exact pay3_at i d

theorem cover (hO : Ok m) (i : S40960x1024.Idx) : ∃ t : Fin (cfgM m hO).N, ((cfgM m hO).win 2).flush t = true ∧ i ∈ (((cfgM m hO).win 2).blk t).view.set := by
  have h0 : (i 0).val < 40960 := (i 0).isLt
  have h1 : (i 1).val < 1024 := (i 1).isLt
  obtain ⟨t, ht⟩ : ∃ t : Fin grid0.N, t.val = (i 0).val / 256 := ⟨⟨(i 0).val / 256, by show _ < 160; omega⟩, rfl⟩
  obtain ⟨e0, e1⟩ := idx1 t
  refine ⟨t, flush0_2 _ _, ?_⟩
  show i ∈ ((View.whole main_v4).slice (((cfgM m hO).win 2).rect t)).set
  refine Eq.mpr (congrArg (i ∈ ·) (View.set_slice_whole _ _)) ?_
  refine Rect.mem_set_unit.2 ?_
  intro a
  match a with
  | ⟨0, _⟩ =>
    show cc0_transform_4 (grid0.coords t) (0 : Fin 2) * 256 ≤ (i 0).val ∧ (i 0).val < cc0_transform_4 (grid0.coords t) (0 : Fin 2) * 256 + 256
    rw [e0, ht]; omega
  | ⟨1, _⟩ =>
    show cc0_transform_4 (grid0.coords t) (1 : Fin 2) * 1024 ≤ (i 1).val ∧ (i 1).val < cc0_transform_4 (grid0.coords t) (1 : Fin 2) * 1024 + 1024
    rw [e1]; omega

theorem finalG (hO : Ok m) (h1 : 1 ≤ (pN m (ix1 0)).toNat) (h2 : (pN m (ix1 0)).toNat ≤ 160) : (dats m hO 0 c).arrAt 2 (cfgM m hO).N = resG m c :=
  (dats m hO 0 c).arrAt_eq_of_cover 2 (resG m c) (fun t _ => flushed_eq m c hO h1 h2 t) (cover m hO)

theorem run_value (h1 : 1 ≤ (pN m (ix1 0)).toNat) (h2 : (pN m (ix1 0)).toNat ≤ 160) (hP : ∀ c, Plan m c) :
    θ_run defs (onTc (τ := τ) (main (F := Ideal))) ⟨m, fun _ => 0, ρ⟩ (fun r => ∀ c : Dev nD,
      r.2.mem ((c.tc : Thread nD τ).loc main_v4) = resG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  have hO := ok_of m h1 h2
  (θ_run defs _ _).mono (fun r h c => And.intro ((h.1 c).trans (finalG m c hO h1 h2)) (h.2 c))
    (θ_run_and ((θ_run defs _ _).mono (fun r h c => (h c).1 2) (run_main m ρ hO hP)) (unchanged m ρ hO hP))

end Cert.Kernel3Ideal.Gate

end
-- ==== Proof.GateRef.lean ====
/- The reference of the gate and up projections, at an index. -/
module

public import proofs.«01_k».proof.Proof.Gen.Reference3Ideal.Read
public import proofs.«01_k».proof.Proof.PlanWords
public import proofs.«01_k».proof.Proof.GateSpec
public import Idealize.ShloMosaic.Lib.IdealHost

@[expose] public section

set_option maxRecDepth 16384

noncomputable section

namespace Cert.Reference3Ideal.Gate

open Idealize.ShloMosaic Idealize.ShloMosaic.TcCoe Idealize.ShloMosaic.Tactic
open Cert.Reference3Ideal Cert.Reference3Ideal.Gen Cert.Reference3Ideal.Read Cert.Hidden

theorem gatherExpert (x : S32x2048x1024.Idx → EReal) (idx : S160x1.Idx → BitVec 32) (t : Fin 160) (k : Fin 2048) (n : Fin 1024) :
    Host.gather gather_S32x2048x1024_S160x1_S160x2048x1024_12_0_n_n_0_1_120481024 x idx (ix3 t k n)
      = x (ix3 ⟨min (idx (ix2 t 0)).toInt.toNat 31, by omega⟩ k n) := by
  generalize hd : gather_S32x2048x1024_S160x1_S160x2048x1024_12_0_n_n_0_1_120481024 = d
  have h1 : d.offsetDims = [1, 2] := by rw [← hd]; rfl
  have h2 : d.collapsedSliceDims = [0] := by rw [← hd]; rfl
  have h3 : d.operandBatchingDims = [] := by rw [← hd]; rfl
  have h4 : d.startIndicesBatchingDims = [] := by rw [← hd]; rfl
  have h5 : d.startIndexMap = [0] := by rw [← hd]; rfl
  have h6 : d.indexVectorDim = 1 := by rw [← hd]; rfl
  have h7 : d.sliceSizes = ![1, 2048, 1024] := by rw [← hd]; rfl
  clear hd
  obtain ⟨d1, d2, d3, d4, d5, d6, d7, wf⟩ := d
  simp only at h1 h2 h3 h4 h5 h6 h7
  subst h1 h2 h3 h4 h5 h6 h7
  unfold Host.gather
  congr 1
  funext b
  refine Fin.ext ?_
  match b with
  | ⟨0, _⟩ =>
    refine congrArg (fun i => min (idx i).toInt.toNat 31) ?_
    funext b; refine Fin.ext ?_
    match b with
    | ⟨0, _⟩ => rfl
    | ⟨1, _⟩ => rfl
  | ⟨1, _⟩ => exact Nat.zero_add _
  | ⟨2, _⟩ => exact Nat.zero_add _

variable (x0 : S160.Idx → BitVec 32) (x2 : S1.Idx → BitVec 32) (x5 : S40960x2048.Idx → EReal) (x6 : S1x2048.Idx → EReal) (x7 x8 : S4x8x2048x1024.Idx → EReal)

/-- The row block of a row. -/
def blkOf (r : Fin 40960) : Fin 160 := ⟨r.val / 256, by omega⟩

/-- A row's place in its block. -/
def subOf (r : Fin 40960) : Fin 256 := ⟨r.val % 256, Nat.mod_lt _ (by decide)⟩

/-- The expert a block's word selects. -/
def expOf (w : BitVec 32) : Fin 32 := ⟨min w.toInt.toNat 31, by omega⟩

theorem gate_at (t : Fin 160) (k : Fin 2048) (n : Fin 1024) :
    val_main_v16 (F := Ideal) x0 x7 (ix3 t k n) = val_main_v15 (F := Ideal) x7 (ix3 (expOf (x0 (ix1 t))) k n) := by
  unfold val_main_v16
  generalize val_main_v15 (F := Ideal) x7 = y
  refine (gatherExpert y _ t k n).trans ?_
  have e : val_main_call0_v0 (F := Ideal) x0 (ix2 t 0) = x0 (ix1 t) :=
    (val_main_call0_v0_apply x0 _).trans (congrArg x0 (funext fun a => Fin.ext (by match a with | ⟨0, _⟩ => rfl)))
  exact congrArg (fun v : BitVec 32 => y (ix3 (expOf v) k n)) e

theorem up_at (t : Fin 160) (k : Fin 2048) (n : Fin 1024) :
    val_main_v19 (F := Ideal) x0 x8 (ix3 t k n) = val_main_v18 (F := Ideal) x8 (ix3 (expOf (x0 (ix1 t))) k n) := by
  unfold val_main_v19
  generalize val_main_v18 (F := Ideal) x8 = y
  refine (gatherExpert y _ t k n).trans ?_
  have e : val_main_call1_v0 (F := Ideal) x0 (ix2 t 0) = x0 (ix1 t) :=
    (val_main_call1_v0_apply x0 _).trans (congrArg x0 (funext fun a => Fin.ext (by match a with | ⟨0, _⟩ => rfl)))
  exact congrArg (fun v : BitVec 32 => y (ix3 (expOf v) k n)) e

/-- The reference's row over its root mean square. -/
theorem rms_at (r : Fin 40960) :
    val_main_v8 (F := Ideal) x5 (ix2 r 0)
      = Ideal.rsqrt (Ideal.div (∑ l : Fin 2048, x5 (ix2 r l) * x5 (ix2 r l)) (Ideal.ofBits .f32 0x45000000#32) + Ideal.ofBits .f32 0x358637BD#32) := by
  rw [val_main_v8_apply, val_main_v7_apply, val_main_v5_apply, val_main_v3_apply, val_main_v4_apply, val_main_v6_apply, val_main_v2_apply, val_main_cst_apply,
    val_main_cst_0_apply, val_main_cst_1_apply]
  simp only [Ideal.hostUnary_rsqrt_def, Ideal.addf_def, Ideal.hostDivf_def, Ideal.ofBits_def, Ideal.ofBits_zero_f32, zero_add]
  refine congrArg (fun s => Ideal.rsqrt (Ideal.div s _ + _)) (Finset.sum_congr rfl fun l _ => ?_)
  have hi : idx_main_v2 (idx_main_v3 (ix2 r 0)) l = ix2 r l := by
    funext a; refine Fin.ext ?_
    match a with
    | ⟨0, _⟩ => rfl
    | ⟨1, _⟩ => rfl
  rw [hi]
  rfl

theorem nrm_at (r : Fin 40960) (k : Fin 2048) :
    val_main_v13 (F := Ideal) x5 x6 (ix2 r k) = nrm (fun l => x5 (ix2 r l)) (fun l => x6 (ix2 0 l)) k := by
  rw [val_main_v13_apply, val_main_v10_apply, val_main_v9_apply, val_main_v12_apply, val_main_v11_apply, val_main_v0_apply]
  have h1 : idx_main_v9 (ix2 r k) = ix2 r 0 := by
    funext a; refine Fin.ext ?_
    match a with
    | ⟨0, _⟩ => rfl
    | ⟨1, _⟩ => rfl
  have h2 : idx_main_v0 (idx_main_v11 (idx_main_v12 (ix2 r k))) = ix2 0 k := by
    funext a; refine Fin.ext ?_
    match a with
    | ⟨0, _⟩ => rfl
    | ⟨1, _⟩ => exact Nat.mod_eq_of_lt k.isLt
  rw [h1, h2, rms_at]
  rfl

theorem row_at (r : Fin 40960) (k : Fin 2048) :
    val_main_v14 (F := Ideal) x5 x6 (ix3 (blkOf r) (subOf r) k) = nrm (fun l => x5 (ix2 r l)) (fun l => x6 (ix2 0 l)) k := by
  rw [val_main_v14_apply]
  refine (congrArg (val_main_v13 (F := Ideal) x5 x6) ?_).trans (nrm_at x5 x6 r k)
  funext a; refine Fin.ext ?_
  have := k.isLt
  match a with
  | ⟨0, _⟩ => show ((r.val / 256 * 256 + r.val % 256) * 2048 + k.val) / 2048 = r.val; omega
  | ⟨1, _⟩ => show ((r.val / 256 * 256 + r.val % 256) * 2048 + k.val) % 2048 = k.val; omega

/-- The gate's product. -/
theorem dotG_at (r : Fin 40960) (n : Fin 1024) :
    val_main_v17 (F := Ideal) x0 x5 x6 x7 (ix3 (blkOf r) (subOf r) n)
      = ∑ k : Fin 2048, nrm (fun l => x5 (ix2 r l)) (fun l => x6 (ix2 0 l)) k * val_main_v15 (F := Ideal) x7 (ix3 (expOf (x0 (ix1 (blkOf r)))) k n) := by
  rw [val_main_v17_apply]
  refine Finset.sum_congr rfl fun k _ => congrArg₂ (· * ·) ?_ ?_
  · refine Eq.trans (congrArg (val_main_v14 (F := Ideal) x5 x6) ?_) (row_at x5 x6 r k)
    funext a; refine Fin.ext ?_
    match a with
    | ⟨0, _⟩ => rfl
    | ⟨1, _⟩ => rfl
    | ⟨2, _⟩ => rfl
  · refine Eq.trans (congrArg (val_main_v16 (F := Ideal) x0 x7) ?_) (gate_at x0 x7 (blkOf r) k n)
    funext a; refine Fin.ext ?_
    match a with
    | ⟨0, _⟩ => rfl
    | ⟨1, _⟩ => rfl
    | ⟨2, _⟩ => rfl

theorem dotU_at (r : Fin 40960) (n : Fin 1024) :
    val_main_v20 (F := Ideal) x0 x5 x6 x8 (ix3 (blkOf r) (subOf r) n)
      = ∑ k : Fin 2048, nrm (fun l => x5 (ix2 r l)) (fun l => x6 (ix2 0 l)) k * val_main_v18 (F := Ideal) x8 (ix3 (expOf (x0 (ix1 (blkOf r)))) k n) := by
  rw [val_main_v20_apply]
  refine Finset.sum_congr rfl fun k _ => congrArg₂ (· * ·) ?_ ?_
  · refine Eq.trans (congrArg (val_main_v14 (F := Ideal) x5 x6) ?_) (row_at x5 x6 r k)
    funext a; refine Fin.ext ?_
    match a with
    | ⟨0, _⟩ => rfl
    | ⟨1, _⟩ => rfl
    | ⟨2, _⟩ => rfl
  · refine Eq.trans (congrArg (val_main_v19 (F := Ideal) x0 x8) ?_) (up_at x0 x8 (blkOf r) k n)
    funext a; refine Fin.ext ?_
    match a with
    | ⟨0, _⟩ => rfl
    | ⟨1, _⟩ => rfl
    | ⟨2, _⟩ => rfl

theorem act_at (i : S160x256x1024.Idx) :
    val_main_v22 (F := Ideal) x0 x5 x6 x7 x8 i
      = val_main_v17 (F := Ideal) x0 x5 x6 x7 i * Ideal.logistic (val_main_v17 (F := Ideal) x0 x5 x6 x7 i) * val_main_v20 (F := Ideal) x0 x5 x6 x8 i := by
  rw [val_main_v22_apply, val_main_v21_apply, val_main_call2_v5_apply, val_main_call2_v4_apply, val_main_call2_v3_apply, val_main_call2_v2_apply,
    val_main_call2_v1_apply, val_main_call2_v0_apply, val_main_call2_cst_apply, val_main_call2_cst_0_apply]
  generalize val_main_v17 (F := Ideal) x0 x5 x6 x7 i = G
  generalize val_main_v20 (F := Ideal) x0 x5 x6 x8 i = U
  have one : (FloatOps.ofBits (F := Ideal) .f32 0x3F800000#32 : EReal) = 1 := Ideal.ofBits_one_f32
  rw [one]
  rfl

theorem ref_at (r : Fin 40960) (n : Fin 1024) :
    val_main_v29 (F := Ideal) x0 x2 x5 x6 x7 x8 (ix2 r n)
      = if ((blkOf r).val : ℤ) < (x2 (ix1 0)).toInt then
          hid (fun k => x5 (ix2 r k)) (fun k => x6 (ix2 0 k)) (fun k => val_main_v15 (F := Ideal) x7 (ix3 (expOf (x0 (ix1 (blkOf r)))) k n))
            (fun k => val_main_v18 (F := Ideal) x8 (ix3 (expOf (x0 (ix1 (blkOf r)))) k n))
        else 0 := by
  rw [val_main_v29_apply, val_main_v28_apply]
  have hi : idx_main_v28 (ix2 r n) = ix3 (blkOf r) (subOf r) n := by
    funext a; refine Fin.ext ?_
    have := n.isLt
    match a with
    | ⟨0, _⟩ => show (r.val * 1024 + n.val) / 262144 = r.val / 256; omega
    | ⟨1, _⟩ => show (r.val * 1024 + n.val) / 1024 % 256 = r.val % 256; omega
    | ⟨2, _⟩ => show (r.val * 1024 + n.val) % 1024 = n.val; omega
  rw [hi, val_main_v27_apply, val_main_call3_v1_apply, val_main_v26_apply, val_main_v25_apply, val_main_v23_apply, val_main_v24_apply]
  unfold Scalar.select
  refine if_congr ?_ ?_ ?_
  · show BitVec.ofBool _ = 1#1 ↔ _
    rw [Cert.Plan.ofBool1, Cert.Plan.slt_iff]
    rw [show (BitVec.ofNat 32 ((idx_main_v26 (idx_main_call3_v1 (ix3 (blkOf r) (subOf r) n))) 0).val) = BitVec.ofNat 32 (blkOf r).val from rfl,
      Cert.Plan.ofNat_toInt (by omega)]
    rw [show idx_main_v24 (idx_main_v26 (idx_main_call3_v1 (ix3 (blkOf r) (subOf r) n))) = ix1 0 from
      funext fun a => Fin.ext (by match a with | ⟨0, _⟩ => rfl)]
  · rw [act_at, dotG_at, dotU_at]
    rfl
  · rw [val_main_call3_v2_apply]
    exact Ideal.ofBits_zero_f32

end Cert.Reference3Ideal.Gate

end
-- ==== Proof.GateSame.lean ====
/- The gate projection's kernel and its idealization are one program. -/
module

public import proofs.«01_k».proof.Proof.Gen.Kernel3
public import proofs.«01_k».proof.Proof.GateFrame

@[expose] public section

noncomputable section

namespace Cert.Kernel3Ideal.Gate

open Idealize.ShloMosaic Idealize.SL.Sem

variable {F : FTy → Type} [FloatOps F]

theorem defs₀_eq : @Cert.Kernel3.defs₀ F _ Cert.Kernel3.Gen.facts = @Cert.Kernel3Ideal.defs₀ F _ Cert.Kernel3Ideal.Gen.facts := by
  unfold Cert.Kernel3.defs₀ Cert.Kernel3Ideal.defs₀
  refine congrArg Defs.onTc (funext fun l => funext fun x => ?_)
  match l, x with
  | 0, (t, s) => rfl

/-- The two body tables are equal, over any float values. -/
theorem defs_eq : @Cert.Kernel3.defs F _ Cert.Kernel3.Gen.facts = @Cert.Kernel3Ideal.defs F _ Cert.Kernel3Ideal.Gen.facts :=
  congrArg (Pipeline.defs Cert.Kernel3.pcfgs) defs₀_eq

end Cert.Kernel3Ideal.Gate

end
-- ==== Proof.Block.lean ====
/- What one block of the kernel computes: at every query and column, the weighted mean that the query's scores against
   its band of keys take of the values. -/
module

public import proofs.«01_k».proof.Proof.Gen.KernelIdeal.Value
public import proofs.«01_k».proof.Proof.Spec
public import Idealize.ShloMosaic.Lib.Pointwise
public import Idealize.ShloMosaic.Lib.Pipeline.ValueKit.Tiles

@[expose] public section

set_option maxRecDepth 16384

noncomputable section

namespace Cert.NA

open Idealize.ShloMosaic Idealize.ShloMosaic.TcCoe Idealize.ShloMosaic.Tactic
open Cert.KernelIdeal Cert.KernelIdeal.Gen

theorem scale_named : (Named.named (F := Ideal) κ "scale" (0x3E0293EE#32 : BitVec (FTy.f32).bits) : Ideal .f32)
    = ((sc * lg : ℝ) : EReal) :=
  IdealRules.named_const.ideal_named_scalar _ _ _ _ rfl

theorem log2e_named : (Named.named (F := Ideal) κ "log2e" (0x3FB8AA3B#32 : BitVec (FTy.f32).bits) : Ideal .f32)
    = ((lg : ℝ) : EReal) :=
  IdealRules.named_const.ideal_named_scalar _ _ _ _ rfl

theorem neg_inf : Ideal.ofBits .f32 0xFF800000#32 = ⊥ := by simp [Ideal.ofBits, Ideal.ieee]

/-- The queries, normalised and scaled. -/
theorem qn_apply (x : Vec Ideal S2048x128 .bf16) (g : Vec Ideal S1x128 .f32) (t : Fin 2048) (d : Fin 128) :
    k0_pay2 x g (ix2 t d)
      = rms (fun e => x (ix2 t e)) (fun e => g (ix2 0 e)) d * ((sc * lg : ℝ) : EReal) := by
  pointwise [k0_pay2]
  rw [scale_named]; rfl

/-- The keys, normalised. -/
theorem kn_apply (x : Vec Ideal S2048x128 .bf16) (g : Vec Ideal S1x128 .f32) (t : Fin 2048) (d : Fin 128) :
    k0_pay4 (k0_pay3 x g) (ix2 t d) = rms (fun e => x (ix2 t e)) (fun e => g (ix2 0 e)) d := by
  pointwise [k0_pay3, k0_pay4]
  rfl

/-- One row group: the weighted mean of the first half of the values over that of the second half. -/
theorem grp_apply (q : Vec Ideal S256x128 .bf16) (k : Vec Ideal S768x128 .bf16) (b : Vec Ideal S1x1x256x768 .f32)
    (va : Vec Ideal S768x256 .bf16) (t : Fin 256) (d : Fin 128) (s : Fin 768 → EReal)
    (hs : ∀ j, (∑ e, q (ix2 t e) * k (ix2 j e) + b (ix4 0 0 t j) * (lg : EReal) : EReal) = s j) :
    k0_pay7 q k b va (ix2 t d)
      = Ideal.div (∑ j, Ideal.exp2 (s j - Finset.univ.sup s) * va (ix2 j ⟨d.val, by omega⟩))
          (∑ j, Ideal.exp2 (s j - Finset.univ.sup s) * va (ix2 j ⟨128 + d.val, by omega⟩)) := by
  pointwise [k0_pay7]
  rw [log2e_named, neg_inf]
  simp only [hs]
  rfl

/-- The values beside a block of ones. -/
theorem va_apply (v w : Vec Ideal S2048x128 .bf16) (j : Fin 2048) (e : Fin 256) (h0 h1) :
    View.canon (Val := Elt Ideal) [⟨Rect.unit (s := S2048x256) ![0, 128] ![2048, 128] h1, w⟩,
      ⟨Rect.unit (s := S2048x256) ![0, 0] ![2048, 128] h0, v⟩] (ix2 j e)
      = if h : e.val < 128 then v (ix2 j ⟨e.val, h⟩) else w (ix2 j ⟨e.val - 128, by omega⟩) := by
  apply View.canon_eq_of_allAt
  · by_cases h : e.val < 128
    · refine ⟨⟨Rect.unit (s := S2048x256) ![0, 0] ![2048, 128] h0, v⟩, List.mem_cons_of_mem _ List.mem_cons_self,
        ?_⟩
      rw [Rect.mem_set_unit]; intro a
      match a with
      | ⟨0, _⟩ => exact ⟨Nat.zero_le _, by show j.val < 0 + 2048; omega⟩
      | ⟨1, _⟩ => exact ⟨Nat.zero_le _, by show e.val < 0 + 128; omega⟩
    · refine ⟨⟨Rect.unit (s := S2048x256) ![0, 128] ![2048, 128] h1, w⟩, List.mem_cons_self, ?_⟩
      rw [Rect.mem_set_unit]; intro a
      match a with
      | ⟨0, _⟩ => exact ⟨Nat.zero_le _, by show j.val < 0 + 2048; omega⟩
      | ⟨1, _⟩ => exact ⟨by show 128 ≤ e.val; omega, by show e.val < 128 + 128; omega⟩
  · refine View.allAt_cons_unit _ _ _ _ _ (fun x hx => ?_) (View.allAt_cons_unit _ _ _ _ _ (fun x hx => ?_) (View.allAt_nil _ _))
    · obtain ⟨a, b, rfl⟩ : ∃ (a : Fin 2048) (b : Fin 128), x = ix2 a b := ⟨x 0, x 1, eq_ix2 x⟩
      have h0 : j.val = 0 + a.val := hx 0
      have h1 : e.val = 128 + b.val := hx 1
      rw [dif_neg (by omega)]
      obtain rfl : j = a := Fin.ext (by omega)
      congr 2
      apply Fin.ext; show b.val = e.val - 128; omega
    · obtain ⟨a, b, rfl⟩ : ∃ (a : Fin 2048) (b : Fin 128), x = ix2 a b := ⟨x 0, x 1, eq_ix2 x⟩
      have h0 : j.val = 0 + a.val := hx 0
      have h1 : e.val = 0 + b.val := hx 1
      rw [dif_pos (by omega)]
      obtain rfl : j = a := Fin.ext (by omega)
      congr 2
      apply Fin.ext; show b.val = e.val; omega

/-- What a block holds at query `t` and column `d`. -/
def blk (x0 x1 x2 : Vec Ideal S2048x128 .bf16) (x3 x4 : Vec Ideal S1x128 .f32) (x5 : Vec Ideal S1x3x256x768 .f32)
    (t : Fin 2048) (d : Fin 128) : EReal :=
  mean2 (score2 (rms (fun e => x0 (ix2 t e)) (fun e => x3 (ix2 0 e)))
      (fun j => rms (fun e => x1 (ix2 (key (t.val / 256) j) e)) (fun e => x4 (ix2 0 e)))
      (fun j => x5 (ix4 0 (pat (t.val / 256)) ⟨t.val % 256, Nat.mod_lt _ (by norm_num)⟩ j)))
    (fun j => x2 (ix2 (key (t.val / 256) j) d))

/-- Row group `g`'s piece of the block, from the loads it makes. -/
theorem piece (x0 x1 x2 : Vec Ideal S2048x128 .bf16) (x3 x4 : Vec Ideal S1x128 .f32) (x5 : Vec Ideal S1x3x256x768 .f32)
    (t : Fin 2048) (d : Fin 128) (g : ℕ) (q : Vec Ideal S256x128 .bf16) (k : Vec Ideal S768x128 .bf16)
    (b : Vec Ideal S1x1x256x768 .f32) (va : Vec Ideal S768x256 .bf16)
    (hq : ∀ (u : Fin 256) (e : Fin 128) (h : g * 256 + u.val < 2048), q (ix2 u e) = k0_pay2 x0 x3 (ix2 ⟨g * 256 + u.val, h⟩ e))
    (hk : ∀ j e, k (ix2 j e) = k0_pay4 (k0_pay3 x1 x4) (ix2 (key g j) e))
    (hb : ∀ u j, b (ix4 0 0 u j) = x5 (ix4 0 (pat g) u j))
    (hv : ∀ (j : Fin 768) (d : Fin 128), va (ix2 j ⟨d.val, by omega⟩) = x2 (ix2 (key g j) d))
    (ho : ∀ (j : Fin 768) (d : Fin 128), va (ix2 j ⟨128 + d.val, by omega⟩) = (1 : EReal)) :
    View.TileAt (Val := Elt Ideal) (e := .bf16) (S := S2048x128) (ix2 t d) ![g * 256, 0] ![256, 128] (k0_pay7 q k b va)
      (blk x0 x1 x2 x3 x4 x5 t d) := by
  intro x hx
  have h0 : t.val = g * 256 + (x 0).val := hx 0
  have h1 : d.val = 0 + (x 1).val := hx 1
  have h2 : (x 0).val < 256 := (x 0).isLt
  obtain ⟨u, e, rfl⟩ : ∃ (u : Fin 256) (e : Fin 128), x = ix2 u e := ⟨x 0, x 1, eq_ix2 x⟩
  have h0 : t.val = g * 256 + u.val := h0
  have h1 : d = e := Fin.ext (by simpa using h1)
  subst h1
  have hg : t.val / 256 = g := by omega
  have hu : t.val % 256 = u.val := by omega
  have ht : (⟨g * 256 + u.val, by omega⟩ : Fin 2048) = t := Fin.ext h0.symm
  rw [grp_apply q k b va u d (score2 (rms (fun e => x0 (ix2 t e)) (fun e => x3 (ix2 0 e)))
      (fun j => rms (fun e => x1 (ix2 (key g j) e)) (fun e => x4 (ix2 0 e))) (fun j => x5 (ix4 0 (pat g) u j)))]
  · unfold blk mean2
    simp only [hg, hu, hv, ho]
  · intro j
    unfold score2
    simp only [hk, hb, hq u _ (by omega), ht, qn_apply, kn_apply]

/-! The eight row groups run the same operations. -/

theorem pay8 : k0_pay8 (F := Ideal) = k0_pay7 := rfl
theorem pay9 (q : Vec Ideal S256x128 .bf16) (k : Vec Ideal S768x128 .bf16) (b : Vec Ideal S1x1x256x768 .f32)
    (va : Vec Ideal S768x256 .bf16) : k0_pay11 (k0_pay9 q k b) (k0_pay10 q k b) va = k0_pay7 q k b va := rfl
theorem pay12 : k0_pay12 (F := Ideal) = k0_pay7 := rfl
theorem pay13 : k0_pay13 (F := Ideal) = k0_pay7 := rfl
theorem pay14 (q : Vec Ideal S256x128 .bf16) (k : Vec Ideal S768x128 .bf16) (b : Vec Ideal S1x1x256x768 .f32)
    (va : Vec Ideal S768x256 .bf16) : k0_pay15 (k0_pay14 q k b) va = k0_pay7 q k b va := rfl
theorem pay16 : k0_pay16 (F := Ideal) = k0_pay7 := rfl
theorem pay17 (q : Vec Ideal S256x128 .bf16) (k : Vec Ideal S768x128 .bf16) (b : Vec Ideal S1x1x256x768 .f32)
    (va : Vec Ideal S768x256 .bf16) : k0_pay1 (k0_pay17 q k) b va = k0_pay7 q k b va := rfl

/-! Loads and stores of a whole buffer. -/

theorem zero2 : (![0, 0] : Fin 2 → ℕ) = 0 := by funext a; match a with | ⟨0, _⟩ => rfl | ⟨1, _⟩ => rfl
theorem ldX (X : Vec Ideal S2048x128 .bf16) (h) :
    View.ld (Val := Elt Ideal) (S := S2048x128) (e' := .bf16) X (Rect.unit ![0, 0] ![2048, 128] h) = X := View.ld_unit_zero zero2 h X
theorem ldG (X : Vec Ideal S1x128 .f32) (h) :
    View.ld (Val := Elt Ideal) (S := S1x128) (e' := .f32) X (Rect.unit ![0, 0] ![1, 128] h) = X := View.ld_unit_zero zero2 h X
theorem canonX (X : Vec Ideal S2048x128 .bf16) (h) :
    View.canon (Val := Elt Ideal) (s := S2048x128) (e := .bf16) [⟨Rect.unit ![0, 0] ![2048, 128] h, X⟩] = X :=
  View.canon_cons_unit_zero zero2 h X []

/-- Where an index of a block of rows stands. -/
theorem idx_rows {n m k o l : ℕ} (h) (j : Fin k) (e : Fin l) (r : Fin n) (c : Fin m) (hr : r.val = o + j.val) (hc : c.val = e.val) :
    (Rect.unit (s := ⟨2, ![n, m]⟩) ![o, 0] ![k, l] h).idx (ix2 j e) = ix2 r c := by
  funext a
  match a with
  | ⟨0, _⟩ => exact Fin.ext (by show o + 1 * j.val = r.val; omega)
  | ⟨1, _⟩ => exact Fin.ext (by show 0 + 1 * e.val = c.val; omega)

/-- The block at an index. -/
theorem block_apply (c : Dev nD) (i : grid0.Coords) (arg2 : Memref sig .tc .vmem S2048x128 .bf16) (harg2 : arg2.IsWhole)
    (arg3 : Memref sig .tc .vmem S2048x128 .bf16) (harg3 : arg3.IsWhole) (arg4 : Memref sig .tc .vmem S2048x128 .bf16)
    (harg4 : arg4.IsWhole) (arg5 : Memref sig .tc .vmem S1x128 .f32) (harg5 : arg5.IsWhole)
    (arg6 : Memref sig .tc .vmem S1x128 .f32) (harg6 : arg6.IsWhole) (arg7 : Memref sig .tc .vmem S1x3x256x768 .f32)
    (harg7 : arg7.IsWhole) (arg8 : Memref sig .tc .vmem S2048x128 .bf16) (harg8 : arg8.IsWhole)
    (arg9 : Memref sig .tc .vmem S2048x128 .bf16) (harg9 : arg9.IsWhole) (arg10 : Memref sig .tc .vmem S2048x128 .bf16)
    (harg10 : arg10.IsWhole) (arg11 : Memref sig .tc .vmem S2048x256 .bf16) (harg11 : arg11.IsWhole)
    (x0 x1 x2 : Vec Ideal S2048x128 .bf16) (x3 x4 : Vec Ideal S1x128 .f32) (x5 : Vec Ideal S1x3x256x768 .f32)
    (t : Fin 2048) (d : Fin 128) :
    out0_A_6 (F := Ideal) c i arg2 harg2 arg3 harg3 arg4 harg4 arg5 harg5 arg6 harg6 arg7 harg7 arg8 harg8 arg9 harg9
      arg10 harg10 arg11 harg11 x0 x1 x2 x3 x4 x5 (ix2 t d) = blk x0 x1 x2 x3 x4 x5 t d := by
  unfold out0_A_6
  rw [View.read_writes_junk_eq_canon]
  have hcov := cover0_A_6 (F := Ideal) c i arg2 harg2 arg3 harg3 arg4 harg4 arg5 harg5 arg6 harg6 arg7 harg7 arg8 harg8 arg9 harg9
    arg10 harg10 arg11 harg11 x0 x1 x2 x3 x4 x5 (ix2 t d)
  refine View.canon_eq_of_allAt _ _ _ hcov ?_
  clear hcov
  unfold kernelRun0_A
  dsimp only
  sl_unfold_words
  simp only [View.readAt_eq_ld, harg2.read_unread, harg3.read_unread, harg4.read_unread, harg5.read_unread,
    harg6.read_unread, harg7.read_unread, View.readCov_eq_canon', ldX, ldG, canonX, pay8, pay9, pay12, pay13, pay14, pay16, pay17]
  have side : ∀ (g : ℕ) (o : ℕ) (p : Fin 3) (hg : g < 8) (ho : o = band g * 64) (hp : pat g = p)
      (h1 : ∀ a, (![g * 256, 0] : Fin 2 → ℕ) a + (![256, 128] : Fin 2 → ℕ) a ≤ S2048x128.size a)
      (h2 : ∀ a, (![o, 0] : Fin 2 → ℕ) a + (![768, 128] : Fin 2 → ℕ) a ≤ S2048x128.size a)
      (h3 : ∀ a, (![0, p.val, 0, 0] : Fin 4 → ℕ) a + (![1, 1, 256, 768] : Fin 4 → ℕ) a ≤ S1x3x256x768.size a)
      (h4 : ∀ a, (![o, 0] : Fin 2 → ℕ) a + (![768, 256] : Fin 2 → ℕ) a ≤ S2048x256.size a)
      (h5 h6),
      View.TileAt (Val := Elt Ideal) (e := .bf16) (S := S2048x128) (ix2 t d) ![g * 256, 0] ![256, 128]
        (k0_pay7 (fun j => k0_pay2 x0 x3 ((Rect.unit (s := S2048x128) ![g * 256, 0] ![256, 128] h1).idx j))
          (fun j => k0_pay4 (k0_pay3 x1 x4) ((Rect.unit (s := S2048x128) ![o, 0] ![768, 128] h2).idx j))
          (View.ld (Val := Elt Ideal) (S := S1x3x256x768) (e' := .f32) x5 (Rect.unit ![0, p.val, 0, 0] ![1, 1, 256, 768] h3))
          (fun j => View.canon (Val := Elt Ideal) [⟨Rect.unit (s := S2048x256) ![0, 128] ![2048, 128] h5, k0_pay6 (F := Ideal)⟩,
            ⟨Rect.unit (s := S2048x256) ![0, 0] ![2048, 128] h6, k0_pay5 (F := Ideal) x2⟩]
            ((Rect.unit (s := S2048x256) ![o, 0] ![768, 256] h4).idx j)))
        (blk x0 x1 x2 x3 x4 x5 t d) := by
    intro g o p hg ho hp h1 h2 h3 h4 h5 h6
    refine piece x0 x1 x2 x3 x4 x5 t d g _ _ _ _ ?_ ?_ ?_ ?_ ?_
    · intro u e h
      rw [idx_rows h1 u e ⟨g * 256 + u.val, h⟩ e rfl rfl]
    · intro j e
      rw [idx_rows h2 j e (key g j) e (by rw [ho]; rfl) rfl]
    · intro u j
      pointwise [hp]
    · intro j e
      rw [idx_rows h4 j ⟨e.val, by omega⟩ (key g j) ⟨e.val, by omega⟩ (by rw [ho]; rfl) rfl, va_apply, dif_pos e.isLt]
      pointwise [k0_pay5]
    · intro j e
      rw [idx_rows h4 j ⟨128 + e.val, by omega⟩ (key g j) ⟨128 + e.val, by omega⟩ (by rw [ho]; rfl) rfl, va_apply,
        dif_neg (by show ¬ 128 + e.val < 128; omega)]
      pointwise [k0_pay6]
  refine View.allAt_cons_unit _ _ _ _ _ (side 7 1280 2 (by norm_num) rfl rfl _ _ _ _ _ _) ?_
  refine View.allAt_cons_unit _ _ _ _ _ (side 6 1280 1 (by norm_num) rfl rfl _ _ _ _ _ _) ?_
  refine View.allAt_cons_unit _ _ _ _ _ (side 5 1024 1 (by norm_num) rfl rfl _ _ _ _ _ _) ?_
  refine View.allAt_cons_unit _ _ _ _ _ (side 4 768 1 (by norm_num) rfl rfl _ _ _ _ _ _) ?_
  refine View.allAt_cons_unit _ _ _ _ _ (side 3 512 1 (by norm_num) rfl rfl _ _ _ _ _ _) ?_
  refine View.allAt_cons_unit _ _ _ _ _ (side 2 256 1 (by norm_num) rfl rfl _ _ _ _ _ _) ?_
  refine View.allAt_cons_unit _ _ _ _ _ (side 1 0 1 (by norm_num) rfl rfl _ _ _ _ _ _) ?_
  refine View.allAt_cons_unit _ _ _ _ _ (side 0 0 0 (by norm_num) rfl rfl _ _ _ _ _ _) ?_
  exact View.allAt_nil _ _

end Cert.NA
end
-- ==== Proof.Bias.lean ====
/- The bias table that the host lays out: which entry of the relative-position parameters each of its entries is,
   every entry off the window being minus infinity. -/
module

public import proofs.«01_k».proof.Proof.Block
public import Idealize.ShloMosaic.Lib.StableHlo.RunRead
public import Idealize.ShloMosaic.Lib.StableHlo.ReadAt

@[expose] public section

set_option maxRecDepth 16384

noncomputable section

namespace Cert.NA

open Idealize.ShloMosaic Idealize.ShloMosaic.TcCoe Idealize.ShloMosaic.Tactic
open Cert.KernelIdeal Cert.KernelIdeal.Gen

/-- Three values as a family. -/
def three {α : Fin 3 → Type} (x : α 0) (y : α 1) (z : α 2) : (k : Fin 3) → α k
  | ⟨0, _⟩ => x
  | ⟨1, _⟩ => y
  | ⟨2, _⟩ => z

/-- Four values as a family. -/
def four {α : Fin 4 → Type} (x : α 0) (y : α 1) (z : α 2) (w : α 3) : (k : Fin 4) → α k
  | ⟨0, _⟩ => x
  | ⟨1, _⟩ => y
  | ⟨2, _⟩ => z
  | ⟨3, _⟩ => w

theorem three_0 {α : Fin 3 → Type} (x : α 0) (y : α 1) (z : α 2) : three x y z 0 = x := rfl
theorem three_1 {α : Fin 3 → Type} (x : α 0) (y : α 1) (z : α 2) : three x y z 1 = y := rfl
theorem three_2 {α : Fin 3 → Type} (x : α 0) (y : α 1) (z : α 2) : three x y z 2 = z := rfl
theorem four_0 {α : Fin 4 → Type} (x : α 0) (y : α 1) (z : α 2) (w : α 3) : four x y z w 0 = x := rfl
theorem four_1 {α : Fin 4 → Type} (x : α 0) (y : α 1) (z : α 2) (w : α 3) : four x y z w 1 = y := rfl
theorem four_2 {α : Fin 4 → Type} (x : α 0) (y : α 1) (z : α 2) (w : α 3) : four x y z w 2 = z := rfl
theorem four_3 {α : Fin 4 → Type} (x : α 0) (y : α 1) (z : α 2) (w : α 3) : four x y z w 3 = w := rfl

/-- A three-operand operation's result, each operand read at its own reference. -/
theorem nary3_read {x a b y : Ref sig .tc} {Val : EltTy → Type}
    (f : ((k : Fin 3) → ((![x, a, b] : Fin 3 → Ref sig .tc) k).ty.Contents Val) → y.ty.Contents Val) (hxs hy)
    (V : Valuation τ sig Val) :
    (StableHlo.nary (τ := τ) ![x, a, b] y f hxs hy).result V (no_index (Proc.devRef .tc y))
      = f (three (V (Proc.devRef .tc x)) (V (Proc.devRef .tc a)) (V (Proc.devRef .tc b))) := by
  rw [StableHlo.nary_result]; congr 1; funext k
  match k with
  | ⟨0, _⟩ => rfl
  | ⟨1, _⟩ => rfl
  | ⟨2, _⟩ => rfl

/-- A four-operand operation's result, each operand read at its own reference. -/
theorem nary4_read {x a b c y : Ref sig .tc} {Val : EltTy → Type}
    (f : ((k : Fin 4) → ((![x, a, b, c] : Fin 4 → Ref sig .tc) k).ty.Contents Val) → y.ty.Contents Val) (hxs hy)
    (V : Valuation τ sig Val) :
    (StableHlo.nary (τ := τ) ![x, a, b, c] y f hxs hy).result V (no_index (Proc.devRef .tc y))
      = f (four (V (Proc.devRef .tc x)) (V (Proc.devRef .tc a)) (V (Proc.devRef .tc b)) (V (Proc.devRef .tc c))) := by
  rw [StableHlo.nary_result]; congr 1; funext k
  match k with
  | ⟨0, _⟩ => rfl
  | ⟨1, _⟩ => rfl
  | ⟨2, _⟩ => rfl
  | ⟨3, _⟩ => rfl

theorem concat3_congr {α : Type} {T S0 S1 S2 : Shape} {d : Fin T.rank} {h : Shape.Concatenates [S0, S1, S2] T d}
    {A A' : S0.Idx → α} {B B' : S1.Idx → α} {C C' : S2.Idx → α} (hA : A = A') (hB : B = B') (hC : C = C') :
    concatenate T d [⟨S0, A⟩, ⟨S1, B⟩, ⟨S2, C⟩] h = concatenate T d [⟨S0, A'⟩, ⟨S1, B'⟩, ⟨S2, C'⟩] h := by
  subst hA hB hC; rfl

theorem concat4_congr {α : Type} {T S0 S1 S2 S3 : Shape} {d : Fin T.rank} {h : Shape.Concatenates [S0, S1, S2, S3] T d}
    {A A' : S0.Idx → α} {B B' : S1.Idx → α} {C C' : S2.Idx → α} {D D' : S3.Idx → α}
    (hA : A = A') (hB : B = B') (hC : C = C') (hD : D = D') :
    concatenate T d [⟨S0, A⟩, ⟨S1, B⟩, ⟨S2, C⟩, ⟨S3, D⟩] h
      = concatenate T d [⟨S0, A'⟩, ⟨S1, B'⟩, ⟨S2, C'⟩, ⟨S3, D'⟩] h := by
  subst hA hB hC hD; rfl

/-- The operations from the gather on. -/
def opsB : List (HloOp τ sig (Elt Ideal)) :=
  hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16 ++ (hostOps0_17 ++ (hostOps0_18 ++ (hostOps0_19 ++ (hostOps0_20 ++ (hostOps0_21 ++ (hostOps0_22 ++ (hostOps0_23 ++ (hostOps0_24 ++ (hostOps0_25 ++ (hostOps0_26 ++ (hostOps0_27 ++ (hostOps0_28))))))))))))))))))))))))

/-- One row of a bias pattern: a window of eight key rows from `wo` on, its parameters' rows from `lo` on, minus
    infinity off the window or where the mask is off. -/
def ent (wo lo : ℕ) (T : Fin 15 → Fin 64 → EReal) (M : Fin 64 → BitVec 1) (j : Fin 768) : EReal :=
  if wo ≤ j.val / 64 ∧ j.val / 64 < wo + 8 ∧ M ⟨j.val % 64, Nat.mod_lt _ (by decide)⟩ = 1#1 then
    T ⟨(j.val / 64 - wo + lo) % 15, Nat.mod_lt _ (by decide)⟩ ⟨j.val % 64, Nat.mod_lt _ (by decide)⟩
  else ⊥

theorem ent_congr {wo wo' lo lo' : ℕ} {T T' : Fin 15 → Fin 64 → EReal} {M M' : Fin 64 → BitVec 1} {j : Fin 768}
    (h1 : wo = wo') (h2 : lo = lo') (h3 : T = T') (h4 : M = M') : ent wo lo T M j = ent wo' lo' T' M' j := by
  subst h1 h2 h3 h4; rfl

/-- A window between two pads, read at a key. -/
theorem ent_of {wo lo : ℕ} (hlo : lo ≤ 7) {T : Fin 15 → Fin 64 → EReal} {M : Fin 64 → BitVec 1} {j : Fin 768} {v : EReal}
    (hoff : ¬ (wo ≤ j.val / 64 ∧ j.val / 64 < wo + 8) → v = ⊥)
    (hon : wo ≤ j.val / 64 → ∀ h : j.val / 64 < wo + 8, v = Scalar.select (M ⟨j.val % 64, Nat.mod_lt _ (by decide)⟩)
      (T ⟨lo + (j.val / 64 - wo), by omega⟩ ⟨j.val % 64, Nat.mod_lt _ (by decide)⟩) ⊥) :
    v = ent wo lo T M j := by
  unfold ent
  by_cases h : wo ≤ j.val / 64 ∧ j.val / 64 < wo + 8
  · rw [hon h.1 h.2]
    by_cases hm : M ⟨j.val % 64, Nat.mod_lt _ (by decide)⟩ = 1#1
    · rw [if_pos ⟨h.1, h.2, hm⟩, hm]
      have e : (j.val / 64 - wo + lo) % 15 = lo + (j.val / 64 - wo) := by
        rw [Nat.mod_eq_of_lt (by omega)]; omega
      simp only [e]; rfl
    · rw [if_neg (fun c => hm c.2.2)]
      exact if_neg hm
  · rw [hoff h, if_neg (fun c => h ⟨c.1, c.2.1⟩)]

variable (W : Valuation τ sig (Elt Ideal))

/-- The parameters' columns, gathered. -/
def cols (h : Fin 8) (c : Fin 64) (a : Fin 15) (k : Fin 64) : EReal :=
  (StableHlo.after opsB W (Proc.devRef .tc main_v36) : S8x15x64x64.Idx → EReal) (ix4 h a c k)

/-- The mask, by row. -/
def msk (c k : Fin 64) : BitVec 1 := (W (Proc.devRef .tc main_v21) : S64x64.Idx → BitVec 1) (ix2 c k)

theorem cat0 : StableHlo.after opsB W (Proc.devRef .tc main_v44)
    = shapeCast S8x64x768 (concatenate S8x64x12x64 2 [⟨S8x64x0x64, StableHlo.after opsB W (Proc.devRef .tc main_v41)⟩, ⟨S8x64x8x64, StableHlo.after opsB W (Proc.devRef .tc main_v40)⟩,
        ⟨S8x64x4x64, StableHlo.after opsB W (Proc.devRef .tc main_v42)⟩] concatenates_S8x64x0x64_S8x64x8x64_S8x64x4x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win0 (h : Fin 8) (c : Fin 64) (a : Fin 8) (k : Fin 64) : (StableHlo.after opsB W (Proc.devRef .tc main_v40) : S8x64x8x64.Idx → EReal) (ix4 h c a k)
    = Scalar.select (msk W c k) (cols W h c ⟨7 + a.val, by omega⟩ k) ⊥ := by
  unfold msk cols
  after_reads_at
  rw [← neg_inf]; rfl

theorem row0 (h : Fin 8) (c : Fin 64) (j : Fin 768) :
    (StableHlo.after opsB W (Proc.devRef .tc main_v44) : S8x64x768.Idx → EReal) (ix3 h c j) = ent 0 7 (cols W h c) (msk W c) j := by
  have hw := win0 W h c
  have hp : ∀ i, (StableHlo.after opsB W (Proc.devRef .tc main_v41) : S8x64x0x64.Idx → EReal) i = (⊥ : EReal) := fun i => by
    after_reads_simp; exact neg_inf
  have hq : ∀ i, (StableHlo.after opsB W (Proc.devRef .tc main_v42) : S8x64x4x64.Idx → EReal) i = (⊥ : EReal) := fun i => by
    after_reads_simp; exact neg_inf
  rw [cat0]
  generalize StableHlo.after opsB W (Proc.devRef .tc main_v40) = y at hw ⊢
  generalize StableHlo.after opsB W (Proc.devRef .tc main_v41) = x at hp ⊢
  generalize StableHlo.after opsB W (Proc.devRef .tc main_v42) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 0, by omega⟩ ⟨j.val % 64, Nat.mod_lt _ (by decide)⟩

theorem cat1 : StableHlo.after opsB W (Proc.devRef .tc main_v52)
    = shapeCast S8x64x768 (concatenate S8x64x12x64 2 [⟨S8x64x0x64, StableHlo.after opsB W (Proc.devRef .tc main_v49)⟩, ⟨S8x64x8x64, StableHlo.after opsB W (Proc.devRef .tc main_v48)⟩,
        ⟨S8x64x4x64, StableHlo.after opsB W (Proc.devRef .tc main_v50)⟩] concatenates_S8x64x0x64_S8x64x8x64_S8x64x4x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win1 (h : Fin 8) (c : Fin 64) (a : Fin 8) (k : Fin 64) : (StableHlo.after opsB W (Proc.devRef .tc main_v48) : S8x64x8x64.Idx → EReal) (ix4 h c a k)
    = Scalar.select (msk W c k) (cols W h c ⟨6 + a.val, by omega⟩ k) ⊥ := by
  unfold msk cols
  after_reads_at
  rw [← neg_inf]; rfl

theorem row1 (h : Fin 8) (c : Fin 64) (j : Fin 768) :
    (StableHlo.after opsB W (Proc.devRef .tc main_v52) : S8x64x768.Idx → EReal) (ix3 h c j) = ent 0 6 (cols W h c) (msk W c) j := by
  have hw := win1 W h c
  have hp : ∀ i, (StableHlo.after opsB W (Proc.devRef .tc main_v49) : S8x64x0x64.Idx → EReal) i = (⊥ : EReal) := fun i => by
    after_reads_simp; exact neg_inf
  have hq : ∀ i, (StableHlo.after opsB W (Proc.devRef .tc main_v50) : S8x64x4x64.Idx → EReal) i = (⊥ : EReal) := fun i => by
    after_reads_simp; exact neg_inf
  rw [cat1]
  generalize StableHlo.after opsB W (Proc.devRef .tc main_v48) = y at hw ⊢
  generalize StableHlo.after opsB W (Proc.devRef .tc main_v49) = x at hp ⊢
  generalize StableHlo.after opsB W (Proc.devRef .tc main_v50) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 0, by omega⟩ ⟨j.val % 64, Nat.mod_lt _ (by decide)⟩

theorem cat2 : StableHlo.after opsB W (Proc.devRef .tc main_v60)
    = shapeCast S8x64x768 (concatenate S8x64x12x64 2 [⟨S8x64x0x64, StableHlo.after opsB W (Proc.devRef .tc main_v57)⟩, ⟨S8x64x8x64, StableHlo.after opsB W (Proc.devRef .tc main_v56)⟩,
        ⟨S8x64x4x64, StableHlo.after opsB W (Proc.devRef .tc main_v58)⟩] concatenates_S8x64x0x64_S8x64x8x64_S8x64x4x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win2 (h : Fin 8) (c : Fin 64) (a : Fin 8) (k : Fin 64) : (StableHlo.after opsB W (Proc.devRef .tc main_v56) : S8x64x8x64.Idx → EReal) (ix4 h c a k)
    = Scalar.select (msk W c k) (cols W h c ⟨5 + a.val, by omega⟩ k) ⊥ := by
  unfold msk cols
  after_reads_at
  rw [← neg_inf]; rfl

theorem row2 (h : Fin 8) (c : Fin 64) (j : Fin 768) :
    (StableHlo.after opsB W (Proc.devRef .tc main_v60) : S8x64x768.Idx → EReal) (ix3 h c j) = ent 0 5 (cols W h c) (msk W c) j := by
  have hw := win2 W h c
  have hp : ∀ i, (StableHlo.after opsB W (Proc.devRef .tc main_v57) : S8x64x0x64.Idx → EReal) i = (⊥ : EReal) := fun i => by
    after_reads_simp; exact neg_inf
  have hq : ∀ i, (StableHlo.after opsB W (Proc.devRef .tc main_v58) : S8x64x4x64.Idx → EReal) i = (⊥ : EReal) := fun i => by
    after_reads_simp; exact neg_inf
  rw [cat2]
  generalize StableHlo.after opsB W (Proc.devRef .tc main_v56) = y at hw ⊢
  generalize StableHlo.after opsB W (Proc.devRef .tc main_v57) = x at hp ⊢
  generalize StableHlo.after opsB W (Proc.devRef .tc main_v58) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 0, by omega⟩ ⟨j.val % 64, Nat.mod_lt _ (by decide)⟩

theorem cat3 : StableHlo.after opsB W (Proc.devRef .tc main_v68)
    = shapeCast S8x64x768 (concatenate S8x64x12x64 2 [⟨S8x64x0x64, StableHlo.after opsB W (Proc.devRef .tc main_v65)⟩, ⟨S8x64x8x64, StableHlo.after opsB W (Proc.devRef .tc main_v64)⟩,
        ⟨S8x64x4x64, StableHlo.after opsB W (Proc.devRef .tc main_v66)⟩] concatenates_S8x64x0x64_S8x64x8x64_S8x64x4x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win3 (h : Fin 8) (c : Fin 64) (a : Fin 8) (k : Fin 64) : (StableHlo.after opsB W (Proc.devRef .tc main_v64) : S8x64x8x64.Idx → EReal) (ix4 h c a k)
    = Scalar.select (msk W c k) (cols W h c ⟨4 + a.val, by omega⟩ k) ⊥ := by
  unfold msk cols
  after_reads_at
  rw [← neg_inf]; rfl

theorem row3 (h : Fin 8) (c : Fin 64) (j : Fin 768) :
    (StableHlo.after opsB W (Proc.devRef .tc main_v68) : S8x64x768.Idx → EReal) (ix3 h c j) = ent 0 4 (cols W h c) (msk W c) j := by
  have hw := win3 W h c
  have hp : ∀ i, (StableHlo.after opsB W (Proc.devRef .tc main_v65) : S8x64x0x64.Idx → EReal) i = (⊥ : EReal) := fun i => by
    after_reads_simp; exact neg_inf
  have hq : ∀ i, (StableHlo.after opsB W (Proc.devRef .tc main_v66) : S8x64x4x64.Idx → EReal) i = (⊥ : EReal) := fun i => by
    after_reads_simp; exact neg_inf
  rw [cat3]
  generalize StableHlo.after opsB W (Proc.devRef .tc main_v64) = y at hw ⊢
  generalize StableHlo.after opsB W (Proc.devRef .tc main_v65) = x at hp ⊢
  generalize StableHlo.after opsB W (Proc.devRef .tc main_v66) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 0, by omega⟩ ⟨j.val % 64, Nat.mod_lt _ (by decide)⟩

theorem cat4 : StableHlo.after opsB W (Proc.devRef .tc main_v77)
    = shapeCast S8x64x768 (concatenate S8x64x12x64 2 [⟨S8x64x0x64, StableHlo.after opsB W (Proc.devRef .tc main_v74)⟩, ⟨S8x64x8x64, StableHlo.after opsB W (Proc.devRef .tc main_v73)⟩,
        ⟨S8x64x4x64, StableHlo.after opsB W (Proc.devRef .tc main_v75)⟩] concatenates_S8x64x0x64_S8x64x8x64_S8x64x4x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win4 (h : Fin 8) (c : Fin 64) (a : Fin 8) (k : Fin 64) : (StableHlo.after opsB W (Proc.devRef .tc main_v73) : S8x64x8x64.Idx → EReal) (ix4 h c a k)
    = Scalar.select (msk W c k) (cols W h c ⟨3 + a.val, by omega⟩ k) ⊥ := by
  unfold msk cols
  after_reads_at
  rw [← neg_inf]; rfl

theorem row4 (h : Fin 8) (c : Fin 64) (j : Fin 768) :
    (StableHlo.after opsB W (Proc.devRef .tc main_v77) : S8x64x768.Idx → EReal) (ix3 h c j) = ent 0 3 (cols W h c) (msk W c) j := by
  have hw := win4 W h c
  have hp : ∀ i, (StableHlo.after opsB W (Proc.devRef .tc main_v74) : S8x64x0x64.Idx → EReal) i = (⊥ : EReal) := fun i => by
    after_reads_simp; exact neg_inf
  have hq : ∀ i, (StableHlo.after opsB W (Proc.devRef .tc main_v75) : S8x64x4x64.Idx → EReal) i = (⊥ : EReal) := fun i => by
    after_reads_simp; exact neg_inf
  rw [cat4]
  generalize StableHlo.after opsB W (Proc.devRef .tc main_v73) = y at hw ⊢
  generalize StableHlo.after opsB W (Proc.devRef .tc main_v74) = x at hp ⊢
  generalize StableHlo.after opsB W (Proc.devRef .tc main_v75) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 0, by omega⟩ ⟨j.val % 64, Nat.mod_lt _ (by decide)⟩

theorem cat5 : StableHlo.after opsB W (Proc.devRef .tc main_v85)
    = shapeCast S8x64x768 (concatenate S8x64x12x64 2 [⟨S8x64x1x64, StableHlo.after opsB W (Proc.devRef .tc main_v82)⟩, ⟨S8x64x8x64, StableHlo.after opsB W (Proc.devRef .tc main_v81)⟩,
        ⟨S8x64x3x64, StableHlo.after opsB W (Proc.devRef .tc main_v83)⟩] concatenates_S8x64x1x64_S8x64x8x64_S8x64x3x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win5 (h : Fin 8) (c : Fin 64) (a : Fin 8) (k : Fin 64) : (StableHlo.after opsB W (Proc.devRef .tc main_v81) : S8x64x8x64.Idx → EReal) (ix4 h c a k)
    = Scalar.select (msk W c k) (cols W h c ⟨3 + a.val, by omega⟩ k) ⊥ := by
  unfold msk cols
  after_reads_at
  rw [← neg_inf]; rfl

theorem row5 (h : Fin 8) (c : Fin 64) (j : Fin 768) :
    (StableHlo.after opsB W (Proc.devRef .tc main_v85) : S8x64x768.Idx → EReal) (ix3 h c j) = ent 1 3 (cols W h c) (msk W c) j := by
  have hw := win5 W h c
  have hp : ∀ i, (StableHlo.after opsB W (Proc.devRef .tc main_v82) : S8x64x1x64.Idx → EReal) i = (⊥ : EReal) := fun i => by
    after_reads_simp; exact neg_inf
  have hq : ∀ i, (StableHlo.after opsB W (Proc.devRef .tc main_v83) : S8x64x3x64.Idx → EReal) i = (⊥ : EReal) := fun i => by
    after_reads_simp; exact neg_inf
  rw [cat5]
  generalize StableHlo.after opsB W (Proc.devRef .tc main_v81) = y at hw ⊢
  generalize StableHlo.after opsB W (Proc.devRef .tc main_v82) = x at hp ⊢
  generalize StableHlo.after opsB W (Proc.devRef .tc main_v83) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 1, by omega⟩ ⟨j.val % 64, Nat.mod_lt _ (by decide)⟩

theorem cat6 : StableHlo.after opsB W (Proc.devRef .tc main_v93)
    = shapeCast S8x64x768 (concatenate S8x64x12x64 2 [⟨S8x64x2x64, StableHlo.after opsB W (Proc.devRef .tc main_v90)⟩, ⟨S8x64x8x64, StableHlo.after opsB W (Proc.devRef .tc main_v89)⟩,
        ⟨S8x64x2x64, StableHlo.after opsB W (Proc.devRef .tc main_v91)⟩] concatenates_S8x64x2x64_S8x64x8x64_S8x64x2x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win6 (h : Fin 8) (c : Fin 64) (a : Fin 8) (k : Fin 64) : (StableHlo.after opsB W (Proc.devRef .tc main_v89) : S8x64x8x64.Idx → EReal) (ix4 h c a k)
    = Scalar.select (msk W c k) (cols W h c ⟨3 + a.val, by omega⟩ k) ⊥ := by
  unfold msk cols
  after_reads_at
  rw [← neg_inf]; rfl

theorem row6 (h : Fin 8) (c : Fin 64) (j : Fin 768) :
    (StableHlo.after opsB W (Proc.devRef .tc main_v93) : S8x64x768.Idx → EReal) (ix3 h c j) = ent 2 3 (cols W h c) (msk W c) j := by
  have hw := win6 W h c
  have hp : ∀ i, (StableHlo.after opsB W (Proc.devRef .tc main_v90) : S8x64x2x64.Idx → EReal) i = (⊥ : EReal) := fun i => by
    after_reads_simp; exact neg_inf
  have hq : ∀ i, (StableHlo.after opsB W (Proc.devRef .tc main_v91) : S8x64x2x64.Idx → EReal) i = (⊥ : EReal) := fun i => by
    after_reads_simp; exact neg_inf
  rw [cat6]
  generalize StableHlo.after opsB W (Proc.devRef .tc main_v89) = y at hw ⊢
  generalize StableHlo.after opsB W (Proc.devRef .tc main_v90) = x at hp ⊢
  generalize StableHlo.after opsB W (Proc.devRef .tc main_v91) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 2, by omega⟩ ⟨j.val % 64, Nat.mod_lt _ (by decide)⟩

theorem cat7 : StableHlo.after opsB W (Proc.devRef .tc main_v101)
    = shapeCast S8x64x768 (concatenate S8x64x12x64 2 [⟨S8x64x3x64, StableHlo.after opsB W (Proc.devRef .tc main_v98)⟩, ⟨S8x64x8x64, StableHlo.after opsB W (Proc.devRef .tc main_v97)⟩,
        ⟨S8x64x1x64, StableHlo.after opsB W (Proc.devRef .tc main_v99)⟩] concatenates_S8x64x3x64_S8x64x8x64_S8x64x1x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win7 (h : Fin 8) (c : Fin 64) (a : Fin 8) (k : Fin 64) : (StableHlo.after opsB W (Proc.devRef .tc main_v97) : S8x64x8x64.Idx → EReal) (ix4 h c a k)
    = Scalar.select (msk W c k) (cols W h c ⟨3 + a.val, by omega⟩ k) ⊥ := by
  unfold msk cols
  after_reads_at
  rw [← neg_inf]; rfl

theorem row7 (h : Fin 8) (c : Fin 64) (j : Fin 768) :
    (StableHlo.after opsB W (Proc.devRef .tc main_v101) : S8x64x768.Idx → EReal) (ix3 h c j) = ent 3 3 (cols W h c) (msk W c) j := by
  have hw := win7 W h c
  have hp : ∀ i, (StableHlo.after opsB W (Proc.devRef .tc main_v98) : S8x64x3x64.Idx → EReal) i = (⊥ : EReal) := fun i => by
    after_reads_simp; exact neg_inf
  have hq : ∀ i, (StableHlo.after opsB W (Proc.devRef .tc main_v99) : S8x64x1x64.Idx → EReal) i = (⊥ : EReal) := fun i => by
    after_reads_simp; exact neg_inf
  rw [cat7]
  generalize StableHlo.after opsB W (Proc.devRef .tc main_v97) = y at hw ⊢
  generalize StableHlo.after opsB W (Proc.devRef .tc main_v98) = x at hp ⊢
  generalize StableHlo.after opsB W (Proc.devRef .tc main_v99) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 3, by omega⟩ ⟨j.val % 64, Nat.mod_lt _ (by decide)⟩

theorem cat8 : StableHlo.after opsB W (Proc.devRef .tc main_v110)
    = shapeCast S8x64x768 (concatenate S8x64x12x64 2 [⟨S8x64x4x64, StableHlo.after opsB W (Proc.devRef .tc main_v107)⟩, ⟨S8x64x8x64, StableHlo.after opsB W (Proc.devRef .tc main_v106)⟩,
        ⟨S8x64x0x64, StableHlo.after opsB W (Proc.devRef .tc main_v108)⟩] concatenates_S8x64x4x64_S8x64x8x64_S8x64x0x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win8 (h : Fin 8) (c : Fin 64) (a : Fin 8) (k : Fin 64) : (StableHlo.after opsB W (Proc.devRef .tc main_v106) : S8x64x8x64.Idx → EReal) (ix4 h c a k)
    = Scalar.select (msk W c k) (cols W h c ⟨3 + a.val, by omega⟩ k) ⊥ := by
  unfold msk cols
  after_reads_at
  rw [← neg_inf]; rfl

theorem row8 (h : Fin 8) (c : Fin 64) (j : Fin 768) :
    (StableHlo.after opsB W (Proc.devRef .tc main_v110) : S8x64x768.Idx → EReal) (ix3 h c j) = ent 4 3 (cols W h c) (msk W c) j := by
  have hw := win8 W h c
  have hp : ∀ i, (StableHlo.after opsB W (Proc.devRef .tc main_v107) : S8x64x4x64.Idx → EReal) i = (⊥ : EReal) := fun i => by
    after_reads_simp; exact neg_inf
  have hq : ∀ i, (StableHlo.after opsB W (Proc.devRef .tc main_v108) : S8x64x0x64.Idx → EReal) i = (⊥ : EReal) := fun i => by
    after_reads_simp; exact neg_inf
  rw [cat8]
  generalize StableHlo.after opsB W (Proc.devRef .tc main_v106) = y at hw ⊢
  generalize StableHlo.after opsB W (Proc.devRef .tc main_v107) = x at hp ⊢
  generalize StableHlo.after opsB W (Proc.devRef .tc main_v108) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 4, by omega⟩ ⟨j.val % 64, Nat.mod_lt _ (by decide)⟩

theorem cat9 : StableHlo.after opsB W (Proc.devRef .tc main_v118)
    = shapeCast S8x64x768 (concatenate S8x64x12x64 2 [⟨S8x64x4x64, StableHlo.after opsB W (Proc.devRef .tc main_v115)⟩, ⟨S8x64x8x64, StableHlo.after opsB W (Proc.devRef .tc main_v114)⟩,
        ⟨S8x64x0x64, StableHlo.after opsB W (Proc.devRef .tc main_v116)⟩] concatenates_S8x64x4x64_S8x64x8x64_S8x64x0x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win9 (h : Fin 8) (c : Fin 64) (a : Fin 8) (k : Fin 64) : (StableHlo.after opsB W (Proc.devRef .tc main_v114) : S8x64x8x64.Idx → EReal) (ix4 h c a k)
    = Scalar.select (msk W c k) (cols W h c ⟨2 + a.val, by omega⟩ k) ⊥ := by
  unfold msk cols
  after_reads_at
  rw [← neg_inf]; rfl

theorem row9 (h : Fin 8) (c : Fin 64) (j : Fin 768) :
    (StableHlo.after opsB W (Proc.devRef .tc main_v118) : S8x64x768.Idx → EReal) (ix3 h c j) = ent 4 2 (cols W h c) (msk W c) j := by
  have hw := win9 W h c
  have hp : ∀ i, (StableHlo.after opsB W (Proc.devRef .tc main_v115) : S8x64x4x64.Idx → EReal) i = (⊥ : EReal) := fun i => by
    after_reads_simp; exact neg_inf
  have hq : ∀ i, (StableHlo.after opsB W (Proc.devRef .tc main_v116) : S8x64x0x64.Idx → EReal) i = (⊥ : EReal) := fun i => by
    after_reads_simp; exact neg_inf
  rw [cat9]
  generalize StableHlo.after opsB W (Proc.devRef .tc main_v114) = y at hw ⊢
  generalize StableHlo.after opsB W (Proc.devRef .tc main_v115) = x at hp ⊢
  generalize StableHlo.after opsB W (Proc.devRef .tc main_v116) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 4, by omega⟩ ⟨j.val % 64, Nat.mod_lt _ (by decide)⟩

theorem cat10 : StableHlo.after opsB W (Proc.devRef .tc main_v126)
    = shapeCast S8x64x768 (concatenate S8x64x12x64 2 [⟨S8x64x4x64, StableHlo.after opsB W (Proc.devRef .tc main_v123)⟩, ⟨S8x64x8x64, StableHlo.after opsB W (Proc.devRef .tc main_v122)⟩,
        ⟨S8x64x0x64, StableHlo.after opsB W (Proc.devRef .tc main_v124)⟩] concatenates_S8x64x4x64_S8x64x8x64_S8x64x0x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win10 (h : Fin 8) (c : Fin 64) (a : Fin 8) (k : Fin 64) : (StableHlo.after opsB W (Proc.devRef .tc main_v122) : S8x64x8x64.Idx → EReal) (ix4 h c a k)
    = Scalar.select (msk W c k) (cols W h c ⟨1 + a.val, by omega⟩ k) ⊥ := by
  unfold msk cols
  after_reads_at
  rw [← neg_inf]; rfl

theorem row10 (h : Fin 8) (c : Fin 64) (j : Fin 768) :
    (StableHlo.after opsB W (Proc.devRef .tc main_v126) : S8x64x768.Idx → EReal) (ix3 h c j) = ent 4 1 (cols W h c) (msk W c) j := by
  have hw := win10 W h c
  have hp : ∀ i, (StableHlo.after opsB W (Proc.devRef .tc main_v123) : S8x64x4x64.Idx → EReal) i = (⊥ : EReal) := fun i => by
    after_reads_simp; exact neg_inf
  have hq : ∀ i, (StableHlo.after opsB W (Proc.devRef .tc main_v124) : S8x64x0x64.Idx → EReal) i = (⊥ : EReal) := fun i => by
    after_reads_simp; exact neg_inf
  rw [cat10]
  generalize StableHlo.after opsB W (Proc.devRef .tc main_v122) = y at hw ⊢
  generalize StableHlo.after opsB W (Proc.devRef .tc main_v123) = x at hp ⊢
  generalize StableHlo.after opsB W (Proc.devRef .tc main_v124) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 4, by omega⟩ ⟨j.val % 64, Nat.mod_lt _ (by decide)⟩

theorem cat11 : StableHlo.after opsB W (Proc.devRef .tc main_v134)
    = shapeCast S8x64x768 (concatenate S8x64x12x64 2 [⟨S8x64x4x64, StableHlo.after opsB W (Proc.devRef .tc main_v131)⟩, ⟨S8x64x8x64, StableHlo.after opsB W (Proc.devRef .tc main_v130)⟩,
        ⟨S8x64x0x64, StableHlo.after opsB W (Proc.devRef .tc main_v132)⟩] concatenates_S8x64x4x64_S8x64x8x64_S8x64x0x64_S8x64x12x64_d2) shapeCasts_S8x64x12x64_S8x64x768 := by
  simp (disch := decide) only [StableHlo.readAfter, StableHlo.readUpto, StableHlo.nullary_result', StableHlo.unary_result', StableHlo.binary_result', StableHlo.ternary_result', StableHlo.reshape_result', nary3_read]
  refine congrArg (fun y => shapeCast S8x64x768 y shapeCasts_S8x64x12x64_S8x64x768) (concat3_congr ?_ ?_ ?_)
  · refine Eq.trans (three_0 _ _ _) ?_
    simp (disch := decide) only [StableHlo.readAfter, StableHlo.readUpto, StableHlo.nullary_result', StableHlo.unary_result', StableHlo.binary_result', StableHlo.ternary_result', StableHlo.reshape_result']
  · refine Eq.trans (three_1 _ _ _) ?_
    simp (disch := decide) only [StableHlo.readAfter, StableHlo.readUpto, StableHlo.nullary_result', StableHlo.unary_result', StableHlo.binary_result', StableHlo.ternary_result', StableHlo.reshape_result']
  · refine Eq.trans (three_2 _ _ _) ?_
    simp (disch := decide) only [StableHlo.readAfter, StableHlo.readUpto, StableHlo.nullary_result', StableHlo.unary_result', StableHlo.binary_result', StableHlo.ternary_result', StableHlo.reshape_result']

theorem win11 (h : Fin 8) (c : Fin 64) (a : Fin 8) (k : Fin 64) : (StableHlo.after opsB W (Proc.devRef .tc main_v130) : S8x64x8x64.Idx → EReal) (ix4 h c a k)
    = Scalar.select (msk W c k) (cols W h c ⟨a.val, by omega⟩ k) ⊥ := by
  unfold msk cols
  after_reads_at
  rw [← neg_inf]; rfl

theorem row11 (h : Fin 8) (c : Fin 64) (j : Fin 768) :
    (StableHlo.after opsB W (Proc.devRef .tc main_v134) : S8x64x768.Idx → EReal) (ix3 h c j) = ent 4 0 (cols W h c) (msk W c) j := by
  have hw := win11 W h c
  have hp : ∀ i, (StableHlo.after opsB W (Proc.devRef .tc main_v131) : S8x64x4x64.Idx → EReal) i = (⊥ : EReal) := fun i => by
    after_reads_simp; exact neg_inf
  have hq : ∀ i, (StableHlo.after opsB W (Proc.devRef .tc main_v132) : S8x64x0x64.Idx → EReal) i = (⊥ : EReal) := fun i => by
    after_reads_simp; exact neg_inf
  rw [cat11]
  generalize StableHlo.after opsB W (Proc.devRef .tc main_v130) = y at hw ⊢
  generalize StableHlo.after opsB W (Proc.devRef .tc main_v131) = x at hp ⊢
  generalize StableHlo.after opsB W (Proc.devRef .tc main_v132) = z at hq ⊢
  have hj := j.isLt
  refine ent_of (by decide) (fun ho => ?_) (fun h1 h2 => ?_)
  · pointwise
    split
    · exact hp _
    · split
      · exact absurd (by omega) ho
      · exact hq _
  · pointwise
    rw [dif_neg (by omega), dif_pos (by omega)]
    exact hw ⟨j.val / 64 - 4, by omega⟩ ⟨j.val % 64, Nat.mod_lt _ (by decide)⟩

theorem gcat0 : StableHlo.after opsB W (Proc.devRef .tc main_v69)
    = concatenate S8x256x768 1 [⟨S8x64x768, StableHlo.after opsB W (Proc.devRef .tc main_v44)⟩, ⟨S8x64x768, StableHlo.after opsB W (Proc.devRef .tc main_v52)⟩,
        ⟨S8x64x768, StableHlo.after opsB W (Proc.devRef .tc main_v60)⟩, ⟨S8x64x768, StableHlo.after opsB W (Proc.devRef .tc main_v68)⟩]
        concatenates_S8x64x768_S8x64x768_S8x64x768_S8x64x768_S8x256x768_d1 := by
  simp (disch := decide) only [StableHlo.readAfter, nary4_read]
  refine concat4_congr ?_ ?_ ?_ ?_
  · refine Eq.trans (four_0 _ _ _ _) ?_
    simp (disch := decide) only [StableHlo.readAfter, StableHlo.readUpto]
  · refine Eq.trans (four_1 _ _ _ _) ?_
    simp (disch := decide) only [StableHlo.readAfter, StableHlo.readUpto]
  · refine Eq.trans (four_2 _ _ _ _) ?_
    simp (disch := decide) only [StableHlo.readAfter, StableHlo.readUpto]
  · refine Eq.trans (four_3 _ _ _ _) ?_
    simp (disch := decide) only [StableHlo.readAfter, StableHlo.readUpto]

theorem grp0 (h : Fin 8) (u : Fin 256) (j : Fin 768) :
    (StableHlo.after opsB W (Proc.devRef .tc main_v69) : S8x256x768.Idx → EReal) (ix3 h u j)
      = ent 0 (7 - u.val / 64) (cols W h ⟨u.val % 64, Nat.mod_lt _ (by decide)⟩) (msk W ⟨u.val % 64, Nat.mod_lt _ (by decide)⟩) j := by
  have h0 := row0 W h
  have h1 := row1 W h
  have h2 := row2 W h
  have h3 := row3 W h
  rw [gcat0]
  generalize StableHlo.after opsB W (Proc.devRef .tc main_v44) = x0 at h0 ⊢
  generalize StableHlo.after opsB W (Proc.devRef .tc main_v52) = x1 at h1 ⊢
  generalize StableHlo.after opsB W (Proc.devRef .tc main_v60) = x2 at h2 ⊢
  generalize StableHlo.after opsB W (Proc.devRef .tc main_v68) = x3 at h3 ⊢
  have hu := u.isLt
  pointwise
  split
  · exact (h0 _ j).trans (ent_congr (by omega) (by omega) (congrArg _ (Fin.ext (show _ = u.val % 64 by simp only []; omega))) (congrArg _ (Fin.ext (show _ = u.val % 64 by simp only []; omega))))
  · split
    · exact (h1 _ j).trans (ent_congr (by omega) (by omega) (congrArg _ (Fin.ext (show _ = u.val % 64 by simp only []; omega))) (congrArg _ (Fin.ext (show _ = u.val % 64 by simp only []; omega))))
    · split
      · exact (h2 _ j).trans (ent_congr (by omega) (by omega) (congrArg _ (Fin.ext (show _ = u.val % 64 by simp only []; omega))) (congrArg _ (Fin.ext (show _ = u.val % 64 by simp only []; omega))))
      · exact (h3 _ j).trans (ent_congr (by omega) (by omega) (congrArg _ (Fin.ext (show _ = u.val % 64 by simp only []; omega))) (congrArg _ (Fin.ext (show _ = u.val % 64 by simp only []; omega))))

theorem gcat1 : StableHlo.after opsB W (Proc.devRef .tc main_v102)
    = concatenate S8x256x768 1 [⟨S8x64x768, StableHlo.after opsB W (Proc.devRef .tc main_v77)⟩, ⟨S8x64x768, StableHlo.after opsB W (Proc.devRef .tc main_v85)⟩,
        ⟨S8x64x768, StableHlo.after opsB W (Proc.devRef .tc main_v93)⟩, ⟨S8x64x768, StableHlo.after opsB W (Proc.devRef .tc main_v101)⟩]
        concatenates_S8x64x768_S8x64x768_S8x64x768_S8x64x768_S8x256x768_d1 := by
  simp (disch := decide) only [StableHlo.readAfter, nary4_read]
  refine concat4_congr ?_ ?_ ?_ ?_
  · refine Eq.trans (four_0 _ _ _ _) ?_
    simp (disch := decide) only [StableHlo.readAfter, StableHlo.readUpto]
  · refine Eq.trans (four_1 _ _ _ _) ?_
    simp (disch := decide) only [StableHlo.readAfter, StableHlo.readUpto]
  · refine Eq.trans (four_2 _ _ _ _) ?_
    simp (disch := decide) only [StableHlo.readAfter, StableHlo.readUpto]
  · refine Eq.trans (four_3 _ _ _ _) ?_
    simp (disch := decide) only [StableHlo.readAfter, StableHlo.readUpto]

theorem grp1 (h : Fin 8) (u : Fin 256) (j : Fin 768) :
    (StableHlo.after opsB W (Proc.devRef .tc main_v102) : S8x256x768.Idx → EReal) (ix3 h u j)
      = ent (u.val / 64) 3 (cols W h ⟨u.val % 64, Nat.mod_lt _ (by decide)⟩) (msk W ⟨u.val % 64, Nat.mod_lt _ (by decide)⟩) j := by
  have h0 := row4 W h
  have h1 := row5 W h
  have h2 := row6 W h
  have h3 := row7 W h
  rw [gcat1]
  generalize StableHlo.after opsB W (Proc.devRef .tc main_v77) = x0 at h0 ⊢
  generalize StableHlo.after opsB W (Proc.devRef .tc main_v85) = x1 at h1 ⊢
  generalize StableHlo.after opsB W (Proc.devRef .tc main_v93) = x2 at h2 ⊢
  generalize StableHlo.after opsB W (Proc.devRef .tc main_v101) = x3 at h3 ⊢
  have hu := u.isLt
  pointwise
  split
  · exact (h0 _ j).trans (ent_congr (by omega) (by omega) (congrArg _ (Fin.ext (show _ = u.val % 64 by simp only []; omega))) (congrArg _ (Fin.ext (show _ = u.val % 64 by simp only []; omega))))
  · split
    · exact (h1 _ j).trans (ent_congr (by omega) (by omega) (congrArg _ (Fin.ext (show _ = u.val % 64 by simp only []; omega))) (congrArg _ (Fin.ext (show _ = u.val % 64 by simp only []; omega))))
    · split
      · exact (h2 _ j).trans (ent_congr (by omega) (by omega) (congrArg _ (Fin.ext (show _ = u.val % 64 by simp only []; omega))) (congrArg _ (Fin.ext (show _ = u.val % 64 by simp only []; omega))))
      · exact (h3 _ j).trans (ent_congr (by omega) (by omega) (congrArg _ (Fin.ext (show _ = u.val % 64 by simp only []; omega))) (congrArg _ (Fin.ext (show _ = u.val % 64 by simp only []; omega))))

theorem gcat2 : StableHlo.after opsB W (Proc.devRef .tc main_v135)
    = concatenate S8x256x768 1 [⟨S8x64x768, StableHlo.after opsB W (Proc.devRef .tc main_v110)⟩, ⟨S8x64x768, StableHlo.after opsB W (Proc.devRef .tc main_v118)⟩,
        ⟨S8x64x768, StableHlo.after opsB W (Proc.devRef .tc main_v126)⟩, ⟨S8x64x768, StableHlo.after opsB W (Proc.devRef .tc main_v134)⟩]
        concatenates_S8x64x768_S8x64x768_S8x64x768_S8x64x768_S8x256x768_d1 := by
  simp (disch := decide) only [StableHlo.readAfter, nary4_read]
  refine concat4_congr ?_ ?_ ?_ ?_
  · refine Eq.trans (four_0 _ _ _ _) ?_
    simp (disch := decide) only [StableHlo.readAfter, StableHlo.readUpto]
  · refine Eq.trans (four_1 _ _ _ _) ?_
    simp (disch := decide) only [StableHlo.readAfter, StableHlo.readUpto]
  · refine Eq.trans (four_2 _ _ _ _) ?_
    simp (disch := decide) only [StableHlo.readAfter, StableHlo.readUpto]
  · refine Eq.trans (four_3 _ _ _ _) ?_
    simp (disch := decide) only [StableHlo.readAfter, StableHlo.readUpto]

theorem grp2 (h : Fin 8) (u : Fin 256) (j : Fin 768) :
    (StableHlo.after opsB W (Proc.devRef .tc main_v135) : S8x256x768.Idx → EReal) (ix3 h u j)
      = ent 4 (3 - u.val / 64) (cols W h ⟨u.val % 64, Nat.mod_lt _ (by decide)⟩) (msk W ⟨u.val % 64, Nat.mod_lt _ (by decide)⟩) j := by
  have h0 := row8 W h
  have h1 := row9 W h
  have h2 := row10 W h
  have h3 := row11 W h
  rw [gcat2]
  generalize StableHlo.after opsB W (Proc.devRef .tc main_v110) = x0 at h0 ⊢
  generalize StableHlo.after opsB W (Proc.devRef .tc main_v118) = x1 at h1 ⊢
  generalize StableHlo.after opsB W (Proc.devRef .tc main_v126) = x2 at h2 ⊢
  generalize StableHlo.after opsB W (Proc.devRef .tc main_v134) = x3 at h3 ⊢
  have hu := u.isLt
  pointwise
  split
  · exact (h0 _ j).trans (ent_congr (by omega) (by omega) (congrArg _ (Fin.ext (show _ = u.val % 64 by simp only []; omega))) (congrArg _ (Fin.ext (show _ = u.val % 64 by simp only []; omega))))
  · split
    · exact (h1 _ j).trans (ent_congr (by omega) (by omega) (congrArg _ (Fin.ext (show _ = u.val % 64 by simp only []; omega))) (congrArg _ (Fin.ext (show _ = u.val % 64 by simp only []; omega))))
    · split
      · exact (h2 _ j).trans (ent_congr (by omega) (by omega) (congrArg _ (Fin.ext (show _ = u.val % 64 by simp only []; omega))) (congrArg _ (Fin.ext (show _ = u.val % 64 by simp only []; omega))))
      · exact (h3 _ j).trans (ent_congr (by omega) (by omega) (congrArg _ (Fin.ext (show _ = u.val % 64 by simp only []; omega))) (congrArg _ (Fin.ext (show _ = u.val % 64 by simp only []; omega))))

theorem tcat : StableHlo.after opsB W (Proc.devRef .tc main_v139)
    = concatenate S8x3x256x768 1 [⟨S8x1x256x768, StableHlo.after opsB W (Proc.devRef .tc main_v136)⟩, ⟨S8x1x256x768, StableHlo.after opsB W (Proc.devRef .tc main_v137)⟩, ⟨S8x1x256x768, StableHlo.after opsB W (Proc.devRef .tc main_v138)⟩]
        concatenates_S8x1x256x768_S8x1x256x768_S8x1x256x768_S8x3x256x768_d1 := by
  simp (disch := decide) only [StableHlo.readAfter, nary3_read]
  refine concat3_congr ?_ ?_ ?_
  · refine Eq.trans (three_0 _ _ _) ?_
    simp (disch := decide) only [StableHlo.readAfter, StableHlo.readUpto]
  · refine Eq.trans (three_1 _ _ _) ?_
    simp (disch := decide) only [StableHlo.readAfter, StableHlo.readUpto]
  · refine Eq.trans (three_2 _ _ _) ?_
    simp (disch := decide) only [StableHlo.readAfter, StableHlo.readUpto]

theorem lay0 : StableHlo.after opsB W (Proc.devRef .tc main_v136) = broadcastInDim S8x1x256x768 ![0, 2, 3] bcast_S8x256x768_S8x1x256x768_0_2_3 (StableHlo.after opsB W (Proc.devRef .tc main_v69)) := by
  simp (disch := decide) only [StableHlo.readAfter, StableHlo.readUpto, StableHlo.unary_result']

theorem lay1 : StableHlo.after opsB W (Proc.devRef .tc main_v137) = broadcastInDim S8x1x256x768 ![0, 2, 3] bcast_S8x256x768_S8x1x256x768_0_2_3 (StableHlo.after opsB W (Proc.devRef .tc main_v102)) := by
  simp (disch := decide) only [StableHlo.readAfter, StableHlo.readUpto, StableHlo.unary_result']

theorem lay2 : StableHlo.after opsB W (Proc.devRef .tc main_v138) = broadcastInDim S8x1x256x768 ![0, 2, 3] bcast_S8x256x768_S8x1x256x768_0_2_3 (StableHlo.after opsB W (Proc.devRef .tc main_v135)) := by
  simp (disch := decide) only [StableHlo.readAfter, StableHlo.readUpto, StableHlo.unary_result']

/-- Where the window of row `a` of pattern `p` begins in the band. -/
def wo (p : Fin 3) (a : ℕ) : ℕ := if p.val = 0 then 0 else if p.val = 1 then a else 4

/-- The first of the parameters' rows that row `a` of pattern `p` takes. -/
def lo (p : Fin 3) (a : ℕ) : ℕ := if p.val = 0 then 7 - a else if p.val = 1 then 3 else 3 - a

/-- The whole table at an entry. -/
theorem table_at (h : Fin 8) (p : Fin 3) (u : Fin 256) (j : Fin 768) :
    (StableHlo.after opsB W (Proc.devRef .tc main_v139) : S8x3x256x768.Idx → EReal) (ix4 h p u j)
      = ent (wo p (u.val / 64)) (lo p (u.val / 64)) (cols W h ⟨u.val % 64, Nat.mod_lt _ (by decide)⟩)
          (msk W ⟨u.val % 64, Nat.mod_lt _ (by decide)⟩) j := by
  have h0 := grp0 W h u j
  have h1 := grp1 W h u j
  have h2 := grp2 W h u j
  rw [tcat, lay0, lay1, lay2]
  generalize StableHlo.after opsB W (Proc.devRef .tc main_v69) = x0 at h0 ⊢
  generalize StableHlo.after opsB W (Proc.devRef .tc main_v102) = x1 at h1 ⊢
  generalize StableHlo.after opsB W (Proc.devRef .tc main_v135) = x2 at h2 ⊢
  match p with
  | ⟨0, _⟩ => pointwise; exact h0
  | ⟨1, _⟩ => pointwise; exact h1
  | ⟨2, _⟩ => pointwise; exact h2

end Cert.NA

end
-- ==== Proof.Table.lean ====
/- The bias table in terms of the relative-position parameters: which columns a query column may look at, and which of
   the parameters' columns a key column takes. -/
module

public import proofs.«01_k».proof.Proof.Bias
public import Idealize.ShloMosaic.Lib.Tactic.WordOmega

@[expose] public section

set_option maxRecDepth 16384

noncomputable section

namespace Cert.NA

open Idealize.ShloMosaic Idealize.ShloMosaic.TcCoe Idealize.ShloMosaic.Tactic
open Cert.KernelIdeal Cert.KernelIdeal.Gen

/-- The operations before the gather. -/
def opsA : List (HloOp τ sig (Elt Ideal)) := hostOps0 ++ (hostOps0_1 ++ (hostOps0_2 ++ hostOps0_3))

/-- The first key column that query column `c` looks at. -/
def cs (c : ℕ) : ℕ := min (c - 8) 48

/-- The parameters' column for query column `c` and key column `k`. -/
def dcol (c k : Fin 64) : Fin 31 := ⟨min (k.val + 15 - c.val) 30, by omega⟩

variable (W : Valuation τ sig (Elt Ideal))

/-- The index of the gather, as a word. -/
def colWord (k c : Fin 64) : BitVec 32 :=
  IntOp.addi (IntOp.minsi 15#32 (IntOp.maxsi 4294967281#32 (IntOp.subi (BitVec.ofNat 32 k.val) (BitVec.ofNat 32 c.val)))) 15#32

theorem colWord_col (k c : Fin 64) :
    min (Scalar.select (IntOp.cmpi .slt (colWord k c) 0#32) (IntOp.addi (colWord k c) 31#32) (colWord k c)).toInt.toNat 30
      = min (k.val + 15 - c.val) 30 := by
  revert k c; decide +kernel

theorem clip16 (c : Fin 64) : IntOp.minsi 48#32 (IntOp.maxsi 0#32 (IntOp.subi (BitVec.ofNat 32 c.val) 8#32)) = BitVec.ofNat 32 (cs c.val) := by
  revert c; decide

theorem msk_at (c k : Fin 64) :
    msk (StableHlo.after opsA W) c k = 1#1 ↔ cs c.val ≤ k.val ∧ k.val < cs c.val + 16 := by
  unfold msk
  after_reads_at
  show IntOp.andi (IntOp.cmpi .sge (BitVec.ofNat 32 k.val) (IntOp.minsi 48#32 (IntOp.maxsi 0#32 (IntOp.subi (BitVec.ofNat 32 c.val) 8#32))))
    (IntOp.cmpi .slt (BitVec.ofNat 32 k.val) (IntOp.addi (IntOp.minsi 48#32 (IntOp.maxsi 0#32 (IntOp.subi (BitVec.ofNat 32 c.val) 8#32))) 16#32)) = 1#1 ↔ _
  rw [clip16]
  unfold cs
  word_omega

theorem gather_at (x : S8x15x31.Idx → EReal) (idx : S64x64x1.Idx → BitVec 32) (h : Fin 8) (a : Fin 15) (c k : Fin 64) :
    Host.gather gather_S8x15x31_S64x64x1_S8x15x64x64_01_2_n_n_2_2_8151 x idx (ix4 h a c k)
      = x (ix3 h a ⟨min (idx (ix3 c k 0)).toInt.toNat 30, by omega⟩) := by
  generalize hd : gather_S8x15x31_S64x64x1_S8x15x64x64_01_2_n_n_2_2_8151 = d
  have h1 : d.offsetDims = [0, 1] := by rw [← hd]; rfl
  have h2 : d.collapsedSliceDims = [2] := by rw [← hd]; rfl
  have h3 : d.operandBatchingDims = [] := by rw [← hd]; rfl
  have h4 : d.startIndicesBatchingDims = [] := by rw [← hd]; rfl
  have h5 : d.startIndexMap = [2] := by rw [← hd]; rfl
  have h6 : d.indexVectorDim = 2 := by rw [← hd]; rfl
  have h7 : d.sliceSizes = ![8, 15, 1] := by rw [← hd]; rfl
  clear hd
  obtain ⟨d1, d2, d3, d4, d5, d6, d7, wf⟩ := d
  simp only at h1 h2 h3 h4 h5 h6 h7
  subst h1 h2 h3 h4 h5 h6 h7
  unfold Host.gather
  congr 1
  funext b
  refine Fin.ext ?_
  match b with
  | ⟨0, _⟩ => exact Nat.zero_add _
  | ⟨1, _⟩ => exact Nat.zero_add _
  | ⟨2, _⟩ =>
    refine congrArg (fun i => min (idx i).toInt.toNat 30) ?_
    funext b; refine Fin.ext ?_
    match b with
    | ⟨0, _⟩ => rfl
    | ⟨1, _⟩ => rfl
    | ⟨2, _⟩ => rfl

theorem cols_at (h : Fin 8) (c : Fin 64) (a : Fin 15) (k : Fin 64) :
    cols (StableHlo.after opsA W) h c a k = (W (Proc.devRef .tc main_arg3) : S1x8x15x31.Idx → EReal) (ix4 0 h a (dcol c k)) := by
  unfold cols
  after_reads_simp
  simp -implicitDefEqProofs only [StableHlo.TRef.toBuf, StableHlo.TRef.ofBuf, cast_cast, cast_eq]
  clean_types
  rw [gather_at]
  pointwise
  refine congrArg _ (congrArg (ix4 0 h a) (Fin.ext ?_))
  exact colWord_col k c

end Cert.NA

end
-- ==== Proof.RefIndex.lean ====
/- Where the reference's two lookups read: the key row a query row and a window row name, and the parameter a query and a
   key name. -/
module

public import proofs.«01_k».proof.Proof.Gen.ReferenceIdeal.Read
public import proofs.«01_k».proof.Proof.Table
public import Idealize.ShloMosaic.Lib.Pointwise

@[expose] public section

set_option maxRecDepth 16384

noncomputable section

namespace Cert.NA

open Idealize.ShloMosaic Idealize.ShloMosaic.TcCoe Idealize.ShloMosaic.Tactic
open Cert.ReferenceIdeal Cert.ReferenceIdeal.Gen Cert.ReferenceIdeal.Read

/-- The first key row that query row `r` looks at. -/
def rs (r : ℕ) : ℕ := min (r - 4) 24

/-- It as the reference's word. -/
def rowWord (r : Fin 32) : BitVec 32 := IntOp.minsi 24#32 (IntOp.maxsi 0#32 (IntOp.subi (BitVec.ofNat 32 r.val) 4#32))

/-- The key row's word. -/
def keyWord (r : Fin 32) (w : Fin 8) : BitVec 32 := IntOp.addi (rowWord r) (BitVec.ofNat 32 w.val)

/-- The parameter row's word. -/
def parWord (r : Fin 32) (w : Fin 8) : BitVec 32 := IntOp.addi (IntOp.subi (keyWord r w) (BitVec.ofNat 32 r.val)) 7#32

theorem keyWord_row (r : Fin 32) (w : Fin 8) :
    min (Scalar.select (IntOp.cmpi .slt (keyWord r w) 0#32) (IntOp.addi (keyWord r w) 32#32) (keyWord r w)).toInt.toNat 31
      = rs r.val + w.val := by
  revert r w; decide +kernel

theorem parWord_row (r : Fin 32) (w : Fin 8) :
    min (Scalar.select (IntOp.cmpi .slt (parWord r w) 0#32) (IntOp.addi (parWord r w) 15#32) (parWord r w)).toInt.toNat 14
      = rs r.val + w.val + 7 - r.val := by
  revert r w; decide +kernel

/-- The key row. -/
def krow (r : Fin 32) (w : Fin 8) : Fin 32 := ⟨rs r.val + w.val, by have := w.isLt; unfold rs; omega⟩

/-- The parameter row. -/
def prow (r : Fin 32) (w : Fin 8) : Fin 15 := ⟨rs r.val + w.val + 7 - r.val, by have := w.isLt; have := r.isLt; unfold rs; omega⟩

theorem gatherKeys (x : S8x32x64x8x128.Idx → EReal) (idx : S32x8x1.Idx → BitVec 32)
    (b : Fin 8) (r : Fin 32) (w : Fin 8) (k : Fin 64) (h : Fin 8) (e : Fin 128) :
    Host.gather gather_S8x32x64x8x128_S32x8x1_S8x32x8x64x8x128_0345_1_n_n_1_2_81648128 x idx (ix6 b r w k h e)
      = x (ix5 b ⟨min (idx (ix3 r w 0)).toInt.toNat 31, by omega⟩ k h e) := by
  generalize hd : gather_S8x32x64x8x128_S32x8x1_S8x32x8x64x8x128_0345_1_n_n_1_2_81648128 = d
  have h1 : d.offsetDims = [0, 3, 4, 5] := by rw [← hd]; rfl
  have h2 : d.collapsedSliceDims = [1] := by rw [← hd]; rfl
  have h3 : d.operandBatchingDims = [] := by rw [← hd]; rfl
  have h4 : d.startIndicesBatchingDims = [] := by rw [← hd]; rfl
  have h5 : d.startIndexMap = [1] := by rw [← hd]; rfl
  have h6 : d.indexVectorDim = 2 := by rw [← hd]; rfl
  have h7 : d.sliceSizes = ![8, 1, 64, 8, 128] := by rw [← hd]; rfl
  clear hd
  obtain ⟨d1, d2, d3, d4, d5, d6, d7, wf⟩ := d
  simp only at h1 h2 h3 h4 h5 h6 h7
  subst h1 h2 h3 h4 h5 h6 h7
  unfold Host.gather
  congr 1
  funext b
  refine Fin.ext ?_
  match b with
  | ⟨0, _⟩ => exact Nat.zero_add _
  | ⟨1, _⟩ =>
    refine congrArg (fun i => min (idx i).toInt.toNat 31) ?_
    funext b; refine Fin.ext ?_
    match b with
    | ⟨0, _⟩ => rfl
    | ⟨1, _⟩ => rfl
    | ⟨2, _⟩ => rfl
  | ⟨2, _⟩ => exact Nat.zero_add _
  | ⟨3, _⟩ => exact Nat.zero_add _
  | ⟨4, _⟩ => exact Nat.zero_add _

theorem gatherPar (x : S8x15x31.Idx → EReal) (idx : S32x64x8x64x2.Idx → BitVec 32)
    (h : Fin 8) (r : Fin 32) (c : Fin 64) (w : Fin 8) (k : Fin 64) :
    Host.gather gather_S8x15x31_S32x64x8x64x2_S8x32x64x8x64_0_12_n_n_12_4_811 x idx (ix5 h r c w k)
      = x (ix3 h ⟨min (idx (ix5 r c w k 0)).toInt.toNat 14, by omega⟩ ⟨min (idx (ix5 r c w k 1)).toInt.toNat 30, by omega⟩) := by
  generalize hd : gather_S8x15x31_S32x64x8x64x2_S8x32x64x8x64_0_12_n_n_12_4_811 = d
  have h1 : d.offsetDims = [0] := by rw [← hd]; rfl
  have h2 : d.collapsedSliceDims = [1, 2] := by rw [← hd]; rfl
  have h3 : d.operandBatchingDims = [] := by rw [← hd]; rfl
  have h4 : d.startIndicesBatchingDims = [] := by rw [← hd]; rfl
  have h5 : d.startIndexMap = [1, 2] := by rw [← hd]; rfl
  have h6 : d.indexVectorDim = 4 := by rw [← hd]; rfl
  have h7 : d.sliceSizes = ![8, 1, 1] := by rw [← hd]; rfl
  clear hd
  obtain ⟨d1, d2, d3, d4, d5, d6, d7, wf⟩ := d
  simp only at h1 h2 h3 h4 h5 h6 h7
  subst h1 h2 h3 h4 h5 h6 h7
  unfold Host.gather
  congr 1
  funext b
  refine Fin.ext ?_
  match b with
  | ⟨0, _⟩ => exact Nat.zero_add _
  | ⟨1, _⟩ =>
    refine congrArg (fun i => min (idx i).toInt.toNat 14) ?_
    funext b; refine Fin.ext ?_
    match b with
    | ⟨0, _⟩ => rfl
    | ⟨1, _⟩ => rfl
    | ⟨2, _⟩ => rfl
    | ⟨3, _⟩ => rfl
    | ⟨4, _⟩ => rfl
  | ⟨2, _⟩ =>
    refine congrArg (fun i => min (idx i).toInt.toNat 30) ?_
    funext b; refine Fin.ext ?_
    match b with
    | ⟨0, _⟩ => rfl
    | ⟨1, _⟩ => rfl
    | ⟨2, _⟩ => rfl
    | ⟨3, _⟩ => rfl
    | ⟨4, _⟩ => rfl

theorem v56_at (r : Fin 32) (w : Fin 8) :
    val_main_v56 (F := Ideal) (ix3 r w 0) = Scalar.select (IntOp.cmpi .slt (keyWord r w) 0#32) (IntOp.addi (keyWord r w) 32#32) (keyWord r w) := by
  pointwise [val_main_v56, val_main_v55, val_main_v50, val_main_v49, val_main_v47, val_main_v46, val_main_v48, val_main_v45, val_main_v44, val_main_call0_v2, val_main_v43, val_main_v42, val_main_c, val_main_v41, val_main_call0_v1, val_main_call0_v0, val_main_c_6, val_main_call0_v4, val_main_call0_v3, val_main_c_7, val_main_v54, val_main_v53, val_main_c_9, val_main_v52, val_main_v51, val_main_c_8]
  rfl

theorem v63_at (r : Fin 32) (w : Fin 8) :
    val_main_v63 (F := Ideal) (ix3 r w 0) = Scalar.select (IntOp.cmpi .slt (keyWord r w) 0#32) (IntOp.addi (keyWord r w) 32#32) (keyWord r w) := by
  pointwise [val_main_v63, val_main_v62, val_main_v50, val_main_v49, val_main_v47, val_main_v46, val_main_v48, val_main_v45, val_main_v44, val_main_call0_v2, val_main_v43, val_main_v42, val_main_c, val_main_v41, val_main_call0_v1, val_main_call0_v0, val_main_c_6, val_main_call0_v4, val_main_call0_v3, val_main_c_7, val_main_v61, val_main_v60, val_main_c_11, val_main_v59, val_main_v58, val_main_c_10]
  rfl

theorem v112_row (r : Fin 32) (c : Fin 64) (w : Fin 8) (k : Fin 64) :
    val_main_v112 (F := Ideal) (ix5 r c w k 0) = Scalar.select (IntOp.cmpi .slt (parWord r w) 0#32) (IntOp.addi (parWord r w) 15#32) (parWord r w) := by
  pointwise [val_main_v112, val_main_v111, val_main_v109, val_main_v107, val_main_v97, val_main_v96, val_main_c_19, val_main_v95, val_main_v87, val_main_call2_v2, val_main_v86, val_main_v85, val_main_v83, val_main_v65, val_main_v84, val_main_v82, val_main_call2_v1, val_main_call2_v0, val_main_c_16, val_main_call2_v4, val_main_call2_v3, val_main_c_17, val_main_v106, val_main_v105, val_main_c_23, val_main_v104, val_main_v103, val_main_c_22, val_main_v110, val_main_v108, val_main_v102, val_main_v94, val_main_v93, val_main_c_18, val_main_v92, val_main_v90, val_main_v89, val_main_v88, val_main_v41, val_main_v50, val_main_v49, val_main_v47, val_main_v46, val_main_v48, val_main_v45, val_main_v44, val_main_call0_v2, val_main_v43, val_main_v42, val_main_c, val_main_call0_v1, val_main_call0_v0, val_main_c_6, val_main_call0_v4, val_main_call0_v3, val_main_c_7, val_main_v101, val_main_v100, val_main_c_21, val_main_v99, val_main_v98, val_main_c_20]
  rfl

theorem v112_col (r : Fin 32) (c : Fin 64) (w : Fin 8) (k : Fin 64) :
    val_main_v112 (F := Ideal) (ix5 r c w k 1) = Scalar.select (IntOp.cmpi .slt (colWord k c) 0#32) (IntOp.addi (colWord k c) 31#32) (colWord k c) := by
  pointwise [val_main_v112, val_main_v111, val_main_v109, val_main_v107, val_main_v97, val_main_v96, val_main_c_19, val_main_v95, val_main_v87, val_main_call2_v2, val_main_v86, val_main_v85, val_main_v83, val_main_v65, val_main_v84, val_main_v82, val_main_call2_v1, val_main_call2_v0, val_main_c_16, val_main_call2_v4, val_main_call2_v3, val_main_c_17, val_main_v106, val_main_v105, val_main_c_23, val_main_v104, val_main_v103, val_main_c_22, val_main_v110, val_main_v108, val_main_v102, val_main_v94, val_main_v93, val_main_c_18, val_main_v92, val_main_v90, val_main_v89, val_main_v88, val_main_v41, val_main_v50, val_main_v49, val_main_v47, val_main_v46, val_main_v48, val_main_v45, val_main_v44, val_main_call0_v2, val_main_v43, val_main_v42, val_main_c, val_main_call0_v1, val_main_call0_v0, val_main_c_6, val_main_call0_v4, val_main_call0_v3, val_main_c_7, val_main_v101, val_main_v100, val_main_c_21, val_main_v99, val_main_v98, val_main_c_20]
  rfl

variable (x0 : S16384x10240.Idx → EReal) (x1 x2 : S1x128.Idx → EReal) (x3 : S1x8x15x31.Idx → EReal)

theorem v57_at (b : Fin 8) (r : Fin 32) (w : Fin 8) (k : Fin 64) (h : Fin 8) (e : Fin 128) :
    val_main_v57 (F := Ideal) x0 x2 (ix6 b r w k h e) = val_main_v39 (F := Ideal) x0 x2 (ix5 b (krow r w) k h e) := by
  refine Eq.trans (gatherKeys _ _ b r w k h e) ?_
  refine congrArg (fun i => val_main_v39 (F := Ideal) x0 x2 (ix5 b i k h e)) (Fin.ext ?_)
  show min (val_main_v56 (F := Ideal) (ix3 r w 0)).toInt.toNat 31 = _
  rw [v56_at]
  exact keyWord_row r w

theorem v64_at (b : Fin 8) (r : Fin 32) (w : Fin 8) (k : Fin 64) (h : Fin 8) (e : Fin 128) :
    val_main_v64 (F := Ideal) x0 (ix6 b r w k h e) = val_main_v40 (F := Ideal) x0 (ix5 b (krow r w) k h e) := by
  refine Eq.trans (gatherKeys _ _ b r w k h e) ?_
  refine congrArg (fun i => val_main_v40 (F := Ideal) x0 (ix5 b i k h e)) (Fin.ext ?_)
  show min (val_main_v63 (F := Ideal) (ix3 r w 0)).toInt.toNat 31 = _
  rw [v63_at]
  exact keyWord_row r w

theorem v91_at (h : Fin 8) (a : Fin 15) (k : Fin 31) : val_main_v91 (F := Ideal) x3 (ix3 h a k) = x3 (ix4 0 h a k) := by
  pointwise [val_main_v91]

theorem v113_at (h : Fin 8) (r : Fin 32) (c : Fin 64) (w : Fin 8) (k : Fin 64) :
    val_main_v113 (F := Ideal) x3 (ix5 h r c w k) = x3 (ix4 0 h (prow r w) (dcol c k)) := by
  refine Eq.trans (gatherPar _ _ h r c w k) ?_
  rw [v91_at]
  refine congrArg₂ (fun i j => x3 (ix4 0 h i j)) (Fin.ext ?_) (Fin.ext ?_)
  · show min (val_main_v112 (F := Ideal) (ix5 r c w k 0)).toInt.toNat 14 = _
    rw [v112_row]
    exact parWord_row r w
  · show min (val_main_v112 (F := Ideal) (ix5 r c w k 1)).toInt.toNat 30 = _
    rw [v112_col]
    exact colWord_col k c

end Cert.NA

end
-- ==== Proof.KernelArray.lean ====
/- The array that the kernel leaves: at every token and column, the weighted mean over the token's band of keys, in terms
   of the projections, the two gains and the relative-position parameters. -/
module

public import proofs.«01_k».proof.Proof.Table

@[expose] public section

set_option maxRecDepth 16384

noncomputable section

namespace Cert.NA

open Idealize.ShloMosaic Idealize.ShloMosaic.TcCoe Idealize.ShloMosaic.Tactic Idealize.SL.Sem
open Cert.KernelIdeal Cert.KernelIdeal.Gen

/-- A query's bias against a key of its band: the parameters' entry on the window, minus infinity off it. -/
def bias (R : Fin 15 → Fin 31 → EReal) (p : Fin 3) (u : Fin 256) (j : Fin 768) : EReal :=
  if wo p (u.val / 64) ≤ j.val / 64 ∧ j.val / 64 < wo p (u.val / 64) + 8 ∧
      (cs (u.val % 64) ≤ j.val % 64 ∧ j.val % 64 < cs (u.val % 64) + 16) then
    R ⟨(j.val / 64 - wo p (u.val / 64) + lo p (u.val / 64)) % 15, Nat.mod_lt _ (by decide)⟩
      (dcol ⟨u.val % 64, Nat.mod_lt _ (by decide)⟩ ⟨j.val % 64, Nat.mod_lt _ (by decide)⟩)
  else ⊥

/-- Token `t` of sequence `b`. -/
def tok (b : Fin 8) (t : Fin 2048) : Fin 16384 := ⟨b.val * 2048 + t.val, by omega⟩
/-- Column `e` of head `h` of the queries, -/
def qcol (h : Fin 8) (e : Fin 128) : Fin 10240 := ⟨(24 + h.val) * 128 + e.val, by omega⟩
/-- of the keys, -/
def kcol (h : Fin 8) (e : Fin 128) : Fin 10240 := ⟨(32 + h.val) * 128 + e.val, by omega⟩
/-- and of the values. -/
def vcol (h : Fin 8) (e : Fin 128) : Fin 10240 := ⟨(40 + h.val) * 128 + e.val, by omega⟩

/-- What the kernel computes for one token and column of a head. -/
def outK (P : S16384x10240.Idx → EReal) (gq gk : S1x128.Idx → EReal) (R : S1x8x15x31.Idx → EReal)
    (b h : Fin 8) (t : Fin 2048) (d : Fin 128) : EReal :=
  mean2 (score2 (rms (fun e => P (ix2 (tok b t) (qcol h e))) (fun e => gq (ix2 0 e)))
      (fun j => rms (fun e => P (ix2 (tok b (key (t.val / 256) j)) (kcol h e))) (fun e => gk (ix2 0 e)))
      (fun j => bias (fun a k => R (ix4 0 h a k)) (pat (t.val / 256)) ⟨t.val % 256, Nat.mod_lt _ (by decide)⟩ j))
    (fun j => P (ix2 (tok b (key (t.val / 256) j)) (vcol h d)))

variable (m : (ℓ : Loc nD τ sig) → Buf (Elt Ideal) ℓ) (c : Dev nD)

theorem V_split (b : Ref sig .tc) :
    V m c b = StableHlo.after opsB (StableHlo.after opsA (fun b => m (c, b))) (Proc.devRef .tc b) := by
  unfold V
  rw [← StableHlo.after_append]
  simp only [opsA, opsB, List.flatten_cons, List.flatten_nil, List.append_nil, List.append_assoc]

theorem V_table (h : Fin 8) (p : Fin 3) (u : Fin 256) (j : Fin 768) :
    (V m c main_v139 : S8x3x256x768.Idx → EReal) (ix4 h p u j)
      = bias (fun a k => (m (c, Proc.devRef .tc main_arg3) : S1x8x15x31.Idx → EReal) (ix4 0 h a k)) p u j := by
  rw [V_split, table_at]
  unfold ent bias
  simp only [msk_at, cols_at]

theorem V_gq (e : Fin 128) : (V m c main_v1 : S1x128.Idx → EReal) (ix2 0 e) = (m (c, Proc.devRef .tc main_arg1) : S1x128.Idx → EReal) (ix2 0 e) := by
  rw [V_split]
  after_reads_at

theorem V_gk (e : Fin 128) : (V m c main_v3 : S1x128.Idx → EReal) (ix2 0 e) = (m (c, Proc.devRef .tc main_arg2) : S1x128.Idx → EReal) (ix2 0 e) := by
  rw [V_split]
  after_reads_at

theorem idx0 : ∀ t : Fin grid0.N, win0_0.index t (0 : Fin 2) = (grid0.coords t 1).val ∧ win0_0.index t (1 : Fin 2) = 24 + (grid0.coords t 0).val := by decide +kernel
theorem idx1 : ∀ t : Fin grid0.N, win0_1.index t (0 : Fin 2) = (grid0.coords t 1).val ∧ win0_1.index t (1 : Fin 2) = 32 + (grid0.coords t 0).val := by decide +kernel
theorem idx2 : ∀ t : Fin grid0.N, win0_2.index t (0 : Fin 2) = (grid0.coords t 1).val ∧ win0_2.index t (1 : Fin 2) = 40 + (grid0.coords t 0).val := by decide +kernel
theorem idx3 : ∀ t : Fin grid0.N, win0_3.index t (0 : Fin 2) = 0 ∧ win0_3.index t (1 : Fin 2) = 0 := by decide +kernel
theorem idx4 : ∀ t : Fin grid0.N, win0_4.index t (0 : Fin 2) = 0 ∧ win0_4.index t (1 : Fin 2) = 0 := by decide +kernel
theorem idx5 : ∀ t : Fin grid0.N, win0_5.index t (0 : Fin 4) = (grid0.coords t 0).val ∧ win0_5.index t (1 : Fin 4) = 0 ∧ win0_5.index t (2 : Fin 4) = 0 ∧ win0_5.index t (3 : Fin 4) = 0 := by decide +kernel
theorem idx6 : ∀ t : Fin grid0.N, win0_6.index t (0 : Fin 2) = (grid0.coords t 1).val ∧ win0_6.index t (1 : Fin 2) = (grid0.coords t 0).val := by decide +kernel

/-- The head of a grid point, -/
def hd (t : Fin cfg0.N) : Fin 8 := grid0.coords t 0
/-- and its sequence. -/
def sq (t : Fin cfg0.N) : Fin 8 := grid0.coords t 1

theorem in0 (t : Fin cfg0.N) (i : Fin 2048) (e : Fin 128) : (iblk m c 0 t : S2048x128.Idx → EReal) (ix2 i e)
    = (m (c, Proc.devRef .tc main_arg0) : S16384x10240.Idx → EReal) (ix2 (tok (sq t) i) (qcol (hd t) e)) := by
  obtain ⟨e0, e1⟩ := idx0 t
  rw [← V_main_arg0 m c]
  refine congrArg (V m c main_arg0) (funext fun a => Fin.ext ?_)
  match a with
  | ⟨0, _⟩ => show win0_0.index t (0 : Fin 2) * 2048 + 1 * i.val = (grid0.coords t 1).val * 2048 + i.val; rw [e0]; omega
  | ⟨1, _⟩ => show win0_0.index t (1 : Fin 2) * 128 + 1 * e.val = (24 + (grid0.coords t 0).val) * 128 + e.val; rw [e1]; omega

theorem in1 (t : Fin cfg0.N) (i : Fin 2048) (e : Fin 128) : (iblk m c 1 t : S2048x128.Idx → EReal) (ix2 i e)
    = (m (c, Proc.devRef .tc main_arg0) : S16384x10240.Idx → EReal) (ix2 (tok (sq t) i) (kcol (hd t) e)) := by
  obtain ⟨e0, e1⟩ := idx1 t
  rw [← V_main_arg0 m c]
  refine congrArg (V m c main_arg0) (funext fun a => Fin.ext ?_)
  match a with
  | ⟨0, _⟩ => show win0_1.index t (0 : Fin 2) * 2048 + 1 * i.val = (grid0.coords t 1).val * 2048 + i.val; rw [e0]; omega
  | ⟨1, _⟩ => show win0_1.index t (1 : Fin 2) * 128 + 1 * e.val = (32 + (grid0.coords t 0).val) * 128 + e.val; rw [e1]; omega

theorem in2 (t : Fin cfg0.N) (i : Fin 2048) (e : Fin 128) : (iblk m c 2 t : S2048x128.Idx → EReal) (ix2 i e)
    = (m (c, Proc.devRef .tc main_arg0) : S16384x10240.Idx → EReal) (ix2 (tok (sq t) i) (vcol (hd t) e)) := by
  obtain ⟨e0, e1⟩ := idx2 t
  rw [← V_main_arg0 m c]
  refine congrArg (V m c main_arg0) (funext fun a => Fin.ext ?_)
  match a with
  | ⟨0, _⟩ => show win0_2.index t (0 : Fin 2) * 2048 + 1 * i.val = (grid0.coords t 1).val * 2048 + i.val; rw [e0]; omega
  | ⟨1, _⟩ => show win0_2.index t (1 : Fin 2) * 128 + 1 * e.val = (40 + (grid0.coords t 0).val) * 128 + e.val; rw [e1]; omega

theorem in3 (t : Fin cfg0.N) (e : Fin 128) : (iblk m c 3 t : S1x128.Idx → EReal) (ix2 0 e)
    = (m (c, Proc.devRef .tc main_arg1) : S1x128.Idx → EReal) (ix2 0 e) := by
  obtain ⟨e0, e1⟩ := idx3 t
  rw [← V_gq m c e]
  refine congrArg (V m c main_v1) (funext fun a => Fin.ext ?_)
  match a with
  | ⟨0, _⟩ => show win0_3.index t (0 : Fin 2) * 1 + 1 * 0 = 0; rw [e0]
  | ⟨1, _⟩ => show win0_3.index t (1 : Fin 2) * 128 + 1 * e.val = e.val; rw [e1]; omega

theorem in4 (t : Fin cfg0.N) (e : Fin 128) : (iblk m c 4 t : S1x128.Idx → EReal) (ix2 0 e)
    = (m (c, Proc.devRef .tc main_arg2) : S1x128.Idx → EReal) (ix2 0 e) := by
  obtain ⟨e0, e1⟩ := idx4 t
  rw [← V_gk m c e]
  refine congrArg (V m c main_v3) (funext fun a => Fin.ext ?_)
  match a with
  | ⟨0, _⟩ => show win0_4.index t (0 : Fin 2) * 1 + 1 * 0 = 0; rw [e0]
  | ⟨1, _⟩ => show win0_4.index t (1 : Fin 2) * 128 + 1 * e.val = e.val; rw [e1]; omega

theorem in5 (t : Fin cfg0.N) (p : Fin 3) (u : Fin 256) (j : Fin 768) :
    (iblk m c 5 t : S1x3x256x768.Idx → EReal) (ix4 0 p u j)
      = bias (fun a k => (m (c, Proc.devRef .tc main_arg3) : S1x8x15x31.Idx → EReal) (ix4 0 (hd t) a k)) p u j := by
  obtain ⟨e0, e1, e2, e3⟩ := idx5 t
  rw [← V_table]
  refine congrArg (V m c main_v139) (funext fun a => Fin.ext ?_)
  match a with
  | ⟨0, _⟩ => show win0_5.index t (0 : Fin 4) * 1 + 1 * 0 = (grid0.coords t 0).val; rw [e0]; omega
  | ⟨1, _⟩ => show win0_5.index t (1 : Fin 4) * 3 + 1 * p.val = p.val; rw [e1]; omega
  | ⟨2, _⟩ => show win0_5.index t (2 : Fin 4) * 256 + 1 * u.val = u.val; rw [e2]; omega
  | ⟨3, _⟩ => show win0_5.index t (3 : Fin 4) * 768 + 1 * j.val = j.val; rw [e3]; omega

/-- The whole result. -/
def arrK (P : S16384x10240.Idx → EReal) (gq gk : S1x128.Idx → EReal) (R : S1x8x15x31.Idx → EReal) (i : S16384x1024.Idx) : EReal :=
  outK P gq gk R ⟨(i 0).val / 2048, by have : (i 0).val < 16384 := (i 0).isLt; omega⟩ ⟨(i 1).val / 128, by have : (i 1).val < 1024 := (i 1).isLt; omega⟩
    ⟨(i 0).val % 2048, Nat.mod_lt _ (by decide)⟩ ⟨(i 1).val % 128, Nat.mod_lt _ (by decide)⟩

/-- The result in terms of the arrays as launched. -/
abbrev resK : Buf (Elt Ideal) ((c : Thread nD τ).loc main_v140) :=
  arrK (m (c, Proc.devRef .tc main_arg0)) (m (c, Proc.devRef .tc main_arg1)) (m (c, Proc.devRef .tc main_arg2))
    (m (c, Proc.devRef .tc main_arg3))

theorem flushed_eq (t : Fin cfg0.N) :
    (dats m 0 c).flushed 6 t = ((cfg0.win 6).blk t).view.read (Elt Ideal) (resK m c) := by
  rw [Value.flushed6_A]
  funext j
  obtain ⟨i, d, rfl⟩ : ∃ (i : Fin 2048) (d : Fin 128), j = ix2 i d := ⟨j 0, j 1, eq_ix2 j⟩
  obtain ⟨e0, e1⟩ := idx6 t
  have hE : ((cfg0.win 6).blk t).view.emb (ix2 i d) = ix2 (tok (sq t) i) (⟨(hd t).val * 128 + d.val, by omega⟩ : Fin 1024) := by
    funext a; apply Fin.ext
    match a with
    | ⟨0, _⟩ => show win0_6.index t (0 : Fin 2) * 2048 + 1 * i.val = (grid0.coords t 1).val * 2048 + i.val; rw [e0]; omega
    | ⟨1, _⟩ => show win0_6.index t (1 : Fin 2) * 128 + 1 * d.val = (grid0.coords t 0).val * 128 + d.val; rw [e1]; omega
  show out0_A_6 (F := Ideal) c _ _ _ _ _ _ _ _ _ _ _ _ _ _ _ _ _ _ _ _ _ _ _ _ _ _ _ (ix2 i d) = resK m c (((cfg0.win 6).blk t).view.emb (ix2 i d))
  rw [block_apply, hE]
  have hb : ∀ x y z w, arrK x y z w (ix2 (tok (sq t) i) (⟨(hd t).val * 128 + d.val, by omega⟩ : Fin 1024)) = outK x y z w (sq t) (hd t) i d := by
    intro x y z w
    have hi := i.isLt
    have hd' := d.isLt
    unfold arrK
    congr 1
    · exact Fin.ext (show ((sq t).val * 2048 + i.val) / 2048 = (sq t).val by omega)
    · exact Fin.ext (show ((hd t).val * 128 + d.val) / 128 = (hd t).val by omega)
    · exact Fin.ext (show ((sq t).val * 2048 + i.val) % 2048 = i.val by omega)
    · exact Fin.ext (show ((hd t).val * 128 + d.val) % 128 = d.val by omega)
  refine Eq.trans ?_ (hb _ _ _ _).symm
  unfold blk outK
  simp only [in0, in1, in2, in3, in4, in5]

theorem cover (i : S16384x1024.Idx) : ∃ t : Fin cfg0.N, (cfg0.win 6).flush t = true ∧ i ∈ ((cfg0.win 6).blk t).view.set := by
  have h0 : (i 0).val < 16384 := (i 0).isLt
  have h1 : (i 1).val < 1024 := (i 1).isLt
  have hp : ∀ h b : Fin 8, ∃ t : Fin grid0.N, (grid0.coords t 0).val = h.val ∧ (grid0.coords t 1).val = b.val := by decide +kernel
  obtain ⟨t, ht, hb⟩ := hp ⟨(i 1).val / 128, by omega⟩ ⟨(i 0).val / 2048, by omega⟩
  obtain ⟨e0, e1⟩ := idx6 t
  refine ⟨t, flush0_6 _, ?_⟩
  show i ∈ ((View.whole main_v140).slice (win0_6.rect t)).set
  rw [View.set_slice_whole, Rect.mem_set_unit]
  intro a
  match a with
  | ⟨0, _⟩ =>
    show win0_6.index t (0 : Fin 2) * 2048 ≤ (i 0).val ∧ (i 0).val < win0_6.index t (0 : Fin 2) * 2048 + 2048
    rw [e0, hb]; show (i 0).val / 2048 * 2048 ≤ _ ∧ _ < (i 0).val / 2048 * 2048 + 2048; omega
  | ⟨1, _⟩ =>
    show win0_6.index t (1 : Fin 2) * 128 ≤ (i 1).val ∧ (i 1).val < win0_6.index t (1 : Fin 2) * 128 + 128
    rw [e1, ht]; show (i 1).val / 128 * 128 ≤ _ ∧ _ < (i 1).val / 128 * 128 + 128; omega

theorem finalK : (dats m 0 c).arrAt 6 cfg0.N = resK m c :=
  (dats m 0 c).arrAt_eq_of_cover 6 (resK m c) (fun t _ => flushed_eq m c t) cover

end Cert.NA

end
-- ==== Proof.RefInputs.lean ====
/- The reference's queries, keys and values: the projection's columns, the queries and keys divided by their root mean
   square. -/
module

public import proofs.«01_k».proof.Proof.Gen.ReferenceIdeal.Read
public import proofs.«01_k».proof.Proof.KernelArray
public import Idealize.ShloMosaic.Lib.Pointwise

@[expose] public section

set_option maxRecDepth 16384

noncomputable section

namespace Cert.NA

open Idealize.ShloMosaic Idealize.ShloMosaic.TcCoe Idealize.ShloMosaic.Tactic
open Cert.ReferenceIdeal Cert.ReferenceIdeal.Gen Cert.ReferenceIdeal.Read

/-- Token of query row `r` and column `c`. -/
def pos (r : Fin 32) (c : Fin 64) : Fin 2048 := ⟨r.val * 64 + c.val, by omega⟩

theorem scale_eq : Ideal.rsqrt (Ideal.ofBits .f32 0x43000000#32) = ((sc : ℝ) : EReal) := by
  have e : Ideal.ofBits .f32 0x43000000#32 = ((128 : ℝ) : EReal) := by
    simp [Ideal.ofBits, Ideal.ieee, -EReal.coe_mul]; norm_num
  rw [e]
  show (if (128 : ℝ) < 0 then (⊥ : EReal) else if (128 : ℝ) = 0 then ⊤ else (((Real.sqrt 128)⁻¹ : ℝ) : EReal)) = _
  rw [if_neg (by norm_num), if_neg (by norm_num)]; rfl

theorem zero_add_lit (x : EReal) : Ideal.ofBits .f32 0x00000000#32 + x = x := by
  have e : Ideal.ofBits .f32 0x00000000#32 = 0 := by simp [Ideal.ofBits, Ideal.ieee]
  rw [e, zero_add]

variable (x0 : S16384x10240.Idx → EReal) (x1 x2 : S1x128.Idx → EReal) (x3 : S1x8x15x31.Idx → EReal)

theorem v40_at (b : Fin 8) (r : Fin 32) (c : Fin 64) (h : Fin 8) (e : Fin 128) :
    val_main_v40 (F := Ideal) x0 (ix5 b r c h e) = x0 (ix2 (tok b (pos r c)) (vcol h e)) := by
  pointwise [val_main_v40, val_main_v6, val_main_v5, val_main_v0]
  refine congrArg₂ (fun i j => x0 (ix2 i j)) (Fin.ext ?_) (Fin.ext ?_)
  · rfl
  · show 5120 + (h.val * 128 + e.val) = (40 + h.val) * 128 + e.val
    omega

theorem q_ix (b : Fin 8) (r : Fin 32) (c : Fin 64) (h : Fin 8) (e : Fin 128) (h1 h2) :
    x0 (ix2 ⟨b.val * 2048 + (r.val * 64 + c.val), h1⟩ ⟨3072 + (h.val * 128 + e.val), h2⟩) = x0 (ix2 (tok b (pos r c)) (qcol h e)) :=
  congrArg₂ (fun i j => x0 (ix2 i j)) rfl (Fin.ext (show 3072 + (h.val * 128 + e.val) = (24 + h.val) * 128 + e.val by omega))

theorem k_ix (b : Fin 8) (r : Fin 32) (c : Fin 64) (h : Fin 8) (e : Fin 128) (h1 h2) :
    x0 (ix2 ⟨b.val * 2048 + (r.val * 64 + c.val), h1⟩ ⟨4096 + (h.val * 128 + e.val), h2⟩) = x0 (ix2 (tok b (pos r c)) (kcol h e)) :=
  congrArg₂ (fun i j => x0 (ix2 i j)) rfl (Fin.ext (show 4096 + (h.val * 128 + e.val) = (32 + h.val) * 128 + e.val by omega))

theorem v38_at (b : Fin 8) (r : Fin 32) (c : Fin 64) (h : Fin 8) (e : Fin 128) :
    val_main_v38 (F := Ideal) x0 x1 (ix5 b r c h e)
      = rms (fun e => x0 (ix2 (tok b (pos r c)) (qcol h e))) (fun e => x1 (ix2 0 e)) e * ((sc : ℝ) : EReal) := by
  pointwise [val_main_v38, val_main_v23, val_main_v22, val_main_v21, val_main_cst_2, val_main_v20, val_main_v19, val_main_v18, val_main_v7, val_main_v17, val_main_v16, val_main_v15, val_main_v14, val_main_v13, val_main_cst_1, val_main_v12, val_main_v11, val_main_cst_0, val_main_v10, val_main_v9, val_main_cst, val_main_v8, val_main_v2, val_main_v1, val_main_v0]
  simp only [q_ix, scale_eq, zero_add_lit]
  rfl

theorem v39_at (b : Fin 8) (r : Fin 32) (c : Fin 64) (h : Fin 8) (e : Fin 128) :
    val_main_v39 (F := Ideal) x0 x2 (ix5 b r c h e)
      = rms (fun e => x0 (ix2 (tok b (pos r c)) (kcol h e))) (fun e => x2 (ix2 0 e)) e := by
  pointwise [val_main_v39, val_main_v37, val_main_v36, val_main_v35, val_main_v24, val_main_v34, val_main_v33, val_main_v32, val_main_v31, val_main_v30, val_main_cst_5, val_main_v29, val_main_v28, val_main_cst_4, val_main_v27, val_main_v26, val_main_cst_3, val_main_v25, val_main_v4, val_main_v3, val_main_v0]
  simp only [k_ix, zero_add_lit]
  rfl

end Cert.NA

end
-- ==== Proof.RefValue.lean ====
/- The reference's scores, their softmax, and the weighted mean of the values, at an index. -/
module

public import proofs.«01_k».proof.Proof.RefIndex
public import proofs.«01_k».proof.Proof.RefInputs

@[expose] public section

set_option maxRecDepth 16384

noncomputable section

namespace Cert.NA

open Idealize.ShloMosaic Idealize.ShloMosaic.TcCoe Idealize.ShloMosaic.Tactic
open Cert.ReferenceIdeal Cert.ReferenceIdeal.Gen Cert.ReferenceIdeal.Read

variable (x0 : S16384x10240.Idx → EReal) (x1 x2 : S1x128.Idx → EReal) (x3 : S1x8x15x31.Idx → EReal)

theorem v119_at (b h : Fin 8) (r : Fin 32) (c : Fin 64) (w : Fin 8) (k : Fin 64) :
    val_main_v119 (F := Ideal) x0 x1 x2 x3 (ix6 b h r c w k)
      = if cs c.val ≤ k.val ∧ k.val < cs c.val + 16 then
          ∑ e, val_main_v38 (F := Ideal) x0 x1 (ix5 b r c h e) * val_main_v57 (F := Ideal) x0 x2 (ix6 b r w k h e)
            + val_main_v113 (F := Ideal) x3 (ix5 h r c w k)
        else ⊥ := by
  pointwise [val_main_v119, val_main_call3_v2, val_main_call3_v0, val_main_cst_24, val_main_v117, val_main_v116, val_main_v115, val_main_v114, val_main_call3_v1, val_main_v118, val_main_v81, val_main_v80, val_main_v79, val_main_v77, val_main_v76, val_main_c_15, val_main_v75, val_main_v68, val_main_call1_v2, val_main_v67, val_main_v66, val_main_c_12, val_main_v65, val_main_call1_v1, val_main_call1_v0, val_main_c_13, val_main_call1_v4, val_main_call1_v3, val_main_c_14, val_main_v78, val_main_v74, val_main_v73, val_main_v72, val_main_v70, val_main_v71, val_main_v69]
  generalize ∑ x, val_main_v38 (F := Ideal) x0 x1 (ix5 b r c h x) * val_main_v57 (F := Ideal) x0 x2 (ix6 b r w k h x)
    + val_main_v113 (F := Ideal) x3 (ix5 h r c w k) = S
  show Scalar.select (IntOp.andi
      (IntOp.cmpi .sge (BitVec.ofNat 32 k.val) (IntOp.minsi 48#32 (IntOp.maxsi 0#32 (IntOp.subi (BitVec.ofNat 32 c.val) 8#32))))
      (IntOp.cmpi .slt (BitVec.ofNat 32 k.val) (IntOp.addi (IntOp.minsi 48#32 (IntOp.maxsi 0#32 (IntOp.subi (BitVec.ofNat 32 c.val) 8#32))) 16#32)))
    S (Ideal.ofBits .f32 0xFF800000#32) = _
  rw [clip16, neg_inf]
  have key : IntOp.andi (IntOp.cmpi .sge (BitVec.ofNat 32 k.val) (BitVec.ofNat 32 (cs c.val)))
      (IntOp.cmpi .slt (BitVec.ofNat 32 k.val) (IntOp.addi (BitVec.ofNat 32 (cs c.val)) 16#32)) = 1#1
        ↔ cs c.val ≤ k.val ∧ k.val < cs c.val + 16 := by
    unfold cs; word_omega
  unfold Scalar.select
  exact if_congr key rfl rfl

/-- A row's 512 entries: window row `j / 64`, key column `j % 64`. -/
def wrow (j : Fin 512) : Fin 8 := ⟨j.val / 64, by omega⟩
/-- The column of entry `j`. -/
def wcol (j : Fin 512) : Fin 64 := ⟨j.val % 64, by omega⟩

theorem flat (y : S8x8x32x64x8x64.Idx → EReal) (hc) (b h : Fin 8) (r : Fin 32) (c : Fin 64) (j : Fin 512) :
    shapeCast S8x8x32x64x512 y hc (ix5 b h r c j) = y (ix6 b h r c (wrow j) (wcol j)) := by
  pointwise
  rfl

theorem unflat (y : S8x8x32x64x512.Idx → EReal) (hc) (b h : Fin 8) (r : Fin 32) (c : Fin 64) (w : Fin 8) (k : Fin 64) :
    shapeCast S8x8x32x64x8x64 y hc (ix6 b h r c w k) = y (ix5 b h r c ⟨w.val * 64 + k.val, by omega⟩) := by
  pointwise

theorem rowMax (y : FVec Ideal S8x8x32x64x512 .f32) (init : FVec Ideal S_ .f32) (b h : Fin 8) (r : Fin 32) (c : Fin 64) :
    Host.reduce FloatOps.maximumf y init reducesTo_S8x8x32x64x512_S8x8x32x64_d4 h_S_ (ix4 b h r c)
      = Finset.univ.fold max (init (Shape.Idx.first h_S_)) (fun j => y (ix5 b h r c j)) := by
  pointwise

theorem v120_at (b h : Fin 8) (r : Fin 32) (c : Fin 64) (j : Fin 512) :
    val_main_v120 (F := Ideal) x0 x1 x2 x3 (ix5 b h r c j) = val_main_v119 (F := Ideal) x0 x1 x2 x3 (ix6 b h r c (wrow j) (wcol j)) :=
  flat _ _ b h r c j

theorem v121_at (b h : Fin 8) (r : Fin 32) (c : Fin 64) :
    val_main_v121 (F := Ideal) x0 x1 x2 x3 (ix4 b h r c)
      = Finset.univ.sup fun j => val_main_v120 (F := Ideal) x0 x1 x2 x3 (ix5 b h r c j) := by
  unfold val_main_v121
  generalize val_main_v120 (F := Ideal) x0 x1 x2 x3 = y
  rw [rowMax]
  have e : val_main_cst_25 (F := Ideal) (Shape.Idx.first h_S_) = (⊥ : EReal) := neg_inf
  rw [e]
  rfl

/-- The greatest score of a row. -/
theorem v125_at (b h : Fin 8) (r : Fin 32) (c : Fin 64) (j : Fin 512) :
    val_main_v125 (F := Ideal) x0 x1 x2 x3 (ix5 b h r c j)
      = Finset.univ.sup fun j => val_main_v120 (F := Ideal) x0 x1 x2 x3 (ix5 b h r c j) := by
  rw [val_main_v125_apply, val_main_v124_apply, val_main_v123_apply, val_main_v122_apply]
  have hi : idx_main_v124 (idx_main_v125 (ix5 b h r c j)) = ix4 b h r c := by
    funext a
    match a with
    | ⟨0, _⟩ => rfl
    | ⟨1, _⟩ => rfl
    | ⟨2, _⟩ => rfl
    | ⟨3, _⟩ => rfl
  rw [hi, v121_at]
  generalize (Finset.univ.sup fun j => val_main_v120 (F := Ideal) x0 x1 x2 x3 (ix5 b h r c j)) = M
  show max (Ideal.ofBits .f32 0xFF800000#32) M = M
  rw [neg_inf, max_eq_right bot_le]

theorem v127_at (b h : Fin 8) (r : Fin 32) (c : Fin 64) (j : Fin 512) :
    val_main_v127 (F := Ideal) x0 x1 x2 x3 (ix5 b h r c j)
      = Ideal.exp (val_main_v120 (F := Ideal) x0 x1 x2 x3 (ix5 b h r c j)
          - Finset.univ.sup fun j => val_main_v120 (F := Ideal) x0 x1 x2 x3 (ix5 b h r c j)) := by
  rw [val_main_v127_apply, val_main_v126_apply, v125_at]; rfl

theorem v130_at (b h : Fin 8) (r : Fin 32) (c : Fin 64) (j : Fin 512) :
    val_main_v130 (F := Ideal) x0 x1 x2 x3 (ix5 b h r c j)
      = ∑ k, val_main_v127 (F := Ideal) x0 x1 x2 x3 (ix5 b h r c k) := by
  rw [val_main_v130_apply, val_main_v129_apply, val_main_v128_apply]
  refine Eq.trans (zero_add_lit _) (Finset.sum_congr rfl fun k _ => congrArg _ ?_)
  funext a
  match a with
  | ⟨0, _⟩ => rfl
  | ⟨1, _⟩ => rfl
  | ⟨2, _⟩ => rfl
  | ⟨3, _⟩ => rfl
  | ⟨4, _⟩ => rfl

theorem v132_at (b h : Fin 8) (r : Fin 32) (c : Fin 64) (w : Fin 8) (k : Fin 64) :
    val_main_v132 (F := Ideal) x0 x1 x2 x3 (ix6 b h r c w k)
      = val_main_v131 (F := Ideal) x0 x1 x2 x3 (ix5 b h r c ⟨w.val * 64 + k.val, by omega⟩) :=
  unflat _ _ b h r c w k

theorem v131_at (b h : Fin 8) (r : Fin 32) (c : Fin 64) (j : Fin 512) :
    val_main_v131 (F := Ideal) x0 x1 x2 x3 (ix5 b h r c j)
      = Ideal.div (val_main_v127 (F := Ideal) x0 x1 x2 x3 (ix5 b h r c j)) (val_main_v130 (F := Ideal) x0 x1 x2 x3 (ix5 b h r c j)) := by
  rw [val_main_v131_apply]; rfl

theorem weighted (y : FVec Ideal S8x32x8x64x8x128 .f32) (p : FVec Ideal S8x8x32x64x8x64 .f32) (t : Fin 16384) (d : Fin 1024)
    (h1 h2 h3) :
    truncf (F := Ideal) (φ := .f32) .bf16 (shapeCast S16384x1024 (transpose S8x32x64x8x128 [0, 1, 4, 2, 3] (Host.dotGeneral (F := Ideal) dot_S8x32x8x64x8x128_S8x8x32x64x8x64_S8x32x8x128x64_32_54_5_3_014_021 none y p) h1) h2) h3 (ix2 t d)
      = ∑ k : Fin 64, ∑ w : Fin 8,
          y (ix6 ⟨t.val / 2048, by omega⟩ ⟨t.val / 64 % 32, by omega⟩ w k ⟨d.val / 128, by omega⟩ ⟨d.val % 128, by omega⟩)
            * p (ix6 ⟨t.val / 2048, by omega⟩ ⟨d.val / 128, by omega⟩ ⟨t.val / 64 % 32, by omega⟩ ⟨t.val % 64, by omega⟩ w k) := by
  pointwise

end Cert.NA

end
-- ==== Proof.Agree.lean ====
/- The kernel's entry and the reference's are the same extended real, when the gains and the bias parameters are real
   numbers. -/
module

public import proofs.«01_k».proof.Proof.RefValue
public import proofs.«01_k».proof.Proof.Finite

@[expose] public section

set_option maxRecDepth 16384

noncomputable section

namespace Cert.NA

open Idealize.ShloMosaic
open Cert.ReferenceIdeal Cert.ReferenceIdeal.Gen Cert.ReferenceIdeal.Read

variable (P : S16384x10240.Idx → EReal) (gq gk : S1x128.Idx → EReal) (R : S1x8x15x31.Idx → EReal)

/-- A query, normalised. -/
def qn (b : Fin 8) (t : Fin 2048) (h : Fin 8) : Fin 128 → EReal :=
  rms (fun e => P (ix2 (tok b t) (qcol h e))) (fun e => gq (ix2 0 e))

/-- A key, normalised. -/
def kn (b : Fin 8) (t : Fin 2048) (h : Fin 8) : Fin 128 → EReal :=
  rms (fun e => P (ix2 (tok b t) (kcol h e))) (fun e => gk (ix2 0 e))

/-- The reference's score of entry `j` of a query's window. -/
def scoreR (b h : Fin 8) (r : Fin 32) (c : Fin 64) (j : Fin 512) : EReal :=
  if cs c.val ≤ (wcol j).val ∧ (wcol j).val < cs c.val + 16 then
    ∑ e, qn P gq b (pos r c) h e * ((sc : ℝ) : EReal) * kn P gk b (pos (krow r (wrow j)) (wcol j)) h e
      + R (ix4 0 h (prow r (wrow j)) (dcol c (wcol j)))
  else ⊥

theorem v120_score (b h : Fin 8) (r : Fin 32) (c : Fin 64) (j : Fin 512) :
    val_main_v120 (F := Ideal) P gq gk R (ix5 b h r c j) = scoreR P gq gk R b h r c j := by
  rw [v120_at, v119_at]
  simp only [v38_at, v57_at, v39_at, v113_at]
  rfl

/-- The reference's entry. -/
theorem v136_at (b h : Fin 8) (r : Fin 32) (c : Fin 64) (d : Fin 128) (t : Fin 16384) (D : Fin 1024)
    (ht : t.val = b.val * 2048 + r.val * 64 + c.val) (hD : D.val = h.val * 128 + d.val) :
    val_main_v136 (F := Ideal) P gq gk R (ix2 t D)
      = ∑ j : Fin 512, Ideal.div (Ideal.exp (scoreR P gq gk R b h r c j - Finset.univ.sup (scoreR P gq gk R b h r c)))
          (∑ j', Ideal.exp (scoreR P gq gk R b h r c j' - Finset.univ.sup (scoreR P gq gk R b h r c)))
            * P (ix2 (tok b (pos (krow r (wrow j)) (wcol j))) (vcol h d)) := by
  refine Eq.trans (weighted _ _ t D _ _ _) ?_
  have e1 : (⟨t.val / 2048, by omega⟩ : Fin 8) = b := Fin.ext (by simp only []; omega)
  have e2 : (⟨t.val / 64 % 32, by omega⟩ : Fin 32) = r := Fin.ext (by simp only []; omega)
  have e3 : (⟨t.val % 64, by omega⟩ : Fin 64) = c := Fin.ext (by simp only []; omega)
  have e4 : (⟨D.val / 128, by omega⟩ : Fin 8) = h := Fin.ext (by simp only []; omega)
  have e5 : (⟨D.val % 128, by omega⟩ : Fin 128) = d := Fin.ext (by simp only []; omega)
  rw [e1, e2, e3, e4, e5, Finset.sum_comm, ← Fintype.sum_prod_type']
  refine Fintype.sum_equiv finProdFinEquiv _ _ fun x => ?_
  obtain ⟨w, k⟩ := x
  have hj : (finProdFinEquiv (w, k) : Fin (8 * 64)) = (⟨w.val * 64 + k.val, by omega⟩ : Fin 512) :=
    Fin.ext (by show k.val + 64 * w.val = w.val * 64 + k.val; omega)
  have hw : wrow ⟨w.val * 64 + k.val, by omega⟩ = w := Fin.ext (by show (w.val * 64 + k.val) / 64 = w.val; omega)
  have hk : wcol ⟨w.val * 64 + k.val, by omega⟩ = k := Fin.ext (by show (w.val * 64 + k.val) % 64 = k.val; omega)
  rw [hj, hw, hk]
  show val_main_v64 (F := Ideal) P (ix6 b r w k h d) * val_main_v132 (F := Ideal) P gq gk R (ix6 b h r c w k) = _
  rw [v64_at, v40_at, v132_at, v131_at, v130_at]
  simp only [v127_at, v120_score]
  exact mul_comm _ _

/-- Where entry `j` of a window stands in its band. -/
def emb (p : Fin 3) (a : Fin 4) (j : Fin 512) : Fin 768 :=
  ⟨(wo p a.val + (wrow j).val) * 64 + (wcol j).val, by
    have h1 := (wrow j).isLt; have h2 := (wcol j).isLt; have h3 := a.isLt
    have h4 : wo p a.val ≤ 4 := by unfold wo; split_ifs <;> omega
    have : (wo p a.val + (wrow j).val) * 64 ≤ 11 * 64 := Nat.mul_le_mul_right _ (by omega)
    omega⟩

theorem emb_injective (p : Fin 3) (a : Fin 4) : Function.Injective (emb p a) := by
  intro i j h
  have h' : (wo p a.val + (wrow i).val) * 64 + (wcol i).val = (wo p a.val + (wrow j).val) * 64 + (wcol j).val := congrArg Fin.val h
  have h1 := (wcol i).isLt; have h2 := (wcol j).isLt
  unfold wrow wcol at *
  simp only at *
  exact Fin.ext (by omega)

/-- The rows of a window, counted within the band. -/
theorem rows_eq (g : Fin 8) (a : Fin 4) :
    band g.val + wo (pat g.val) a.val = rs (4 * g.val + a.val) ∧
      (∀ w : Fin 8, (w.val + lo (pat g.val) a.val) % 15 = rs (4 * g.val + a.val) + w.val + 7 - (4 * g.val + a.val)) := by
  revert g a; decide

/-- The row's equation. -/
theorem agree (hq : ∀ i, IsReal (gq i)) (hk : ∀ i, IsReal (gk i)) (hR : ∀ i, IsReal (R i))
    (b h : Fin 8) (g : Fin 8) (a : Fin 4) (c : Fin 64) (d : Fin 128) (r : Fin 32) (t : Fin 2048)
    (hr : r.val = 4 * g.val + a.val) (ht : t.val = g.val * 256 + (a.val * 64 + c.val)) :
    outK P gq gk R b h t d
      = ∑ j : Fin 512, Ideal.div (Ideal.exp (scoreR P gq gk R b h r c j - Finset.univ.sup (scoreR P gq gk R b h r c)))
          (∑ j', Ideal.exp (scoreR P gq gk R b h r c j' - Finset.univ.sup (scoreR P gq gk R b h r c)))
            * P (ix2 (tok b (pos (krow r (wrow j)) (wcol j))) (vcol h d)) := by
  have hlt : a.val * 64 + c.val < 256 := by have := a.isLt; have := c.isLt; omega
  have hg : t.val / 256 = g.val := by omega
  have hu : (⟨t.val % 256, Nat.mod_lt _ (by decide)⟩ : Fin 256) = ⟨a.val * 64 + c.val, hlt⟩ := Fin.ext (by simp only []; omega)
  have htp : t = pos r c := Fin.ext (by show t.val = r.val * 64 + c.val; omega)
  obtain ⟨hb, hl⟩ := rows_eq g a
  have ha' : (a.val * 64 + c.val) / 64 = a.val := by omega
  have hc' : (a.val * 64 + c.val) % 64 = c.val := by omega
  have hwo : wo (pat g.val) a.val ≤ 4 := by have := a.isLt; unfold wo; split_ifs <;> omega
  have hrow : ∀ j, (emb (pat g.val) a j).val / 64 = wo (pat g.val) a.val + (wrow j).val := fun j => by
    have := (wcol j).isLt
    show ((wo (pat g.val) a.val + (wrow j).val) * 64 + (wcol j).val) / 64 = _
    omega
  have hcol : ∀ j, (emb (pat g.val) a j).val % 64 = (wcol j).val := fun j => by
    have := (wcol j).isLt
    show ((wo (pat g.val) a.val + (wrow j).val) * 64 + (wcol j).val) % 64 = _
    omega
  have hkey : ∀ j, key g.val (emb (pat g.val) a j) = pos (krow r (wrow j)) (wcol j) := fun j => Fin.ext (by
    show band g.val * 64 + ((wo (pat g.val) a.val + (wrow j).val) * 64 + (wcol j).val) = (rs r.val + (wrow j).val) * 64 + (wcol j).val
    rw [hr, ← hb]; ring)
  have hbias : ∀ j, bias (fun a k => R (ix4 0 h a k)) (pat g.val) ⟨a.val * 64 + c.val, hlt⟩ (emb (pat g.val) a j)
      = if cs c.val ≤ (wcol j).val ∧ (wcol j).val < cs c.val + 16 then R (ix4 0 h (prow r (wrow j)) (dcol c (wcol j))) else ⊥ := fun j => by
    have hw := (wrow j).isLt
    unfold bias
    simp only [hrow, hcol, ha', hc']
    refine if_congr ⟨fun hh => hh.2.2, fun hh => ⟨by omega, by omega, hh⟩⟩ ?_ rfl
    refine congrArg₂ (fun x y => R (ix4 0 h x y)) (Fin.ext ?_) rfl
    show (wo (pat g.val) a.val + (wrow j).val - wo (pat g.val) a.val + lo (pat g.val) a.val) % 15 = rs r.val + (wrow j).val + 7 - r.val
    rw [Nat.add_sub_cancel_left, hl, hr]
  have hpadb : ∀ i, (∀ j, emb (pat g.val) a j ≠ i) →
      bias (fun a k => R (ix4 0 h a k)) (pat g.val) ⟨a.val * 64 + c.val, hlt⟩ i = ⊥ := fun i hi => by
    unfold bias
    refine if_neg fun hh => ?_
    simp only [ha', hc'] at hh
    have hlt := i.isLt
    refine hi ⟨(i.val / 64 - wo (pat g.val) a.val) * 64 + i.val % 64, by omega⟩ (Fin.ext ?_)
    show (wo (pat g.val) a.val + ((i.val / 64 - wo (pat g.val) a.val) * 64 + i.val % 64) / 64) * 64
      + ((i.val / 64 - wo (pat g.val) a.val) * 64 + i.val % 64) % 64 = i.val
    omega
  have hqr : ∀ e, IsReal (qn P gq b (pos r c) h e) := rms_real _ _ fun _ => hq _
  have hkr : ∀ s e, IsReal (kn P gk b s h e) := fun s => rms_real _ _ fun _ => hk _
  have hreal : ∀ j, (cs c.val ≤ (wcol j).val ∧ (wcol j).val < cs c.val + 16) → IsReal (scoreR P gq gk R b h r c j) := fun j hj => by
    unfold scoreR
    rw [if_pos hj]
    exact (IsReal.sum _ _ fun e _ => ((hqr e).mul ⟨sc, rfl⟩).mul (hkr _ e)).add (hR _)
  have hbotlg : (⊥ : EReal) * (lg : EReal) = ⊥ := EReal.bot_mul_coe_of_pos lg_pos
  unfold outK mean2
  rw [hg, hu, htp]
  refine row (emb (pat g.val) a) (emb_injective _ _) _ _ (scoreR P gq gk R b h r c) _ (fun j => ?_) (fun i hi => ?_) (fun j => ?_) (fun j => ?_) ?_
  · show ∑ e, qn P gq b (pos r c) h e * ((sc * lg : ℝ) : EReal) * kn P gk b (key g.val (emb (pat g.val) a j)) h e
        + bias (fun a k => R (ix4 0 h a k)) (pat g.val) ⟨a.val * 64 + c.val, hlt⟩ (emb (pat g.val) a j) * (lg : EReal) = _
    rw [hkey, hbias]
    unfold scoreR
    split_ifs
    · rw [coe_mul_add lg lg_pos.le, mul_sum_coe _ lg lg_pos.le, mul_comm (R _)]
      refine congrArg (· + _) (Finset.sum_congr rfl fun e _ => ?_)
      rw [EReal.coe_mul]
      ac_rfl
    · rw [hbotlg, EReal.add_bot, mul_comm, hbotlg]
  · show ∑ e, _ + bias (fun a k => R (ix4 0 h a k)) (pat g.val) ⟨a.val * 64 + c.val, hlt⟩ i * (lg : EReal) = ⊥
    rw [hpadb i hi, hbotlg, EReal.add_bot]
  · show P (ix2 (tok b (key g.val (emb (pat g.val) a j))) (vcol h d)) = _
    rw [hkey]
  · by_cases hj : cs c.val ≤ (wcol j).val ∧ (wcol j).val < cs c.val + 16
    · exact (hreal j hj).ne_top
    · unfold scoreR; rw [if_neg hj]; exact bot_ne_top
  · have hcs : cs c.val < 64 := by unfold cs; omega
    refine ⟨⟨cs c.val, by omega⟩, (hreal _ ?_).ne_bot⟩
    have : (wcol ⟨cs c.val, by omega⟩).val = cs c.val := Nat.mod_eq_of_lt hcs
    omega

/-- The kernel's array is the reference's. -/
theorem arr_eq (hq : ∀ i, IsReal (gq i)) (hk : ∀ i, IsReal (gk i)) (hR : ∀ i, IsReal (R i)) :
    arrK P gq gk R = val_main_v136 (F := Ideal) P gq gk R := by
  funext i
  have h0 : (i 0).val < 16384 := (i 0).isLt
  have h1 : (i 1).val < 1024 := (i 1).isLt
  have hi : i = ix2 ⟨(i 0).val, h0⟩ ⟨(i 1).val, h1⟩ := by
    funext a
    match a with
    | ⟨0, _⟩ => rfl
    | ⟨1, _⟩ => rfl
  refine Eq.trans ?_ (congrArg (val_main_v136 (F := Ideal) P gq gk R) hi).symm
  refine Eq.trans ?_ (v136_at P gq gk R ⟨(i 0).val / 2048, by omega⟩ ⟨(i 1).val / 128, by omega⟩ ⟨(i 0).val % 2048 / 64, by omega⟩
    ⟨(i 0).val % 64, by omega⟩ ⟨(i 1).val % 128, by omega⟩ _ _ (by simp only []; omega) (by simp only []; omega)).symm
  exact agree P gq gk R hq hk hR ⟨(i 0).val / 2048, by omega⟩ ⟨(i 1).val / 128, by omega⟩ ⟨(i 0).val % 2048 / 256, by omega⟩
    ⟨(i 0).val / 64 % 4, by omega⟩ ⟨(i 0).val % 64, by omega⟩ ⟨(i 1).val % 128, by omega⟩ ⟨(i 0).val % 2048 / 64, by omega⟩
    ⟨(i 0).val % 2048, by omega⟩ (by simp only []; omega) (by simp only []; omega)

end Cert.NA

end
-- ==== Proof.lean ====
/- The proof of the claim: the frames of the programs, the named constants, and the equality of each kernel's result
   with its reference's. -/
module

public import proofs.«01_k».proof.Proof.Gen.Kernel5
public import proofs.«01_k».proof.Proof.Gen.Kernel5Ideal
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4
public import proofs.«01_k».proof.Proof.Gen.Kernel4Ideal
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.OutFinal
public import proofs.«01_k».proof.Proof.OutRef
public import proofs.«01_k».proof.Proof.ProjValue
public import proofs.«01_k».proof.Proof.ProjRef
public import proofs.«01_k».proof.Proof.DownPlan
public import proofs.«01_k».proof.Proof.DownValue
public import proofs.«01_k».proof.Proof.DownRef
public import proofs.«01_k».proof.Proof.DownSame
public import proofs.«01_k».proof.Proof.GateValue
public import proofs.«01_k».proof.Proof.GateRef
public import proofs.«01_k».proof.Proof.GateSame
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Agree
public import Idealize.ShloMosaic.Adequacy
public import Idealize.ShloMosaic.Init

@[expose] public section

noncomputable section

namespace Cert.Proof

open Idealize.ShloMosaic Idealize.ShloMosaic.Tactic Idealize.SL.Sem Cert.Kernel

theorem preFacts : Cert.Pre_finite_params.Facts := ⟨by decide, by decide⟩

/-- The precondition says the gains and the parameters are real numbers. -/
theorem reals [Cert.Pre_finite_params.Facts] {P : FVec Ideal Cert.KernelIdeal.S16384x10240 .bf16} {gq gk : FVec Ideal Cert.KernelIdeal.S1x128 .f32} {R : FVec Ideal Cert.KernelIdeal.S1x8x15x31 .f32}
    (h : (Cert.Pre_finite_params.fn (F := Ideal) P gq gk R).1 = (fun _ => 1#1)
      ∧ (Cert.Pre_finite_params.fn (F := Ideal) P gq gk R).2.1 = (fun _ => 1#1)
      ∧ (Cert.Pre_finite_params.fn (F := Ideal) P gq gk R).2.2 = (fun _ => 1#1)) :
    (∀ i, Cert.NA.IsReal (gq i)) ∧ (∀ i, Cert.NA.IsReal (gk i)) ∧ ∀ i, Cert.NA.IsReal (R i) :=
  ⟨fun i => Cert.NA.isReal_of_abs (congrFun h.1 i), fun i => Cert.NA.isReal_of_abs (congrFun h.2.1 i),
    fun i => Cert.NA.isReal_of_abs (congrFun h.2.2 i)⟩

/-- The reference runs and leaves its arguments and its counters as they were. -/
theorem refFrame : Cert.quiescent_ReferenceIdeal (hReferenceIdeal := Cert.ReferenceIdeal.Gen.facts) := fun m ρ _ =>
  (θ_run (Cert.ReferenceIdeal.defs (F := Ideal)) _ _).mono (fun r h =>
      And.intro (fun c => (h c).2) (Idealize.ShloMosaic.sem_eq_zero_of_no_sems (by decide) r.2))
    (Cert.ReferenceIdeal.Value.run (F := Ideal) m ρ)

theorem refFramePre [hPre : Cert.Pre_finite_params.Facts] :
    Cert.quiescent_ReferenceIdeal_pre_finite_params (hReferenceIdeal := Cert.ReferenceIdeal.Gen.facts) := fun m ρ _ =>
  (θ_run (Cert.ReferenceIdeal.defs (F := Ideal)) _ _).mono (fun r h =>
      And.intro (fun c => (h c).2) (Idealize.ShloMosaic.sem_eq_zero_of_no_sems (by decide) r.2))
    (Cert.ReferenceIdeal.Value.run (F := Ideal) m ρ)

theorem val_congr {P P' : FVec Ideal Cert.ReferenceIdeal.S16384x10240 .bf16} {q q' k k' : FVec Ideal Cert.ReferenceIdeal.S1x128 .f32}
    {R R' : FVec Ideal Cert.ReferenceIdeal.S1x8x15x31 .f32} (e0 : P = P') (e1 : q = q') (e2 : k = k') (e3 : R = R') :
    Cert.ReferenceIdeal.Read.val_main_v136 (F := Ideal) P q k R = Cert.ReferenceIdeal.Read.val_main_v136 (F := Ideal) P' q' k' R' := by
  rw [e0, e1, e2, e3]

theorem algebraic [hPre : Cert.Pre_finite_params.Facts] :
    Cert.algebraic_KernelIdeal_ReferenceIdeal_pre_finite_params (hKernelIdeal := Cert.KernelIdeal.Gen.facts)
      (hReferenceIdeal := Cert.ReferenceIdeal.Gen.facts) := by
  intro m g m' g' hpre hag
  refine ⟨fun c => Cert.NA.resK m c, ?_, ?_⟩
  · refine (θ_run Cert.KernelIdeal.defs _ _).mono (fun r h c => ?_) (Cert.KernelIdeal.Value.run_blocks m g)
    exact ⟨(h c).1.trans (Cert.NA.finalK m c), (h c).2⟩
  · refine (θ_run Cert.ReferenceIdeal.defs _ _).mono (fun r h c => ?_) (Cert.ReferenceIdeal.Value.run m' g')
    refine ⟨(h c).1.trans ?_, (h c).2⟩
    obtain ⟨hq, hk, hR⟩ := reals (hpre c)
    obtain ⟨e0, e1, e2, e3⟩ := hag c
    refine (Cert.ReferenceIdeal.Read.val_main_v136_eq (F := Ideal) (StableHlo.launchContents m' c)).trans ?_
    refine Eq.trans ?_ (Cert.NA.arr_eq _ _ _ _ hq hk hR).symm
    exact val_congr e0 e1 e2 e3

/-! ## The down projection -/

theorem planFacts : Cert.Pre_plan_ok.Facts :=
  ⟨by decide, by decide, by decide, by decide, by decide, by decide, by decide⟩

theorem goodK [hPre : Cert.Pre_plan_ok.Facts] {m : (ℓ : Loc Cert.Kernel2Ideal.nD Cert.Kernel2Ideal.τ Cert.Kernel2Ideal.sig) → Buf (Elt Bits) ℓ} (h : Cert.Pre_Kernel2 m) :
    Cert.Plan.Good (Cert.Kernel2Ideal.Down.pE m) (Cert.Kernel2Ideal.Down.pF m) (Cert.Kernel2Ideal.Down.pS m) (Cert.Kernel2Ideal.Down.pX m) (Cert.Kernel2Ideal.Down.pN m (ix1 0)) := by
  obtain ⟨h1, h2, h3, h4, h5⟩ := h 0
  have e0 : Cert.Kernel2Ideal.Down.pE m = _ := Cert.Kernel2Ideal.Down.V_main_arg0 m 0
  have e1 : Cert.Kernel2Ideal.Down.pF m = _ := Cert.Kernel2Ideal.Down.V_main_arg1 m 0
  have e2 : Cert.Kernel2Ideal.Down.pN m = _ := Cert.Kernel2Ideal.Down.V_main_arg2 m 0
  have e3 : Cert.Kernel2Ideal.Down.pS m = _ := Cert.Kernel2Ideal.Down.V_main_arg3 m 0
  have e4 : Cert.Kernel2Ideal.Down.pX m = _ := Cert.Kernel2Ideal.Down.V_main_arg4 m 0
  rw [e0, e1, e2, e3, e4]
  exact Cert.Plan.good_of h1 h2 h3 h4 h5

/-- The kernel and its idealization are one text, so the run at the bit-exact floats is the kernel's. -/
theorem downFrame [hPre : Cert.Pre_plan_ok.Facts] : Cert.quiescent_Kernel2 (hKernel2 := Cert.Kernel2.Gen.facts) := by
  intro m ρ h
  rw [Cert.Kernel2Ideal.Down.defs_eq]
  exact Cert.Kernel2Ideal.Down.frame (F := Bits) m ρ (Cert.Kernel2Ideal.Down.ok_of m (goodK h).n1 (goodK h).n160) (fun c => Cert.Kernel2Ideal.Down.plan_of m c (goodK h))

theorem goodI [hPre : Cert.Pre_plan_ok.Facts] {m : (ℓ : Loc Cert.Kernel2Ideal.nD Cert.Kernel2Ideal.τ Cert.Kernel2Ideal.sig) → Buf (Elt Ideal) ℓ} (h : Cert.Pre_Kernel2Ideal m) :
    Cert.Plan.Good (Cert.Kernel2Ideal.Down.pE m) (Cert.Kernel2Ideal.Down.pF m) (Cert.Kernel2Ideal.Down.pS m) (Cert.Kernel2Ideal.Down.pX m) (Cert.Kernel2Ideal.Down.pN m (ix1 0)) := by
  obtain ⟨h1, h2, h3, h4, h5⟩ := h 0
  have e0 : Cert.Kernel2Ideal.Down.pE m = _ := Cert.Kernel2Ideal.Down.V_main_arg0 m 0
  have e1 : Cert.Kernel2Ideal.Down.pF m = _ := Cert.Kernel2Ideal.Down.V_main_arg1 m 0
  have e2 : Cert.Kernel2Ideal.Down.pN m = _ := Cert.Kernel2Ideal.Down.V_main_arg2 m 0
  have e3 : Cert.Kernel2Ideal.Down.pS m = _ := Cert.Kernel2Ideal.Down.V_main_arg3 m 0
  have e4 : Cert.Kernel2Ideal.Down.pX m = _ := Cert.Kernel2Ideal.Down.V_main_arg4 m 0
  rw [e0, e1, e2, e3, e4]
  exact Cert.Plan.good_of h1 h2 h3 h4 h5

theorem downIdealFrame [hPre : Cert.Pre_plan_ok.Facts] : Cert.quiescent_Kernel2Ideal (hKernel2Ideal := Cert.Kernel2Ideal.Gen.facts) := fun m ρ h =>
  Cert.Kernel2Ideal.Down.frame m ρ (Cert.Kernel2Ideal.Down.ok_of m (goodI h).n1 (goodI h).n160) (fun c => Cert.Kernel2Ideal.Down.plan_of m c (goodI h))

theorem downRefFrame : Cert.quiescent_Reference2Ideal (hReference2Ideal := Cert.Reference2Ideal.Gen.facts) := fun m ρ _ =>
  (θ_run (Cert.Reference2Ideal.defs (F := Ideal)) _ _).mono (fun r h =>
      And.intro (fun c => (h c).2) (Idealize.ShloMosaic.sem_eq_zero_of_no_sems (by decide) r.2))
    (Cert.Reference2Ideal.Value.run (F := Ideal) m ρ)

theorem downRefFramePre [hPre : Cert.Pre_plan_ok.Facts] :
    Cert.quiescent_Reference2Ideal_pre_plan_ok (hReference2Ideal := Cert.Reference2Ideal.Gen.facts) := fun m ρ _ =>
  (θ_run (Cert.Reference2Ideal.defs (F := Ideal)) _ _).mono (fun r h =>
      And.intro (fun c => (h c).2) (Idealize.ShloMosaic.sem_eq_zero_of_no_sems (by decide) r.2))
    (Cert.Reference2Ideal.Value.run (F := Ideal) m ρ)

/-- The reference's array is the kernel's, whatever the plan names. -/
theorem down_eq {e f s x : Cert.Kernel2Ideal.S160.Idx → BitVec 32} {n : Cert.Kernel2Ideal.S1.Idx → BitVec 32} (hg : Cert.Plan.Good e f s x (n (ix1 0)))
    (hid : Cert.Kernel2Ideal.S40960x1024.Idx → EReal) (wd : Cert.Kernel2Ideal.S4x8x1024x2048.Idx → EReal) :
    Cert.Reference2Ideal.Read.val_main_v10 (F := Ideal) e n hid wd
      = Cert.Kernel2Ideal.Down.arrD e n hid (shapeCast Cert.Kernel2Ideal.S32x1024x2048 wd Cert.Kernel2Ideal.Gen.facts.shapeCasts_S4x8x1024x2048_S32x1024x2048) := by
  funext (i : Cert.Kernel2Ideal.S40960x2048.Idx)
  obtain ⟨r, d, rfl⟩ : ∃ (r : Fin 40960) (d : Fin 2048), i = ix2 r d := ⟨i 0, i 1, eq_ix2 i⟩
  have n3 : (n (ix1 0)).toInt = (n (ix1 0)).toNat := by
    have := hg.n160
    rcases Cert.Plan.toInt_cases (n (ix1 0)) with h | h <;> omega
  refine (Cert.Reference2Ideal.Down.ref_at e n hid wd r d).trans ?_
  show _ = if r.val / 256 < (n (ix1 0)).toNat then _ else _
  have hc : ((Cert.Reference2Ideal.Down.blkOf r).val : ℤ) < (n (ix1 0)).toInt ↔ r.val / 256 < (n (ix1 0)).toNat := by
    rw [n3]; exact Nat.cast_lt
  by_cases hu : r.val / 256 < (n (ix1 0)).toNat
  · rw [if_pos (hc.2 hu), if_pos hu]
    refine Finset.sum_congr rfl fun k _ => congrArg (_ * ·) ?_
    have hw : (e (ix1 (Cert.Reference2Ideal.Down.blkOf r))).toNat < 32 := (hg.words _ hu).1
    have he : (⟨min (e (ix1 (Cert.Reference2Ideal.Down.blkOf r))).toInt.toNat 31, by omega⟩ : Fin 32) = Cert.Kernel2Ideal.Down.bOf (e (ix1 (Cert.Reference2Ideal.Down.blkOf r))) := by
      refine Fin.ext ?_
      show min (e (ix1 (Cert.Reference2Ideal.Down.blkOf r))).toInt.toNat 31 = (e (ix1 (Cert.Reference2Ideal.Down.blkOf r))).toNat % 32
      rcases Cert.Plan.toInt_cases (e (ix1 (Cert.Reference2Ideal.Down.blkOf r))) with h | h <;> omega
    rw [he]
    rfl
  · rw [if_neg (fun h => hu (hc.1 h)), if_neg hu]

theorem down_congr {e e' : Cert.Kernel2Ideal.S160.Idx → BitVec 32} {n n' : Cert.Kernel2Ideal.S1.Idx → BitVec 32}
    {hid hid' : Cert.Kernel2Ideal.S40960x1024.Idx → EReal} {wd wd' : Cert.Kernel2Ideal.S4x8x1024x2048.Idx → EReal} (h0 : e = e') (h2 : n = n') (h5 : hid = hid') (h6 : wd = wd') :
    Cert.Reference2Ideal.Read.val_main_v10 (F := Ideal) e n hid wd = Cert.Reference2Ideal.Read.val_main_v10 (F := Ideal) e' n' hid' wd' := by
  rw [h0, h2, h5, h6]

theorem downAlgebraic [hPre : Cert.Pre_plan_ok.Facts] :
    Cert.algebraic_Kernel2Ideal_Reference2Ideal (hKernel2Ideal := Cert.Kernel2Ideal.Gen.facts) (hReference2Ideal := Cert.Reference2Ideal.Gen.facts) := by
  intro m g m' g' hpre hag
  have hg := goodI hpre
  refine ⟨fun c => Cert.Kernel2Ideal.Down.resD m c, Cert.Kernel2Ideal.Down.run_value m g hg.n1 hg.n160 (fun c => Cert.Kernel2Ideal.Down.plan_of m c hg), ?_⟩
  refine (θ_run Cert.Reference2Ideal.defs _ _).mono (fun r h c => ?_) (Cert.Reference2Ideal.Value.run m' g')
  refine ⟨(h c).1.trans ?_, (h c).2⟩
  obtain ⟨e0, e1, e2, e3, e4, e5, e6⟩ := hag c
  refine (Cert.Reference2Ideal.Read.val_main_v10_eq (F := Ideal) _ _ _ _).trans ?_
  refine (down_congr (e0.trans (Cert.Kernel2Ideal.Down.V_main_arg0 m c).symm) (e2.trans (Cert.Kernel2Ideal.Down.V_main_arg2 m c).symm) e5 e6).trans ?_
  obtain rfl : c = 0 := Subsingleton.elim _ _
  refine (down_eq hg _ _).trans ?_
  exact congrArg (Cert.Kernel2Ideal.Down.arrD _ _ _) (Cert.Kernel2Ideal.Down.V_wd m 0).symm

/-! ## The gate and up projections -/

theorem gateFacts : Cert.Pre_gate_plan_ok.Facts :=
  ⟨by decide, by decide, by decide, by decide, by decide, by decide, by decide⟩

/-- The two preconditions ask the same of a plan. -/
theorem gate_good_of [hPre : Cert.Pre_gate_plan_ok.Facts] {F : FTy → Type} [FloatOps F] {e f s x : Cert.Kernel3Ideal.S160.Idx → BitVec 32} {n : Cert.Kernel3Ideal.S1.Idx → BitVec 32}
    {y : FVec F Cert.Kernel3Ideal.S40960x2048 .f32} {g : FVec F Cert.Kernel3Ideal.S1x2048 .f32} {wg wu : FVec F Cert.Kernel3Ideal.S4x8x2048x1024 .f32}
    (h1 : (Cert.Pre_gate_plan_ok.fn (F := F) e f n s x y g wg wu).1 = fun _ => 1#1)
    (h2 : (Cert.Pre_gate_plan_ok.fn (F := F) e f n s x y g wg wu).2.1 = fun _ => 1#1)
    (h3 : (Cert.Pre_gate_plan_ok.fn (F := F) e f n s x y g wg wu).2.2.1 = fun _ => 1#1)
    (h4 : (Cert.Pre_gate_plan_ok.fn (F := F) e f n s x y g wg wu).2.2.2.1 = fun _ => 1#1)
    (h5 : (Cert.Pre_gate_plan_ok.fn (F := F) e f n s x y g wg wu).2.2.2.2 = fun _ => 1#1) : Cert.Plan.Good e f s x (n (ix1 0)) :=
  haveI := planFacts
  Cert.Plan.good_of (F := F) (hid := constant _ .bf16 0#16) (wd := constant _ .f32 0#32) h1 h2 h3 h4 h5

theorem gateGoodI [hPre : Cert.Pre_gate_plan_ok.Facts] {m : (ℓ : Loc Cert.Kernel3Ideal.nD Cert.Kernel3Ideal.τ Cert.Kernel3Ideal.sig) → Buf (Elt Ideal) ℓ} (h : Cert.Pre_Kernel3Ideal m) :
    Cert.Plan.Good (Cert.Kernel3Ideal.Gate.pE m) (Cert.Kernel3Ideal.Gate.pF m) (Cert.Kernel3Ideal.Gate.pS m) (Cert.Kernel3Ideal.Gate.pX m) (Cert.Kernel3Ideal.Gate.pN m (ix1 0)) := by
  obtain ⟨h1, h2, h3, h4, h5⟩ := h 0
  have e0 : Cert.Kernel3Ideal.Gate.pE m = _ := Cert.Kernel3Ideal.Gate.V_of m 0 Cert.Kernel3Ideal.main_arg0 (by decide)
  have e1 : Cert.Kernel3Ideal.Gate.pF m = _ := Cert.Kernel3Ideal.Gate.V_of m 0 Cert.Kernel3Ideal.main_arg1 (by decide)
  have e2 : Cert.Kernel3Ideal.Gate.pN m = _ := Cert.Kernel3Ideal.Gate.V_of m 0 Cert.Kernel3Ideal.main_arg2 (by decide)
  have e3 : Cert.Kernel3Ideal.Gate.pS m = _ := Cert.Kernel3Ideal.Gate.V_of m 0 Cert.Kernel3Ideal.main_arg3 (by decide)
  have e4 : Cert.Kernel3Ideal.Gate.pX m = _ := Cert.Kernel3Ideal.Gate.V_of m 0 Cert.Kernel3Ideal.main_arg4 (by decide)
  rw [e0, e1, e2, e3, e4]
  exact gate_good_of h1 h2 h3 h4 h5

theorem gateGoodK [hPre : Cert.Pre_gate_plan_ok.Facts] {m : (ℓ : Loc Cert.Kernel3Ideal.nD Cert.Kernel3Ideal.τ Cert.Kernel3Ideal.sig) → Buf (Elt Bits) ℓ} (h : Cert.Pre_Kernel3 m) :
    Cert.Plan.Good (Cert.Kernel3Ideal.Gate.pE m) (Cert.Kernel3Ideal.Gate.pF m) (Cert.Kernel3Ideal.Gate.pS m) (Cert.Kernel3Ideal.Gate.pX m) (Cert.Kernel3Ideal.Gate.pN m (ix1 0)) := by
  obtain ⟨h1, h2, h3, h4, h5⟩ := h 0
  have e0 : Cert.Kernel3Ideal.Gate.pE m = _ := Cert.Kernel3Ideal.Gate.V_of m 0 Cert.Kernel3Ideal.main_arg0 (by decide)
  have e1 : Cert.Kernel3Ideal.Gate.pF m = _ := Cert.Kernel3Ideal.Gate.V_of m 0 Cert.Kernel3Ideal.main_arg1 (by decide)
  have e2 : Cert.Kernel3Ideal.Gate.pN m = _ := Cert.Kernel3Ideal.Gate.V_of m 0 Cert.Kernel3Ideal.main_arg2 (by decide)
  have e3 : Cert.Kernel3Ideal.Gate.pS m = _ := Cert.Kernel3Ideal.Gate.V_of m 0 Cert.Kernel3Ideal.main_arg3 (by decide)
  have e4 : Cert.Kernel3Ideal.Gate.pX m = _ := Cert.Kernel3Ideal.Gate.V_of m 0 Cert.Kernel3Ideal.main_arg4 (by decide)
  rw [e0, e1, e2, e3, e4]
  exact gate_good_of h1 h2 h3 h4 h5

/-- The kernel and its idealization are one text, so the run at the bit-exact floats is the kernel's. -/
theorem gateFrame [hPre : Cert.Pre_gate_plan_ok.Facts] : Cert.quiescent_Kernel3 (hKernel3 := Cert.Kernel3.Gen.facts) := by
  intro m ρ h
  rw [Cert.Kernel3Ideal.Gate.defs_eq]
  exact Cert.Kernel3Ideal.Gate.frame (F := Bits) m ρ (Cert.Kernel3Ideal.Gate.ok_of m (gateGoodK h).n1 (gateGoodK h).n160) (fun c => Cert.Kernel3Ideal.Gate.plan_of m c (gateGoodK h))

theorem gateIdealFrame [hPre : Cert.Pre_gate_plan_ok.Facts] : Cert.quiescent_Kernel3Ideal (hKernel3Ideal := Cert.Kernel3Ideal.Gen.facts) := fun m ρ h =>
  Cert.Kernel3Ideal.Gate.frame m ρ (Cert.Kernel3Ideal.Gate.ok_of m (gateGoodI h).n1 (gateGoodI h).n160) (fun c => Cert.Kernel3Ideal.Gate.plan_of m c (gateGoodI h))

theorem gateRefFrame : Cert.quiescent_Reference3Ideal (hReference3Ideal := Cert.Reference3Ideal.Gen.facts) := fun m ρ _ =>
  (θ_run (Cert.Reference3Ideal.defs (F := Ideal)) _ _).mono (fun r h =>
      And.intro (fun c => (h c).2) (Idealize.ShloMosaic.sem_eq_zero_of_no_sems (by decide) r.2))
    (Cert.Reference3Ideal.Value.run (F := Ideal) m ρ)

theorem gateRefFramePre [hPre : Cert.Pre_gate_plan_ok.Facts] :
    Cert.quiescent_Reference3Ideal_pre_gate_plan_ok (hReference3Ideal := Cert.Reference3Ideal.Gen.facts) := fun m ρ _ =>
  (θ_run (Cert.Reference3Ideal.defs (F := Ideal)) _ _).mono (fun r h =>
      And.intro (fun c => (h c).2) (Idealize.ShloMosaic.sem_eq_zero_of_no_sems (by decide) r.2))
    (Cert.Reference3Ideal.Value.run (F := Ideal) m ρ)

/-- The reference's array is the kernel's, whatever the plan names. -/
theorem gate_eq {e f s x : Cert.Kernel3Ideal.S160.Idx → BitVec 32} {n : Cert.Kernel3Ideal.S1.Idx → BitVec 32} (hg : Cert.Plan.Good e f s x (n (ix1 0)))
    (y : Cert.Kernel3Ideal.S40960x2048.Idx → EReal) (g : Cert.Kernel3Ideal.S1x2048.Idx → EReal) (wg wu : Cert.Kernel3Ideal.S4x8x2048x1024.Idx → EReal) :
    Cert.Reference3Ideal.Read.val_main_v29 (F := Ideal) e n y g wg wu
      = Cert.Kernel3Ideal.Gate.arrG e n y g (shapeCast Cert.Kernel3Ideal.S32x2048x1024 wg Cert.Kernel3Ideal.Gen.facts.shapeCasts_S4x8x2048x1024_S32x2048x1024)
          (shapeCast Cert.Kernel3Ideal.S32x2048x1024 wu Cert.Kernel3Ideal.Gen.facts.shapeCasts_S4x8x2048x1024_S32x2048x1024) := by
  funext (i : Cert.Kernel3Ideal.S40960x1024.Idx)
  obtain ⟨r, d, rfl⟩ : ∃ (r : Fin 40960) (d : Fin 1024), i = ix2 r d := ⟨i 0, i 1, eq_ix2 i⟩
  have n3 : (n (ix1 0)).toInt = (n (ix1 0)).toNat := by
    have := hg.n160
    rcases Cert.Plan.toInt_cases (n (ix1 0)) with h | h <;> omega
  refine (Cert.Reference3Ideal.Gate.ref_at e n y g wg wu r d).trans ?_
  show _ = if r.val / 256 < (n (ix1 0)).toNat then _ else _
  have hc : ((Cert.Reference3Ideal.Gate.blkOf r).val : ℤ) < (n (ix1 0)).toInt ↔ r.val / 256 < (n (ix1 0)).toNat := by
    rw [n3]; exact Nat.cast_lt
  by_cases hu : r.val / 256 < (n (ix1 0)).toNat
  · rw [if_pos (hc.2 hu), if_pos hu]
    have hw : (e (ix1 (Cert.Reference3Ideal.Gate.blkOf r))).toNat < 32 := (hg.words _ hu).1
    have he : Cert.Reference3Ideal.Gate.expOf (e (ix1 (Cert.Reference3Ideal.Gate.blkOf r))) = Cert.Kernel3Ideal.Gate.bOf (e (ix1 (Cert.Reference3Ideal.Gate.blkOf r))) := by
      refine Fin.ext ?_
      show min (e (ix1 (Cert.Reference3Ideal.Gate.blkOf r))).toInt.toNat 31 = (e (ix1 (Cert.Reference3Ideal.Gate.blkOf r))).toNat % 32
      rcases Cert.Plan.toInt_cases (e (ix1 (Cert.Reference3Ideal.Gate.blkOf r))) with h | h <;> omega
    rw [he]
    rfl
  · rw [if_neg (fun h => hu (hc.1 h)), if_neg hu]

theorem gate_congr {e e' : Cert.Kernel3Ideal.S160.Idx → BitVec 32} {n n' : Cert.Kernel3Ideal.S1.Idx → BitVec 32}
    {y y' : Cert.Kernel3Ideal.S40960x2048.Idx → EReal} {g g' : Cert.Kernel3Ideal.S1x2048.Idx → EReal} {wg wg' wu wu' : Cert.Kernel3Ideal.S4x8x2048x1024.Idx → EReal}
    (h0 : e = e') (h2 : n = n') (h5 : y = y') (h6 : g = g') (h7 : wg = wg') (h8 : wu = wu') :
    Cert.Reference3Ideal.Read.val_main_v29 (F := Ideal) e n y g wg wu = Cert.Reference3Ideal.Read.val_main_v29 (F := Ideal) e' n' y' g' wg' wu' := by
  rw [h0, h2, h5, h6, h7, h8]

theorem gateAlgebraic [hPre : Cert.Pre_gate_plan_ok.Facts] :
    Cert.algebraic_Kernel3Ideal_Reference3Ideal (hKernel3Ideal := Cert.Kernel3Ideal.Gen.facts) (hReference3Ideal := Cert.Reference3Ideal.Gen.facts) := by
  intro m g m' g' hpre hag
  have hg := gateGoodI hpre
  refine ⟨fun c => Cert.Kernel3Ideal.Gate.resG m c, Cert.Kernel3Ideal.Gate.run_value m g hg.n1 hg.n160 (fun c => Cert.Kernel3Ideal.Gate.plan_of m c hg), ?_⟩
  refine (θ_run Cert.Reference3Ideal.defs _ _).mono (fun r h c => ?_) (Cert.Reference3Ideal.Value.run m' g')
  refine ⟨(h c).1.trans ?_, (h c).2⟩
  obtain ⟨e0, e1, e2, e3, e4, e5, e6, e7, e8⟩ := hag c
  refine (Cert.Reference3Ideal.Read.val_main_v29_eq (F := Ideal) m' c).trans ?_
  refine (gate_congr (e0.trans (Cert.Kernel3Ideal.Gate.V_of m c Cert.Kernel3Ideal.main_arg0 (by decide)).symm)
    (e2.trans (Cert.Kernel3Ideal.Gate.V_of m c Cert.Kernel3Ideal.main_arg2 (by decide)).symm) e5 e6 e7 e8).trans ?_
  obtain rfl : c = 0 := Subsingleton.elim _ _
  refine (gate_eq hg _ _ _ _).trans ?_
  exact congrArg₂ (Cert.Kernel3Ideal.Gate.arrG _ _ _ _) (Cert.Kernel3Ideal.Gate.V_wg m 0).symm (Cert.Kernel3Ideal.Gate.V_wu m 0).symm

/-! ## The input projection -/

theorem projRefFrame : Cert.quiescent_Reference4Ideal (hReference4Ideal := Cert.Reference4Ideal.Gen.facts) := fun m ρ _ =>
  (θ_run (Cert.Reference4Ideal.defs (F := Ideal)) _ _).mono (fun r h =>
      And.intro (fun c => (h c).2) (Idealize.ShloMosaic.sem_eq_zero_of_no_sems (by decide) r.2))
    (Cert.Reference4Ideal.Value.run (F := Ideal) m ρ)

/-- The reference's array is the kernel's. -/
theorem proj_eq (x : Cert.Kernel4Ideal.S8x2048x2048.Idx → EReal) (g : Cert.Kernel4Ideal.S1x2048.Idx → EReal) (w : Cert.Kernel4Ideal.S1x2048x10240.Idx → EReal) :
    Cert.Reference4Ideal.Read.val_main_v17 (F := Ideal) x g w
      = Cert.Kernel4Ideal.Proj.arrP (shapeCast Cert.Kernel4Ideal.S16384x2048 x Cert.Kernel4Ideal.Gen.facts.shapeCasts_S8x2048x2048_S16384x2048) g
          (shapeCast Cert.Kernel4Ideal.S2048x10240 w Cert.Kernel4Ideal.Gen.facts.shapeCasts_S1x2048x10240_S2048x10240) := by
  funext (i : Cert.Kernel4Ideal.S16384x10240.Idx)
  obtain ⟨r, n, rfl⟩ : ∃ (r : Fin 16384) (n : Fin 10240), i = ix2 r n := ⟨i 0, i 1, eq_ix2 i⟩
  refine (Cert.Reference4Ideal.Proj.ref_at x g w r n).trans ?_
  unfold Cert.Kernel4Ideal.Proj.arrP
  refine Finset.sum_congr rfl fun k _ => congrArg₂ (· * ·) ?_ ?_
  · refine congrArg (fun f => Cert.Hidden.nrm f (fun l => g (ix2 0 l)) k) (funext fun l => ?_)
    refine (shapeCast_apply x _ (ix2 r l) (ix3 (Cert.Reference4Ideal.Proj.seqOf r) (Cert.Reference4Ideal.Proj.tokOf r) l) ?_).symm
    rewrite [Shape.rowMajor_val_three, Shape.rowMajor_val_two]
    show (r.val / 2048 * 2048 + r.val % 2048) * 2048 + l.val = r.val * 2048 + l.val
    omega
  · refine (shapeCast_apply w _ (ix2 k n) (ix3 0 k n) ?_).symm
    rewrite [Shape.rowMajor_val_three, Shape.rowMajor_val_two]
    show (0 * 2048 + k.val) * 10240 + n.val = k.val * 10240 + n.val
    omega

theorem proj_congr {x x' : Cert.Kernel4Ideal.S8x2048x2048.Idx → EReal} {g g' : Cert.Kernel4Ideal.S1x2048.Idx → EReal} {w w' : Cert.Kernel4Ideal.S1x2048x10240.Idx → EReal}
    (h0 : x = x') (h1 : g = g') (h2 : w = w') :
    Cert.Reference4Ideal.Read.val_main_v17 (F := Ideal) x g w = Cert.Reference4Ideal.Read.val_main_v17 (F := Ideal) x' g' w' := by
  rw [h0, h1, h2]

theorem projAlgebraic :
    Cert.algebraic_Kernel4Ideal_Reference4Ideal (hKernel4Ideal := Cert.Kernel4Ideal.Gen.facts) (hReference4Ideal := Cert.Reference4Ideal.Gen.facts) := by
  intro m g m' g' hpre hag
  refine ⟨fun c => Cert.Kernel4Ideal.Proj.resP m c, ?_, ?_⟩
  · refine (θ_run Cert.Kernel4Ideal.defs _ _).mono (fun r h c => ?_) (Cert.Kernel4Ideal.Value.run_blocks m g)
    exact ⟨(h c).1.trans (Cert.Kernel4Ideal.Proj.finalP m c), (h c).2⟩
  · refine (θ_run Cert.Reference4Ideal.defs _ _).mono (fun r h c => ?_) (Cert.Reference4Ideal.Value.run m' g')
    refine ⟨(h c).1.trans ?_, (h c).2⟩
    obtain ⟨e0, e1, e2⟩ := hag c
    refine (Cert.Reference4Ideal.Read.val_main_v17_eq (F := Ideal) _ _ _).trans ?_
    refine (proj_congr e0 e1 e2).trans ((proj_eq _ _ _).trans ?_)
    exact congrArg₂ (fun X W => Cert.Kernel4Ideal.Proj.arrP X _ W) (Cert.Kernel4Ideal.Proj.V_x m c).symm (Cert.Kernel4Ideal.Proj.V_w m c).symm

/-! ## The output projection -/

theorem routerFacts : Cert.Pre_finite_router.Facts := ⟨by decide, by decide, by decide⟩

/-- The precondition says the gain and the router's weights are real numbers. -/
theorem router_reals [Cert.Pre_finite_router.Facts] {x0 x1 : FVec Ideal Cert.Kernel5Ideal.S16384x1024 .bf16} {x2 : FVec Ideal Cert.Kernel5Ideal.S16384x10240 .bf16}
    {x3 : FVec Ideal Cert.Kernel5Ideal.S16384x2048 .f32} {x4 x5 : FVec Ideal Cert.Kernel5Ideal.S1x1024x2048 .f32} {x6 : FVec Ideal Cert.Kernel5Ideal.S1x2048x2048 .f32}
    {x7 : FVec Ideal Cert.Kernel5Ideal.S1x2048 .f32} {x8 : FVec Ideal Cert.Kernel5Ideal.S1x2048x4 .f32} {x9 : FVec Ideal Cert.Kernel5Ideal.S1x2048x32 .f32}
    (h : (Cert.Pre_finite_router.fn (F := Ideal) x0 x1 x2 x3 x4 x5 x6 x7 x8 x9).1 = (fun _ => 1#1)
      ∧ (Cert.Pre_finite_router.fn (F := Ideal) x0 x1 x2 x3 x4 x5 x6 x7 x8 x9).2.1 = (fun _ => 1#1)
      ∧ (Cert.Pre_finite_router.fn (F := Ideal) x0 x1 x2 x3 x4 x5 x6 x7 x8 x9).2.2 = (fun _ => 1#1)) :
    (∀ i, Cert.NA.IsReal (x7 i)) ∧ (∀ i, Cert.NA.IsReal (x8 i)) ∧ ∀ i, Cert.NA.IsReal (x9 i) :=
  ⟨fun i => Cert.NA.isReal_of_abs (congrFun h.1 i), fun i => Cert.NA.isReal_of_abs (congrFun h.2.1 i),
    fun i => Cert.NA.isReal_of_abs (congrFun h.2.2 i)⟩

theorem outRefFrame : Cert.quiescent_Reference5Ideal (hReference5Ideal := Cert.Reference5Ideal.Gen.facts) := fun m ρ _ =>
  (θ_run (Cert.Reference5Ideal.defs (F := Ideal)) _ _).mono (fun r h =>
      And.intro (fun c => (h c).2.2) (Idealize.ShloMosaic.sem_eq_zero_of_no_sems (by decide) r.2))
    (Cert.Reference5Ideal.Value.run (F := Ideal) m ρ)

theorem outRefFramePre [hPre : Cert.Pre_finite_router.Facts] :
    Cert.quiescent_Reference5Ideal_pre_finite_router (hReference5Ideal := Cert.Reference5Ideal.Gen.facts) := fun m ρ _ =>
  (θ_run (Cert.Reference5Ideal.defs (F := Ideal)) _ _).mono (fun r h =>
      And.intro (fun c => (h c).2.2) (Idealize.ShloMosaic.sem_eq_zero_of_no_sems (by decide) r.2))
    (Cert.Reference5Ideal.Value.run (F := Ideal) m ρ)

section
variable {x0 x1 y0 y1 : Cert.Kernel5Ideal.S16384x1024.Idx → EReal} {x2 y2 : Cert.Kernel5Ideal.S16384x10240.Idx → EReal}
  {x3 y3 : Cert.Kernel5Ideal.S16384x2048.Idx → EReal} {x4 x5 y4 y5 : Cert.Kernel5Ideal.S1x1024x2048.Idx → EReal} {x6 y6 : Cert.Kernel5Ideal.S1x2048x2048.Idx → EReal}
  {x7 y7 : Cert.Kernel5Ideal.S1x2048.Idx → EReal} {x8 y8 : Cert.Kernel5Ideal.S1x2048x4.Idx → EReal} {x9 y9 : Cert.Kernel5Ideal.S1x2048x32.Idx → EReal}

/-- The reference's sum, of the kernel's arguments, is the kernel's. -/
theorem out_sum (e0 : y0 = x0) (e1 : y1 = x1) (e2 : y2 = x2) (e3 : y3 = x3) (e4 : y4 = x4) (e5 : y5 = x5) (e6 : y6 = x6) (i : Cert.Kernel5Ideal.S16384x2048.Idx) :
    Cert.Reference5Ideal.Read.val_main_v27 (F := Ideal) y0 y1 y2 y3 y4 y5 y6 i = Cert.Merge.x1At x0 x1 x2 x3 x4 x5 x6 (i 0) (i 1) := by
  subst e0 e1 e2 e3 e4 e5 e6
  obtain ⟨r, d, rfl⟩ : ∃ (r : Fin 16384) (d : Fin 2048), i = ix2 r d := ⟨i 0, i 1, eq_ix2 i⟩
  exact Cert.Reference5Ideal.Out.sum_at y0 y1 y2 y3 y4 y5 y6 r d

/-- Its logits are the kernel's, the gain and the router's weights being real. -/
theorem out_logits (e0 : y0 = x0) (e1 : y1 = x1) (e2 : y2 = x2) (e3 : y3 = x3) (e4 : y4 = x4) (e5 : y5 = x5) (e6 : y6 = x6) (e7 : y7 = x7) (e8 : y8 = x8) (e9 : y9 = x9)
    (h7 : ∀ i, Cert.NA.IsReal (x7 i)) (h8 : ∀ i, Cert.NA.IsReal (x8 i)) (h9 : ∀ i, Cert.NA.IsReal (x9 i)) (i : Cert.Kernel5Ideal.S48x16384.Idx) :
    Cert.Reference5Ideal.Read.val_main_v49 (F := Ideal) y0 y1 y2 y3 y4 y5 y6 y7 y8 y9 i
      = Cert.Merge.parts (Cert.Merge.hAt x0 x1 x2 x3 x4 x5 x6 x7 (i 1)) (Cert.Merge.wAt x8 x9 (i 0))
          (fun k => Cert.Merge.wAt x8 x9 (i 0) k - Cert.Merge.wAt x8 x9 (i 0) k) (Cert.Merge.wAt x8 x9 (i 0)) := by
  subst e0 e1 e2 e3 e4 e5 e6 e7 e8 e9
  obtain ⟨e, r, rfl⟩ : ∃ (e : Fin 48) (r : Fin 16384), i = ix2 e r := ⟨i 0, i 1, eq_ix2 i⟩
  refine (Cert.Reference5Ideal.Out.logits_at y0 y1 y2 y3 y4 y5 y6 y7 y8 y9 e r).trans ?_
  exact (Cert.Merge.parts_eq _ _ _ (fun k => Cert.Merge.nrm_real _ _ (fun d => h7 _) k) (fun k => Cert.Merge.wAt_real _ _ h8 h9 e k) fun k => rfl).symm

end

theorem outAlgebraic [hPre : Cert.Pre_finite_router.Facts] :
    Cert.algebraic_Kernel5Ideal_Reference5Ideal_pre_finite_router (hKernel5Ideal := Cert.Kernel5Ideal.Gen.facts)
      (hReference5Ideal := Cert.Reference5Ideal.Gen.facts) := by
  intro m g m' g' hpre hag
  refine ⟨fun c => Cert.Kernel5Ideal.Out.resX m c, fun c => Cert.Kernel5Ideal.Out.resL m c, ?_, ?_⟩
  · refine (θ_run Cert.Kernel5Ideal.defs _ _).mono (fun r h c => ?_) (Cert.Kernel5Ideal.Value.run_blocks m g)
    exact ⟨(h c).1.trans (Cert.Kernel5Ideal.Out.finalX m c), (h c).2.1.trans (Cert.Kernel5Ideal.Out.finalL m c), (h c).2.2⟩
  · refine (θ_run Cert.Reference5Ideal.defs _ _).mono (fun r h c => ?_) (Cert.Reference5Ideal.Value.run m' g')
    obtain ⟨e0, e1, e2, e3, e4, e5, e6, e7, e8, e9⟩ := hag c
    obtain ⟨h7, h8, h9⟩ := router_reals (hpre c)
    refine ⟨(h c).1.trans ?_, (h c).2.1.trans ?_, (h c).2.2⟩
    · refine (Cert.Reference5Ideal.Read.val_main_v27_eq (F := Ideal) _ _ _ _ _ _ _).trans ?_
      funext i
      exact out_sum e0 e1 e2 e3 e4 e5 e6 i
    · refine (Cert.Reference5Ideal.Read.val_main_v49_eq (F := Ideal) m' c).trans ?_
      funext i
      exact out_logits e0 e1 e2 e3 e4 e5 e6 e7 e8 e9 h7 h8 h9 i

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts,
    preFacts, planFacts, gateFacts, routerFacts,
    fun m ρ _ => Cert.Kernel.Gen.frame m ρ,
    fun m ρ _ => Cert.KernelIdeal.Gen.frame m ρ,
    fun m ρ _ => Cert.KernelIdeal.Gen.frame m ρ,
    refFrame,
    @refFramePre preFacts,
    @downFrame planFacts,
    @downIdealFrame planFacts,
    downRefFrame,
    @downRefFramePre planFacts,
    @gateFrame gateFacts,
    @gateIdealFrame gateFacts,
    gateRefFrame,
    @gateRefFramePre gateFacts,
    fun m ρ _ => Cert.Kernel4.Gen.frame m ρ,
    fun m ρ _ => Cert.Kernel4Ideal.Gen.frame m ρ,
    projRefFrame,
    fun m ρ _ => Cert.Kernel5.Gen.frame m ρ,
    fun m ρ _ => Cert.Kernel5Ideal.Gen.frame m ρ,
    fun m ρ _ => Cert.Kernel5Ideal.Gen.frame m ρ,
    outRefFrame,
    @outRefFramePre routerFacts,
    ⟨IdealRules.named_const.statement Cert.KernelIdeal.κ "scale" .f32 0x3E0293EE#32 _ rfl,
      IdealRules.named_const.statement Cert.KernelIdeal.κ "log2e" .f32 0x3FB8AA3B#32 _ rfl⟩,
    trivial, trivial, trivial,
    @algebraic preFacts,
    @downAlgebraic planFacts,
    @gateAlgebraic gateFacts,
    projAlgebraic,
    trivial,
    @outAlgebraic routerFacts⟩

end Cert.Proof

end
